-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v14_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v14_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v31) = v0 c
          ∧ r.2.mem ((c.tc : Thread Cert.Reference11Ideal.nD Cert.Reference11Ideal.τ).loc Cert.Reference11Ideal.main_v72) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v34) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v2_2)) (v1 : (c : Dev Cert.Kernel13Ideal.nD) → Buf (Elt Ideal) ((c.tc : Thread Cert.Kernel13Ideal.nD Cert.Kernel13Ideal.τ).loc Cert.Kernel13Ideal.main_v2_3)) (v2 : (c : Dev Cert.Kernel13Ideal.nD) → Buf (Elt Ideal) ((c.tc : Thread Cert.Kernel13Ideal.nD Cert.Kernel13Ideal.τ).loc Cert.Kernel13Ideal.main_v2_4)) (v3 : (c : Dev Cert.Kernel13Ideal.nD) → Buf (Elt Ideal) ((c.tc : Thread Cert.Kernel13Ideal.nD Cert.Kernel13Ideal.τ).loc Cert.Kernel13Ideal.main_v2_6)) (v4 : (c : Dev Cert.Kernel13Ideal.nD) → Buf (Elt Ideal) ((c.tc : Thread Cert.Kernel13Ideal.nD Cert.Kernel13Ideal.τ).loc Cert.Kernel13Ideal.main_v2_7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_2) = v0 c
          ∧ r.2.mem ((c.tc : Thread Cert.Kernel13Ideal.nD Cert.Kernel13Ideal.τ).loc Cert.Kernel13Ideal.main_v2_3) = v1 c
          ∧ r.2.mem ((c.tc : Thread Cert.Kernel13Ideal.nD Cert.Kernel13Ideal.τ).loc Cert.Kernel13Ideal.main_v2_4) = v2 c
          ∧ r.2.mem ((c.tc : Thread Cert.Kernel13Ideal.nD Cert.Kernel13Ideal.τ).loc Cert.Kernel13Ideal.main_v2_6) = v3 c
          ∧ r.2.mem ((c.tc : Thread Cert.Kernel13Ideal.nD Cert.Kernel13Ideal.τ).loc Cert.Kernel13Ideal.main_v2_7) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v51) = v0 c
          ∧ r.2.mem ((c.tc : Thread Cert.Reference13Ideal.nD Cert.Reference13Ideal.τ).loc Cert.Reference13Ideal.main_v54) = v1 c
          ∧ r.2.mem ((c.tc : Thread Cert.Reference13Ideal.nD Cert.Reference13Ideal.τ).loc Cert.Reference13Ideal.main_v58) = v2 c
          ∧ r.2.mem ((c.tc : Thread Cert.Reference13Ideal.nD Cert.Reference13Ideal.τ).loc Cert.Reference13Ideal.main_v48) = v3 c
          ∧ r.2.mem ((c.tc : Thread Cert.Reference13Ideal.nD Cert.Reference13Ideal.τ).loc Cert.Reference13Ideal.main_v57) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite9 : Cert.Pre_finite9.Facts) (hPre_finite11 : Cert.Pre_finite11.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S4x2048x1536 : Shape := ⟨3, ![4, 2048, 1536]⟩
abbrev S4x2048x16 : Shape := ⟨3, ![4, 2048, 16]⟩
abbrev S16 : Shape := ⟨1, ![16]⟩
abbrev S4x2048x1024 : Shape := ⟨3, ![4, 2048, 1024]⟩
abbrev S_ : Shape := ⟨0, ![]⟩

class Facts : Prop where
  bcast_S_S4x2048x1536 : S_.BroadcastsInDim S4x2048x1536 (![] : Fin 0 → Fin S4x2048x1536.rank)
  reducesTo_S4x2048x1536_S_d0_1_2 : S4x2048x1536.ReducesTo [0, 1, 2] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_
  bcast_S_S16 : S_.BroadcastsInDim S16 (![] : Fin 0 → Fin S16.rank)
  reducesTo_S16_S_d0 : S16.ReducesTo [0] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg4 : FVec F S4x2048x1024 .f32) (main_v13 : IVec S_ 1) (main_v16 : IVec S4x2048x1024 1) : IVec S_ 1 :=
  let main_c_5 : IVec S_ 1 := constantI S_ 1 1#1
  let main_v17 : IVec S_ 1 := (fun x v => Host.reduce IntOp.andi x v reducesTo_S4x2048x1024_S_d0_1_2 h_S_) main_v16 main_c_5
  let main_v18 : IVec S_ 1 := andi main_v13 main_v17
  let main_v19 : FVec F S4x2048x1024 .f32 := Host.absf main_arg4
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  main_v23

def fn {F : FTy → Type} [FloatOps F] (main_arg0 : FVec F S4x2048x1536 .f32) (main_arg1 : FVec F S4x2048x16 .f32) (main_arg2 : FVec F S16 .f32) (main_arg3 : FVec F S4x2048x1024 .f32) (main_arg4 : FVec F S4x2048x1024 .f32) : IVec S_ 1 :=
  let main_v0 : FVec F S4x2048x1536 .f32 := Host.absf main_arg0
  let main_cst : FVec F S_ .f32 := constant S_ .f32 0x7F800000#32
  let main_v1 : FVec F S4x2048x1536 .f32 := broadcastInDim S4x2048x1536 ![] bcast_S_S4x2048x1536 main_cst
  let main_v2 : IVec S4x2048x1536 1 := cmpf .olt main_v0 main_v1
  let main_c : IVec S_ 1 := constantI S_ 1 1#1
  let main_v3 : IVec S_ 1 := (fun x v => Host.reduce IntOp.andi x v reducesTo_S4x2048x1536_S_d0_1_2 h_S_) main_v2 main_c
  let main_v4 : FVec F S4x2048x16 .f32 := Host.absf main_arg1
  let main_cst_0 : FVec F S_ .f32 := constant S_ .f32 0x7F800000#32
  let main_v5 : FVec F S4x2048x16 .f32 := broadcastInDim S4x2048x16 ![] bcast_S_S4x2048x16 main_cst_0
  let main_v6 : IVec S4x2048x16 1 := cmpf .olt main_v4 main_v5
  let main_c_1 : IVec S_ 1 := constantI S_ 1 1#1
  let main_v7 : IVec S_ 1 := (fun x v => Host.reduce IntOp.andi x v reducesTo_S4x2048x16_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S4x2048x1024 .f32 := Host.absf main_arg3
  let main_cst_4 : FVec F S_ .f32 := constant S_ .f32 0x7F800000#32
  let main_v15 : FVec F S4x2048x1024 .f32 := broadcastInDim S4x2048x1024 ![] bcast_S_S4x2048x1024 main_cst_4
  let main_v16 : IVec S4x2048x1024 1 := cmpf .olt main_v14 main_v15
  fn_part1 (F := F) main_arg4 main_v13 main_v16
-- ==== Pre_finite11.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x2816 .f32) (main_arg1 : FVec F S2816x1024 .f32) (main_arg2 : FVec F S8192x1024 .f32) (main_arg3 : FVec F S8192x1024 .f32) (main_arg4 : FVec F S1x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_finite13.lean ====
abbrev S8192x1024 : Shape := ⟨2, ![8192, 1024]⟩
abbrev S2048x1024 : Shape := ⟨2, ![2048, 1024]⟩
abbrev S8192x7168 : Shape := ⟨2, ![8192, 7168]⟩
abbrev S1x128 : Shape := ⟨2, ![1, 128]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S8192x7168 : S_.BroadcastsInDim S8192x7168 (![] : Fin 0 → Fin S8192x7168.rank)
  reducesTo_S8192x7168_S_d0_1 : S8192x7168.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S8192x7168 .f32) (main_arg7 : FVec F S1x1024 .f32) (main_arg8 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x7168 .f32 := Host.absf main_arg5
  let main_cst_6 : FVec F S_ .f32 := constant S_ .f32 0x7F800000#32
  let main_v20 : FVec F S8192x7168 .f32 := broadcastInDim S8192x7168 ![] bcast_S_S8192x7168 main_cst_6
  let main_v21 : IVec S8192x7168 1 := cmpf .olt main_v19 main_v20
  let main_c_7 : IVec S_ 1 := constantI S_ 1 1#1
  let main_v22 : IVec S_ 1 := (fun x v => Host.reduce IntOp.andi x v reducesTo_S8192x7168_S_d0_1 h_S_) main_v21 main_c_7
  let main_v23 : IVec S_ 1 := andi main_v18 main_v22
  let main_v24 : FVec F S1x1024 .f32 := Host.absf main_arg7
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg8
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S8192x1024 .f32) (main_arg1 : FVec F S2048x1024 .f32) (main_arg2 : FVec F S8192x1024 .f32) (main_arg3 : FVec F S8192x1024 .f32) (main_arg4 : FVec F S8192x1024 .f32) (main_arg5 : FVec F S8192x7168 .f32) (main_arg6 : FVec F S1x128 .f32) (main_arg7 : FVec F S1x1024 .f32) (main_arg8 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg7 main_arg8 main_v13 main_v16
-- ==== Pre_finite2.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg4 : FVec F S1024x5632 .f32) (main_arg5 : FVec F S8192x1024 .f32) (main_arg6 : FVec F S8192x5632 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x5632 .f32 := Host.absf main_arg6
  let main_cst_10 : FVec F S_ .f32 := constant S_ .f32 0x7F800000#32
  let main_v30 : FVec F S8192x5632 .f32 := broadcastInDim S8192x5632 ![] bcast_S_S8192x5632 main_cst_10
  let main_v31 : IVec S8192x5632 1 := cmpf .olt main_v29 main_v30
  let main_c_11 : IVec S_ 1 := constantI S_ 1 1#1
  let main_v32 : IVec S_ 1 := (fun x v => Host.reduce IntOp.andi x v reducesTo_S8192x5632_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x5632 .f32) (main_arg5 : FVec F S8192x1024 .f32) (main_arg6 : FVec F S8192x5632 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite9.lean ====
abbrev S8192x1024 : Shape := ⟨2, ![8192, 1024]⟩
abbrev S1x1024 : Shape := ⟨2, ![1, 1024]⟩
abbrev S1024x6688 : Shape := ⟨2, ![1024, 6688]⟩
abbrev S8192x6688 : Shape := ⟨2, ![8192, 6688]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6688 : S_.BroadcastsInDim S1024x6688 (![] : Fin 0 → Fin S1024x6688.rank)
  reducesTo_S1024x6688_S_d0_1 : S1024x6688.ReducesTo [0, 1] S_
  bcast_S_S8192x6688 : S_.BroadcastsInDim S8192x6688 (![] : Fin 0 → Fin S8192x6688.rank)
  reducesTo_S8192x6688_S_d0_1 : S8192x6688.ReducesTo [0, 1] S_

variable [Facts]

def fn_part1 {F : FTy → Type} [FloatOps F] (main_arg4 : FVec F S8192x6688 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x6688 .f32 := Host.absf main_arg4
  let main_cst_6 : FVec F S_ .f32 := constant S_ .f32 0x7F800000#32
  let main_v20 : FVec F S8192x6688 .f32 := broadcastInDim S8192x6688 ![] bcast_S_S8192x6688 main_cst_6
  let main_v21 : IVec S8192x6688 1 := cmpf .olt main_v19 main_v20
  let main_c_7 : IVec S_ 1 := constantI S_ 1 1#1
  let main_v22 : IVec S_ 1 := (fun x v => Host.reduce IntOp.andi x v reducesTo_S8192x6688_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x6688 .f32) (main_arg3 : FVec F S8192x1024 .f32) (main_arg4 : FVec F S8192x6688 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x6688 .f32 := Host.absf main_arg2
  let main_cst_2 : FVec F S_ .f32 := constant S_ .f32 0x7F800000#32
  let main_v10 : FVec F S1024x6688 .f32 := broadcastInDim S1024x6688 ![] bcast_S_S1024x6688 main_cst_2
  let main_v11 : IVec S1024x6688 1 := cmpf .olt main_v9 main_v10
  let main_c_3 : IVec S_ 1 := constantI S_ 1 1#1
  let main_v12 : IVec S_ 1 := (fun x v => Host.reduce IntOp.andi x v reducesTo_S1024x6688_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Kernel.lean ====
abbrev S4x2048x1536 : Shape := ⟨3, ![4, 2048, 1536]⟩
abbrev S4x2048x16 : Shape := ⟨3, ![4, 2048, 16]⟩
abbrev S16 : Shape := ⟨1, ![16]⟩
abbrev S4x2048x1024 : Shape := ⟨3, ![4, 2048, 1024]⟩
abbrev S_ : Shape := ⟨0, ![]⟩
abbrev S4x2048x512 : Shape := ⟨3, ![4, 2048, 512]⟩
abbrev S1x1x16 : Shape := ⟨3, ![1, 1, 16]⟩
abbrev S4x16x128x16 : Shape := ⟨4, ![4, 16, 128, 16]⟩
abbrev S4x16x16x128 : Shape := ⟨4, ![4, 16, 16, 128]⟩
abbrev S4x2048x16x64 : Shape := ⟨4, ![4, 2048, 16, 64]⟩
abbrev S4x2048x16x1 : Shape := ⟨4, ![4, 2048, 16, 1]⟩
abbrev S4x16x128x16x64 : Shape := ⟨5, ![4, 16, 128, 16, 64]⟩
abbrev S4x16x1x16 : Shape := ⟨4, ![4, 16, 1, 16]⟩
abbrev S4x16x128x16x1 : Shape := ⟨5, ![4, 16, 128, 16, 1]⟩
abbrev S4x2048x256 : Shape := ⟨3, ![4, 2048, 256]⟩
abbrev S4x16x128x2x128 : Shape := ⟨5, ![4, 16, 128, 2, 128]⟩
abbrev S4x16x128x2x8x64 : Shape := ⟨6, ![4, 16, 128, 2, 8, 64]⟩
abbrev S4x16x2x128x8x64 : Shape := ⟨6, ![4, 16, 2, 128, 8, 64]⟩
abbrev S4x16x16 : Shape := ⟨3, ![4, 16, 16]⟩
abbrev S4x17x16 : Shape := ⟨3, ![4, 17, 16]⟩
abbrev S16x16 : Shape := ⟨2, ![16, 16]⟩
abbrev S1x16x16x1 : Shape := ⟨4, ![1, 16, 16, 1]⟩
abbrev S4x1x16x16 : Shape := ⟨4, ![4, 1, 16, 16]⟩
abbrev S4x16x16x16 : Shape := ⟨4, ![4, 16, 16, 16]⟩
abbrev S4x16x16x2x8 : Shape := ⟨5, ![4, 16, 16, 2, 8]⟩
abbrev S4x2x8x128x64x16 : Shape := ⟨6, ![4, 2, 8, 128, 64, 16]⟩
abbrev S4x2048x128 : Shape := ⟨3, ![4, 2048, 128]⟩
abbrev S1x1024 : Shape := ⟨2, ![1, 1024]⟩
abbrev S1x512 : Shape := ⟨2, ![1, 512]⟩
abbrev S1x512x1024 : Shape := ⟨3, ![1, 512, 1024]⟩
abbrev S1x512x512 : Shape := ⟨3, ![1, 512, 512]⟩
abbrev S1x512x128 : Shape := ⟨3, ![1, 512, 128]⟩
abbrev S1x4x16x128 : Shape := ⟨4, ![1, 4, 16, 128]⟩
abbrev S128x1024 : Shape := ⟨2, ![128, 1024]⟩
abbrev S128x128 : Shape := ⟨2, ![128, 128]⟩
abbrev S128x512 : Shape := ⟨2, ![128, 512]⟩
abbrev S512x128 : Shape := ⟨2, ![512, 128]⟩
abbrev S1x128x128 : Shape := ⟨3, ![1, 128, 128]⟩
abbrev S1x128x512 : Shape := ⟨3, ![1, 128, 512]⟩
abbrev S512 : Shape := ⟨1, ![512]⟩
abbrev S128 : Shape := ⟨1, ![128]⟩
abbrev S128x1 : Shape := ⟨2, ![128, 1]⟩
abbrev S1x1x1x128 : Shape := ⟨4, ![1, 1, 1, 128]⟩
abbrev S1x128 : Shape := ⟨2, ![1, 128]⟩

abbrev nBuf : Space → Nat
  | .hbm => 90
  | .vmem => 33
  | .smem => 0
  | _ => 0

abbrev bufTy : (tb : Table) → Fin (tcTables nBuf tb) → BufTy
  | .hbm, ⟨0, _⟩ => ⟨S4x2048x1536, .f32⟩
  | .hbm, ⟨1, _⟩ => ⟨S4x2048x16, .f32⟩
  | .hbm, ⟨2, _⟩ => ⟨S16, .f32⟩
  | .hbm, ⟨3, _⟩ => ⟨S4x2048x1024, .f32⟩
  | .hbm, ⟨4, _⟩ => ⟨S4x2048x1024, .f32⟩
  | .hbm, ⟨5, _⟩ => ⟨S4x2048x1536, .f32⟩
  | .hbm, ⟨6, _⟩ => ⟨S4x2048x1536, .f32⟩
  | .hbm, ⟨7, _⟩ => ⟨S_, .f32⟩
  | .hbm, ⟨8, _⟩ => ⟨S4x2048x1536, .f32⟩
  | .hbm, ⟨9, _⟩ => ⟨S4x2048x1536, .f32⟩
  | .hbm, ⟨10, _⟩ => ⟨S_, .f32⟩
  | .hbm, ⟨11, _⟩ => ⟨S4x2048x1536, .f32⟩
  | .hbm, ⟨12, _⟩ => ⟨S4x2048x1536, .f32⟩
  | .hbm, ⟨13, _⟩ => ⟨S4x2048x1536, .f32⟩
  | .hbm, ⟨14, _⟩ => ⟨S4x2048x1024, .f32⟩
  | .hbm, ⟨15, _⟩ => ⟨S4x2048x512, .f32⟩
  | .hbm, ⟨16, _⟩ => ⟨S1x1x16, .f32⟩
  | .hbm, ⟨17, _⟩ => ⟨S4x2048x16, .f32⟩
  | .hbm, ⟨18, _⟩ => ⟨S4x2048x16, .f32⟩
  | .hbm, ⟨19, _⟩ => ⟨S4x16x128x16, .f32⟩
  | .hbm, ⟨20, _⟩ => ⟨S_, .f32⟩
  | .hbm, ⟨21, _⟩ => ⟨S_, .f32⟩
  | .hbm, ⟨22, _⟩ => ⟨S4x16x128x16, .f32⟩
  | .hbm, ⟨23, _⟩ => ⟨S4x16x16x128, .f32⟩
  | .hbm, ⟨24, _⟩ => ⟨S4x2048x16x64, .f32⟩
  | .hbm, ⟨25, _⟩ => ⟨S4x2048x16x1, .f32⟩
  | .hbm, ⟨26, _⟩ => ⟨S4x2048x16x64, .f32⟩
  | .hbm, ⟨27, _⟩ => ⟨S4x2048x16x64, .f32⟩
  | .hbm, ⟨28, _⟩ => ⟨S4x16x128x16x64, .f32⟩
  | .hbm, ⟨29, _⟩ => ⟨S4x16x1x16, .f32⟩
  | .hbm, ⟨30, _⟩ => ⟨S4x16x128x16, .f32⟩
  | .hbm, ⟨31, _⟩ => ⟨S4x16x128x16, .f32⟩
  | .hbm, ⟨32, _⟩ => ⟨S4x16x128x16, .f32⟩
  | .hbm, ⟨33, _⟩ => ⟨S4x16x128x16x1, .f32⟩
  | .hbm, ⟨34, _⟩ => ⟨S4x16x128x16x64, .f32⟩
  | .hbm, ⟨35, _⟩ => ⟨S4x16x128x16x64, .f32⟩
  | .hbm, ⟨36, _⟩ => ⟨S4x2048x256, .f32⟩
  | .hbm, ⟨37, _⟩ => ⟨S4x16x128x2x128, .f32⟩
  | .hbm, ⟨38, _⟩ => ⟨S4x16x128x2x8x64, .f32⟩
  | .hbm, ⟨39, _⟩ => ⟨S4x16x2x128x8x64, .f32⟩
  | .hbm, ⟨40, _⟩ => ⟨S4x16x1x16, .f32⟩
  | .hbm, ⟨41, _⟩ => ⟨S4x16x16, .f32⟩
  | .hbm, ⟨42, _⟩ => ⟨S_, .f32⟩
  | .hbm, ⟨43, _⟩ => ⟨S_, .f32⟩
  | .hbm, ⟨44, _⟩ => ⟨S4x16x16, .f32⟩
  | .hbm, ⟨45, _⟩ => ⟨S_, .i32⟩
  | .hbm, ⟨46, _⟩ => ⟨S_, .f32⟩
  | .hbm, ⟨47, _⟩ => ⟨S4x17x16, .f32⟩
  | .hbm, ⟨48, _⟩ => ⟨S4x16x16, .f32⟩
  | .hbm, ⟨49, _⟩ => ⟨S_, .i1⟩
  | .hbm, ⟨50, _⟩ => ⟨S16x16, .i1⟩
  | .hbm, ⟨51, _⟩ => ⟨S16x16, .i32⟩
  | .hbm, ⟨52, _⟩ => ⟨S_, .i32⟩
  | .hbm, ⟨53, _⟩ => ⟨S16x16, .i32⟩
  | .hbm, ⟨54, _⟩ => ⟨S16x16, .i32⟩
  | .hbm, ⟨55, _⟩ => ⟨S16x16, .i32⟩
  | .hbm, ⟨56, _⟩ => ⟨S16x16, .i1⟩
  | .hbm, ⟨57, _⟩ => ⟨S_, .i1⟩
  | .hbm, ⟨58, _⟩ => ⟨S16x16, .i1⟩
  | .hbm, ⟨59, _⟩ => ⟨S16x16, .i1⟩
  | .hbm, ⟨60, _⟩ => ⟨S1x16x16x1, .i1⟩
  | .hbm, ⟨61, _⟩ => ⟨S4x16x1x16, .f32⟩
  | .hbm, ⟨62, _⟩ => ⟨S4x1x16x16, .f32⟩
  | .hbm, ⟨63, _⟩ => ⟨S4x16x16x16, .f32⟩
  | .hbm, ⟨64, _⟩ => ⟨S4x16x16x16, .f32⟩
  | .hbm, ⟨65, _⟩ => ⟨S4x16x16x16, .f32⟩
  | .hbm, ⟨66, _⟩ => ⟨S_, .f32⟩
  | .hbm, ⟨67, _⟩ => ⟨S_, .f32⟩
  | .hbm, ⟨68, _⟩ => ⟨S4x16x16x16, .i1⟩
  | .hbm, ⟨69, _⟩ => ⟨S4x16x16x16, .f32⟩
  | .hbm, ⟨70, _⟩ => ⟨S4x16x16x16, .f32⟩
  | .hbm, ⟨71, _⟩ => ⟨S4x16x16x16, .f32⟩
  | .hbm, ⟨72, _⟩ => ⟨S4x16x16x2x8, .f32⟩
  | .hbm, ⟨73, _⟩ => ⟨S4x2x8x128x64x16, .f32⟩
  | .hbm, ⟨74, _⟩ => ⟨S4x16x128x2x8x64, .f32⟩
  | .hbm, ⟨75, _⟩ => ⟨S4x2048x1024, .f32⟩
  | .hbm, ⟨76, _⟩ => ⟨S4x2048x16, .f32⟩
  | .hbm, ⟨77, _⟩ => ⟨S4x2048x16x64, .f32⟩
  | .hbm, ⟨78, _⟩ => ⟨S4x2048x1024, .f32⟩
  | .hbm, ⟨79, _⟩ => ⟨S4x2048x16x64, .f32⟩
  | .hbm, ⟨80, _⟩ => ⟨S4x2048x1024, .f32⟩
  | .hbm, ⟨81, _⟩ => ⟨S_, .i32⟩
  | .hbm, ⟨82, _⟩ => ⟨S_, .f32⟩
  | .hbm, ⟨83, _⟩ => ⟨S4x2048x128, .f32⟩
  | .hbm, ⟨84, _⟩ => ⟨S4x2048x1024, .f32⟩
  | .hbm, ⟨85, _⟩ => ⟨S4x2048x512, .f32⟩
  | .hbm, ⟨86, _⟩ => ⟨S4x2048x128, .f32⟩
  | .hbm, ⟨87, _⟩ => ⟨S4x2048x128, .f32⟩
  | .hbm, ⟨88, _⟩ => ⟨S1x1024, .f32⟩
  | .hbm, ⟨89, _⟩ => ⟨S1x512, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x512, .f32⟩
  | .local _ .vmem, ⟨7, _⟩ => ⟨S1x512x512, .f32⟩
  | .local _ .vmem, ⟨8, _⟩ => ⟨S1x512x128, .f32⟩
  | .local _ .vmem, ⟨9, _⟩ => ⟨S1x512x128, .f32⟩
  | .local _ .vmem, ⟨10, _⟩ => ⟨S1x4x16x128, .f32⟩
  | .local _ .vmem, ⟨11, _⟩ => ⟨S1x4x16x128, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x512, .f32⟩
  | .local _ .vmem, ⟨19, _⟩ => ⟨S1x512x512, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x512, .f32⟩
  | .local _ .vmem, ⟨25, _⟩ => ⟨S1x512x512, .f32⟩
  | .local _ .vmem, ⟨26, _⟩ => ⟨S1x512x128, .f32⟩
  | .local _ .vmem, ⟨27, _⟩ => ⟨S1x512x128, .f32⟩
  | .local _ .vmem, ⟨28, _⟩ => ⟨S1x512x128, .f32⟩
  | .local _ .vmem, ⟨29, _⟩ => ⟨S1x512x128, .f32⟩
  | .local _ .vmem, ⟨30, _⟩ => ⟨S1x1024, .f32⟩
  | .local _ .vmem, ⟨31, _⟩ => ⟨S1x512, .f32⟩
  | .local _ .vmem, ⟨32, _⟩ => ⟨S128x1024, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call1_call0_cst : Ref sig .tc := ⟨.hbm, 20, rfl⟩
abbrev main_call1_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_call0_cst : Ref sig .tc := ⟨.hbm, 42, rfl⟩
abbrev main_call2_call0_v0 : Ref sig .tc := ⟨.hbm, 43, rfl⟩
abbrev main_v27 : Ref sig .tc := ⟨.hbm, 44, rfl⟩
abbrev main_c : Ref sig .tc := ⟨.hbm, 45, rfl⟩
abbrev main_call3_v0 : Ref sig .tc := ⟨.hbm, 46, rfl⟩
abbrev main_v28 : Ref sig .tc := ⟨.hbm, 47, rfl⟩
abbrev main_v29 : Ref sig .tc := ⟨.hbm, 48, rfl⟩
abbrev main_c_0 : Ref sig .tc := ⟨.hbm, 49, rfl⟩
abbrev main_v30 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_0 : Ref sig .tc := ⟨.hbm, 57, rfl⟩
abbrev main_call4_v5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_1 : Ref sig .tc := ⟨.hbm, 81, rfl⟩
abbrev main_call6_v0 : Ref sig .tc := ⟨.hbm, 82, rfl⟩
abbrev main_v49 : Ref sig .tc := ⟨.hbm, 83, rfl⟩
abbrev main_v50_0 : Ref sig .tc := ⟨.hbm, 84, rfl⟩
abbrev main_v50_1 : Ref sig .tc := ⟨.hbm, 85, rfl⟩
abbrev main_v50_2 : Ref sig .tc := ⟨.hbm, 86, rfl⟩
abbrev main_v50_3 : Ref sig .tc := ⟨.hbm, 87, rfl⟩
abbrev main_v50_4 : Ref sig .tc := ⟨.hbm, 88, rfl⟩
abbrev main_v50_5 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_16 : BitVec 32 := 0#32
  let c4_i32 : BitVec 32 := 4#32
  let v65 : BitVec 32 := Scalar.addi c0_i32_16 c4_i32
  let c1_i32_17 : BitVec 32 := 1#32
  ⟨c0_i32_16, v65, c1_i32_17⟩
def k0_mult1 (k0_t1 : Fin k0_t1_loop.trips) : BitVec 32 :=
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  v67
def k0_mult2 (k0_t1 : Fin k0_t1_loop.trips) : BitVec 32 :=
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32_19 : BitVec 32 := 128#32
  let v69 : BitVec 32 := Scalar.muli v66 c128_i32_19
  v69
def k0_off1 (k0_t1 : Fin k0_t1_loop.trips) : Fin 3 → Nat :=
  let c0 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  let v68 : BitVec 32 := v67
  let v71 : Index := Scalar.indexCast v68
  let c0_20 : Index := 0#32
  ![0, v71.toNat, 0]
def k0_off2 (k0_t1 : Fin k0_t1_loop.trips) : Fin 3 → Nat :=
  let c0_23 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  let v68 : BitVec 32 := v67
  let v76 : Index := Scalar.indexCast v68
  let c0_24 : Index := 0#32
  ![0, v76.toNat, 0]
def k0_off3 (k0_t1 : Fin k0_t1_loop.trips) : Fin 3 → Nat :=
  let c0_31 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  let v68 : BitVec 32 := v67
  let v88 : Index := Scalar.indexCast v68
  let c0_32 : Index := 0#32
  ![0, v88.toNat, 0]
def k0_off4 (k0_t1 : Fin k0_t1_loop.trips) : Fin 3 → Nat :=
  let c0_33 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  let v68 : BitVec 32 := v67
  let v91 : Index := Scalar.indexCast v68
  let c256 : Index := 256#32
  ![0, v91.toNat, 256]
def k0_off5 (k0_t1 : Fin k0_t1_loop.trips) : Fin 4 → Nat :=
  let c0_50 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v153 : Index := Scalar.indexCast v66
  let c0_51 : Index := 0#32
  let c0_52 : Index := 0#32
  ![0, v153.toNat, 0, 0]
def k0_off6 (k0_t1 : Fin k0_t1_loop.trips) : Fin 4 → Nat :=
  let c0_65 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v200 : Index := Scalar.indexCast v66
  let c1 : Index := 1#32
  let c0_66 : Index := 0#32
  ![0, v200.toNat, 1, 0]
def k0_off7 (k0_t1 : Fin k0_t1_loop.trips) : Fin 4 → Nat :=
  let c0_79 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v247 : Index := Scalar.indexCast v66
  let c2 : Index := 2#32
  let c0_80 : Index := 0#32
  ![0, v247.toNat, 2, 0]
def k0_off8 (k0_t1 : Fin k0_t1_loop.trips) : Fin 4 → Nat :=
  let c0_92 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v294 : Index := Scalar.indexCast v66
  let c3 : Index := 3#32
  let c0_93 : Index := 0#32
  ![0, v294.toNat, 3, 0]
def k0_off9 (k0_t1 : Fin k0_t1_loop.trips) : Fin 4 → Nat :=
  let c0_106 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v341 : Index := Scalar.indexCast v66
  let c4 : Index := 4#32
  let c0_107 : Index := 0#32
  ![0, v341.toNat, 4, 0]
def k0_off10 (k0_t1 : Fin k0_t1_loop.trips) : Fin 4 → Nat :=
  let c0_120 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v388 : Index := Scalar.indexCast v66
  let c5 : Index := 5#32
  let c0_121 : Index := 0#32
  ![0, v388.toNat, 5, 0]
def k0_off11 (k0_t1 : Fin k0_t1_loop.trips) : Fin 4 → Nat :=
  let c0_133 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v435 : Index := Scalar.indexCast v66
  let c6 : Index := 6#32
  let c0_134 : Index := 0#32
  ![0, v435.toNat, 6, 0]
def k0_off12 (k0_t1 : Fin k0_t1_loop.trips) : Fin 4 → Nat :=
  let c0_146 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v482 : Index := Scalar.indexCast v66
  let c7 : Index := 7#32
  let c0_147 : Index := 0#32
  ![0, v482.toNat, 7, 0]
def k0_off13 (k0_t1 : Fin k0_t1_loop.trips) : Fin 3 → Nat :=
  let c0_210 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  let v68 : BitVec 32 := v67
  let v645 : Index := Scalar.indexCast v68
  let c512 : Index := 512#32
  ![0, v645.toNat, 512]
def k0_off14 (k0_t1 : Fin k0_t1_loop.trips) : Fin 3 → Nat :=
  let c0_217 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  let v68 : BitVec 32 := v67
  let v657 : Index := Scalar.indexCast v68
  let c128 : Index := 128#32
  ![0, v657.toNat, 128]
def k0_off15 (k0_t1 : Fin k0_t1_loop.trips) : Fin 3 → Nat :=
  let c0_218 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let c128_i32 : BitVec 32 := 128#32
  let v67 : BitVec 32 := Scalar.muli v66 c128_i32
  let v68 : BitVec 32 := v67
  let v660 : Index := Scalar.indexCast v68
  let c384 : Index := 384#32
  ![0, v660.toNat, 384]
def k0_off16 (k0_t1 : Fin k0_t1_loop.trips) : Fin 4 → Nat :=
  let c0_236 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v722 : Index := Scalar.indexCast v66
  let c8 : Index := 8#32
  let c0_237 : Index := 0#32
  ![0, v722.toNat, 8, 0]
def k0_off17 (k0_t1 : Fin k0_t1_loop.trips) : Fin 4 → Nat :=
  let c0_250 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v769 : Index := Scalar.indexCast v66
  let c9 : Index := 9#32
  let c0_251 : Index := 0#32
  ![0, v769.toNat, 9, 0]
def k0_off18 (k0_t1 : Fin k0_t1_loop.trips) : Fin 4 → Nat :=
  let c0_264 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v816 : Index := Scalar.indexCast v66
  let c10 : Index := 10#32
  let c0_265 : Index := 0#32
  ![0, v816.toNat, 10, 0]
def k0_off19 (k0_t1 : Fin k0_t1_loop.trips) : Fin 4 → Nat :=
  let c0_278 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v863 : Index := Scalar.indexCast v66
  let c11 : Index := 11#32
  let c0_279 : Index := 0#32
  ![0, v863.toNat, 11, 0]
def k0_off20 (k0_t1 : Fin k0_t1_loop.trips) : Fin 4 → Nat :=
  let c0_292 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v910 : Index := Scalar.indexCast v66
  let c12 : Index := 12#32
  let c0_293 : Index := 0#32
  ![0, v910.toNat, 12, 0]
def k0_off21 (k0_t1 : Fin k0_t1_loop.trips) : Fin 4 → Nat :=
  let c0_306 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v957 : Index := Scalar.indexCast v66
  let c13 : Index := 13#32
  let c0_307 : Index := 0#32
  ![0, v957.toNat, 13, 0]
def k0_off22 (k0_t1 : Fin k0_t1_loop.trips) : Fin 4 → Nat :=
  let c0_320 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v1004 : Index := Scalar.indexCast v66
  let c14 : Index := 14#32
  let c0_321 : Index := 0#32
  ![0, v1004.toNat, 14, 0]
def k0_off23 (k0_t1 : Fin k0_t1_loop.trips) : Fin 4 → Nat :=
  let c0_334 : Index := 0#32
  let c3_i32 : BitVec 32 := 3#32
  let c0_i32_16 : BitVec 32 := 0#32
  let c1_i32_17 : BitVec 32 := 1#32
  let arg20 : BitVec 32 := Scf.iv c0_i32_16 c1_i32_17 k0_t1
  let v66 : BitVec 32 := Scalar.subi c3_i32 arg20
  let v1051 : Index := Scalar.indexCast v66
  let c15 : Index := 15#32
  let c0_335 : Index := 0#32
  ![0, v1051.toNat, 15, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c2_i32 : BitVec 32 := 2#32
  let c0_i32 : BitVec 32 := 0#32
  ![arg0.toNat, v0.toNat, c2_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4x2048x1536 : Shape := ⟨3, ![4, 2048, 1536]⟩
abbrev S4x2048x16 : Shape := ⟨3, ![4, 2048, 16]⟩
abbrev S16 : Shape := ⟨1, ![16]⟩
abbrev S4x2048x1024 : Shape := ⟨3, ![4, 2048, 1024]⟩
abbrev S_ : Shape := ⟨0, ![]⟩
abbrev S4x2048x2x8x64 : Shape := ⟨5, ![4, 2048, 2, 8, 64]⟩
abbrev S4x2048x512 : Shape := ⟨3, ![4, 2048, 512]⟩
abbrev S4x2048x256 : Shape := ⟨3, ![4, 2048, 256]⟩
abbrev S4x2048x2x128 : Shape := ⟨4, ![4, 2048, 2, 128]⟩
abbrev S4x2048x2x8 : Shape := ⟨4, ![4, 2048, 2, 8]⟩
abbrev S2x8 : Shape := ⟨2, ![2, 8]⟩
abbrev S4x2048x2x8x1 : Shape := ⟨5, ![4, 2048, 2, 8, 1]⟩
abbrev S1x1x2x8 : Shape := ⟨4, ![1, 1, 2, 8]⟩
abbrev S2048x2048 : Shape := ⟨2, ![2048, 2048]⟩
abbrev S4x2x8x2048 : Shape := ⟨4, ![4, 2, 8, 2048]⟩
abbrev S4x2x8x2048x1 : Shape := ⟨5, ![4, 2, 8, 2048, 1]⟩
abbrev S4x2x8x1x2048 : Shape := ⟨5, ![4, 2, 8, 1, 2048]⟩
abbrev S4x2x8x2048x2048 : Shape := ⟨5, ![4, 2, 8, 2048, 2048]⟩
abbrev S4x2x2048x2048 : Shape := ⟨4, ![4, 2, 2048, 2048]⟩
abbrev S4x2x1x2048x2048 : Shape := ⟨5, ![4, 2, 1, 2048, 2048]⟩
abbrev S4x2x8x64x2048 : Shape := ⟨5, ![4, 2, 8, 64, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x16, .f32⟩
  | .hbm, ⟨2, _⟩ => ⟨S16, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x2x8x64, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S_, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S4x2048x256, .f32⟩
  | .hbm, ⟨31, _⟩ => ⟨S4x2048x2x128, .f32⟩
  | .hbm, ⟨32, _⟩ => ⟨S4x2048x256, .f32⟩
  | .hbm, ⟨33, _⟩ => ⟨S4x2048x2x128, .f32⟩
  | .hbm, ⟨34, _⟩ => ⟨S4x2048x2x8, .f32⟩
  | .hbm, ⟨35, _⟩ => ⟨S2x8, .f32⟩
  | .hbm, ⟨36, _⟩ => ⟨S4x2048x2x8x1, .f32⟩
  | .hbm, ⟨37, _⟩ => ⟨S4x2048x2x8x64, .f32⟩
  | .hbm, ⟨38, _⟩ => ⟨S4x2048x2x8x64, .f32⟩
  | .hbm, ⟨39, _⟩ => ⟨S1x1x2x8, .f32⟩
  | .hbm, ⟨40, _⟩ => ⟨S4x2048x2x8, .f32⟩
  | .hbm, ⟨41, _⟩ => ⟨S4x2048x2x8, .f32⟩
  | .hbm, ⟨42, _⟩ => ⟨S_, .i1⟩
  | .hbm, ⟨43, _⟩ => ⟨S2048x2048, .i1⟩
  | .hbm, ⟨44, _⟩ => ⟨S2048x2048, .i32⟩
  | .hbm, ⟨45, _⟩ => ⟨S_, .i32⟩
  | .hbm, ⟨46, _⟩ => ⟨S2048x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S_, .i1⟩
  | .hbm, ⟨51, _⟩ => ⟨S2048x2048, .i1⟩
  | .hbm, ⟨52, _⟩ => ⟨S2048x2048, .i1⟩
  | .hbm, ⟨53, _⟩ => ⟨S4x2x8x2048, .f32⟩
  | .hbm, ⟨54, _⟩ => ⟨S_, .f32⟩
  | .hbm, ⟨55, _⟩ => ⟨S_, .f32⟩
  | .hbm, ⟨56, _⟩ => ⟨S4x2x8x2048, .f32⟩
  | .hbm, ⟨57, _⟩ => ⟨S4x2x8x2048x1, .f32⟩
  | .hbm, ⟨58, _⟩ => ⟨S4x2x8x1x2048, .f32⟩
  | .hbm, ⟨59, _⟩ => ⟨S4x2x8x2048x2048, .f32⟩
  | .hbm, ⟨60, _⟩ => ⟨S4x2x8x2048x2048, .f32⟩
  | .hbm, ⟨61, _⟩ => ⟨S4x2x8x2048x2048, .f32⟩
  | .hbm, ⟨62, _⟩ => ⟨S_, .f32⟩
  | .hbm, ⟨63, _⟩ => ⟨S_, .f32⟩
  | .hbm, ⟨64, _⟩ => ⟨S4x2x8x2048x2048, .i1⟩
  | .hbm, ⟨65, _⟩ => ⟨S4x2x8x2048x2048, .f32⟩
  | .hbm, ⟨66, _⟩ => ⟨S4x2x8x2048x2048, .f32⟩
  | .hbm, ⟨67, _⟩ => ⟨S4x2x8x2048x2048, .f32⟩
  | .hbm, ⟨68, _⟩ => ⟨S4x2x2048x2048, .f32⟩
  | .hbm, ⟨69, _⟩ => ⟨S4x2x1x2048x2048, .f32⟩
  | .hbm, ⟨70, _⟩ => ⟨S4x2x8x2048x2048, .f32⟩
  | .hbm, ⟨71, _⟩ => ⟨S4x2x8x2048x2048, .f32⟩
  | .hbm, ⟨72, _⟩ => ⟨S4x2x8x64x2048, .f32⟩
  | .hbm, ⟨73, _⟩ => ⟨S4x2048x2x8x64, .f32⟩
  | .hbm, ⟨74, _⟩ => ⟨S4x2048x1024, .f32⟩
  | .hbm, ⟨75, _⟩ => ⟨S4x2048x1024, .f32⟩
  | .hbm, ⟨76, _⟩ => ⟨S4x2048x2x8x64, .f32⟩
  | .hbm, ⟨77, _⟩ => ⟨S4x2048x2x8x64, .f32⟩
  | .hbm, ⟨78, _⟩ => ⟨S4x2x8x64x2048, .f32⟩
  | .hbm, ⟨79, _⟩ => ⟨S4x2x8x64x2048, .f32⟩
  | .hbm, ⟨80, _⟩ => ⟨S4x2048x2x8x64, .f32⟩
  | .hbm, ⟨81, _⟩ => ⟨S4x2048x2x8x64, .f32⟩
  | .hbm, ⟨82, _⟩ => ⟨S4x2048x2x8x64, .f32⟩
  | .hbm, ⟨83, _⟩ => ⟨S4x2048x2x8x64, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_0 : Ref sig .tc := ⟨.hbm, 50, rfl⟩
abbrev main_call2_v5 : Ref sig .tc := ⟨.hbm, 51, rfl⟩
abbrev main_v18 : Ref sig .tc := ⟨.hbm, 52, rfl⟩
abbrev main_v19 : Ref sig .tc := ⟨.hbm, 53, rfl⟩
abbrev main_call3_call0_cst : Ref sig .tc := ⟨.hbm, 54, rfl⟩
abbrev main_call3_call0_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_v45 : Ref sig .tc := ⟨.hbm, 88, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 29
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x5632, .bf16⟩
  | .hbm, ⟨24, _⟩ => ⟨S1024x5632, .bf16⟩
  | .hbm, ⟨25, _⟩ => ⟨S8192x1024, .f32⟩
  | .hbm, ⟨26, _⟩ => ⟨S8192x1024, .bf16⟩
  | .hbm, ⟨27, _⟩ => ⟨S1x1024, .f32⟩
  | .hbm, ⟨28, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S8192x7168 : Shape := ⟨2, ![8192, 7168]⟩
abbrev S1024x7168 : Shape := ⟨2, ![1024, 7168]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .bf16⟩
  | .hbm, ⟨3, _⟩ => ⟨S8192x7168, .bf16⟩
  | .hbm, ⟨4, _⟩ => ⟨S1024x7168, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S_, .f32⟩
  | .hbm, ⟨3, _⟩ => ⟨S1024x7168, .f32⟩
  | .hbm, ⟨4, _⟩ => ⟨S8192x7168, .f32⟩
  | .hbm, ⟨5, _⟩ => ⟨S7168x1024, .f32⟩
  | .hbm, ⟨6, _⟩ => ⟨S1024x7168, .f32⟩
  | .hbm, ⟨7, _⟩ => ⟨S1024x7168, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S2816x1024, .bf16⟩
  | .hbm, ⟨4, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x6688 : Shape := ⟨2, ![1024, 6688]⟩
abbrev S8192x6688 : Shape := ⟨2, ![8192, 6688]⟩
abbrev S_ : Shape := ⟨0, ![]⟩
abbrev S8192x480 : Shape := ⟨2, ![8192, 480]⟩
abbrev S8192x4096 : Shape := ⟨2, ![8192, 4096]⟩
abbrev S8192x2560 : Shape := ⟨2, ![8192, 2560]⟩
abbrev S8192x16 : Shape := ⟨2, ![8192, 16]⟩
abbrev S8192x7168 : Shape := ⟨2, ![8192, 7168]⟩
abbrev S1024x480 : Shape := ⟨2, ![1024, 480]⟩
abbrev S1024x4096 : Shape := ⟨2, ![1024, 4096]⟩
abbrev S1024x2560 : Shape := ⟨2, ![1024, 2560]⟩
abbrev S1024x16 : Shape := ⟨2, ![1024, 16]⟩
abbrev S1024x7168 : Shape := ⟨2, ![1024, 7168]⟩
abbrev S512x3584 : Shape := ⟨2, ![512, 3584]⟩
abbrev S1024x3584 : Shape := ⟨2, ![1024, 3584]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6688, .f32⟩
  | .hbm, ⟨3, _⟩ => ⟨S8192x1024, .f32⟩
  | .hbm, ⟨4, _⟩ => ⟨S8192x6688, .f32⟩
  | .hbm, ⟨5, _⟩ => ⟨S8192x6688, .bf16⟩
  | .hbm, ⟨6, _⟩ => ⟨S_, .bf16⟩
  | .hbm, ⟨7, _⟩ => ⟨S8192x480, .bf16⟩
  | .hbm, ⟨8, _⟩ => ⟨S8192x4096, .bf16⟩
  | .hbm, ⟨9, _⟩ => ⟨S8192x2560, .bf16⟩
  | .hbm, ⟨10, _⟩ => ⟨S8192x16, .bf16⟩
  | .hbm, ⟨11, _⟩ => ⟨S8192x16, .bf16⟩
  | .hbm, ⟨12, _⟩ => ⟨S8192x7168, .bf16⟩
  | .hbm, ⟨13, _⟩ => ⟨S1024x6688, .bf16⟩
  | .hbm, ⟨14, _⟩ => ⟨S_, .bf16⟩
  | .hbm, ⟨15, _⟩ => ⟨S1024x480, .bf16⟩
  | .hbm, ⟨16, _⟩ => ⟨S1024x4096, .bf16⟩
  | .hbm, ⟨17, _⟩ => ⟨S1024x2560, .bf16⟩
  | .hbm, ⟨18, _⟩ => ⟨S1024x16, .bf16⟩
  | .hbm, ⟨19, _⟩ => ⟨S1024x16, .bf16⟩
  | .hbm, ⟨20, _⟩ => ⟨S1024x7168, .bf16⟩
  | .hbm, ⟨21, _⟩ => ⟨S8192x1024, .f32⟩
  | .hbm, ⟨22, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S1024x3584, .bf16⟩
  | .local _ .vmem, ⟨3, _⟩ => ⟨S1024x3584, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference9Ideal.lean ====
abbrev S8192x1024 : Shape := ⟨2, ![8192, 1024]⟩
abbrev S1x1024 : Shape := ⟨2, ![1, 1024]⟩
abbrev S1024x6688 : Shape := ⟨2, ![1024, 6688]⟩
abbrev S8192x6688 : Shape := ⟨2, ![8192, 6688]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6688, .f32⟩
  | .hbm, ⟨3, _⟩ => ⟨S8192x1024, .f32⟩
  | .hbm, ⟨4, _⟩ => ⟨S8192x6688, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x6688, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel10.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x2048, .bf16⟩
  | .hbm, ⟨6, _⟩ => ⟨S2048x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference10Ideal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel11.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference11Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_cst_19 : Ref sig .tc := ⟨.hbm, 93, rfl⟩
abbrev main_v68 : Ref sig .tc := ⟨.hbm, 94, rfl⟩
abbrev main_v69 : Ref sig .tc := ⟨.hbm, 95, rfl⟩
abbrev main_cst_20 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S1024x7168 : Shape := ⟨2, ![1024, 7168]⟩
abbrev S8192x7168 : Shape := ⟨2, ![8192, 7168]⟩
abbrev S2048x1024 : Shape := ⟨2, ![2048, 1024]⟩
abbrev S1024x512 : Shape := ⟨2, ![1024, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7168, .f32⟩
  | .hbm, ⟨3, _⟩ => ⟨S1024x7168, .bf16⟩
  | .hbm, ⟨4, _⟩ => ⟨S8192x1024, .bf16⟩
  | .hbm, ⟨5, _⟩ => ⟨S8192x7168, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2048x1024, .bf16⟩
  | .local _ .vmem, ⟨6, _⟩ => ⟨S2048x1024, .bf16⟩
  | .local _ .vmem, ⟨7, _⟩ => ⟨S2048x512, .f32⟩
  | .local _ .vmem, ⟨8, _⟩ => ⟨S2048x512, .f32⟩
  | .local _ .vmem, ⟨9, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8192x1024 : Shape := ⟨2, ![8192, 1024]⟩
abbrev S1x1024 : Shape := ⟨2, ![1, 1024]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S8192x7168 : Shape := ⟨2, ![8192, 7168]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7168, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x7168, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel13.lean ====
abbrev S8192x1024 : Shape := ⟨2, ![8192, 1024]⟩
abbrev S2048x1024 : Shape := ⟨2, ![2048, 1024]⟩
abbrev S8192x7168 : Shape := ⟨2, ![8192, 7168]⟩
abbrev S1x128 : Shape := ⟨2, ![1, 128]⟩
abbrev S1x1024 : Shape := ⟨2, ![1, 1024]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S128 : Shape := ⟨1, ![128]⟩
abbrev S256x512 : Shape := ⟨2, ![256, 512]⟩
abbrev S1x512 : Shape := ⟨2, ![1, 512]⟩
abbrev S512 : Shape := ⟨1, ![512]⟩

abbrev nBuf : Space → Nat
  | .hbm => 19
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x7168, .f32⟩
  | .hbm, ⟨6, _⟩ => ⟨S1x128, .f32⟩
  | .hbm, ⟨7, _⟩ => ⟨S1x1024, .f32⟩
  | .hbm, ⟨8, _⟩ => ⟨S1x1024, .f32⟩
  | .hbm, ⟨9, _⟩ => ⟨S8192x1024, .bf16⟩
  | .hbm, ⟨10, _⟩ => ⟨S2048x1024, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S1x128, .f32⟩
  | .hbm, ⟨17, _⟩ => ⟨S1x1024, .f32⟩
  | .hbm, ⟨18, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S1x128, .f32⟩
  | .local _ .vmem, ⟨27, _⟩ => ⟨S1x1024, .f32⟩
  | .local _ .vmem, ⟨28, _⟩ => ⟨S1x1024, .f32⟩
  | .local _ .vmem, ⟨29, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== Reference13Ideal.lean ====
abbrev S8192x1024 : Shape := ⟨2, ![8192, 1024]⟩
abbrev S2048x1024 : Shape := ⟨2, ![2048, 1024]⟩
abbrev S8192x7168 : Shape := ⟨2, ![8192, 7168]⟩
abbrev S1x128 : Shape := ⟨2, ![1, 128]⟩
abbrev S1x1024 : Shape := ⟨2, ![1, 1024]⟩
abbrev S1024x2048 : Shape := ⟨2, ![1024, 2048]⟩
abbrev S8192x2048 : Shape := ⟨2, ![8192, 2048]⟩
abbrev S8192x2x512 : Shape := ⟨3, ![8192, 2, 512]⟩
abbrev S_ : Shape := ⟨0, ![]⟩
abbrev S2x512 : Shape := ⟨2, ![2, 512]⟩
abbrev S8192x2 : Shape := ⟨2, ![8192, 2]⟩
abbrev S8192x2x1 : Shape := ⟨3, ![8192, 2, 1]⟩
abbrev S1x2x512 : Shape := ⟨3, ![1, 2, 512]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x7168, .f32⟩
  | .hbm, ⟨6, _⟩ => ⟨S1x128, .f32⟩
  | .hbm, ⟨7, _⟩ => ⟨S1x1024, .f32⟩
  | .hbm, ⟨8, _⟩ => ⟨S1x1024, .f32⟩
  | .hbm, ⟨9, _⟩ => ⟨S1024x2048, .f32⟩
  | .hbm, ⟨10, _⟩ => ⟨S8192x2048, .f32⟩
  | .hbm, ⟨11, _⟩ => ⟨S8192x1024, .f32⟩
  | .hbm, ⟨12, _⟩ => ⟨S8192x2x512, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2x512, .f32⟩
  | .hbm, ⟨32, _⟩ => ⟨S2x512, .f32⟩
  | .hbm, ⟨33, _⟩ => ⟨S8192x2x512, .f32⟩
  | .hbm, ⟨34, _⟩ => ⟨S_, .f32⟩
  | .hbm, ⟨35, _⟩ => ⟨S8192x2, .f32⟩
  | .hbm, ⟨36, _⟩ => ⟨S8192x2x1, .f32⟩
  | .hbm, ⟨37, _⟩ => ⟨S_, .f32⟩
  | .hbm, ⟨38, _⟩ => ⟨S8192x2x1, .f32⟩
  | .hbm, ⟨39, _⟩ => ⟨S8192x2x1, .f32⟩
  | .hbm, ⟨40, _⟩ => ⟨S_, .f32⟩
  | .hbm, ⟨41, _⟩ => ⟨S8192x2x1, .f32⟩
  | .hbm, ⟨42, _⟩ => ⟨S8192x2x1, .f32⟩
  | .hbm, ⟨43, _⟩ => ⟨S8192x2x1, .f32⟩
  | .hbm, ⟨44, _⟩ => ⟨S8192x2x1, .f32⟩
  | .hbm, ⟨45, _⟩ => ⟨S_, .f32⟩
  | .hbm, ⟨46, _⟩ => ⟨S8192x2x1, .f32⟩
  | .hbm, ⟨47, _⟩ => ⟨S8192x2x1, .f32⟩
  | .hbm, ⟨48, _⟩ => ⟨S8192x2x512, .f32⟩
  | .hbm, ⟨49, _⟩ => ⟨S8192x2x512, .f32⟩
  | .hbm, ⟨50, _⟩ => ⟨S1x2x512, .f32⟩
  | .hbm, ⟨51, _⟩ => ⟨S8192x2x512, .f32⟩
  | .hbm, ⟨52, _⟩ => ⟨S8192x2x512, .f32⟩
  | .hbm, ⟨53, _⟩ => ⟨S8192x2x512, .f32⟩
  | .hbm, ⟨54, _⟩ => ⟨S_, .f32⟩
  | .hbm, ⟨55, _⟩ => ⟨S2x512, .f32⟩
  | .hbm, ⟨56, _⟩ => ⟨S1x2x512, .f32⟩
  | .hbm, ⟨57, _⟩ => ⟨S8192x2x512, .f32⟩
  | .hbm, ⟨58, _⟩ => ⟨S8192x2x512, .f32⟩
  | .hbm, ⟨59, _⟩ => ⟨S_, .f32⟩
  | .hbm, ⟨60, _⟩ => ⟨S2x512, .f32⟩
  | .hbm, ⟨61, _⟩ => ⟨S8192x2x512, .f32⟩
  | .hbm, ⟨62, _⟩ => ⟨S_, .f32⟩
  | .hbm, ⟨63, _⟩ => ⟨S8192x2, .f32⟩
  | .hbm, ⟨64, _⟩ => ⟨S8192x2x1, .f32⟩
  | .hbm, ⟨65, _⟩ => ⟨S8192x2x512, .f32⟩
  | .hbm, ⟨66, _⟩ => ⟨S8192x2x512, .f32⟩
  | .hbm, ⟨67, _⟩ => ⟨S8192x2x1, .f32⟩
  | .hbm, ⟨68, _⟩ => ⟨S_, .f32⟩
  | .hbm, ⟨69, _⟩ => ⟨S8192x2x1, .f32⟩
  | .hbm, ⟨70, _⟩ => ⟨S8192x2x1, .f32⟩
  | .hbm, ⟨71, _⟩ => ⟨S_, .f32⟩
  | .hbm, ⟨72, _⟩ => ⟨S8192x2, .f32⟩
  | .hbm, ⟨73, _⟩ => ⟨S8192x2x512, .f32⟩
  | .hbm, ⟨74, _⟩ => ⟨S8192x2x512, .f32⟩
  | .hbm, ⟨75, _⟩ => ⟨S8192x2x512, .f32⟩
  | .hbm, ⟨76, _⟩ => ⟨S8192x2x512, .f32⟩
  | .hbm, ⟨77, _⟩ => ⟨S8192x2x512, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v8_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v8_1 : Ref sig .tc := ⟨.hbm, 28, rfl⟩
abbrev main_v8_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]
-- ==== Proof.BodyBits.lean ====
module

public import proofs.«01_k».proof.Proof.Gen.Kernel.Skeleton
public import proofs.«01_k».proof.Proof.Gen.Kernel.Loops
public import proofs.«01_k».proof.Proof.Gen.Kernel.Frame

@[expose] public section

set_option maxRecDepth 65536

noncomputable section

namespace Cert.Proof.Kernel

open Cert.Kernel Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F]

/-- The resource algebra of the runs: the frame kit's, nothing beside it. -/
abbrev UU (nD : Nat) (τ : Topo) : Type := UR sig nD τ
/-- No loop of the kernel runs under a variant of its own. -/
abbrev 𝒱₀ : Variants := Variants.none
local notation "𝕄" => MT nD τ sig Unit (Elt F) ℕ (UU nD τ) ℕ

/-- The contents of the buffer a memory reference names on core `c`. -/
abbrev Bf (c : Dev nD) {sp : Space} {s : Shape} {e : EltTy} (M : Memref sig .tc sp s e) : Type :=
  Buf (Elt F) (M.view.loc (c : Thread nD τ))

/-- The elements of a memory reference on core `c`, held outright at the contents `f`. -/
abbrev pt (c : Dev nD) {sp : Space} {s : Shape} {e : EltTy} (M : Memref sig .tc sp s e) (f : Bf (F := F) c M) : sProp 𝕄 :=
  M.view.loc (c : Thread nD τ) ↦[M.view.set]{fullShare} f

section Body

variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x512 .f32) (harg5 : arg5.IsWhole)
  (arg6 : Memref sig .tc .vmem S1x512x128 .f32) (harg6 : arg6.IsWhole)
  (arg7 : Memref sig .tc .vmem S1x4x16x128 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x512x512 .f32) (harg11 : arg11.IsWhole)
  (arg12 : Memref sig .tc .vmem S1x512x1024 .f32) (harg12 : arg12.IsWhole)
  (arg13 : Memref sig .tc .vmem S1x512x1024 .f32) (harg13 : arg13.IsWhole)
  (arg14 : Memref sig .tc .vmem S1x512x512 .f32) (harg14 : arg14.IsWhole)
  (arg15 : Memref sig .tc .vmem S1x512x128 .f32) (harg15 : arg15.IsWhole)
  (arg16 : Memref sig .tc .vmem S1x512x128 .f32) (harg16 : arg16.IsWhole)
  (arg17 : Memref sig .tc .vmem S1x1024 .f32) (harg17 : arg17.IsWhole)
  (arg18 : Memref sig .tc .vmem S1x512 .f32) (harg18 : arg18.IsWhole)
  (arg19 : Memref sig .tc .vmem S128x1024 .f32) (harg19 : arg19.IsWhole)

section Trip

variable (v10 : IVec S128x128 1) (v11 : IVec S128x128 32) (v12 : FVec F S128x128 .f32) (v37 : IVec S128x512 32) (v38 : IVec S128x512 32) (v39 : IVec S512x128 32) (c64_i32_9 : BitVec 32) (v41 : IVec S512x128 32) (v64 : IVec S512x128 32)

/-- One trip of the chunk loop: the blocks of the operands are read and kept, the results and the scratch are left at
    whatever the trip stores. -/
theorem trip (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
      ⊢ wp frame (wpE (defs₀ (F := F)) 𝒱₀ (c : Thread nD τ) none) Set.univ
          (Gen.k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k ())
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f))) := by
  unfold Gen.k0_t1_body
  iintro ⟨H2, H3, H4, H5, H6, H7, H8, H9, H10, H11, H12, H13, H14, H15, H16, H17, H18, H19⟩
  sl_exec_parts
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

set_option warn.classDefReducibility false in
/-- The chunk loop keeps the operands' blocks. -/
@[sl_loop] def loopInv_k0_t1 (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    Cert.Kernel.Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 where
  inv := fun _ _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f))
  step := fun k _ => by
    iintro ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩⟩
    iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 f13 f14 f15 f16 f17 f18 f19)
    iframe

end Trip

/-- One block of the backward recurrence keeps the operands' blocks. -/
theorem bodyRun (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
      ⊢ wp frame (wpE (defs₀ (F := F)) 𝒱₀ (c : Thread nD τ) none) Set.univ (cc0_ssd_chunk_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f))) := by
  by_cases h1 : Scalar.cmpi .ne (Scalar.extui (Scalar.cmpi .eq (BitVec.ofNat 32 (i 1).val) 0#32) : BitVec 32) 0#32 = 1#1
  all_goals
    by_cases h0 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
  all_goals
    iintro ⟨H2, H3, H4, H5, H6, H7, H8, H9, H10, H11, H12, H13, H14, H15, H16, H17, H18, H19⟩
    sl_unfold [cc0_ssd_chunk_bwd]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Body

end Cert.Proof.Kernel

end
-- ==== Proof.LaunchBits.lean ====
module

public import proofs.«01_k».proof.Proof.Gen.Kernel.Skeleton
public import proofs.«01_k».proof.Proof.Gen.Kernel.Loops
public import proofs.«01_k».proof.Proof.Gen.Kernel.Frame
public import proofs.«01_k».proof.Proof.BodyBits

@[expose] public section

set_option maxRecDepth 65536

noncomputable section

namespace Cert.Proof.Kernel

open Cert.Kernel Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev hst0 (t : Fin cfg0.N) : (Gen.st0_0 t).IsWhole := hstage0_0 ((cfg0.slots t 0).cast nbuf0_0)
abbrev hst1 (t : Fin cfg0.N) : (Gen.st0_1 t).IsWhole := hstage0_1 ((cfg0.slots t 1).cast nbuf0_1)
abbrev hst2 (t : Fin cfg0.N) : (Gen.st0_2 t).IsWhole := hstage0_2 ((cfg0.slots t 2).cast nbuf0_2)
abbrev hst3 (t : Fin cfg0.N) : (Gen.st0_3 t).IsWhole := hstage0_3 ((cfg0.slots t 3).cast nbuf0_3)
abbrev hst4 (t : Fin cfg0.N) : (Gen.st0_4 t).IsWhole := hstage0_4 ((cfg0.slots t 4).cast nbuf0_4)
abbrev hst5 (t : Fin cfg0.N) : (Gen.st0_5 t).IsWhole := hstage0_5 ((cfg0.slots t 5).cast nbuf0_5)
abbrev hst6 (t : Fin cfg0.N) : (Gen.st0_6 t).IsWhole := hstage0_6 ((cfg0.slots t 6).cast nbuf0_6)
abbrev hst7 (t : Fin cfg0.N) : (Gen.st0_7 t).IsWhole := hstage0_7 ((cfg0.slots t 7).cast nbuf0_7)
abbrev hst8 (t : Fin cfg0.N) : (Gen.st0_8 t).IsWhole := hstage0_8 ((cfg0.slots t 8).cast nbuf0_8)
abbrev hst9 (t : Fin cfg0.N) : (Gen.st0_9 t).IsWhole := hstage0_9 ((cfg0.slots t 9).cast nbuf0_9)
abbrev hst10 (t : Fin cfg0.N) : (Gen.st0_10 t).IsWhole := hstage0_10 ((cfg0.slots t 10).cast nbuf0_10)
abbrev hst11 (t : Fin cfg0.N) : (Gen.st0_11 t).IsWhole := hstage0_11 ((cfg0.slots t 11).cast nbuf0_11)
abbrev hst12 (t : Fin cfg0.N) : (Gen.st0_12 t).IsWhole := hstage0_12 ((cfg0.slots t 12).cast nbuf0_12)
abbrev hst13 (t : Fin cfg0.N) : (Gen.st0_13 t).IsWhole := hstage0_13 ((cfg0.slots t 13).cast nbuf0_13)
abbrev hst14 (t : Fin cfg0.N) : (Gen.st0_14 t).IsWhole := hstage0_14 ((cfg0.slots t 14).cast nbuf0_14)
abbrev hst15 (t : Fin cfg0.N) : (Gen.st0_15 t).IsWhole := hstage0_15 ((cfg0.slots t 15).cast nbuf0_15)
abbrev hst16 (t : Fin cfg0.N) : (Gen.st0_16 t).IsWhole := hstage0_16 ((cfg0.slots t 16).cast nbuf0_16)

/-- The scratch that carries the state gradient from one block of positions to the one before it. -/
abbrev scr : Memref sig .tc .vmem S128x1024 .f32 := Memref.whole cc0_scratch0

/-- The proof data of the launch: the operands' blocks stay in place, of the results nothing is said. -/
def dats (_ : Fin 1) (c : Dev nD) : Dat τ (Elt F) Unit ℕ (UU nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.X0_8 m c t
    | ⟨9, _⟩ => Gen.iblk m c 9 t
    | ⟨10, _⟩ => Gen.iblk m c 10 t
    | ⟨11, _⟩ => (Gen.st0_11 t).view.read (Elt F) (Gen.st0_11 t).view.junk
    | ⟨12, _⟩ => (Gen.st0_12 t).view.read (Elt F) (Gen.st0_12 t).view.junk
    | ⟨13, _⟩ => (Gen.st0_13 t).view.read (Elt F) (Gen.st0_13 t).view.junk
    | ⟨14, _⟩ => (Gen.st0_14 t).view.read (Elt F) (Gen.st0_14 t).view.junk
    | ⟨15, _⟩ => (Gen.st0_15 t).view.read (Elt F) (Gen.st0_15 t).view.junk
    | ⟨16, _⟩ => (Gen.st0_16 t).view.read (Elt F) (Gen.st0_16 t).view.junk
    | ⟨_ + 17, h⟩ => absurd h (Nat.not_lt.mpr (Nat.le_add_left 17 _))
  Φ _ := Pipeline.ΦA spec0 c
  q w := Pipeline.shareOf spec0 w
  owed _ := 0

/-- The results nothing is said of: all of them. -/
def fgt (w : Fin cfg0.W) : Bool := decide (11 ≤ w.val)

theorem before_0 (c : Dev nD) (t : Fin cfg0.N) (d) : (dats m 0 c).before 0 t d = Gen.iblk m c 0 t :=
  Gen.before0_0_of m _ rfl (fun _ => rfl) t d
theorem before_1 (c : Dev nD) (t : Fin cfg0.N) (d) : (dats m 0 c).before 1 t d = Gen.iblk m c 1 t :=
  Gen.before0_1_of m _ rfl (fun _ => rfl) t d
theorem before_2 (c : Dev nD) (t : Fin cfg0.N) (d) : (dats m 0 c).before 2 t d = Gen.iblk m c 2 t :=
  Gen.before0_2_of m _ rfl (fun _ => rfl) t d
theorem before_3 (c : Dev nD) (t : Fin cfg0.N) (d) : (dats m 0 c).before 3 t d = Gen.iblk m c 3 t :=
  Gen.before0_3_of m _ rfl (fun _ => rfl) t d
theorem before_4 (c : Dev nD) (t : Fin cfg0.N) (d) : (dats m 0 c).before 4 t d = Gen.iblk m c 4 t :=
  Gen.before0_4_of m _ rfl (fun _ => rfl) t d
theorem before_5 (c : Dev nD) (t : Fin cfg0.N) (d) : (dats m 0 c).before 5 t d = Gen.iblk m c 5 t :=
  Gen.before0_5_of m _ rfl (fun _ => rfl) t d
theorem before_6 (c : Dev nD) (t : Fin cfg0.N) (d) : (dats m 0 c).before 6 t d = Gen.iblk m c 6 t :=
  Gen.before0_6_of m _ rfl (fun _ => rfl) t d
theorem before_7 (c : Dev nD) (t : Fin cfg0.N) (d) : (dats m 0 c).before 7 t d = Gen.iblk m c 7 t :=
  Gen.before0_7_of m _ rfl (fun _ => rfl) t d
theorem before_8 (c : Dev nD) (t : Fin cfg0.N) (d) : (dats m 0 c).before 8 t d = Gen.X0_8 m c t :=
  Gen.before0_8_of m _ rfl (fun _ => rfl) t d
theorem before_9 (c : Dev nD) (t : Fin cfg0.N) (d) : (dats m 0 c).before 9 t d = Gen.iblk m c 9 t :=
  Gen.before0_9_of m _ rfl (fun _ => rfl) t d
theorem before_10 (c : Dev nD) (t : Fin cfg0.N) (d) : (dats m 0 c).before 10 t d = Gen.iblk m c 10 t :=
  Gen.before0_10_of m _ rfl (fun _ => rfl) t d
theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = Gen.iblk m c 5 t := by dsimp only [dats]
theorem after_6 (c : Dev nD) (t : Fin cfg0.N) : (dats m 0 c).after 6 t = Gen.iblk m c 6 t := by dsimp only [dats]
theorem after_7 (c : Dev nD) (t : Fin cfg0.N) : (dats m 0 c).after 7 t = Gen.iblk m c 7 t := by dsimp only [dats]
theorem after_8 (c : Dev nD) (t : Fin cfg0.N) : (dats m 0 c).after 8 t = Gen.X0_8 m c t := by dsimp only [dats]
theorem after_9 (c : Dev nD) (t : Fin cfg0.N) : (dats m 0 c).after 9 t = Gen.iblk m c 9 t := by dsimp only [dats]
theorem after_10 (c : Dev nD) (t : Fin cfg0.N) : (dats m 0 c).after 10 t = Gen.iblk m c 10 t := by dsimp only [dats]

/-- Point `t`'s body is the kernel on the point's staging buffers and the scratch. -/
theorem defs_tc : (defs₀ (F := F)) .tc cfg0.body
    = fun a => cc0_ssd_chunk_bwd (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (win0_10.stage (a.2 10)) (hstage0_10 ((a.2 10).cast nbuf0_10)) (win0_11.stage (a.2 11)) (hstage0_11 ((a.2 11).cast nbuf0_11)) (win0_12.stage (a.2 12)) (hstage0_12 ((a.2 12).cast nbuf0_12)) (win0_13.stage (a.2 13)) (hstage0_13 ((a.2 13).cast nbuf0_13)) (win0_14.stage (a.2 14)) (hstage0_14 ((a.2 14).cast nbuf0_14)) (win0_15.stage (a.2 15)) (hstage0_15 ((a.2 15).cast nbuf0_15)) (win0_16.stage (a.2 16)) (hstage0_16 ((a.2 16).cast nbuf0_16)) scr (Memref.isWhole_whole _) := rfl
theorem prog_eq (t : Fin cfg0.N) : (defs₀ (F := F)) .tc cfg0.body (cfg0.bodyArgs t (cfg0.slots t))
    = cc0_ssd_chunk_bwd (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _) :=
  (congrFun defs_tc _).trans rfl

theorem scr_own (c : Dev nD) (f : Bf (F := F) c scr) :
    (pt c scr f : sProp 𝕄) = iprop((((c : Thread nD τ).loc cc0_scratch0)) ↦{fullShare} f) := by
  unfold pt
  rw [View.set_whole]

set_option maxHeartbeats 4000000 in
set_option backward.isDefEq.respectTransparency.types false in
theorem body_obligation (c : Dev nD) : BodyObligation (dats (F := F) m 0 c) (defs₀ (F := F)) 𝒱₀ () Set.univ fgt := fun t => by
  rw [Gen.bigSep_W0, Gen.bigSep_W0]
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = false from rfl, show fgt 11 = true from rfl, show fgt 12 = true from rfl, show fgt 13 = true from rfl, show fgt 14 = true from rfl, show fgt 15 = true from rfl, show fgt 16 = true from rfl]
  simp only [before_0, before_1, before_2, before_3, before_4, before_5, before_6, before_7, before_8, before_9, before_10, after_0, after_1, after_2, after_3, after_4, after_5, after_6, after_7, after_8, after_9, after_10]
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  unfold owns Pipeline.ΦA
  rw [Gen.scopedRest0_eq]
  simp only [← scr_own]
  iintro ⟨⟨⟨%d, HS⟩, HR⟩, ⟨%W, -, HW⟩, ⟨%d0, %g0, %hg0, I0⟩, ⟨%d1, %g1, %hg1, I1⟩, ⟨%d2, %g2, %hg2, I2⟩, ⟨%d3, %g3, %hg3, I3⟩, ⟨%d4, %g4, %hg4, I4⟩, ⟨%d5, %g5, %hg5, I5⟩, ⟨%d6, %g6, %hg6, I6⟩, ⟨%d7, %g7, %hg7, I7⟩, ⟨%d8, %g8, %hg8, I8⟩, ⟨%d9, %g9, %hg9, I9⟩, ⟨%d10, %g10, %hg10, I10⟩, ⟨%d11, %g11, -, I11⟩, ⟨%d12, %g12, -, I12⟩, ⟨%d13, %g13, -, I13⟩, ⟨%d14, %g14, -, I14⟩, ⟨%d15, %g15, -, I15⟩, ⟨%d16, %g16, -, I16⟩⟩
  ihave J0 := (pointsTo_rep_entails (c : Thread nD τ) (Gen.st0_0 t) g0 fullShare) $$ I0
  rw [hg0]
  ihave J1 := (pointsTo_rep_entails (c : Thread nD τ) (Gen.st0_1 t) g1 fullShare) $$ I1
  rw [hg1]
  ihave J2 := (pointsTo_rep_entails (c : Thread nD τ) (Gen.st0_2 t) g2 fullShare) $$ I2
  rw [hg2]
  ihave J3 := (pointsTo_rep_entails (c : Thread nD τ) (Gen.st0_3 t) g3 fullShare) $$ I3
  rw [hg3]
  ihave J4 := (pointsTo_rep_entails (c : Thread nD τ) (Gen.st0_4 t) g4 fullShare) $$ I4
  rw [hg4]
  ihave J5 := (pointsTo_rep_entails (c : Thread nD τ) (Gen.st0_5 t) g5 fullShare) $$ I5
  rw [hg5]
  ihave J6 := (pointsTo_rep_entails (c : Thread nD τ) (Gen.st0_6 t) g6 fullShare) $$ I6
  rw [hg6]
  ihave J7 := (pointsTo_rep_entails (c : Thread nD τ) (Gen.st0_7 t) g7 fullShare) $$ I7
  rw [hg7]
  ihave J8 := (pointsTo_rep_entails (c : Thread nD τ) (Gen.st0_8 t) g8 fullShare) $$ I8
  rw [hg8]
  ihave J9 := (pointsTo_rep_entails (c : Thread nD τ) (Gen.st0_9 t) g9 fullShare) $$ I9
  rw [hg9]
  ihave J10 := (pointsTo_rep_entails (c : Thread nD τ) (Gen.st0_10 t) g10 fullShare) $$ I10
  rw [hg10]
  sl_rw [prog_eq t]
  have key := bodyRun c (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _)
    ((Gen.st0_0 t).view.rep (Gen.iblk m c 0 t)) ((Gen.st0_1 t).view.rep (Gen.iblk m c 1 t)) ((Gen.st0_2 t).view.rep (Gen.iblk m c 2 t)) ((Gen.st0_3 t).view.rep (Gen.iblk m c 3 t)) ((Gen.st0_4 t).view.rep (Gen.iblk m c 4 t)) ((Gen.st0_5 t).view.rep (Gen.iblk m c 5 t)) ((Gen.st0_6 t).view.rep (Gen.iblk m c 6 t)) ((Gen.st0_7 t).view.rep (Gen.iblk m c 7 t)) ((Gen.st0_8 t).view.rep (Gen.X0_8 m c t)) ((Gen.st0_9 t).view.rep (Gen.iblk m c 9 t)) ((Gen.st0_10 t).view.rep (Gen.iblk m c 10 t))
    g11 g12 g13 g14 g15 g16 d
  iapply ((sep_mono key .rfl).trans (wp_wand_r _ _ _))
  isplitl [J0 J1 J2 J3 J4 J5 J6 J7 J8 J9 J10 I11 I12 I13 I14 I15 I16 HS]
  · skip
    isplitl [J0]; · iexact J0
    isplitl [J1]; · iexact J1
    isplitl [J2]; · iexact J2
    isplitl [J3]; · iexact J3
    isplitl [J4]; · iexact J4
    isplitl [J5]; · iexact J5
    isplitl [J6]; · iexact J6
    isplitl [J7]; · iexact J7
    isplitl [J8]; · iexact J8
    isplitl [J9]; · iexact J9
    isplitl [J10]; · iexact J10
    isplitl [I11]; · iexact I11
    isplitl [I12]; · iexact I12
    isplitl [I13]; · iexact I13
    isplitl [I14]; · iexact I14
    isplitl [I15]; · iexact I15
    isplitl [I16]; · iexact I16
    iexact HS
  · iintro %_ ⟨J0, J1, J2, J3, J4, J5, J6, J7, J8, J9, J10, ⟨%f11, I11⟩, ⟨%f12, I12⟩, ⟨%f13, I13⟩, ⟨%f14, I14⟩, ⟨%f15, I15⟩, ⟨%f16, I16⟩, HS⟩
    isplitl [HS HR]
    · isplitl [HS]
      · iexact HS
      iexact HR
    isplitl [HW]
    · iexists W; isplitr; · ipureintro; exact fun _ _ => Or.inl trivial
      iexact HW
    isplitl [J0]
    · iexists _; isplitr; · ipureintro; exact View.read_rep _ _
      iexact J0
    isplitl [J1]
    · iexists _; isplitr; · ipureintro; exact View.read_rep _ _
      iexact J1
    isplitl [J2]
    · iexists _; isplitr; · ipureintro; exact View.read_rep _ _
      iexact J2
    isplitl [J3]
    · iexists _; isplitr; · ipureintro; exact View.read_rep _ _
      iexact J3
    isplitl [J4]
    · iexists _; isplitr; · ipureintro; exact View.read_rep _ _
      iexact J4
    isplitl [J5]
    · iexists _; isplitr; · ipureintro; exact View.read_rep _ _
      iexact J5
    isplitl [J6]
    · iexists _; isplitr; · ipureintro; exact View.read_rep _ _
      iexact J6
    isplitl [J7]
    · iexists _; isplitr; · ipureintro; exact View.read_rep _ _
      iexact J7
    isplitl [J8]
    · iexists _; isplitr; · ipureintro; exact View.read_rep _ _
      iexact J8
    isplitl [J9]
    · iexists _; isplitr; · ipureintro; exact View.read_rep _ _
      iexact J9
    isplitl [J10]
    · iexists _; isplitr; · ipureintro; exact View.read_rep _ _
      iexact J10
    isplitl [I11]
    · iexists ((Gen.st0_11 t).view.read (Elt F) f11); iexists f11; isplitr; · ipureintro; rfl
      iexact I11
    isplitl [I12]
    · iexists ((Gen.st0_12 t).view.read (Elt F) f12); iexists f12; isplitr; · ipureintro; rfl
      iexact I12
    isplitl [I13]
    · iexists ((Gen.st0_13 t).view.read (Elt F) f13); iexists f13; isplitr; · ipureintro; rfl
      iexact I13
    isplitl [I14]
    · iexists ((Gen.st0_14 t).view.read (Elt F) f14); iexists f14; isplitr; · ipureintro; rfl
      iexact I14
    isplitl [I15]
    · iexists ((Gen.st0_15 t).view.read (Elt F) f15); iexists f15; isplitr; · ipureintro; rfl
      iexact I15
    iexists ((Gen.st0_16 t).view.read (Elt F) f16); iexists f16; isplitr; · ipureintro; rfl
    iexact I16

end Cert.Proof.Kernel

end
-- ==== Proof.FrameBits.lean ====
module

public import proofs.«01_k».proof.Proof.Gen.Kernel.Skeleton
public import proofs.«01_k».proof.Proof.Gen.Kernel.Loops
public import proofs.«01_k».proof.Proof.Gen.Kernel.Frame
public import proofs.«01_k».proof.Proof.LaunchBits

@[expose] public section

set_option maxRecDepth 65536

noncomputable section

namespace Cert.Proof.Kernel

open Cert.Kernel Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose)

variable {F : FTy → Type} [FloatOps F]

local notation "𝕄" => MT nD τ sig Unit (Elt F) ℕ (UU nD τ) ℕ

variable (m : (ℓ : Loc nD τ sig) → Buf (Elt F) ℓ) (ρ : Dev nD → PrngReg)

/-- What the launch leaves: every array of a window at what its windows wrote, the others as the launch found
    them, every counter at zero. -/
theorem run_main : θ_run defs (onTc (τ := τ) (main (F := F))) ⟨m, fun _ => 0, ρ⟩
    (fun r => RDat.FramePost cfg0 (fun c => (dats m 0 c).toRForget fgt) (Gen.V m) r ∧ r.2.sem = fun _ => 0) :=
  Pipeline.θ_run_frame_forget_shared cfgs (dats m) 0 Gen.launch₀0 defs₀ 𝒱₀ fgt m ρ main
    (hbody := fun c => (body_obligation m c).loose)
    (hq := fun _ _ _ => rfl) (howed := fun _ _ => rfl) (V := Gen.V m) (hmain := Gen.hmain m 𝒱₀) (hA := fun _ _ => rfl)
    (hΦ := fun _ _ => rfl)
    (Q' := fun r => RDat.FramePost cfg0 (fun c => (dats m 0 c).toRForget fgt) (Gen.V m) r ∧ r.2.sem = fun _ => 0)
    (hQ' := fun _ h => h)

set_option maxHeartbeats 4000000 in
/-- The launch leaves the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨(RDat.FramePost.arr_in h.1 c 9 rfl).trans (Gen.V_main_arg0 m c),
      ((h.1 c).2 main_arg1 (Pipeline.mem_restRefs_of main_arg1 (by decide) (by decide))).trans (Gen.V_main_arg1 m c),
      ((h.1 c).2 main_arg2 (Pipeline.mem_restRefs_of main_arg2 (by decide) (by decide))).trans (Gen.V_main_arg2 m c),
      (RDat.FramePost.arr_in h.1 c 6 rfl).trans (Gen.V_main_arg3 m c),
      (RDat.FramePost.arr_in h.1 c 10 rfl).trans (Gen.V_main_arg4 m c)⟩, h.2⟩) (run_main m ρ)

end Cert.Proof.Kernel

end
-- ==== Proof.TripIdeal.lean ====
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 65536

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F] [Named F]

/-- The resource algebra of the runs: the frame kit's, nothing beside it. -/
abbrev UU (nD : Nat) (τ : Topo) : Type := UR sig nD τ
/-- No loop of the kernel runs under a variant of its own. -/
abbrev 𝒱₀ : Variants := Variants.none
local notation "𝕄" => MT nD τ sig Unit (Elt F) ℕ (UU nD τ) ℕ

/-- The contents of the buffer a memory reference names on core `c`. -/
abbrev Bf (c : Dev nD) {sp : Space} {s : Shape} {e : EltTy} (M : Memref sig .tc sp s e) : Type :=
  Buf (Elt F) (M.view.loc (c : Thread nD τ))

/-- The elements of a memory reference on core `c`, held outright at the contents `f`. -/
abbrev pt (c : Dev nD) {sp : Space} {s : Shape} {e : EltTy} (M : Memref sig .tc sp s e) (f : Bf (F := F) c M) : sProp 𝕄 :=
  M.view.loc (c : Thread nD τ) ↦[M.view.set]{fullShare} f

section Trip

variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x512 .f32) (harg5 : arg5.IsWhole)
  (arg6 : Memref sig .tc .vmem S1x512x128 .f32) (harg6 : arg6.IsWhole)
  (arg7 : Memref sig .tc .vmem S1x4x16x128 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x512x512 .f32) (harg11 : arg11.IsWhole)
  (arg12 : Memref sig .tc .vmem S1x512x1024 .f32) (harg12 : arg12.IsWhole)
  (arg13 : Memref sig .tc .vmem S1x512x1024 .f32) (harg13 : arg13.IsWhole)
  (arg14 : Memref sig .tc .vmem S1x512x512 .f32) (harg14 : arg14.IsWhole)
  (arg15 : Memref sig .tc .vmem S1x512x128 .f32) (harg15 : arg15.IsWhole)
  (arg16 : Memref sig .tc .vmem S1x512x128 .f32) (harg16 : arg16.IsWhole)
  (arg17 : Memref sig .tc .vmem S1x1024 .f32) (harg17 : arg17.IsWhole)
  (arg18 : Memref sig .tc .vmem S1x512 .f32) (harg18 : arg18.IsWhole)
  (arg19 : Memref sig .tc .vmem S128x1024 .f32) (harg19 : arg19.IsWhole)
  (v10 : IVec S128x128 1) (v11 : IVec S128x128 32) (v12 : FVec F S128x128 .f32) (v37 : IVec S128x512 32) (v38 : IVec S128x512 32) (v39 : IVec S512x128 32) (c64_i32_9 : BitVec 32) (v41 : IVec S512x128 32) (v64 : IVec S512x128 32)

set_option backward.proofsInPublic true in
/-- One trip of the chunk loop. The blocks of the operands are read and kept; the rows of the chunk are stored into
    the gradient of `x`, and the two groups' state gradients are stored back into the scratch: the stores of either,
    last one first, are what the run finds. Of the other five results nothing is said here. -/
def trip (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) :
    { W : List (Piece (Elt F) S1x512x1024 .f32) × List (Piece (Elt F) S128x1024 .f32) //
      ∀ (f13 : Bf (F := F) c arg13) (f14 : Bf (F := F) c arg14) (f15 : Bf (F := F) c arg15) (f16 : Bf (F := F) c arg16) (f17 : Bf (F := F) c arg17) (f18 : Bf (F := F) c arg18),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
      ⊢ wp frame (wpE (defs₀ (F := F)) 𝒱₀ (c : Thread nD τ) none) Set.univ
          (Gen.k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k ())
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (arg13.view.writes (Elt F) f13 W.1) ∗ (∃ f, pt c arg14 f) ∗ (∃ f, pt c arg15 f) ∗ (∃ f, pt c arg16 f) ∗ (∃ f, pt c arg17 f) ∗ (∃ f, pt c arg18 f)
            ∗ pt c arg19 (arg19.view.writes (Elt F) f19 W.2))) } := by
  refine ⟨⟨?_, ?_⟩, fun f13 f14 f15 f16 f17 f18 => ?run⟩
  case run =>
    unfold Gen.k0_t1_body
    iintro ⟨H2, H3, H4, H5, H6, H7, H8, H9, H10, H11, H12, H13, H14, H15, H16, H17, H18, H19⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    iexact H19

/-- The state gradient in the scratch before trip `k`, from what the scratch held at the loop's entry. -/
def dstAt (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) : ℕ → Bf (F := F) c arg19
  | 0 => f19
  | k + 1 =>
    if h : k < k0_t1_loop.trips then
      arg19.view.writes (Elt F) (dstAt f2 f3 f4 f5 f6 f7 f8 f9 f10 f11 f12 f19 k) (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 ⟨k, h⟩ f2 f3 f4 f5 f6 f7 f8 f9 f10 f11 f12 (dstAt f2 f3 f4 f5 f6 f7 f8 f9 f10 f11 f12 f19 k)).1.2
    else dstAt f2 f3 f4 f5 f6 f7 f8 f9 f10 f11 f12 f19 k

/-- The stores into the gradient of `x` before trip `k`, the last one first. -/
def dxAt (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) : ℕ → List (Piece (Elt F) S1x512x1024 .f32)
  | 0 => []
  | k + 1 =>
    if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 ⟨k, h⟩ f2 f3 f4 f5 f6 f7 f8 f9 f10 f11 f12 (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k)).1.1 ++ dxAt f2 f3 f4 f5 f6 f7 f8 f9 f10 f11 f12 f19 k
    else dxAt f2 f3 f4 f5 f6 f7 f8 f9 f10 f11 f12 f19 k

set_option warn.classDefReducibility false in
/-- The chunk loop goes through by `trip`, each trip over what the ones before it left. -/
@[sl_loop] def loopInv_k0_t1 (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f19 : Bf (F := F) c arg19) :
    Cert.KernelIdeal.Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 where
  inv := fun k _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (arg13.view.writes (Elt F) f13 (dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k)) ∗ (∃ f, pt c arg14 f) ∗ (∃ f, pt c arg15 f) ∗ (∃ f, pt c arg16 f) ∗ (∃ f, pt c arg17 f) ∗ (∃ f, pt c arg18 f)
    ∗ pt c arg19 (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k))
  step := fun k _ => by
    have e13 : dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)
        = (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k)).1.1 ++ dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k := by
      rw [dxAt, dif_pos k.isLt]
    have e19 : dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)
        = arg19.view.writes (Elt F) (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k) (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k)).1.2 := by
      rw [dstAt, dif_pos k.isLt]
    rw [e13, e19, View.writes_append]
    iintro ⟨H2, H3, H4, H5, H6, H7, H8, H9, H10, H11, H12, H13, ⟨%f14, H14⟩, ⟨%f15, H15⟩, ⟨%f16, H16⟩, ⟨%f17, H17⟩, ⟨%f18, H18⟩, H19⟩
    iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k)).2
    iframe

end Trip

end Cert.Proof.KernelIdeal

end
-- ==== Proof.BodyIdeal.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.TripIdeal

@[expose] public section

set_option maxRecDepth 65536

noncomputable section

namespace Cert.Proof.KernelIdeal

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F] [Named F]

local notation "𝕄" => MT nD τ sig Unit (Elt F) ℕ (UU nD τ) ℕ

section Body

variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x512 .f32) (harg5 : arg5.IsWhole)
  (arg6 : Memref sig .tc .vmem S1x512x128 .f32) (harg6 : arg6.IsWhole)
  (arg7 : Memref sig .tc .vmem S1x4x16x128 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x512x512 .f32) (harg11 : arg11.IsWhole)
  (arg12 : Memref sig .tc .vmem S1x512x1024 .f32) (harg12 : arg12.IsWhole)
  (arg13 : Memref sig .tc .vmem S1x512x1024 .f32) (harg13 : arg13.IsWhole)
  (arg14 : Memref sig .tc .vmem S1x512x512 .f32) (harg14 : arg14.IsWhole)
  (arg15 : Memref sig .tc .vmem S1x512x128 .f32) (harg15 : arg15.IsWhole)
  (arg16 : Memref sig .tc .vmem S1x512x128 .f32) (harg16 : arg16.IsWhole)
  (arg17 : Memref sig .tc .vmem S1x1024 .f32) (harg17 : arg17.IsWhole)
  (arg18 : Memref sig .tc .vmem S1x512 .f32) (harg18 : arg18.IsWhole)
  (arg19 : Memref sig .tc .vmem S128x1024 .f32) (harg19 : arg19.IsWhole)

/-- The state gradient the chunk loop starts from: zero at the first block of a sequence, otherwise what the block
    before it left. -/
def entry (f19 : Bf (F := F) c arg19) : Bf (F := F) c arg19 :=
  if (i 1).val = 0 then
    arg19.view.writes (Elt F) arg19.view.junk [⟨Rect.unit ![0, 0] S128x1024.size inb_S128x1024_S128x1024_0_0, Gen.k0_pay249 (F := F)⟩]
  else f19

/-- The stores the block's four chunks make into the gradient of `x`, from the state gradient `d`. -/
def dxRun (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) : List (Piece (Elt F) S1x512x1024 .f32) :=
  dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 Gen.k0_pay252 (iota .tc S128x128 32 [1] iota_S128x128_d1_w32) (Gen.k0_pay253 (F := F)) Gen.k0_pay254 (iota .tc S128x512 32 [0] iota_S128x512_d0_w32) (iota .tc S512x128 32 [0] iota_S512x128_d0_w32) 64#32 Gen.k0_pay255 (iota .tc S512x128 32 [1] iota_S512x128_d1_w32)
    f2 f3 f4 f5 f6 f7 f8 f9 f10 f11 f12 f19 k0_t1_loop.trips

/-- The state gradient after the block's four chunks. -/
def dstRun (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) : Bf (F := F) c arg19 :=
  dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 Gen.k0_pay252 (iota .tc S128x128 32 [1] iota_S128x128_d1_w32) (Gen.k0_pay253 (F := F)) Gen.k0_pay254 (iota .tc S128x512 32 [0] iota_S128x512_d0_w32) (iota .tc S512x128 32 [0] iota_S512x128_d0_w32) 64#32 Gen.k0_pay255 (iota .tc S512x128 32 [1] iota_S512x128_d1_w32)
    f2 f3 f4 f5 f6 f7 f8 f9 f10 f11 f12 f19 k0_t1_loop.trips

/-- One block of the backward recurrence: the operands are kept, the gradient of `x` takes the stores of the four
    chunks, the scratch the state gradient they leave. -/
theorem bodyRun (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
      ⊢ wp frame (wpE (defs₀ (F := F)) 𝒱₀ (c : Thread nD τ) none) Set.univ (cc0_ssd_chunk_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12
            ∗ pt c arg13 (arg13.view.writes (Elt F) f13 (dxRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 (entry c i arg19 f19)))
            ∗ (∃ f, pt c arg14 f) ∗ (∃ f, pt c arg15 f) ∗ (∃ f, pt c arg16 f) ∗ (∃ f, pt c arg17 f) ∗ (∃ f, pt c arg18 f)
            ∗ pt c arg19 (dstRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 (entry c i arg19 f19)))) := by
  unfold entry dxRun dstRun
  by_cases h1 : (i 1).val = 0
  · rw [if_pos h1]
    have hc : Scalar.cmpi .ne (Scalar.extui (Scalar.cmpi .eq (BitVec.ofNat 32 (i 1).val) 0#32) : BitVec 32) 0#32 = 1#1 := by rw [h1]; rfl
    by_cases h0 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
    all_goals
    iintro ⟨H2, H3, H4, H5, H6, H7, H8, H9, H10, H11, H12, H13, H14, H15, H16, H17, H18, H19⟩
    sl_unfold [cc0_ssd_chunk_bwd]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    iexact H19
  · rw [if_neg h1]
    have e1 : Scalar.cmpi .eq (BitVec.ofNat 32 (i 1).val) 0#32 = 0#1 := by
      have := (i 1).isLt
      revert h1; generalize (i 1).val = x at *
      have hx : x < 4 := this
      interval_cases x <;> simp <;> rfl
    have hc : ¬ Scalar.cmpi .ne (Scalar.extui (Scalar.cmpi .eq (BitVec.ofNat 32 (i 1).val) 0#32) : BitVec 32) 0#32 = 1#1 := by rw [e1]; decide
    have hc2 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
      rw [e1]; generalize Scalar.cmpi .eq (BitVec.ofNat 32 (i 0).val) 0#32 = b; revert b; decide
    iintro ⟨H2, H3, H4, H5, H6, H7, H8, H9, H10, H11, H12, H13, H14, H15, H16, H17, H18, H19⟩
    sl_unfold [cc0_ssd_chunk_bwd]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    iexact H19

end Body
end Cert.Proof.KernelIdeal

end
-- ==== Proof.RunIdeal.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.BodyIdeal

@[expose] public section

set_option maxRecDepth 65536

noncomputable section

namespace Cert.Proof.KernelIdeal

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)
open Idealize.ShloMosaic.Pipeline (Dat Cfg Window BodyObligation BodyObligationLoose)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

abbrev hst0 (t : Fin cfg0.N) : (Gen.st0_0 t).IsWhole := hstage0_0 ((cfg0.slots t 0).cast nbuf0_0)
abbrev hst1 (t : Fin cfg0.N) : (Gen.st0_1 t).IsWhole := hstage0_1 ((cfg0.slots t 1).cast nbuf0_1)
abbrev hst2 (t : Fin cfg0.N) : (Gen.st0_2 t).IsWhole := hstage0_2 ((cfg0.slots t 2).cast nbuf0_2)
abbrev hst3 (t : Fin cfg0.N) : (Gen.st0_3 t).IsWhole := hstage0_3 ((cfg0.slots t 3).cast nbuf0_3)
abbrev hst4 (t : Fin cfg0.N) : (Gen.st0_4 t).IsWhole := hstage0_4 ((cfg0.slots t 4).cast nbuf0_4)
abbrev hst5 (t : Fin cfg0.N) : (Gen.st0_5 t).IsWhole := hstage0_5 ((cfg0.slots t 5).cast nbuf0_5)
abbrev hst6 (t : Fin cfg0.N) : (Gen.st0_6 t).IsWhole := hstage0_6 ((cfg0.slots t 6).cast nbuf0_6)
abbrev hst7 (t : Fin cfg0.N) : (Gen.st0_7 t).IsWhole := hstage0_7 ((cfg0.slots t 7).cast nbuf0_7)
abbrev hst8 (t : Fin cfg0.N) : (Gen.st0_8 t).IsWhole := hstage0_8 ((cfg0.slots t 8).cast nbuf0_8)
abbrev hst9 (t : Fin cfg0.N) : (Gen.st0_9 t).IsWhole := hstage0_9 ((cfg0.slots t 9).cast nbuf0_9)
abbrev hst10 (t : Fin cfg0.N) : (Gen.st0_10 t).IsWhole := hstage0_10 ((cfg0.slots t 10).cast nbuf0_10)
abbrev hst11 (t : Fin cfg0.N) : (Gen.st0_11 t).IsWhole := hstage0_11 ((cfg0.slots t 11).cast nbuf0_11)
abbrev hst12 (t : Fin cfg0.N) : (Gen.st0_12 t).IsWhole := hstage0_12 ((cfg0.slots t 12).cast nbuf0_12)
abbrev hst13 (t : Fin cfg0.N) : (Gen.st0_13 t).IsWhole := hstage0_13 ((cfg0.slots t 13).cast nbuf0_13)
abbrev hst14 (t : Fin cfg0.N) : (Gen.st0_14 t).IsWhole := hstage0_14 ((cfg0.slots t 14).cast nbuf0_14)
abbrev hst15 (t : Fin cfg0.N) : (Gen.st0_15 t).IsWhole := hstage0_15 ((cfg0.slots t 15).cast nbuf0_15)
abbrev hst16 (t : Fin cfg0.N) : (Gen.st0_16 t).IsWhole := hstage0_16 ((cfg0.slots t 16).cast nbuf0_16)

/-- The scratch that carries the state gradient from one block of positions to the one before it. -/
abbrev scr : Memref sig .tc .vmem S128x1024 .f32 := Memref.whole cc0_scratch0

/-- The state gradient the scratch holds when the body runs at point `t`, for `t` after the first. -/
def D (c : Dev nD) : ℕ → Bf (F := F) c scr
  | 0 => scr.view.junk
  | n + 1 =>
    if h : n < cfg0.N then
      let t : Fin cfg0.N := ⟨n, h⟩
      dstRun c (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _)
        ((Gen.st0_0 t).view.rep (Gen.iblk m c 0 t)) ((Gen.st0_1 t).view.rep (Gen.iblk m c 1 t)) ((Gen.st0_2 t).view.rep (Gen.iblk m c 2 t)) ((Gen.st0_3 t).view.rep (Gen.iblk m c 3 t)) ((Gen.st0_4 t).view.rep (Gen.iblk m c 4 t)) ((Gen.st0_5 t).view.rep (Gen.iblk m c 5 t)) ((Gen.st0_6 t).view.rep (Gen.iblk m c 6 t)) ((Gen.st0_7 t).view.rep (Gen.iblk m c 7 t)) ((Gen.st0_8 t).view.rep (Gen.X0_8 m c t)) ((Gen.st0_9 t).view.rep (Gen.iblk m c 9 t)) ((Gen.st0_10 t).view.rep (Gen.iblk m c 10 t))
        (entry c (grid0.coords t) scr (D c n))
    else D c n

/-- The stores of point `t` into its block of the gradient of `x`. -/
def dxPieces (c : Dev nD) (t : Fin cfg0.N) : List (Piece (Elt F) S1x512x1024 .f32) :=
  dxRun c (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _)
    ((Gen.st0_0 t).view.rep (Gen.iblk m c 0 t)) ((Gen.st0_1 t).view.rep (Gen.iblk m c 1 t)) ((Gen.st0_2 t).view.rep (Gen.iblk m c 2 t)) ((Gen.st0_3 t).view.rep (Gen.iblk m c 3 t)) ((Gen.st0_4 t).view.rep (Gen.iblk m c 4 t)) ((Gen.st0_5 t).view.rep (Gen.iblk m c 5 t)) ((Gen.st0_6 t).view.rep (Gen.iblk m c 6 t)) ((Gen.st0_7 t).view.rep (Gen.iblk m c 7 t)) ((Gen.st0_8 t).view.rep (Gen.X0_8 m c t)) ((Gen.st0_9 t).view.rep (Gen.iblk m c 9 t)) ((Gen.st0_10 t).view.rep (Gen.iblk m c 10 t))
    (entry c (grid0.coords t) scr (D m c t.val))

/-- The block of the gradient of `x` point `t` leaves in its staging buffer. -/
def dxOut (c : Dev nD) (t : Fin cfg0.N) : (cfg0.win 11).block.Idx → Elt F (cfg0.win 11).elt :=
  (Gen.st0_11 t).view.read (Elt F) ((Gen.st0_11 t).view.writes (Elt F) (Gen.st0_11 t).view.junk (dxPieces m c t))

/-- The scratch between points: at its running contents once a point has run. -/
def Φ (c : Dev nD) (n : ℕ) : sProp 𝕄 :=
  iprop((∃ d : Bf (F := F) c scr, ⌜0 < n → d = D m c n⌝ ∗ pt c scr d) ∗ ∃ r, prngReg c r)

/-- The proof data of the launch: the operands' blocks stay in place, the gradient of `x` is left as stored, the
    scratch runs. -/
def dats (_ : Fin 1) (c : Dev nD) : Dat τ (Elt F) Unit ℕ (UU nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.X0_8 m c t
    | ⟨9, _⟩ => Gen.iblk m c 9 t
    | ⟨10, _⟩ => Gen.iblk m c 10 t
    | ⟨11, _⟩ => dxOut m c t
    | ⟨12, _⟩ => (Gen.st0_12 t).view.read (Elt F) (Gen.st0_12 t).view.junk
    | ⟨13, _⟩ => (Gen.st0_13 t).view.read (Elt F) (Gen.st0_13 t).view.junk
    | ⟨14, _⟩ => (Gen.st0_14 t).view.read (Elt F) (Gen.st0_14 t).view.junk
    | ⟨15, _⟩ => (Gen.st0_15 t).view.read (Elt F) (Gen.st0_15 t).view.junk
    | ⟨16, _⟩ => (Gen.st0_16 t).view.read (Elt F) (Gen.st0_16 t).view.junk
    | ⟨_ + 17, h⟩ => absurd h (Nat.not_lt.mpr (Nat.le_add_left 17 _))
  Φ t := Φ m c t.val
  q w := Pipeline.shareOf spec0 w
  owed _ := 0

/-- The results nothing is said of: all but the gradient of `x`. -/
def fgt (w : Fin cfg0.W) : Bool := decide (12 ≤ w.val)

theorem before_0 (c : Dev nD) (t : Fin cfg0.N) (d) : (dats m 0 c).before 0 t d = Gen.iblk m c 0 t :=
  Gen.before0_0_of m _ rfl (fun _ => rfl) t d
theorem before_1 (c : Dev nD) (t : Fin cfg0.N) (d) : (dats m 0 c).before 1 t d = Gen.iblk m c 1 t :=
  Gen.before0_1_of m _ rfl (fun _ => rfl) t d
theorem before_2 (c : Dev nD) (t : Fin cfg0.N) (d) : (dats m 0 c).before 2 t d = Gen.iblk m c 2 t :=
  Gen.before0_2_of m _ rfl (fun _ => rfl) t d
theorem before_3 (c : Dev nD) (t : Fin cfg0.N) (d) : (dats m 0 c).before 3 t d = Gen.iblk m c 3 t :=
  Gen.before0_3_of m _ rfl (fun _ => rfl) t d
theorem before_4 (c : Dev nD) (t : Fin cfg0.N) (d) : (dats m 0 c).before 4 t d = Gen.iblk m c 4 t :=
  Gen.before0_4_of m _ rfl (fun _ => rfl) t d
theorem before_5 (c : Dev nD) (t : Fin cfg0.N) (d) : (dats m 0 c).before 5 t d = Gen.iblk m c 5 t :=
  Gen.before0_5_of m _ rfl (fun _ => rfl) t d
theorem before_6 (c : Dev nD) (t : Fin cfg0.N) (d) : (dats m 0 c).before 6 t d = Gen.iblk m c 6 t :=
  Gen.before0_6_of m _ rfl (fun _ => rfl) t d
theorem before_7 (c : Dev nD) (t : Fin cfg0.N) (d) : (dats m 0 c).before 7 t d = Gen.iblk m c 7 t :=
  Gen.before0_7_of m _ rfl (fun _ => rfl) t d
theorem before_8 (c : Dev nD) (t : Fin cfg0.N) (d) : (dats m 0 c).before 8 t d = Gen.X0_8 m c t :=
  Gen.before0_8_of m _ rfl (fun _ => rfl) t d
theorem before_9 (c : Dev nD) (t : Fin cfg0.N) (d) : (dats m 0 c).before 9 t d = Gen.iblk m c 9 t :=
  Gen.before0_9_of m _ rfl (fun _ => rfl) t d
theorem before_10 (c : Dev nD) (t : Fin cfg0.N) (d) : (dats m 0 c).before 10 t d = Gen.iblk m c 10 t :=
  Gen.before0_10_of m _ rfl (fun _ => rfl) t d
theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = Gen.iblk m c 5 t := by dsimp only [dats]
theorem after_6 (c : Dev nD) (t : Fin cfg0.N) : (dats m 0 c).after 6 t = Gen.iblk m c 6 t := by dsimp only [dats]
theorem after_7 (c : Dev nD) (t : Fin cfg0.N) : (dats m 0 c).after 7 t = Gen.iblk m c 7 t := by dsimp only [dats]
theorem after_8 (c : Dev nD) (t : Fin cfg0.N) : (dats m 0 c).after 8 t = Gen.X0_8 m c t := by dsimp only [dats]
theorem after_9 (c : Dev nD) (t : Fin cfg0.N) : (dats m 0 c).after 9 t = Gen.iblk m c 9 t := by dsimp only [dats]
theorem after_10 (c : Dev nD) (t : Fin cfg0.N) : (dats m 0 c).after 10 t = Gen.iblk m c 10 t := by dsimp only [dats]
theorem after_11 (c : Dev nD) (t : Fin cfg0.N) : (dats m 0 c).after 11 t = dxOut m c t := by dsimp only [dats]

/-- Point `t`'s body is the kernel on the point's staging buffers and the scratch. -/
theorem defs_tc : (defs₀ (F := F)) .tc cfg0.body
    = fun a => cc0_ssd_chunk_bwd (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (win0_10.stage (a.2 10)) (hstage0_10 ((a.2 10).cast nbuf0_10)) (win0_11.stage (a.2 11)) (hstage0_11 ((a.2 11).cast nbuf0_11)) (win0_12.stage (a.2 12)) (hstage0_12 ((a.2 12).cast nbuf0_12)) (win0_13.stage (a.2 13)) (hstage0_13 ((a.2 13).cast nbuf0_13)) (win0_14.stage (a.2 14)) (hstage0_14 ((a.2 14).cast nbuf0_14)) (win0_15.stage (a.2 15)) (hstage0_15 ((a.2 15).cast nbuf0_15)) (win0_16.stage (a.2 16)) (hstage0_16 ((a.2 16).cast nbuf0_16)) scr (Memref.isWhole_whole _) := rfl
theorem prog_eq (t : Fin cfg0.N) : (defs₀ (F := F)) .tc cfg0.body (cfg0.bodyArgs t (cfg0.slots t))
    = cc0_ssd_chunk_bwd (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _) :=
  (congrFun defs_tc _).trans rfl

end Cert.Proof.KernelIdeal

end
-- ==== Proof.ChunkIdeal.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.TripIdeal

@[expose] public section

set_option maxRecDepth 65536

noncomputable section

namespace Cert.Proof.KernelIdeal

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F] [Named F]

/-- One head's part of the gradient of a group's input product: the decayed products of the chunk's positions,
    transposed, against the head's lanes of `dy`; added to what the heads before it gave. -/
def headAdd (lane hd : BitVec 32) (v10 : IVec S128x128 1) (v11 : IVec S128x128 32) (v37 : IVec S128x512 32)
    (acs cbm : FVec F S128x128 .f32) (dy prev : FVec F S128x512 .f32) (ar : Vec F S1x1x1x128 .f32) : FVec F S128x512 .f32 :=
  let col : FVec F S128 .f32 := multiReduction .add [1] S128 (select (cmpi .eq v11 (broadcast S128x128 lane)) acs
    (broadcast S128x128 (Scalar.ofBits .f32 0x00000000#32 : F .f32))) 0x00000000#32 reduces_S128x128_S128 (.inl rfl) rfl
  let dif : FVec F S128x128 .f32 := subf (broadcastTo S128x128 (shapeCast S128x1 col shapeCasts_S128_S128x1) broadcasts_S128x1_S128x128)
    (broadcastTo S128x128 (shapeCast S1x128 ar shapeCasts_S1x1x1x128_S1x128) broadcasts_S1x128_S128x128)
  let gm : FVec F S128x128 .f32 := mulf cbm (exp (select v10 dif (broadcast S128x128 (Named.named κ "mask" 0xF149F2CA#32 : F .f32))))
  let dyh : FVec F S128x512 .f32 := select (cmpi .eq v37 (broadcast S128x512 hd)) dy
    (broadcast S128x512 (Scalar.ofBits .f32 0x00000000#32 : F .f32))
  addf prev (matmul dot_S128x128_S128x512_S128x512_0_0_1_1_n_n none (truncf .bf16 gm bitsLt_bf16_f32) (truncf .bf16 dyh bitsLt_bf16_f32)
    (constant S128x512 .f32 0x00000000#32))

/-- The part of that gradient the chunks after this one give: the carried state gradient through the chunk's `B`,
    decayed to the chunk's end. -/
def carried (al : FVec F S128x512 .f32) (b : FVec F S128x128 .f32) (dst : FVec F S128x512 .f32) : FVec F S128x512 .f32 :=
  mulf (exp (subf (broadcastTo S128x512 (extractStridedSlice S1x512 ![127, 0] al slices_S128x512_o127_0_S1x512) broadcasts_S1x512_S128x512) al))
    (matmul dot_S128x128_S128x512_S128x512_1_0_0_1_n_n none (truncf .bf16 b bitsLt_bf16_f32) (truncf .bf16 dst bitsLt_bf16_f32)
      (constant S128x512 .f32 0x00000000#32))

/-- The derivative of the gate `x * sigmoid x`, the sigmoid taken through the hyperbolic tangent. -/
def dsilu (y : FVec F S128x512 .f32) : FVec F S128x512 .f32 :=
  let half : FVec F S128x512 .f32 := broadcast S128x512 (Scalar.ofBits .f32 0x3F000000#32 : F .f32)
  let one : FVec F S128x512 .f32 := broadcast S128x512 (Scalar.ofBits .f32 0x3F800000#32 : F .f32)
  let s := addf (mulf half (tanh (mulf half y))) half
  mulf s (addf one (mulf y (subf one s)))

/-- A group's block of the gradient of `x` at one chunk. -/
def grpDx (v10 : IVec S128x128 1) (v11 : IVec S128x128 32) (v37 : IVec S128x512 32) (lane : BitVec 32) (acs : FVec F S128x128 .f32)
    (al dy dt dxs yp : FVec F S128x512 .f32) (b c : FVec F S128x128 .f32) (ar : Fin 8 → Vec F S1x1x1x128 .f32)
    (dst : FVec F S128x512 .f32) : FVec F S1x128x512 .f32 :=
  let cbm : FVec F S128x128 .f32 := matmul dot_S128x128_S128x128_S128x128_1_1_0_0_n_n none (truncf .bf16 c bitsLt_bf16_f32)
    (truncf .bf16 b bitsLt_bf16_f32) (constant S128x128 .f32 0x00000000#32)
  let h := fun (j : Fin 8) (n : BitVec 32) (prev : FVec F S128x512 .f32) => headAdd (lane + n) n v10 v11 v37 acs cbm dy prev (ar j)
  let dxdt := h 7 7 (h 6 6 (h 5 5 (h 4 4 (h 3 3 (h 2 2 (h 1 1 (h 0 0 (carried al b dst))))))))
  shapeCast S1x128x512 (mulf (addf (mulf dxdt dt) dxs) (dsilu yp)) shapeCasts_S128x512_S1x128x512

/-- A group's state gradient carried on to the chunk before. -/
def grpDst (al dy : FVec F S128x512 .f32) (c : FVec F S128x128 .f32) (dst : FVec F S128x512 .f32) : FVec F S128x512 .f32 :=
  shapeCast S128x512 (addf (mulf dst (broadcastTo S128x512 (exp (extractStridedSlice S1x512 ![127, 0] al slices_S128x512_o127_0_S1x512)) broadcasts_S1x512_S128x512))
    (matmul dot_S128x128_S128x512_S128x512_0_0_1_1_n_n none (truncf .bf16 c bitsLt_bf16_f32)
      (truncf .bf16 (mulf dy (exp al)) bitsLt_bf16_f32) (constant S128x512 .f32 0x00000000#32))) shapeCasts_S128x512_S128x512

/-- What trip `k` stores of the first group's gradient of `x`: of the operands' blocks and the state gradient
    carried in. -/
def dxVal0 (v10 : IVec S128x128 1) (v11 : IVec S128x128 32) (v37 : IVec S128x512 32) (k : Fin k0_t1_loop.trips)
    (X3 : S1x512x1024.Idx → F .f32) (X4 : S1x512x1024.Idx → F .f32) (X5 : S1x512x512.Idx → F .f32) (X6 : S1x512x128.Idx → F .f32) (X7 : S1x4x16x128.Idx → F .f32) (X8 : S1x512x1024.Idx → F .f32) (X10 : S1x512x1024.Idx → F .f32) (X12 : S1x512x1024.Idx → F .f32)
    (dst : FVec F S128x512 .f32) : FVec F S1x128x512 .f32 :=
  grpDx v10 v11 v37 16 (shapeCast S128x128 (View.ld (Val := Elt F) (e' := .f32) X6 (Rect.unit (s := S1x512x128) (k0_off1 k) S1x128x128.size (k0_off1_inb k))) shapeCasts_S1x128x128_S128x128)
        (shapeCast S128x512 (View.ld (Val := Elt F) (e' := .f32) X4 (Rect.unit (s := S1x512x1024) (k0_off2 k) S1x128x512.size (k0_off2_inb k))) shapeCasts_S1x128x512_S128x512) (shapeCast S128x512 (View.ld (Val := Elt F) (e' := .f32) X8 (Rect.unit (s := S1x512x1024) (k0_off2 k) S1x128x512.size (k0_off2_inb k))) shapeCasts_S1x128x512_S128x512) (shapeCast S128x512 (View.ld (Val := Elt F) (e' := .f32) X3 (Rect.unit (s := S1x512x1024) (k0_off2 k) S1x128x512.size (k0_off2_inb k))) shapeCasts_S1x128x512_S128x512)
        (shapeCast S128x512 (View.ld (Val := Elt F) (e' := .f32) X12 (Rect.unit (s := S1x512x1024) (k0_off2 k) S1x128x512.size (k0_off2_inb k))) shapeCasts_S1x128x512_S128x512) (shapeCast S128x512 (View.ld (Val := Elt F) (e' := .f32) X10 (Rect.unit (s := S1x512x1024) (k0_off2 k) S1x128x512.size (k0_off2_inb k))) shapeCasts_S1x128x512_S128x512)
        (shapeCast S128x128 (View.ld (Val := Elt F) (e' := .f32) X5 (Rect.unit (s := S1x512x512) (k0_off3 k) S1x128x128.size (k0_off3_inb k))) shapeCasts_S1x128x128_S128x128) (shapeCast S128x128 (View.ld (Val := Elt F) (e' := .f32) X5 (Rect.unit (s := S1x512x512) (k0_off4 k) S1x128x128.size (k0_off4_inb k))) shapeCasts_S1x128x128_S128x128)
        ![(View.ld (Val := Elt F) (e' := .f32) X7 (Rect.unit (s := S1x4x16x128) (k0_off5 k) S1x1x1x128.size (k0_off5_inb k))), (View.ld (Val := Elt F) (e' := .f32) X7 (Rect.unit (s := S1x4x16x128) (k0_off6 k) S1x1x1x128.size (k0_off6_inb k))), (View.ld (Val := Elt F) (e' := .f32) X7 (Rect.unit (s := S1x4x16x128) (k0_off7 k) S1x1x1x128.size (k0_off7_inb k))), (View.ld (Val := Elt F) (e' := .f32) X7 (Rect.unit (s := S1x4x16x128) (k0_off8 k) S1x1x1x128.size (k0_off8_inb k))), (View.ld (Val := Elt F) (e' := .f32) X7 (Rect.unit (s := S1x4x16x128) (k0_off9 k) S1x1x1x128.size (k0_off9_inb k))), (View.ld (Val := Elt F) (e' := .f32) X7 (Rect.unit (s := S1x4x16x128) (k0_off10 k) S1x1x1x128.size (k0_off10_inb k))), (View.ld (Val := Elt F) (e' := .f32) X7 (Rect.unit (s := S1x4x16x128) (k0_off11 k) S1x1x1x128.size (k0_off11_inb k))), (View.ld (Val := Elt F) (e' := .f32) X7 (Rect.unit (s := S1x4x16x128) (k0_off12 k) S1x1x1x128.size (k0_off12_inb k)))]
        dst

/-- What trip `k` carries on of the first group's state gradient. -/
def dstVal0 (k : Fin k0_t1_loop.trips) (X4 : S1x512x1024.Idx → F .f32) (X5 : S1x512x512.Idx → F .f32) (X8 : S1x512x1024.Idx → F .f32)
    (dst : FVec F S128x512 .f32) : FVec F S128x512 .f32 :=
  grpDst (shapeCast S128x512 (View.ld (Val := Elt F) (e' := .f32) X4 (Rect.unit (s := S1x512x1024) (k0_off2 k) S1x128x512.size (k0_off2_inb k))) shapeCasts_S1x128x512_S128x512) (shapeCast S128x512 (View.ld (Val := Elt F) (e' := .f32) X8 (Rect.unit (s := S1x512x1024) (k0_off2 k) S1x128x512.size (k0_off2_inb k))) shapeCasts_S1x128x512_S128x512) (shapeCast S128x128 (View.ld (Val := Elt F) (e' := .f32) X5 (Rect.unit (s := S1x512x512) (k0_off4 k) S1x128x128.size (k0_off4_inb k))) shapeCasts_S1x128x128_S128x128)
        dst

/-- What trip `k` stores of the second group's gradient of `x`: of the operands' blocks and the state gradient
    carried in. -/
def dxVal1 (v10 : IVec S128x128 1) (v11 : IVec S128x128 32) (v37 : IVec S128x512 32) (k : Fin k0_t1_loop.trips)
    (X3 : S1x512x1024.Idx → F .f32) (X4 : S1x512x1024.Idx → F .f32) (X5 : S1x512x512.Idx → F .f32) (X6 : S1x512x128.Idx → F .f32) (X7 : S1x4x16x128.Idx → F .f32) (X8 : S1x512x1024.Idx → F .f32) (X10 : S1x512x1024.Idx → F .f32) (X12 : S1x512x1024.Idx → F .f32)
    (dst : FVec F S128x512 .f32) : FVec F S1x128x512 .f32 :=
  grpDx v10 v11 v37 24 (shapeCast S128x128 (View.ld (Val := Elt F) (e' := .f32) X6 (Rect.unit (s := S1x512x128) (k0_off1 k) S1x128x128.size (k0_off1_inb k))) shapeCasts_S1x128x128_S128x128)
        (shapeCast S128x512 (View.ld (Val := Elt F) (e' := .f32) X4 (Rect.unit (s := S1x512x1024) (k0_off13 k) S1x128x512.size (k0_off13_inb k))) shapeCasts_S1x128x512_S128x512) (shapeCast S128x512 (View.ld (Val := Elt F) (e' := .f32) X8 (Rect.unit (s := S1x512x1024) (k0_off13 k) S1x128x512.size (k0_off13_inb k))) shapeCasts_S1x128x512_S128x512) (shapeCast S128x512 (View.ld (Val := Elt F) (e' := .f32) X3 (Rect.unit (s := S1x512x1024) (k0_off13 k) S1x128x512.size (k0_off13_inb k))) shapeCasts_S1x128x512_S128x512)
        (shapeCast S128x512 (View.ld (Val := Elt F) (e' := .f32) X12 (Rect.unit (s := S1x512x1024) (k0_off13 k) S1x128x512.size (k0_off13_inb k))) shapeCasts_S1x128x512_S128x512) (shapeCast S128x512 (View.ld (Val := Elt F) (e' := .f32) X10 (Rect.unit (s := S1x512x1024) (k0_off13 k) S1x128x512.size (k0_off13_inb k))) shapeCasts_S1x128x512_S128x512)
        (shapeCast S128x128 (View.ld (Val := Elt F) (e' := .f32) X5 (Rect.unit (s := S1x512x512) (k0_off14 k) S1x128x128.size (k0_off14_inb k))) shapeCasts_S1x128x128_S128x128) (shapeCast S128x128 (View.ld (Val := Elt F) (e' := .f32) X5 (Rect.unit (s := S1x512x512) (k0_off15 k) S1x128x128.size (k0_off15_inb k))) shapeCasts_S1x128x128_S128x128)
        ![(View.ld (Val := Elt F) (e' := .f32) X7 (Rect.unit (s := S1x4x16x128) (k0_off16 k) S1x1x1x128.size (k0_off16_inb k))), (View.ld (Val := Elt F) (e' := .f32) X7 (Rect.unit (s := S1x4x16x128) (k0_off17 k) S1x1x1x128.size (k0_off17_inb k))), (View.ld (Val := Elt F) (e' := .f32) X7 (Rect.unit (s := S1x4x16x128) (k0_off18 k) S1x1x1x128.size (k0_off18_inb k))), (View.ld (Val := Elt F) (e' := .f32) X7 (Rect.unit (s := S1x4x16x128) (k0_off19 k) S1x1x1x128.size (k0_off19_inb k))), (View.ld (Val := Elt F) (e' := .f32) X7 (Rect.unit (s := S1x4x16x128) (k0_off20 k) S1x1x1x128.size (k0_off20_inb k))), (View.ld (Val := Elt F) (e' := .f32) X7 (Rect.unit (s := S1x4x16x128) (k0_off21 k) S1x1x1x128.size (k0_off21_inb k))), (View.ld (Val := Elt F) (e' := .f32) X7 (Rect.unit (s := S1x4x16x128) (k0_off22 k) S1x1x1x128.size (k0_off22_inb k))), (View.ld (Val := Elt F) (e' := .f32) X7 (Rect.unit (s := S1x4x16x128) (k0_off23 k) S1x1x1x128.size (k0_off23_inb k)))]
        dst

/-- What trip `k` carries on of the second group's state gradient. -/
def dstVal1 (k : Fin k0_t1_loop.trips) (X4 : S1x512x1024.Idx → F .f32) (X5 : S1x512x512.Idx → F .f32) (X8 : S1x512x1024.Idx → F .f32)
    (dst : FVec F S128x512 .f32) : FVec F S128x512 .f32 :=
  grpDst (shapeCast S128x512 (View.ld (Val := Elt F) (e' := .f32) X4 (Rect.unit (s := S1x512x1024) (k0_off13 k) S1x128x512.size (k0_off13_inb k))) shapeCasts_S1x128x512_S128x512) (shapeCast S128x512 (View.ld (Val := Elt F) (e' := .f32) X8 (Rect.unit (s := S1x512x1024) (k0_off13 k) S1x128x512.size (k0_off13_inb k))) shapeCasts_S1x128x512_S128x512) (shapeCast S128x128 (View.ld (Val := Elt F) (e' := .f32) X5 (Rect.unit (s := S1x512x512) (k0_off15 k) S1x128x128.size (k0_off15_inb k))) shapeCasts_S1x128x128_S128x128)
        dst

section Trip

variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x512 .f32) (harg5 : arg5.IsWhole)
  (arg6 : Memref sig .tc .vmem S1x512x128 .f32) (harg6 : arg6.IsWhole)
  (arg7 : Memref sig .tc .vmem S1x4x16x128 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x512x512 .f32) (harg11 : arg11.IsWhole)
  (arg12 : Memref sig .tc .vmem S1x512x1024 .f32) (harg12 : arg12.IsWhole)
  (arg13 : Memref sig .tc .vmem S1x512x1024 .f32) (harg13 : arg13.IsWhole)
  (arg14 : Memref sig .tc .vmem S1x512x512 .f32) (harg14 : arg14.IsWhole)
  (arg15 : Memref sig .tc .vmem S1x512x128 .f32) (harg15 : arg15.IsWhole)
  (arg16 : Memref sig .tc .vmem S1x512x128 .f32) (harg16 : arg16.IsWhole)
  (arg17 : Memref sig .tc .vmem S1x1024 .f32) (harg17 : arg17.IsWhole)
  (arg18 : Memref sig .tc .vmem S1x512 .f32) (harg18 : arg18.IsWhole)
  (arg19 : Memref sig .tc .vmem S128x1024 .f32) (harg19 : arg19.IsWhole)
  (v10 : IVec S128x128 1) (v11 : IVec S128x128 32) (v12 : FVec F S128x128 .f32) (v37 : IVec S128x512 32) (v38 : IVec S128x512 32) (v39 : IVec S512x128 32) (c64_i32_9 : BitVec 32) (v41 : IVec S512x128 32) (v64 : IVec S512x128 32)

/-- The two stores a trip makes into the gradient of `x`. -/
theorem trip_dx_ld (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) :
    (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 f19).1.1
      = [⟨Rect.unit (s := S1x512x1024) (k0_off13 k) S1x128x512.size (k0_off13_inb k),
          grpDx v10 v11 v37 24 (shapeCast S128x128 (arg6.view.readAt (Elt F) (Rect.unit (s := S1x512x128) (k0_off1 k) S1x128x128.size (k0_off1_inb k)).toLoadRect f6) shapeCasts_S1x128x128_S128x128)
        (shapeCast S128x512 (arg4.view.readAt (Elt F) (Rect.unit (s := S1x512x1024) (k0_off13 k) S1x128x512.size (k0_off13_inb k)).toLoadRect f4) shapeCasts_S1x128x512_S128x512) (shapeCast S128x512 (arg8.view.readAt (Elt F) (Rect.unit (s := S1x512x1024) (k0_off13 k) S1x128x512.size (k0_off13_inb k)).toLoadRect f8) shapeCasts_S1x128x512_S128x512) (shapeCast S128x512 (arg3.view.readAt (Elt F) (Rect.unit (s := S1x512x1024) (k0_off13 k) S1x128x512.size (k0_off13_inb k)).toLoadRect f3) shapeCasts_S1x128x512_S128x512)
        (shapeCast S128x512 (arg12.view.readAt (Elt F) (Rect.unit (s := S1x512x1024) (k0_off13 k) S1x128x512.size (k0_off13_inb k)).toLoadRect f12) shapeCasts_S1x128x512_S128x512) (shapeCast S128x512 (arg10.view.readAt (Elt F) (Rect.unit (s := S1x512x1024) (k0_off13 k) S1x128x512.size (k0_off13_inb k)).toLoadRect f10) shapeCasts_S1x128x512_S128x512)
        (shapeCast S128x128 (arg5.view.readAt (Elt F) (Rect.unit (s := S1x512x512) (k0_off14 k) S1x128x128.size (k0_off14_inb k)).toLoadRect f5) shapeCasts_S1x128x128_S128x128) (shapeCast S128x128 (arg5.view.readAt (Elt F) (Rect.unit (s := S1x512x512) (k0_off15 k) S1x128x128.size (k0_off15_inb k)).toLoadRect f5) shapeCasts_S1x128x128_S128x128)
        ![(arg7.view.readAt (Elt F) (Rect.unit (s := S1x4x16x128) (k0_off16 k) S1x1x1x128.size (k0_off16_inb k)).toLoadRect f7), (arg7.view.readAt (Elt F) (Rect.unit (s := S1x4x16x128) (k0_off17 k) S1x1x1x128.size (k0_off17_inb k)).toLoadRect f7), (arg7.view.readAt (Elt F) (Rect.unit (s := S1x4x16x128) (k0_off18 k) S1x1x1x128.size (k0_off18_inb k)).toLoadRect f7), (arg7.view.readAt (Elt F) (Rect.unit (s := S1x4x16x128) (k0_off19 k) S1x1x1x128.size (k0_off19_inb k)).toLoadRect f7), (arg7.view.readAt (Elt F) (Rect.unit (s := S1x4x16x128) (k0_off20 k) S1x1x1x128.size (k0_off20_inb k)).toLoadRect f7), (arg7.view.readAt (Elt F) (Rect.unit (s := S1x4x16x128) (k0_off21 k) S1x1x1x128.size (k0_off21_inb k)).toLoadRect f7), (arg7.view.readAt (Elt F) (Rect.unit (s := S1x4x16x128) (k0_off22 k) S1x1x1x128.size (k0_off22_inb k)).toLoadRect f7), (arg7.view.readAt (Elt F) (Rect.unit (s := S1x4x16x128) (k0_off23 k) S1x1x1x128.size (k0_off23_inb k)).toLoadRect f7)]
        (arg19.view.readAt (Elt F) (Rect.unit (s := S128x1024) (![0, 512]) S128x512.size (inb_S128x1024_S128x512_0_512)).toLoadRect f19)⟩,
        ⟨Rect.unit (s := S1x512x1024) (k0_off2 k) S1x128x512.size (k0_off2_inb k),
          grpDx v10 v11 v37 16 (shapeCast S128x128 (arg6.view.readAt (Elt F) (Rect.unit (s := S1x512x128) (k0_off1 k) S1x128x128.size (k0_off1_inb k)).toLoadRect f6) shapeCasts_S1x128x128_S128x128)
        (shapeCast S128x512 (arg4.view.readAt (Elt F) (Rect.unit (s := S1x512x1024) (k0_off2 k) S1x128x512.size (k0_off2_inb k)).toLoadRect f4) shapeCasts_S1x128x512_S128x512) (shapeCast S128x512 (arg8.view.readAt (Elt F) (Rect.unit (s := S1x512x1024) (k0_off2 k) S1x128x512.size (k0_off2_inb k)).toLoadRect f8) shapeCasts_S1x128x512_S128x512) (shapeCast S128x512 (arg3.view.readAt (Elt F) (Rect.unit (s := S1x512x1024) (k0_off2 k) S1x128x512.size (k0_off2_inb k)).toLoadRect f3) shapeCasts_S1x128x512_S128x512)
        (shapeCast S128x512 (arg12.view.readAt (Elt F) (Rect.unit (s := S1x512x1024) (k0_off2 k) S1x128x512.size (k0_off2_inb k)).toLoadRect f12) shapeCasts_S1x128x512_S128x512) (shapeCast S128x512 (arg10.view.readAt (Elt F) (Rect.unit (s := S1x512x1024) (k0_off2 k) S1x128x512.size (k0_off2_inb k)).toLoadRect f10) shapeCasts_S1x128x512_S128x512)
        (shapeCast S128x128 (arg5.view.readAt (Elt F) (Rect.unit (s := S1x512x512) (k0_off3 k) S1x128x128.size (k0_off3_inb k)).toLoadRect f5) shapeCasts_S1x128x128_S128x128) (shapeCast S128x128 (arg5.view.readAt (Elt F) (Rect.unit (s := S1x512x512) (k0_off4 k) S1x128x128.size (k0_off4_inb k)).toLoadRect f5) shapeCasts_S1x128x128_S128x128)
        ![(arg7.view.readAt (Elt F) (Rect.unit (s := S1x4x16x128) (k0_off5 k) S1x1x1x128.size (k0_off5_inb k)).toLoadRect f7), (arg7.view.readAt (Elt F) (Rect.unit (s := S1x4x16x128) (k0_off6 k) S1x1x1x128.size (k0_off6_inb k)).toLoadRect f7), (arg7.view.readAt (Elt F) (Rect.unit (s := S1x4x16x128) (k0_off7 k) S1x1x1x128.size (k0_off7_inb k)).toLoadRect f7), (arg7.view.readAt (Elt F) (Rect.unit (s := S1x4x16x128) (k0_off8 k) S1x1x1x128.size (k0_off8_inb k)).toLoadRect f7), (arg7.view.readAt (Elt F) (Rect.unit (s := S1x4x16x128) (k0_off9 k) S1x1x1x128.size (k0_off9_inb k)).toLoadRect f7), (arg7.view.readAt (Elt F) (Rect.unit (s := S1x4x16x128) (k0_off10 k) S1x1x1x128.size (k0_off10_inb k)).toLoadRect f7), (arg7.view.readAt (Elt F) (Rect.unit (s := S1x4x16x128) (k0_off11 k) S1x1x1x128.size (k0_off11_inb k)).toLoadRect f7), (arg7.view.readAt (Elt F) (Rect.unit (s := S1x4x16x128) (k0_off12 k) S1x1x1x128.size (k0_off12_inb k)).toLoadRect f7)]
        (arg19.view.readAt (Elt F) (Rect.unit (s := S128x1024) (![0, 0]) S128x512.size (inb_S128x1024_S128x512_0_0)).toLoadRect f19)⟩] := rfl

/-- The two stores a trip makes into the scratch. -/
theorem trip_dst_ld (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) :
    (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 f19).1.2
      = [⟨Rect.unit (s := S128x1024) ![0, 512] S128x512.size inb_S128x1024_S128x512_0_512,
          grpDst (shapeCast S128x512 (arg4.view.readAt (Elt F) (Rect.unit (s := S1x512x1024) (k0_off13 k) S1x128x512.size (k0_off13_inb k)).toLoadRect f4) shapeCasts_S1x128x512_S128x512) (shapeCast S128x512 (arg8.view.readAt (Elt F) (Rect.unit (s := S1x512x1024) (k0_off13 k) S1x128x512.size (k0_off13_inb k)).toLoadRect f8) shapeCasts_S1x128x512_S128x512) (shapeCast S128x128 (arg5.view.readAt (Elt F) (Rect.unit (s := S1x512x512) (k0_off15 k) S1x128x128.size (k0_off15_inb k)).toLoadRect f5) shapeCasts_S1x128x128_S128x128)
        (arg19.view.readAt (Elt F) (Rect.unit (s := S128x1024) (![0, 512]) S128x512.size (inb_S128x1024_S128x512_0_512)).toLoadRect f19)⟩,
        ⟨Rect.unit (s := S128x1024) ![0, 0] S128x512.size inb_S128x1024_S128x512_0_0,
          grpDst (shapeCast S128x512 (arg4.view.readAt (Elt F) (Rect.unit (s := S1x512x1024) (k0_off2 k) S1x128x512.size (k0_off2_inb k)).toLoadRect f4) shapeCasts_S1x128x512_S128x512) (shapeCast S128x512 (arg8.view.readAt (Elt F) (Rect.unit (s := S1x512x1024) (k0_off2 k) S1x128x512.size (k0_off2_inb k)).toLoadRect f8) shapeCasts_S1x128x512_S128x512) (shapeCast S128x128 (arg5.view.readAt (Elt F) (Rect.unit (s := S1x512x512) (k0_off4 k) S1x128x128.size (k0_off4_inb k)).toLoadRect f5) shapeCasts_S1x128x128_S128x128)
        (arg19.view.readAt (Elt F) (Rect.unit (s := S128x1024) (![0, 0]) S128x512.size (inb_S128x1024_S128x512_0_0)).toLoadRect f19)⟩] := rfl

/-- The same, of what the operands' views read. -/
theorem trip_dx (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) :
    (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 f19).1.1
      = [⟨Rect.unit (s := S1x512x1024) (k0_off13 k) S1x128x512.size (k0_off13_inb k),
          dxVal1 v10 v11 v37 k (arg3.view.read (Elt F) f3) (arg4.view.read (Elt F) f4) (arg5.view.read (Elt F) f5) (arg6.view.read (Elt F) f6) (arg7.view.read (Elt F) f7) (arg8.view.read (Elt F) f8) (arg10.view.read (Elt F) f10) (arg12.view.read (Elt F) f12)
            (arg19.view.readAt (Elt F) (Rect.unit (s := S128x1024) ![0, 512] S128x512.size inb_S128x1024_S128x512_0_512).toLoadRect f19)⟩,
        ⟨Rect.unit (s := S1x512x1024) (k0_off2 k) S1x128x512.size (k0_off2_inb k),
          dxVal0 v10 v11 v37 k (arg3.view.read (Elt F) f3) (arg4.view.read (Elt F) f4) (arg5.view.read (Elt F) f5) (arg6.view.read (Elt F) f6) (arg7.view.read (Elt F) f7) (arg8.view.read (Elt F) f8) (arg10.view.read (Elt F) f10) (arg12.view.read (Elt F) f12)
            (arg19.view.readAt (Elt F) (Rect.unit (s := S128x1024) ![0, 0] S128x512.size inb_S128x1024_S128x512_0_0).toLoadRect f19)⟩] := by
  rw [trip_dx_ld]; unfold dxVal0 dxVal1; simp only [View.readAt_eq_ld]

/-- The same, of what the operands' views read. -/
theorem trip_dst (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19) :
    (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 f19).1.2
      = [⟨Rect.unit (s := S128x1024) ![0, 512] S128x512.size inb_S128x1024_S128x512_0_512,
          dstVal1 k (arg4.view.read (Elt F) f4) (arg5.view.read (Elt F) f5) (arg8.view.read (Elt F) f8)
            (arg19.view.readAt (Elt F) (Rect.unit (s := S128x1024) ![0, 512] S128x512.size inb_S128x1024_S128x512_0_512).toLoadRect f19)⟩,
        ⟨Rect.unit (s := S128x1024) ![0, 0] S128x512.size inb_S128x1024_S128x512_0_0,
          dstVal0 k (arg4.view.read (Elt F) f4) (arg5.view.read (Elt F) f5) (arg8.view.read (Elt F) f8)
            (arg19.view.readAt (Elt F) (Rect.unit (s := S128x1024) ![0, 0] S128x512.size inb_S128x1024_S128x512_0_0).toLoadRect f19)⟩] := by
  rw [trip_dst_ld]; unfold dstVal0 dstVal1; simp only [View.readAt_eq_ld]

end Trip

end Cert.Proof.KernelIdeal

end
-- ==== Proof.ReadIdeal.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.ChunkIdeal
public import Idealize.ShloMosaic.Lib.WritesUnit

@[expose] public section

set_option maxRecDepth 65536

noncomputable section

namespace Cert.Proof.KernelIdeal

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F] [Named F]

theorem off2_eq : ∀ k : Fin k0_t1_loop.trips, k0_off2 k = ![0, (3 - k.val) * 128, 0] := by decide
theorem off13_eq : ∀ k : Fin k0_t1_loop.trips, k0_off13 k = ![0, (3 - k.val) * 128, 512] := by decide

section Trip

variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x512 .f32) (harg5 : arg5.IsWhole)
  (arg6 : Memref sig .tc .vmem S1x512x128 .f32) (harg6 : arg6.IsWhole)
  (arg7 : Memref sig .tc .vmem S1x4x16x128 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x512x512 .f32) (harg11 : arg11.IsWhole)
  (arg12 : Memref sig .tc .vmem S1x512x1024 .f32) (harg12 : arg12.IsWhole)
  (arg13 : Memref sig .tc .vmem S1x512x1024 .f32) (harg13 : arg13.IsWhole)
  (arg14 : Memref sig .tc .vmem S1x512x512 .f32) (harg14 : arg14.IsWhole)
  (arg15 : Memref sig .tc .vmem S1x512x128 .f32) (harg15 : arg15.IsWhole)
  (arg16 : Memref sig .tc .vmem S1x512x128 .f32) (harg16 : arg16.IsWhole)
  (arg17 : Memref sig .tc .vmem S1x1024 .f32) (harg17 : arg17.IsWhole)
  (arg18 : Memref sig .tc .vmem S1x512 .f32) (harg18 : arg18.IsWhole)
  (arg19 : Memref sig .tc .vmem S128x1024 .f32) (harg19 : arg19.IsWhole)
  (v10 : IVec S128x128 1) (v11 : IVec S128x128 32) (v12 : FVec F S128x128 .f32) (v37 : IVec S128x512 32) (v38 : IVec S128x512 32) (v39 : IVec S512x128 32) (c64_i32_9 : BitVec 32) (v41 : IVec S512x128 32) (v64 : IVec S512x128 32)

variable (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f19 : Bf (F := F) c arg19)

theorem dxAt_zero : dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 0 = [] := rfl

theorem dxAt_succ (k : Fin k0_t1_loop.trips) :
    dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)
      = ⟨Rect.unit (s := S1x512x1024) (k0_off13 k) S1x128x512.size (k0_off13_inb k),
          dxVal1 v10 v11 v37 k (arg3.view.read (Elt F) f3) (arg4.view.read (Elt F) f4) (arg5.view.read (Elt F) f5) (arg6.view.read (Elt F) f6) (arg7.view.read (Elt F) f7) (arg8.view.read (Elt F) f8) (arg10.view.read (Elt F) f10) (arg12.view.read (Elt F) f12)
            (arg19.view.readAt (Elt F) (Rect.unit (s := S128x1024) ![0, 512] S128x512.size inb_S128x1024_S128x512_0_512).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val))⟩
        :: ⟨Rect.unit (s := S1x512x1024) (k0_off2 k) S1x128x512.size (k0_off2_inb k),
          dxVal0 v10 v11 v37 k (arg3.view.read (Elt F) f3) (arg4.view.read (Elt F) f4) (arg5.view.read (Elt F) f5) (arg6.view.read (Elt F) f6) (arg7.view.read (Elt F) f7) (arg8.view.read (Elt F) f8) (arg10.view.read (Elt F) f10) (arg12.view.read (Elt F) f12)
            (arg19.view.readAt (Elt F) (Rect.unit (s := S128x1024) ![0, 0] S128x512.size inb_S128x1024_S128x512_0_0).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val))⟩
        :: dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val := by
  have e : dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)
      = (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val)).1.1 ++ dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val := dif_pos k.isLt
  rw [e, trip_dx]; rfl

theorem dstAt_succ (k : Fin k0_t1_loop.trips) :
    dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)
      = arg19.view.writes (Elt F) (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val)
        [⟨Rect.unit (s := S128x1024) ![0, 512] S128x512.size inb_S128x1024_S128x512_0_512,
          dstVal1 k (arg4.view.read (Elt F) f4) (arg5.view.read (Elt F) f5) (arg8.view.read (Elt F) f8) (arg19.view.readAt (Elt F) (Rect.unit (s := S128x1024) ![0, 512] S128x512.size inb_S128x1024_S128x512_0_512).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val))⟩,
        ⟨Rect.unit (s := S128x1024) ![0, 0] S128x512.size inb_S128x1024_S128x512_0_0,
          dstVal0 k (arg4.view.read (Elt F) f4) (arg5.view.read (Elt F) f5) (arg8.view.read (Elt F) f8) (arg19.view.readAt (Elt F) (Rect.unit (s := S128x1024) ![0, 0] S128x512.size inb_S128x1024_S128x512_0_0).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val))⟩] := by
  have e : dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)
      = arg19.view.writes (Elt F) (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val) (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 k f2 f3 f4 f5 f6 f7 f8 f9 f10 f11 f12 (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val)).1.2 := dif_pos k.isLt
  rw [e, trip_dst]

/-- The scratch's second half after trip `k`. -/
theorem dstAt_half1 (k : Fin k0_t1_loop.trips) :
    (arg19.view.readAt (Elt F) (Rect.unit (s := S128x1024) ![0, 512] S128x512.size inb_S128x1024_S128x512_0_512).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)))
      = dstVal1 k (arg4.view.read (Elt F) f4) (arg5.view.read (Elt F) f5) (arg8.view.read (Elt F) f8) (arg19.view.readAt (Elt F) (Rect.unit (s := S128x1024) ![0, 512] S128x512.size inb_S128x1024_S128x512_0_512).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val)) := by
  funext x
  rw [View.readAt_apply, dstAt_succ]
  exact View.read_writes_cons_unit_of_mem arg19.view _ _ _ _ _ x rfl (fun a => congrArg (_ + ·) (Nat.one_mul _))

/-- The scratch's first half after trip `k`. -/
theorem dstAt_half0 (k : Fin k0_t1_loop.trips) :
    (arg19.view.readAt (Elt F) (Rect.unit (s := S128x1024) ![0, 0] S128x512.size inb_S128x1024_S128x512_0_0).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (k.val + 1)))
      = dstVal0 k (arg4.view.read (Elt F) f4) (arg5.view.read (Elt F) f5) (arg8.view.read (Elt F) f8) (arg19.view.readAt (Elt F) (Rect.unit (s := S128x1024) ![0, 0] S128x512.size inb_S128x1024_S128x512_0_0).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val)) := by
  funext x
  rw [View.readAt_apply, dstAt_succ]
  refine (View.read_writes_cons_unit_of_not_mem arg19.view _ _ _ _ _ rfl 1 (.inl ?_)).trans
    (View.read_writes_cons_unit_of_mem arg19.view _ _ _ _ _ x rfl (fun a => congrArg (_ + ·) (Nat.one_mul _)))
  show 0 + 1 * (x 1).val < 512
  have := (x 1).isLt
  have : (x 1).val < 512 := this
  omega

/-- An element of the second group's half of a block is what its chunk's trip stored. -/
theorem read_dxAt1 (f : Bf (F := F) c arg13) (k : Fin k0_t1_loop.trips) (x : S1x128x512.Idx) (y : S1x512x1024.Idx)
    (h1 : (y 1).val = (3 - k.val) * 128 + (x 1).val) (h2 : (y 2).val = 512 + (x 2).val) (n : ℕ) (hn : n ≤ 4) (hk : k.val < n) :
    arg13.view.read (Elt F) (arg13.view.writes (Elt F) f (dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 n)) y
      = dxVal1 v10 v11 v37 k (arg3.view.read (Elt F) f3) (arg4.view.read (Elt F) f4) (arg5.view.read (Elt F) f5) (arg6.view.read (Elt F) f6) (arg7.view.read (Elt F) f7) (arg8.view.read (Elt F) f8) (arg10.view.read (Elt F) f10) (arg12.view.read (Elt F) f12)
            (arg19.view.readAt (Elt F) (Rect.unit (s := S128x1024) ![0, 512] S128x512.size inb_S128x1024_S128x512_0_512).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val)) x := by
  have hx0 : (x 0).val = 0 := by have : (x 0).val < 1 := (x 0).isLt; omega
  have hy0 : (y 0).val = 0 := by have : (y 0).val < 1 := (y 0).isLt; omega
  have hx1 : (x 1).val < 128 := (x 1).isLt
  induction n with
  | zero => exact absurd hk (Nat.not_lt_zero _)
  | succ n ih =>
    have hs := dxAt_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (⟨n, hn⟩ : Fin k0_t1_loop.trips)
    rw [hs]
    by_cases h : k.val = n
    · obtain rfl : k = ⟨n, hn⟩ := Fin.ext h
      exact View.read_writes_cons_unit_of_mem arg13.view f _ _ _ y x (off13_eq _) (fun a => by
        fin_cases a
        · show (y 0).val = 0 + (x 0).val; omega
        · exact h1
        · exact h2)
    · rw [View.read_writes_cons_unit_of_not_mem arg13.view f _ _ _ y (off13_eq _) 1 (by
          show (y 1).val < (3 - n) * 128 ∨ (3 - n) * 128 + 128 ≤ (y 1).val
          omega),
        View.read_writes_cons_unit_of_not_mem arg13.view f _ _ _ y (off2_eq _) 1 (by
          show (y 1).val < (3 - n) * 128 ∨ (3 - n) * 128 + 128 ≤ (y 1).val
          omega)]
      exact ih (by omega) (by omega)

/-- An element of the first group's half of a block is what its chunk's trip stored. -/
theorem read_dxAt0 (f : Bf (F := F) c arg13) (k : Fin k0_t1_loop.trips) (x : S1x128x512.Idx) (y : S1x512x1024.Idx)
    (h1 : (y 1).val = (3 - k.val) * 128 + (x 1).val) (h2 : (y 2).val = (x 2).val) (n : ℕ) (hn : n ≤ 4) (hk : k.val < n) :
    arg13.view.read (Elt F) (arg13.view.writes (Elt F) f (dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 n)) y
      = dxVal0 v10 v11 v37 k (arg3.view.read (Elt F) f3) (arg4.view.read (Elt F) f4) (arg5.view.read (Elt F) f5) (arg6.view.read (Elt F) f6) (arg7.view.read (Elt F) f7) (arg8.view.read (Elt F) f8) (arg10.view.read (Elt F) f10) (arg12.view.read (Elt F) f12)
            (arg19.view.readAt (Elt F) (Rect.unit (s := S128x1024) ![0, 0] S128x512.size inb_S128x1024_S128x512_0_0).toLoadRect (dstAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k.val)) x := by
  have hx0 : (x 0).val = 0 := by have : (x 0).val < 1 := (x 0).isLt; omega
  have hy0 : (y 0).val = 0 := by have : (y 0).val < 1 := (y 0).isLt; omega
  have hx1 : (x 1).val < 128 := (x 1).isLt
  have hx2 : (x 2).val < 512 := (x 2).isLt
  induction n with
  | zero => exact absurd hk (Nat.not_lt_zero _)
  | succ n ih =>
    have hs := dxAt_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 (⟨n, hn⟩ : Fin k0_t1_loop.trips)
    rw [hs]
    by_cases h : k.val = n
    · obtain rfl : k = ⟨n, hn⟩ := Fin.ext h
      rw [View.read_writes_cons_unit_of_not_mem arg13.view f _ _ _ y (off13_eq _) 2 (.inl (by
          show (y 2).val < 512
          omega))]
      exact View.read_writes_cons_unit_of_mem arg13.view f _ _ _ y x (off2_eq _) (fun a => by
        fin_cases a
        · show (y 0).val = 0 + (x 0).val; omega
        · exact h1
        · show (y 2).val = 0 + (x 2).val; omega)
    · rw [View.read_writes_cons_unit_of_not_mem arg13.view f _ _ _ y (off13_eq _) 1 (by
          show (y 1).val < (3 - n) * 128 ∨ (3 - n) * 128 + 128 ≤ (y 1).val
          omega),
        View.read_writes_cons_unit_of_not_mem arg13.view f _ _ _ y (off2_eq _) 1 (by
          show (y 1).val < (3 - n) * 128 ∨ (3 - n) * 128 + 128 ≤ (y 1).val
          omega)]
      exact ih (by omega) (by omega)

/-- The four chunks' stores cover the block, so what it held before does not matter. -/
theorem read_dxAt_congr (f g : Bf (F := F) c arg13) :
    arg13.view.read (Elt F) (arg13.view.writes (Elt F) f (dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k0_t1_loop.trips))
      = arg13.view.read (Elt F) (arg13.view.writes (Elt F) g (dxAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 k0_t1_loop.trips)) := by
  funext y
  have hy1 : (y 1).val < 512 := (y 1).isLt
  have hy2 : (y 2).val < 1024 := (y 2).isLt
  have ht : k0_t1_loop.trips = 4 := by decide
  have hk : 3 - (y 1).val / 128 < k0_t1_loop.trips := by omega
  by_cases h : (y 2).val < 512
  · have key := fun f => read_dxAt0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 f ⟨3 - (y 1).val / 128, hk⟩
      (fun a => match a with | 0 => ⟨0, Nat.one_pos⟩ | 1 => ⟨(y 1).val % 128, Nat.mod_lt _ (by omega)⟩ | 2 => ⟨(y 2).val, h⟩) y
      (by show (y 1).val = (3 - (3 - (y 1).val / 128)) * 128 + (y 1).val % 128; omega) rfl k0_t1_loop.trips ht.le hk
    rw [key f, key g]
  · have key := fun f => read_dxAt1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v10 v11 v12 v37 v38 v39 c64_i32_9 v41 v64 f2 f3 f4 f5 f6 f7 f8 f9 f10 f11 f12 f19 f ⟨3 - (y 1).val / 128, hk⟩
      (fun a => match a with | 0 => ⟨0, Nat.one_pos⟩ | 1 => ⟨(y 1).val % 128, Nat.mod_lt _ (by omega)⟩ | 2 => ⟨(y 2).val - 512, show (y 2).val - 512 < 512 by omega⟩) y
      (by show (y 1).val = (3 - (3 - (y 1).val / 128)) * 128 + (y 1).val % 128; omega)
      (by show (y 2).val = 512 + ((y 2).val - 512); omega) k0_t1_loop.trips ht.le hk
    rw [key f, key g]

end Trip

end Cert.Proof.KernelIdeal

end
-- ==== Proof.LaunchIdeal.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.RunIdeal
public import proofs.«01_k».proof.Proof.ReadIdeal

@[expose] public section

set_option maxRecDepth 65536

noncomputable section

namespace Cert.Proof.KernelIdeal

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)
open Idealize.ShloMosaic.Pipeline (Dat RDat Cfg Window BodyObligation BodyObligationLoose)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- A point's chunk loop starts from the same state whatever the scratch held at the launch. -/
theorem entry_eq (c : Dev nD) (t : Fin cfg0.N) (d : Bf (F := F) c scr) (hd : 0 < t.val → d = D m c t.val) :
    entry c (grid0.coords t) scr d = entry c (grid0.coords t) scr (D m c t.val) := by
  rcases Nat.eq_zero_or_pos t.val with h | h
  · have h0 : (grid0.coords t 1).val = 0 := by
      obtain rfl : t = ⟨0, by decide⟩ := Fin.ext h
      decide
    unfold entry
    rw [if_pos h0, if_pos h0]
  · rw [hd h]

theorem D_succ (c : Dev nD) (t : Fin cfg0.N) :
    D m c (t.val + 1) = dstRun c (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _)
        ((Gen.st0_0 t).view.rep (Gen.iblk m c 0 t)) ((Gen.st0_1 t).view.rep (Gen.iblk m c 1 t)) ((Gen.st0_2 t).view.rep (Gen.iblk m c 2 t)) ((Gen.st0_3 t).view.rep (Gen.iblk m c 3 t)) ((Gen.st0_4 t).view.rep (Gen.iblk m c 4 t)) ((Gen.st0_5 t).view.rep (Gen.iblk m c 5 t)) ((Gen.st0_6 t).view.rep (Gen.iblk m c 6 t)) ((Gen.st0_7 t).view.rep (Gen.iblk m c 7 t)) ((Gen.st0_8 t).view.rep (Gen.X0_8 m c t)) ((Gen.st0_9 t).view.rep (Gen.iblk m c 9 t)) ((Gen.st0_10 t).view.rep (Gen.iblk m c 10 t))
        (entry c (grid0.coords t) scr (D m c t.val)) := dif_pos t.isLt

theorem scr_own (c : Dev nD) (f : Bf (F := F) c scr) :
    (pt c scr f : sProp 𝕄) = iprop((((c : Thread nD τ).loc cc0_scratch0)) ↦{fullShare} f) := by
  unfold pt
  rw [View.set_whole]

/-- What the block's buffer reads after the point's stores, whatever it held before. -/
theorem dxOut_eq (c : Dev nD) (t : Fin cfg0.N) (f : Bf (F := F) c (Gen.st0_11 t)) :
    (Gen.st0_11 t).view.read (Elt F) ((Gen.st0_11 t).view.writes (Elt F) f (dxPieces m c t)) = dxOut m c t := by
  unfold dxOut dxPieces dxRun
  exact read_dxAt_congr (F := F) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _

set_option maxHeartbeats 4000000 in
set_option backward.isDefEq.respectTransparency.types false in
theorem body_obligation (c : Dev nD) : BodyObligation (dats (F := F) m 0 c) (defs₀ (F := F)) 𝒱₀ () Set.univ fgt := fun t => by
  rw [Gen.bigSep_W0, Gen.bigSep_W0]
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = false from rfl, show fgt 11 = false from rfl, show fgt 12 = true from rfl, show fgt 13 = true from rfl, show fgt 14 = true from rfl, show fgt 15 = true from rfl, show fgt 16 = true from rfl]
  simp only [before_0, before_1, before_2, before_3, before_4, before_5, before_6, before_7, before_8, before_9, before_10, after_0, after_1, after_2, after_3, after_4, after_5, after_6, after_7, after_8, after_9, after_10, after_11]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨⟨%d, %hd, HS⟩, HR⟩, ⟨%W, -, HW⟩, ⟨%d0, %g0, %hg0, I0⟩, ⟨%d1, %g1, %hg1, I1⟩, ⟨%d2, %g2, %hg2, I2⟩, ⟨%d3, %g3, %hg3, I3⟩, ⟨%d4, %g4, %hg4, I4⟩, ⟨%d5, %g5, %hg5, I5⟩, ⟨%d6, %g6, %hg6, I6⟩, ⟨%d7, %g7, %hg7, I7⟩, ⟨%d8, %g8, %hg8, I8⟩, ⟨%d9, %g9, %hg9, I9⟩, ⟨%d10, %g10, %hg10, I10⟩, ⟨%d11, %g11, %hg11, I11⟩, ⟨%d12, %g12, -, I12⟩, ⟨%d13, %g13, -, I13⟩, ⟨%d14, %g14, -, I14⟩, ⟨%d15, %g15, -, I15⟩, ⟨%d16, %g16, -, I16⟩⟩
  ihave J0 := (pointsTo_rep_entails (c : Thread nD τ) (Gen.st0_0 t) g0 fullShare) $$ I0
  rw [hg0]
  ihave J1 := (pointsTo_rep_entails (c : Thread nD τ) (Gen.st0_1 t) g1 fullShare) $$ I1
  rw [hg1]
  ihave J2 := (pointsTo_rep_entails (c : Thread nD τ) (Gen.st0_2 t) g2 fullShare) $$ I2
  rw [hg2]
  ihave J3 := (pointsTo_rep_entails (c : Thread nD τ) (Gen.st0_3 t) g3 fullShare) $$ I3
  rw [hg3]
  ihave J4 := (pointsTo_rep_entails (c : Thread nD τ) (Gen.st0_4 t) g4 fullShare) $$ I4
  rw [hg4]
  ihave J5 := (pointsTo_rep_entails (c : Thread nD τ) (Gen.st0_5 t) g5 fullShare) $$ I5
  rw [hg5]
  ihave J6 := (pointsTo_rep_entails (c : Thread nD τ) (Gen.st0_6 t) g6 fullShare) $$ I6
  rw [hg6]
  ihave J7 := (pointsTo_rep_entails (c : Thread nD τ) (Gen.st0_7 t) g7 fullShare) $$ I7
  rw [hg7]
  ihave J8 := (pointsTo_rep_entails (c : Thread nD τ) (Gen.st0_8 t) g8 fullShare) $$ I8
  rw [hg8]
  ihave J9 := (pointsTo_rep_entails (c : Thread nD τ) (Gen.st0_9 t) g9 fullShare) $$ I9
  rw [hg9]
  ihave J10 := (pointsTo_rep_entails (c : Thread nD τ) (Gen.st0_10 t) g10 fullShare) $$ I10
  rw [hg10]
  sl_rw [prog_eq t]
  have hE := entry_eq m c t d hd
  have key := bodyRun c (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _)
    ((Gen.st0_0 t).view.rep (Gen.iblk m c 0 t)) ((Gen.st0_1 t).view.rep (Gen.iblk m c 1 t)) ((Gen.st0_2 t).view.rep (Gen.iblk m c 2 t)) ((Gen.st0_3 t).view.rep (Gen.iblk m c 3 t)) ((Gen.st0_4 t).view.rep (Gen.iblk m c 4 t)) ((Gen.st0_5 t).view.rep (Gen.iblk m c 5 t)) ((Gen.st0_6 t).view.rep (Gen.iblk m c 6 t)) ((Gen.st0_7 t).view.rep (Gen.iblk m c 7 t)) ((Gen.st0_8 t).view.rep (Gen.X0_8 m c t)) ((Gen.st0_9 t).view.rep (Gen.iblk m c 9 t)) ((Gen.st0_10 t).view.rep (Gen.iblk m c 10 t))
    g11 g12 g13 g14 g15 g16 d
  rw [hE, ← D_succ m c t] at key
  iapply ((sep_mono key .rfl).trans (wp_wand_r _ _ _))
  isplitl [J0 J1 J2 J3 J4 J5 J6 J7 J8 J9 J10 I11 I12 I13 I14 I15 I16 HS]
  · skip
    isplitl [J0]; · iexact J0
    isplitl [J1]; · iexact J1
    isplitl [J2]; · iexact J2
    isplitl [J3]; · iexact J3
    isplitl [J4]; · iexact J4
    isplitl [J5]; · iexact J5
    isplitl [J6]; · iexact J6
    isplitl [J7]; · iexact J7
    isplitl [J8]; · iexact J8
    isplitl [J9]; · iexact J9
    isplitl [J10]; · iexact J10
    isplitl [I11]; · iexact I11
    isplitl [I12]; · iexact I12
    isplitl [I13]; · iexact I13
    isplitl [I14]; · iexact I14
    isplitl [I15]; · iexact I15
    isplitl [I16]; · iexact I16
    iexact HS
  · iintro %_ ⟨J0, J1, J2, J3, J4, J5, J6, J7, J8, J9, J10, H11, ⟨%f12, I12⟩, ⟨%f13, I13⟩, ⟨%f14, I14⟩, ⟨%f15, I15⟩, ⟨%f16, I16⟩, HS⟩
    isplitl [HS HR]
    · isplitl [HS]
      · iexists _; isplitr; · ipureintro; exact fun _ => rfl
        iexact HS
      iexact HR
    isplitl [HW]
    · iexists W; isplitr; · ipureintro; exact fun _ _ => Or.inl trivial
      iexact HW
    isplitl [J0]
    · iexists _; isplitr; · ipureintro; exact View.read_rep _ _
      iexact J0
    isplitl [J1]
    · iexists _; isplitr; · ipureintro; exact View.read_rep _ _
      iexact J1
    isplitl [J2]
    · iexists _; isplitr; · ipureintro; exact View.read_rep _ _
      iexact J2
    isplitl [J3]
    · iexists _; isplitr; · ipureintro; exact View.read_rep _ _
      iexact J3
    isplitl [J4]
    · iexists _; isplitr; · ipureintro; exact View.read_rep _ _
      iexact J4
    isplitl [J5]
    · iexists _; isplitr; · ipureintro; exact View.read_rep _ _
      iexact J5
    isplitl [J6]
    · iexists _; isplitr; · ipureintro; exact View.read_rep _ _
      iexact J6
    isplitl [J7]
    · iexists _; isplitr; · ipureintro; exact View.read_rep _ _
      iexact J7
    isplitl [J8]
    · iexists _; isplitr; · ipureintro; exact View.read_rep _ _
      iexact J8
    isplitl [J9]
    · iexists _; isplitr; · ipureintro; exact View.read_rep _ _
      iexact J9
    isplitl [J10]
    · iexists _; isplitr; · ipureintro; exact View.read_rep _ _
      iexact J10
    isplitl [H11]
    · iexists ((Gen.st0_11 t).view.writes (Elt F) g11 (dxPieces m c t)); isplitr
      · ipureintro; exact dxOut_eq m c t g11
      iexact H11
    isplitl [I12]
    · iexists ((Gen.st0_12 t).view.read (Elt F) f12); iexists f12; isplitr; · ipureintro; rfl
      iexact I12
    isplitl [I13]
    · iexists ((Gen.st0_13 t).view.read (Elt F) f13); iexists f13; isplitr; · ipureintro; rfl
      iexact I13
    isplitl [I14]
    · iexists ((Gen.st0_14 t).view.read (Elt F) f14); iexists f14; isplitr; · ipureintro; rfl
      iexact I14
    isplitl [I15]
    · iexists ((Gen.st0_15 t).view.read (Elt F) f15); iexists f15; isplitr; · ipureintro; rfl
      iexact I15
    iexists ((Gen.st0_16 t).view.read (Elt F) f16); iexists f16; isplitr; · ipureintro; rfl
    iexact I16

end Cert.Proof.KernelIdeal

end
-- ==== Proof.PointIdeal.lean ====
/-
  One grid point: what its four trips store in the block of the gradient and carry in the scratch, as the trips'
  values of the operands' blocks.
-/
module

public import proofs.«01_k».proof.Proof.LaunchIdeal
public import Idealize.ShloMosaic.Lib.VecWindow

@[expose] public section

set_option maxRecDepth 65536

noncomputable section

namespace Cert.Proof.KernelIdeal

open Cert.KernelIdeal Cert.KernelIdeal.Facts₀
open Idealize.ShloMosaic Idealize.ShloMosaic.TcCoe Idealize.ShloMosaic.Tactic
open Idealize.ShloMosaic.Pipeline (Dat Cfg Window)

variable {F : FTy → Type} [FloatOps F] [Named F]

/-- The half of the scratch that belongs to the first group. -/
def half0 (c : Dev nD) (d : Bf (F := F) c scr) : FVec F S128x512 .f32 :=
  scr.view.readAt (Elt F) (Rect.unit (s := S128x1024) ![0, 0] S128x512.size inb_S128x1024_S128x512_0_0).toLoadRect d

/-- The half of the scratch that belongs to the second group. -/
def half1 (c : Dev nD) (d : Bf (F := F) c scr) : FVec F S128x512 .f32 :=
  scr.view.readAt (Elt F) (Rect.unit (s := S128x1024) ![0, 512] S128x512.size inb_S128x1024_S128x512_0_512).toLoadRect d

variable (m : (ℓ : Loc nD τ sig) → Buf (Elt F) ℓ) (c : Dev nD) (t : Fin cfg0.N)

/-- The scratch when point `t` has run `k` trips. -/
def scrAt (k : ℕ) : Bf (F := F) c scr :=
  dstAt c (grid0.coords t) (Gen.st0_0 t) (hst0 t) (Gen.st0_1 t) (hst1 t) (Gen.st0_2 t) (hst2 t) (Gen.st0_3 t) (hst3 t) (Gen.st0_4 t) (hst4 t) (Gen.st0_5 t) (hst5 t) (Gen.st0_6 t) (hst6 t) (Gen.st0_7 t) (hst7 t) (Gen.st0_8 t) (hst8 t) (Gen.st0_9 t) (hst9 t) (Gen.st0_10 t) (hst10 t) (Gen.st0_11 t) (hst11 t) (Gen.st0_12 t) (hst12 t) (Gen.st0_13 t) (hst13 t) (Gen.st0_14 t) (hst14 t) (Gen.st0_15 t) (hst15 t) (Gen.st0_16 t) (hst16 t) scr (Memref.isWhole_whole _)
    Gen.k0_pay252 (iota .tc S128x128 32 [1] iota_S128x128_d1_w32) (Gen.k0_pay253 (F := F)) Gen.k0_pay254
    (iota .tc S128x512 32 [0] iota_S128x512_d0_w32) (iota .tc S512x128 32 [0] iota_S512x128_d0_w32) 64#32 Gen.k0_pay255 (iota .tc S512x128 32 [1] iota_S512x128_d1_w32)
    ((Gen.st0_0 t).view.rep (Gen.iblk m c 0 t)) ((Gen.st0_1 t).view.rep (Gen.iblk m c 1 t)) ((Gen.st0_2 t).view.rep (Gen.iblk m c 2 t)) ((Gen.st0_3 t).view.rep (Gen.iblk m c 3 t)) ((Gen.st0_4 t).view.rep (Gen.iblk m c 4 t)) ((Gen.st0_5 t).view.rep (Gen.iblk m c 5 t)) ((Gen.st0_6 t).view.rep (Gen.iblk m c 6 t)) ((Gen.st0_7 t).view.rep (Gen.iblk m c 7 t)) ((Gen.st0_8 t).view.rep (Gen.X0_8 m c t)) ((Gen.st0_9 t).view.rep (Gen.iblk m c 9 t)) ((Gen.st0_10 t).view.rep (Gen.iblk m c 10 t))
    (entry c (grid0.coords t) scr (D m c t.val)) k

theorem scrAt_zero : scrAt m c t 0 = entry c (grid0.coords t) scr (D m c t.val) := rfl

/-- The scratch after point `t`. -/
theorem D_point : D m c (t.val + 1) = scrAt m c t 4 := (D_succ m c t).trans rfl

/-- The first group's half after trip `k`. -/
theorem scrAt_half0 (k : Fin k0_t1_loop.trips) : half0 c (scrAt m c t (k.val + 1))
    = dstVal0 k (Gen.iblk m c 2 t) (Gen.iblk m c 3 t) (Gen.iblk m c 6 t) (half0 c (scrAt m c t k.val)) := by
  unfold half0 scrAt
  rw [dstAt_half0]
  simp only [View.read_rep]

/-- The second group's half after trip `k`. -/
theorem scrAt_half1 (k : Fin k0_t1_loop.trips) : half1 c (scrAt m c t (k.val + 1))
    = dstVal1 k (Gen.iblk m c 2 t) (Gen.iblk m c 3 t) (Gen.iblk m c 6 t) (half1 c (scrAt m c t k.val)) := by
  unfold half1 scrAt
  rw [dstAt_half1]
  simp only [View.read_rep]

/-- The first group's half of the block of the gradient. -/
theorem dxOut_half0 (k : Fin k0_t1_loop.trips) (x : S1x128x512.Idx) (y : S1x512x1024.Idx)
    (h1 : (y 1).val = (3 - k.val) * 128 + (x 1).val) (h2 : (y 2).val = (x 2).val) : dxOut m c t y
    = dxVal0 Gen.k0_pay252 (iota .tc S128x128 32 [1] iota_S128x128_d1_w32) Gen.k0_pay254 k (Gen.iblk m c 1 t) (Gen.iblk m c 2 t) (Gen.iblk m c 3 t) (Gen.iblk m c 4 t) (Gen.iblk m c 5 t) (Gen.iblk m c 6 t) (Gen.X0_8 m c t) (Gen.iblk m c 10 t) (half0 c (scrAt m c t k.val)) x := by
  unfold dxOut dxPieces dxRun
  rw [read_dxAt0 (F := F) (k := k) (x := x) (h1 := h1) (h2 := h2) (hn := by decide) (hk := k.isLt)]
  simp only [View.read_rep]
  rfl

/-- The second group's half of the block of the gradient. -/
theorem dxOut_half1 (k : Fin k0_t1_loop.trips) (x : S1x128x512.Idx) (y : S1x512x1024.Idx)
    (h1 : (y 1).val = (3 - k.val) * 128 + (x 1).val) (h2 : (y 2).val = 512 + (x 2).val) : dxOut m c t y
    = dxVal1 Gen.k0_pay252 (iota .tc S128x128 32 [1] iota_S128x128_d1_w32) Gen.k0_pay254 k (Gen.iblk m c 1 t) (Gen.iblk m c 2 t) (Gen.iblk m c 3 t) (Gen.iblk m c 4 t) (Gen.iblk m c 5 t) (Gen.iblk m c 6 t) (Gen.X0_8 m c t) (Gen.iblk m c 10 t) (half1 c (scrAt m c t k.val)) x := by
  unfold dxOut dxPieces dxRun
  rw [read_dxAt1 (F := F) (k := k) (x := x) (h1 := h1) (h2 := h2) (hn := by decide) (hk := k.isLt)]
  simp only [View.read_rep]
  rfl

/-- The first block of a sequence starts from zero. -/
theorem entry_zero (h : t.val % 4 = 0) (x : S128x512.Idx) :
    half0 c (scrAt m c t 0) x = (Scalar.ofBits .f32 0x00000000#32 : F .f32) ∧ half1 c (scrAt m c t 0) x = (Scalar.ofBits .f32 0x00000000#32 : F .f32) := by
  have h0 : (grid0.coords t 1).val = 0 :=
    (by decide +kernel : ∀ t : Fin cfg0.N, t.val % 4 = 0 → (grid0.coords t 1).val = 0) t h
  rw [scrAt_zero]
  unfold entry half0 half1
  rw [if_pos h0]
  constructor
  · rw [View.readAt_apply, View.read_writes_full]; rfl
  · rw [View.readAt_apply, View.read_writes_full]; rfl

/-- The other blocks start from what the point before left. -/
theorem entry_carry (h : t.val % 4 ≠ 0) : scrAt m c t 0 = D m c t.val := by
  have h0 : (grid0.coords t 1).val ≠ 0 :=
    (by decide +kernel : ∀ t : Fin cfg0.N, t.val % 4 ≠ 0 → (grid0.coords t 1).val ≠ 0) t h
  rw [scrAt_zero]
  unfold entry
  rw [if_neg h0]

end Cert.Proof.KernelIdeal

end
-- ==== Proof.SumReal.lean ====
/-
  The sums behind the scan's gradient, over the reals.

  One head's gradient of its input at position `s` is a sum over the later positions `l`: the cotangent at `l`, times
  the product of the two projections, times the decay from `s` to `l`, which is the exponential of a difference of
  partial sums. Taken chunk by chunk from the end, the positions after a chunk enter through one carried vector.
-/
module

public import Idealize.ShloMosaic.Lib.Pointwise

@[expose] public section

noncomputable section

namespace Cert.Proof.Ssd

/-- The sum of the first `l` terms. -/
def psum (a : ℕ → ℝ) (l : ℕ) : ℝ := ∑ j ∈ Finset.range l, a j

/-- The gradient of one lane of the scan's input at position `s`, over a sequence of `N` positions. -/
def grad (a dy : ℕ → ℝ) (B C : ℕ → Fin 128 → ℝ) (N s : ℕ) : ℝ :=
  ∑ l ∈ Finset.range N, dy l * ((∑ n, C l n * B s n) * (if s ≤ l then Real.exp (psum a (l + 1) - psum a (s + 1)) else 0))

/-- The gradient of the state reached before position `e`: what the positions from `e` on take from it. -/
def stateGrad (a dy : ℕ → ℝ) (C : ℕ → Fin 128 → ℝ) (N e : ℕ) (n : Fin 128) : ℝ :=
  ∑ l ∈ Finset.Ico e N, C l n * (dy l * Real.exp (psum a (l + 1) - psum a e))

/-- The partial sums within a chunk that starts at `e`. -/
theorem psum_chunk (a : ℕ → ℝ) (e r : ℕ) : ∑ j ∈ Finset.range r, a (e + j) = psum a (e + r) - psum a e := by
  unfold psum
  rw [Finset.sum_range_add]
  ring

theorem stateGrad_end (a dy : ℕ → ℝ) (C : ℕ → Fin 128 → ℝ) (N : ℕ) (n : Fin 128) : stateGrad a dy C N N n = 0 := by
  simp [stateGrad]

/-- The carried vector before a chunk, of the one after it. -/
theorem stateGrad_step (a dy : ℕ → ℝ) (C : ℕ → Fin 128 → ℝ) (N e : ℕ) (he : e + 128 ≤ N) (n : Fin 128) :
    stateGrad a dy C N e n
      = stateGrad a dy C N (e + 128) n * Real.exp (psum a (e + 127 + 1) - psum a e)
        + ∑ l : Fin 128, C (e + l) n * (dy (e + l) * Real.exp (psum a (e + l + 1) - psum a e)) := by
  have h := Finset.sum_Ico_consecutive (fun l => C l n * (dy l * Real.exp (psum a (l + 1) - psum a e)))
    (Nat.le_add_right e 128) he
  unfold stateGrad
  rw [← h, Finset.sum_Ico_eq_sum_range, add_comm, Finset.sum_mul,
    Fin.sum_univ_eq_sum_range (fun l => C (e + l) n * (dy (e + l) * Real.exp (psum a (e + l + 1) - psum a e))) 128]
  congr 1
  · refine Finset.sum_congr rfl fun l _ => ?_
    rw [show psum a (l + 1) - psum a e = (psum a (l + 1) - psum a (e + 128)) + (psum a (e + 127 + 1) - psum a e) by
      rw [show e + 127 + 1 = e + 128 by omega]; ring, Real.exp_add]
    ring
  · rw [show e + 128 - e = 128 by omega]

/-- The gradient at a position of a chunk: the positions after the chunk through the carried vector, those of the
    chunk one by one. -/
theorem grad_chunk (a dy : ℕ → ℝ) (B C : ℕ → Fin 128 → ℝ) (N e r : ℕ) (he : e + 128 ≤ N) (hr : r < 128) :
    grad a dy B C N (e + r)
      = Real.exp ((psum a (e + 127 + 1) - psum a e) - (psum a (e + r + 1) - psum a e))
          * ∑ n : Fin 128, B (e + r) n * stateGrad a dy C N (e + 128) n
        + ∑ l : Fin 128, ((∑ n : Fin 128, C (e + l) n * B (e + r) n)
            * (if r ≤ l.val then Real.exp ((psum a (e + l + 1) - psum a e) - (psum a (e + r + 1) - psum a e)) else 0)) * dy (e + l) := by
  have hN : Finset.range N = Finset.Ico 0 N := by simp
  unfold grad
  rw [hN, ← Finset.sum_Ico_consecutive _ (Nat.zero_le e) (by omega : e ≤ N),
    ← Finset.sum_Ico_consecutive _ (Nat.le_add_right e 128) he]
  rw [Finset.sum_eq_zero (s := Finset.Ico 0 e) (fun l hl => by
    rw [if_neg (by have := (Finset.mem_Ico.mp hl).2; omega)]; ring), zero_add, add_comm]
  congr 1
  · unfold stateGrad
    rw [Finset.mul_sum]
    simp only [Finset.mul_sum]
    rw [Finset.sum_comm]
    refine Finset.sum_congr rfl fun l hl => ?_
    have hl' := (Finset.mem_Ico.mp hl).1
    rw [if_pos (by omega), Finset.sum_mul, Finset.mul_sum]
    refine Finset.sum_congr rfl fun n _ => ?_
    rw [show psum a (l + 1) - psum a (e + r + 1)
        = ((psum a (e + 127 + 1) - psum a e) - (psum a (e + r + 1) - psum a e)) + (psum a (l + 1) - psum a (e + 128)) by
      rw [show e + 127 + 1 = e + 128 by omega]; ring, Real.exp_add]
    ring
  · rw [Finset.sum_Ico_eq_sum_range, show e + 128 - e = 128 by omega,
      Fin.sum_univ_eq_sum_range (fun l => ((∑ n : Fin 128, C (e + l) n * B (e + r) n)
            * (if r ≤ l then Real.exp ((psum a (e + l + 1) - psum a e) - (psum a (e + r + 1) - psum a e)) else 0)) * dy (e + l)) 128]
    refine Finset.sum_congr rfl fun l _ => ?_
    simp only [Nat.add_le_add_iff_left]
    rw [show psum a (e + l + 1) - psum a e - (psum a (e + r + 1) - psum a e) = psum a (e + l + 1) - psum a (e + r + 1) by ring]
    ring

/-- The logistic function. -/
def sigm (x : ℝ) : ℝ := 1 / (1 + Real.exp (-x))

/-- The logistic function through the hyperbolic tangent. -/
theorem sigm_tanh (x : ℝ) : (1 / 2) * Real.tanh ((1 / 2) * x) + 1 / 2 = sigm x := by
  have h1 : Real.exp (-x) = (Real.exp ((1 / 2) * x))⁻¹ ^ 2 := by
    rw [← Real.exp_neg, ← Real.exp_nat_mul]; congr 1; push_cast; ring
  have hp : 0 < Real.exp ((1 / 2) * x) := Real.exp_pos _
  unfold sigm
  rw [h1, Real.tanh_eq_sinh_div_cosh, Real.sinh_eq, Real.cosh_eq, Real.exp_neg]
  generalize Real.exp ((1 / 2) * x) = u at hp
  field_simp
  ring

/-- The derivative of `x * sigm x`. -/
def dgate (x : ℝ) : ℝ := sigm x * (1 + x * (1 - sigm x))

end Cert.Proof.Ssd

end
-- ==== Proof.WindowSum.lean ====
/-
  Running sums at the extended reals. A window as long as the axis, padded in front by one less, sums at each position
  the entries up to it; over real entries that is the real partial sum.
-/
module

public import proofs.«01_k».proof.Proof.SumReal
public import Idealize.ShloMosaic.Lib.Pointwise

@[expose] public section

noncomputable section

namespace Cert.Proof.Ssd

open Idealize.ShloMosaic

/-- A sum of real numbers, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Adding the terms in order is adding the sum. -/
theorem foldl_add_sum {n : ℕ} (f : Fin n → EReal) (z : EReal) :
    (List.finRange n).foldl (fun r i => r + f i) z = z + ∑ i, f i := by
  have h : ∀ (l : List (Fin n)) (z : EReal), l.foldl (fun r i => r + f i) z = z + (l.map f).sum := fun l => by
    induction l with
    | nil => intro z; simp
    | cons a l ih => intro z; rw [List.foldl_cons, ih, List.map_cons, List.sum_cons, add_assoc]
  rw [h, ← List.ofFn_eq_map, List.sum_ofFn]

/-- A window sum from zero, as a sum over the window's positions. -/
theorem windowSum_apply {s : Shape} (window strides lo hi : Fin s.rank → ℕ) {t : Shape} (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  dsimp only
  rw [foldl_add_sum, zero_add]
  rw [← Equiv.sum_comp (⟨s.rank, window⟩ : Shape).rowMajor.symm]
  refine Finset.sum_congr rfl fun n _ => ?_
  split <;> rfl

/-- The terms a window padded in front by one less than its length meets at position `j` are the first `j + 1`. -/
theorem sum_shift (f : ℕ → ℝ) {N M : ℕ} (hN : M + 1 = N) (j : Fin N) :
    ∑ k : Fin N, (if M ≤ j.val + k.val then ((f (j.val + k.val - M) : ℝ) : EReal) else 0) = ((psum f (j.val + 1) : ℝ) : EReal) := by
  obtain ⟨j, hj⟩ := j
  dsimp only
  rw [Fin.sum_univ_eq_sum_range (fun k => if M ≤ j + k then ((f (j + k - M) : ℝ) : EReal) else 0) N,
    show N = (M - j) + (j + 1) by omega, Finset.sum_range_add, Finset.sum_eq_zero, zero_add]
  · unfold psum
    rw [← coe_sum]
    refine Finset.sum_congr rfl fun k hk => ?_
    rw [if_pos (by omega), show j + (M - j + k) - M = k by omega]
  · intro k hk
    have := Finset.mem_range.1 hk
    exact if_neg (by omega)

/-- The running sum along the third of four axes. -/
theorem cumsum_axis2 {A B N M D : ℕ} (hN : M + 1 = N) (x : (⟨4, ![A, B, N, D]⟩ : Shape).Idx → EReal) (f : ℕ → ℝ) (a : Fin A)
    (b : Fin B) (d : Fin D) (hx : ∀ i : Fin N, x (ix4 a b i d) = ((f i : ℝ) : EReal))
    (h : (⟨4, ![A, B, N, D]⟩ : Shape).ReduceWindows (![1, 1, N, 1] : Fin 4 → ℕ) ![1, 1, 1, 1] ![0, 0, M, 0] ![0, 0, 0, 0] ⟨4, ![A, B, N, D]⟩)
    (j : Fin N) :
    Ideal.hostReduceWindowAdd (s := ⟨4, ![A, B, N, D]⟩) (![1, 1, N, 1] : Fin 4 → ℕ) ![1, 1, 1, 1] ![0, 0, M, 0] ![0, 0, 0, 0] h x 0 (ix4 a b j d)
      = ((psum f (j.val + 1) : ℝ) : EReal) := by
  rw [windowSum_apply, ← sum_shift f hN j]
  let e : Fin N ≃ (⟨4, ![1, 1, N, 1]⟩ : Shape).Idx :=
    { toFun := fun k => ix4 0 0 k 0
      invFun := fun w => w 2
      left_inv := fun _ => rfl
      right_inv := fun w => funext fun
        | ⟨0, _⟩ => Subsingleton.elim (α := Fin 1) _ _
        | ⟨1, _⟩ => Subsingleton.elim (α := Fin 1) _ _
        | ⟨2, _⟩ => rfl
        | ⟨3, _⟩ => Subsingleton.elim (α := Fin 1) _ _ }
  refine (Equiv.sum_comp e _).symm.trans (Finset.sum_congr rfl fun k _ => ?_)
  have hj := j.isLt
  have hk := k.isLt
  by_cases hle : M ≤ j.val + k.val
  · rw [if_pos hle, dif_pos (fun
        | ⟨0, _⟩ => ⟨Nat.zero_le _, by show a.val * 1 + 0 - 0 < A; have := a.isLt; omega⟩
        | ⟨1, _⟩ => ⟨Nat.zero_le _, by show b.val * 1 + 0 - 0 < B; have := b.isLt; omega⟩
        | ⟨2, _⟩ => ⟨by show M ≤ j.val * 1 + k.val; omega, by show j.val * 1 + k.val - M < N; omega⟩
        | ⟨3, _⟩ => ⟨Nat.zero_le _, by show d.val * 1 + 0 - 0 < D; have := d.isLt; omega⟩)]
    refine (congrArg x (funext fun i => Fin.ext ?_)).trans (hx ⟨j.val + k.val - M, by omega⟩)
    match i with
    | ⟨0, _⟩ => show a.val * 1 + 0 - 0 = a.val; omega
    | ⟨1, _⟩ => show b.val * 1 + 0 - 0 = b.val; omega
    | ⟨2, _⟩ => show j.val * 1 + k.val - M = j.val + k.val - M; omega
    | ⟨3, _⟩ => show d.val * 1 + 0 - 0 = d.val; omega
  · rw [if_neg hle, dif_neg fun hin => hle (by
      have h2 : M ≤ j.val * 1 + k.val := (hin 2).1
      omega)]

/-- The running sum along the last of four axes. -/
theorem cumsum_axis3 {A B D N M : ℕ} (hN : M + 1 = N) (x : (⟨4, ![A, B, D, N]⟩ : Shape).Idx → EReal) (f : ℕ → ℝ) (a : Fin A)
    (b : Fin B) (d : Fin D) (hx : ∀ i : Fin N, x (ix4 a b d i) = ((f i : ℝ) : EReal))
    (h : (⟨4, ![A, B, D, N]⟩ : Shape).ReduceWindows (![1, 1, 1, N] : Fin 4 → ℕ) ![1, 1, 1, 1] ![0, 0, 0, M] ![0, 0, 0, 0] ⟨4, ![A, B, D, N]⟩)
    (j : Fin N) :
    Ideal.hostReduceWindowAdd (s := ⟨4, ![A, B, D, N]⟩) (![1, 1, 1, N] : Fin 4 → ℕ) ![1, 1, 1, 1] ![0, 0, 0, M] ![0, 0, 0, 0] h x 0 (ix4 a b d j)
      = ((psum f (j.val + 1) : ℝ) : EReal) := by
  rw [windowSum_apply, ← sum_shift f hN j]
  let e : Fin N ≃ (⟨4, ![1, 1, 1, N]⟩ : Shape).Idx :=
    { toFun := fun k => ix4 0 0 0 k
      invFun := fun w => w 3
      left_inv := fun _ => rfl
      right_inv := fun w => funext fun
        | ⟨0, _⟩ => Subsingleton.elim (α := Fin 1) _ _
        | ⟨1, _⟩ => Subsingleton.elim (α := Fin 1) _ _
        | ⟨2, _⟩ => Subsingleton.elim (α := Fin 1) _ _
        | ⟨3, _⟩ => rfl }
  refine (Equiv.sum_comp e _).symm.trans (Finset.sum_congr rfl fun k _ => ?_)
  have hj := j.isLt
  have hk := k.isLt
  by_cases hle : M ≤ j.val + k.val
  · rw [if_pos hle, dif_pos (fun
        | ⟨0, _⟩ => ⟨Nat.zero_le _, by show a.val * 1 + 0 - 0 < A; have := a.isLt; omega⟩
        | ⟨1, _⟩ => ⟨Nat.zero_le _, by show b.val * 1 + 0 - 0 < B; have := b.isLt; omega⟩
        | ⟨2, _⟩ => ⟨Nat.zero_le _, by show d.val * 1 + 0 - 0 < D; have := d.isLt; omega⟩
        | ⟨3, _⟩ => ⟨by show M ≤ j.val * 1 + k.val; omega, by show j.val * 1 + k.val - M < N; omega⟩)]
    refine (congrArg x (funext fun i => Fin.ext ?_)).trans (hx ⟨j.val + k.val - M, by omega⟩)
    match i with
    | ⟨0, _⟩ => show a.val * 1 + 0 - 0 = a.val; omega
    | ⟨1, _⟩ => show b.val * 1 + 0 - 0 = b.val; omega
    | ⟨2, _⟩ => show d.val * 1 + 0 - 0 = d.val; omega
    | ⟨3, _⟩ => show j.val * 1 + k.val - M = j.val + k.val - M; omega
  · rw [if_neg hle, dif_neg fun hin => hle (by
      have h3 : M ≤ j.val * 1 + k.val := (hin 3).1
      omega)]

end Cert.Proof.Ssd

end
-- ==== Proof.Spec.lean ====
/-
  What the step computes, over the reals: the gradient of the gated scan input, entry by entry, as a function of the
  real entries of the arguments. The kernel and the reference are each shown to write this.
-/
module

public import proofs.«01_k».proof.Proof.WindowSum

@[expose] public section

noncomputable section

namespace Cert.Proof.Ssd

open Idealize.ShloMosaic

/-- Every entry is a real number. -/
def Finite {ι : Type} (X : ι → EReal) : Prop := ∀ i, X i ≠ ⊤ ∧ X i ≠ ⊥

/-- The real entries of a vector, zero outside. -/
def at1 {A : ℕ} (X : (⟨1, ![A]⟩ : Shape).Idx → EReal) (a : ℕ) : ℝ := if h : a < A then (X (ix1 ⟨a, h⟩)).toReal else 0

/-- The real entries of an array of three axes, zero outside. -/
def at3 {A B C : ℕ} (X : (⟨3, ![A, B, C]⟩ : Shape).Idx → EReal) (a b c : ℕ) : ℝ :=
  if h : a < A ∧ b < B ∧ c < C then (X (ix3 ⟨a, h.1⟩ ⟨b, h.2.1⟩ ⟨c, h.2.2⟩)).toReal else 0

theorem at1_eq {A : ℕ} {X : (⟨1, ![A]⟩ : Shape).Idx → EReal} (hX : Finite X) (a : Fin A) : X (ix1 a) = ((at1 X a : ℝ) : EReal) := by
  unfold at1
  rw [dif_pos a.isLt]
  exact (EReal.coe_toReal (hX _).1 (hX _).2).symm

theorem at3_eq {A B C : ℕ} {X : (⟨3, ![A, B, C]⟩ : Shape).Idx → EReal} (hX : Finite X) (a : Fin A) (b : Fin B) (c : Fin C) :
    X (ix3 a b c) = ((at3 X a b c : ℝ) : EReal) := by
  unfold at3
  rw [dif_pos ⟨a.isLt, b.isLt, c.isLt⟩]
  exact (EReal.coe_toReal (hX _).1 (hX _).2).symm

/-- The gate `x * sigmoid x`. -/
def silu (x : ℝ) : ℝ := x * sigm x

variable (X0 : (⟨3, ![4, 2048, 1536]⟩ : Shape).Idx → EReal) (X1 : (⟨3, ![4, 2048, 16]⟩ : Shape).Idx → EReal)
  (X2 : (⟨1, ![16]⟩ : Shape).Idx → EReal) (X3 X4 : (⟨3, ![4, 2048, 1024]⟩ : Shape).Idx → EReal)

/-- The log of the decay of head `h` at position `j` of sequence `b`. -/
def decay (b h j : ℕ) : ℝ := at3 X1 b j h * at1 X2 h

/-- The projection into the state of group `g`. -/
def projB (b g s : ℕ) (n : Fin 128) : ℝ := silu (at3 X0 b s (1024 + 128 * g + n.val))

/-- The projection out of the state of group `g`. -/
def projC (b g s : ℕ) (n : Fin 128) : ℝ := silu (at3 X0 b s (1280 + 128 * g + n.val))

/-- The gradient of the gated scan input before the gate, at lane `p` of position `s` of sequence `b`. -/
def gradX (b s p : ℕ) : ℝ :=
  (grad (decay X1 X2 b (p / 64)) (fun l => at3 X3 b l p) (projB X0 b (p / 512)) (projC X0 b (p / 512)) 2048 s * at3 X1 b s (p / 64)
    + at3 X4 b s p) * dgate (at3 X0 b s p)

theorem select_ofBool {α : Type} (b : Bool) (x y : α) : Scalar.select (BitVec.ofBool b) x y = if b then x else y := by
  cases b <;> rfl

/-- One over one plus the exponential of minus `x`, the host's way to the logistic function. -/
theorem host_sigm (x : ℝ) : Ideal.div 1 (1 + Ideal.exp (-((x : ℝ) : EReal))) = ((sigm x : ℝ) : EReal) := by
  rw [← EReal.coe_neg, Ideal.exp_coe, ← EReal.coe_one, ← EReal.coe_add, Ideal.div_coe (by positivity), ← EReal.coe_mul, one_mul]
  rfl

/-- The host's gate. -/
theorem host_silu (x : ℝ) : ((x : ℝ) : EReal) * Ideal.div 1 (1 + Ideal.exp (-((x : ℝ) : EReal))) = ((silu x : ℝ) : EReal) := by
  rw [host_sigm, ← EReal.coe_mul]
  rfl

end Cert.Proof.Ssd

end
-- ==== Proof.HostIdeal.lean ====
/-
  What the operations before the launch leave in the operands' arrays, as terms of the arguments: the projections of
  the gate, each head's step size spread over its lanes, and the sums of the decays within a chunk, in three layouts.
-/
module

public import proofs.«01_k».proof.Proof.Gen.KernelIdeal.Frame
public import proofs.«01_k».proof.Proof.WindowSum
public import proofs.«01_k».proof.Proof.Spec
public import Idealize.ShloMosaic.Lib.StableHlo.Run
public import Idealize.ShloMosaic.Lib.Pointwise

@[expose] public section

set_option maxRecDepth 65536

noncomputable section

namespace Cert.Proof.KernelIdeal

open Cert.KernelIdeal Cert.KernelIdeal.Facts₀
open Cert.Proof.Ssd
open Idealize.ShloMosaic Idealize.ShloMosaic.TcCoe Idealize.ShloMosaic.Tactic

section Terms

variable {F : FTy → Type} [FloatOps F] [Named F]

/-- The gated activation. -/
def gated (X0 : FVec F S4x2048x1536 .f32) : FVec F S4x2048x1536 .f32 :=
  mulf X0 (Host.divf (broadcastInDim S4x2048x1536 ![] bcast_S_S4x2048x1536 (constant S_ .f32 0x3F800000#32))
    (addf (broadcastInDim S4x2048x1536 ![] bcast_S_S4x2048x1536 (constant S_ .f32 0x3F800000#32)) (Host.exp (Host.negf X0))))

/-- The decays, cut into chunks. -/
def decays (X1 : FVec F S4x2048x16 .f32) (X2 : FVec F S16 .f32) : FVec F S4x16x128x16 .f32 :=
  shapeCast S4x16x128x16 (mulf X1 (broadcastInDim S4x2048x16 ![0, 1, 2] bcast_S1x1x16_S4x2048x16_0_1_2
    (broadcastInDim S1x1x16 ![2] bcast_S16_S1x1x16_2 X2))) shapeCasts_S4x2048x16_S4x16x128x16

/-- The running sums of the decays within each chunk. -/
def sums (X1 : FVec F S4x2048x16 .f32) (X2 : FVec F S16 .f32) : FVec F S4x16x128x16 .f32 :=
  Host.reduceWindowAdd ![1, 1, 128, 1] ![1, 1, 1, 1] ![0, 0, 127, 0] ![0, 0, 0, 0] (decays X1 X2)
    (broadcastInDim S_ ![] bcast_S_S_ (constant S_ .f32 0x00000000#32))
    reduceWindows_S4x16x128x16_S4x16x128x16_w1s1p0_0_w1s1p0_0_w128s1p127_0_w1s1p0_0 h_S_

/-- The running sums, a row per position. -/
def sumRows (X1 : FVec F S4x2048x16 .f32) (X2 : FVec F S16 .f32) : FVec F S4x2048x16 .f32 :=
  shapeCast S4x2048x16 (sums X1 X2) shapeCasts_S4x16x128x16_S4x2048x16

/-- A number per head spread over the head's lanes. -/
def spread (X : FVec F S4x2048x16 .f32) : FVec F S4x2048x1024 .f32 :=
  shapeCast S4x2048x1024 (broadcastInDim S4x2048x16x64 ![0, 1, 2] bcast_S4x2048x16_S4x2048x16x64_0_1_2 X) shapeCasts_S4x2048x16x64_S4x2048x1024

variable (m : (ℓ : Loc nD τ sig) → Buf (Elt F) ℓ) (c : Dev nD)

set_option maxHeartbeats 4000000 in
/-- The projections' array. -/
theorem V_v2 : Gen.V m c main_v2 = extractStridedSlice S4x2048x512 ![0, 0, 1024] (gated (m ((c : Thread nD τ).loc main_arg0))) slices_S4x2048x1536_S4x2048x512_0_0_1024 := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The sums, a row per head. -/
theorem V_v8 : Gen.V m c main_v8 = transpose S4x16x16x128 [0, 1, 3, 2] (sums (m ((c : Thread nD τ).loc main_arg1)) (m ((c : Thread nD τ).loc main_arg2))) transposes_S4x16x128x16_S4x16x16x128_0_1_3_2 := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The step sizes over the lanes. -/
theorem V_v46 : Gen.V m c main_v46 = spread (m ((c : Thread nD τ).loc main_arg1)) := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The sums over the lanes. -/
theorem V_v48 : Gen.V m c main_v48 = spread (sumRows (m ((c : Thread nD τ).loc main_arg1)) (m ((c : Thread nD τ).loc main_arg2))) := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The sums from lane 16 on, zeros elsewhere. -/
theorem V_v49 : Gen.V m c main_v49 = pad S4x2048x128 ![0, 0, 16] ![0, 0, 96] ![0, 0, 0] (sumRows (m ((c : Thread nD τ).loc main_arg1)) (m ((c : Thread nD τ).loc main_arg2))) (sitofp .f32 (constantI S_ 32 0#32))
      pads_S4x2048x16_S4x2048x128_000_000_16960 h_S_ := by
  simp only [Gen.V, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Terms

end Cert.Proof.KernelIdeal

end
-- ==== Proof.GroupIdeal.lean ====
/-
  One chunk of one group at the extended reals: with every operand a real number, the gradient of the scan's input the
  kernel forms and the state gradient it carries on are the real expressions of the operands.
-/
module

public import proofs.«01_k».proof.Proof.ChunkIdeal
public import proofs.«01_k».proof.Proof.Spec
public import Idealize.ShloMosaic.Lib.Pointwise

@[expose] public section

set_option maxRecDepth 16384

noncomputable section

namespace Cert.Proof.KernelIdeal

open Cert.KernelIdeal Cert.KernelIdeal.Facts₀
open Cert.Proof.Ssd
open Idealize.ShloMosaic

theorem half_eq : Ideal.ofBits FTy.f32 1056964608#32 = ((1 / 2 : ℝ) : EReal) := by
  simp [Ideal.ofBits, Ideal.ieee, -EReal.coe_mul]; norm_num

theorem mask_eq : (Named.named κ "mask" 0xF149F2CA#32 : Ideal .f32) = ⊥ :=
  IdealRules.named_const.ideal_named_scalar _ _ _ _ rfl

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · exact fun h => congrArg _ h

theorem select_eq_ofNat {α : Type} {a b : ℕ} (ha : a < 2 ^ 32) (hb : b < 2 ^ 32) (x y : α) :
    Scalar.select (IntOp.cmpi .eq (BitVec.ofNat 32 a) (BitVec.ofNat 32 b)) x y = if a = b then x else y := by
  show Scalar.select (BitVec.ofBool (BitVec.ofNat 32 a == BitVec.ofNat 32 b)) x y = _
  rw [select_ofBool]
  simp only [beq_iff_eq, ofNat_inj ha hb]

/-- The triangular mask of a chunk: the later position against the earlier. -/
theorem v10_apply : ∀ l s : Fin 128, Gen.k0_pay252 (ix2 l s) = BitVec.ofBool (decide (s ≤ l)) := by
  intro l s
  pointwise [Gen.k0_pay252]
  revert l s
  decide +kernel

/-- The head a lane belongs to. -/
theorem v37_apply (l : Fin 128) : ∀ p : Fin 512, Gen.k0_pay254 (ix2 l p) = BitVec.ofNat 32 (p.val / 64) := by
  intro p
  pointwise [Gen.k0_pay254]
  revert p
  decide +kernel

/-- The lane counter. -/
theorem v11_apply (l k : Fin 128) : iota .tc S128x128 32 [1] iota_S128x128_d1_w32 (ix2 l k) = BitVec.ofNat 32 k.val := by
  pointwise

/-- One head's part, its own lanes and no others. -/
theorem headAdd_real (lane hd : ℕ) (hlane : lane < 128) (hhd : hd < 8) (v11 : IVec S128x128 32)
    (h11 : ∀ l k : Fin 128, v11 (ix2 l k) = BitVec.ofNat 32 k.val)
    (acs cbm : FVec Ideal S128x128 .f32) (dy prev : FVec Ideal S128x512 .f32) (ar : Vec Ideal S1x1x1x128 .f32)
    (A : ℕ → ℝ) (cbR : ℕ → ℕ → ℝ) (dyR : ℕ → ℕ → ℝ) (prevR : ℝ)
    (hacs : ∀ l : Fin 128, acs (ix2 l ⟨lane, hlane⟩) = ((A l : ℝ) : EReal))
    (har : ∀ s : Fin 128, ar (ix4 0 0 0 s) = ((A s : ℝ) : EReal))
    (hcb : ∀ l s : Fin 128, cbm (ix2 l s) = ((cbR l s : ℝ) : EReal))
    (hdy : ∀ (l : Fin 128) (p : Fin 512), dy (ix2 l p) = ((dyR l p : ℝ) : EReal)) (s : Fin 128) (p : Fin 512)
    (hprev : prev (ix2 s p) = ((prevR : ℝ) : EReal)) :
    headAdd (BitVec.ofNat 32 lane) (BitVec.ofNat 32 hd) Gen.k0_pay252 v11 Gen.k0_pay254 acs cbm dy prev ar (ix2 s p)
      = ((prevR + (if p.val / 64 = hd then ∑ l : Fin 128, (cbR l s * (if s.val ≤ l.val then Real.exp (A l - A s) else 0)) * dyR l p else 0) : ℝ) : EReal) := by
  pointwise [headAdd]
  simp only [v10_apply, v37_apply, h11, hcb, hdy, hprev, har]
  rw [EReal.coe_add]
  congr 1
  have hcol : ∀ l : Fin 128, (∑ k : Fin 128, Scalar.select (IntOp.cmpi CmpIPredicate.eq (BitVec.ofNat 32 k.val) (BitVec.ofNat 32 lane)) (acs (ix2 l k)) 0)
      = ((A l : ℝ) : EReal) := fun l => by
    rw [Finset.sum_eq_single (⟨lane, hlane⟩ : Fin 128)]
    · rw [select_eq_ofNat (by show lane < _; omega) (by omega), if_pos rfl, hacs]
    · intro k _ hk
      rw [select_eq_ofNat (by have := k.isLt; omega) (by omega), if_neg (fun e => hk (Fin.ext e))]
    · exact fun h => absurd (Finset.mem_univ _) h
  simp only [hcol]
  have hp : p.val / 64 < 8 := by have := p.isLt; omega
  split
  · next h =>
    rw [← coe_sum]
    refine Finset.sum_congr rfl fun l _ => ?_
    rw [select_eq_ofNat (by omega) (by omega), if_pos h]
    by_cases hsl : s ≤ l
    · rw [decide_eq_true hsl, if_pos (show s.val ≤ l.val from hsl)]
      rw [select_ofBool, if_pos rfl]
      rw [← EReal.coe_sub, Ideal.exp_coe]
      norm_cast
    · rw [decide_eq_false hsl, if_neg (show ¬ s.val ≤ l.val from hsl)]
      rw [select_ofBool, if_neg Bool.false_ne_true]
      rw [mask_eq, Ideal.exp_bot]
      simp
  · next h =>
    rw [EReal.coe_zero]
    refine Finset.sum_eq_zero fun l _ => ?_
    rw [select_eq_ofNat (by omega) (by omega), if_neg h]

/-- The part the later chunks give. -/
theorem carried_real (al : FVec Ideal S128x512 .f32) (b : FVec Ideal S128x128 .f32) (dst : FVec Ideal S128x512 .f32)
    (A : ℕ → ℕ → ℝ) (bR : ℕ → Fin 128 → ℝ) (T : Fin 128 → ℕ → ℝ)
    (hal : ∀ (l : Fin 128) (p : Fin 512), al (ix2 l p) = ((A (p / 64) l : ℝ) : EReal))
    (hb : ∀ (l n : Fin 128), b (ix2 l n) = ((bR l n : ℝ) : EReal))
    (hdst : ∀ (n : Fin 128) (p : Fin 512), dst (ix2 n p) = ((T n p : ℝ) : EReal)) (s : Fin 128) (p : Fin 512) :
    carried al b dst (ix2 s p) = ((Real.exp (A (p / 64) 127 - A (p / 64) s) * ∑ n : Fin 128, bR s n * T n p : ℝ) : EReal) := by
  pointwise [carried]
  simp only [hal, hb, hdst, ← EReal.coe_sub, Ideal.exp_coe, ← EReal.coe_mul, coe_sum]
  rfl

/-- The gate's derivative. -/
theorem dsilu_real (y : FVec Ideal S128x512 .f32) (s : Fin 128) (p : Fin 512) (yR : ℝ) (hy : y (ix2 s p) = ((yR : ℝ) : EReal)) :
    dsilu y (ix2 s p) = ((dgate yR : ℝ) : EReal) := by
  pointwise [dsilu]
  simp only [half_eq, hy, ← EReal.coe_mul, Ideal.tanh_coe, ← EReal.coe_add, ← EReal.coe_one, ← EReal.coe_sub, sigm_tanh]
  rfl

/-- The state gradient carried on. -/
theorem grpDst_real (al dy : FVec Ideal S128x512 .f32) (c : FVec Ideal S128x128 .f32) (dst : FVec Ideal S128x512 .f32)
    (A : ℕ → ℕ → ℝ) (cR : ℕ → Fin 128 → ℝ) (dyR : ℕ → ℕ → ℝ) (T : Fin 128 → ℕ → ℝ)
    (hal : ∀ (l : Fin 128) (p : Fin 512), al (ix2 l p) = ((A (p / 64) l : ℝ) : EReal))
    (hc : ∀ (l n : Fin 128), c (ix2 l n) = ((cR l n : ℝ) : EReal))
    (hdy : ∀ (l : Fin 128) (p : Fin 512), dy (ix2 l p) = ((dyR l p : ℝ) : EReal))
    (hdst : ∀ (n : Fin 128) (p : Fin 512), dst (ix2 n p) = ((T n p : ℝ) : EReal)) (n : Fin 128) (p : Fin 512) :
    grpDst al dy c dst (ix2 n p)
      = ((T n p * Real.exp (A (p / 64) 127) + ∑ l : Fin 128, cR l n * (dyR l p * Real.exp (A (p / 64) l)) : ℝ) : EReal) := by
  pointwise [grpDst]
  simp only [hal, hc, hdst, hdy, Ideal.exp_coe, ← EReal.coe_mul, coe_sum, ← EReal.coe_add]
  rfl

/-- A group's block of the gradient at one chunk. -/
theorem grpDx_real (lane : ℕ) (hlane : lane + 8 ≤ 128) (v11 : IVec S128x128 32)
    (h11 : ∀ l k : Fin 128, v11 (ix2 l k) = BitVec.ofNat 32 k.val)
    (acs : FVec Ideal S128x128 .f32) (al dy dt dxs yp : FVec Ideal S128x512 .f32) (b c : FVec Ideal S128x128 .f32)
    (ar : Fin 8 → Vec Ideal S1x1x1x128 .f32) (dst : FVec Ideal S128x512 .f32)
    (A : ℕ → ℕ → ℝ) (bR cR : ℕ → Fin 128 → ℝ) (dyR : ℕ → ℕ → ℝ) (T : Fin 128 → ℕ → ℝ) (dtR dxsR ypR : ℕ → ℕ → ℝ)
    (hacs : ∀ (l : Fin 128) (j : Fin 8), acs (ix2 l ⟨lane + j.val, by omega⟩) = ((A j l : ℝ) : EReal))
    (har : ∀ (j : Fin 8) (s : Fin 128), ar j (ix4 0 0 0 s) = ((A j s : ℝ) : EReal))
    (hal : ∀ (l : Fin 128) (p : Fin 512), al (ix2 l p) = ((A (p / 64) l : ℝ) : EReal))
    (hb : ∀ (l n : Fin 128), b (ix2 l n) = ((bR l n : ℝ) : EReal))
    (hc : ∀ (l n : Fin 128), c (ix2 l n) = ((cR l n : ℝ) : EReal))
    (hdy : ∀ (l : Fin 128) (p : Fin 512), dy (ix2 l p) = ((dyR l p : ℝ) : EReal))
    (hdt : ∀ (l : Fin 128) (p : Fin 512), dt (ix2 l p) = ((dtR l p : ℝ) : EReal))
    (hdxs : ∀ (l : Fin 128) (p : Fin 512), dxs (ix2 l p) = ((dxsR l p : ℝ) : EReal))
    (hyp : ∀ (l : Fin 128) (p : Fin 512), yp (ix2 l p) = ((ypR l p : ℝ) : EReal))
    (hdst : ∀ (n : Fin 128) (p : Fin 512), dst (ix2 n p) = ((T n p : ℝ) : EReal)) (s : Fin 128) (p : Fin 512) :
    grpDx Gen.k0_pay252 v11 Gen.k0_pay254 (BitVec.ofNat 32 lane) acs al dy dt dxs yp b c ar dst (ix3 0 s p)
      = ((((Real.exp (A (p / 64) 127 - A (p / 64) s) * ∑ n : Fin 128, bR s n * T n p
          + ∑ l : Fin 128, ((∑ n : Fin 128, cR l n * bR s n)
              * (if s.val ≤ l.val then Real.exp (A (p / 64) l - A (p / 64) s) else 0)) * dyR l p) * dtR s p + dxsR s p)
          * dgate (ypR s p) : ℝ) : EReal) := by
  let cbm : FVec Ideal S128x128 .f32 := matmul dot_S128x128_S128x128_S128x128_1_1_0_0_n_n none (truncf .bf16 c bitsLt_bf16_f32)
    (truncf .bf16 b bitsLt_bf16_f32) (constant S128x128 .f32 0x00000000#32)
  have hcb : ∀ l s : Fin 128, cbm (ix2 l s) = ((∑ n : Fin 128, cR l n * bR s n : ℝ) : EReal) := fun l s => by
    show matmul dot_S128x128_S128x128_S128x128_1_1_0_0_n_n none (truncf .bf16 c bitsLt_bf16_f32)
      (truncf .bf16 b bitsLt_bf16_f32) (constant S128x128 .f32 0x00000000#32) (ix2 l s) = _
    pointwise
    simp only [hc, hb, ← EReal.coe_mul, coe_sum]
  have h0 := carried_real al b dst A bR T hal hb hdst s p
  have e : ∀ j : Fin 8, BitVec.ofNat 32 lane + BitVec.ofNat 32 j.val = BitVec.ofNat 32 (lane + j.val) := fun j =>
    (BitVec.ofNat_add _ _).symm
  let H : Fin 8 → FVec Ideal S128x512 .f32 → FVec Ideal S128x512 .f32 := fun j prev =>
    headAdd (BitVec.ofNat 32 lane + BitVec.ofNat 32 j.val) (BitVec.ofNat 32 j.val) Gen.k0_pay252 v11 Gen.k0_pay254 acs cbm dy prev (ar j)
  have step : ∀ (j : Fin 8) (prev : FVec Ideal S128x512 .f32) (prevR : ℝ), prev (ix2 s p) = ((prevR : ℝ) : EReal) →
      H j prev (ix2 s p)
        = ((prevR + (if p.val / 64 = j.val then ∑ l : Fin 128, ((∑ n : Fin 128, cR l n * bR s n)
              * (if s.val ≤ l.val then Real.exp (A j l - A j s) else 0)) * dyR l p else 0) : ℝ) : EReal) := fun j prev prevR hp => by
    show headAdd (BitVec.ofNat 32 lane + BitVec.ofNat 32 j.val) _ _ _ _ _ _ _ _ _ _ = _
    rw [e]
    rw [headAdd_real (lane + j.val) j.val (by omega) j.isLt v11 h11 acs cbm dy prev (ar j) (A j) (fun l s => ∑ n : Fin 128, cR l n * bR s n) dyR prevR
      (fun l => hacs l j) (har j) hcb hdy s p hp]
  have h8 := step 7 _ _ (step 6 _ _ (step 5 _ _ (step 4 _ _ (step 3 _ _ (step 2 _ _ (step 1 _ _ (step 0 _ _ h0)))))))
  have hy := dsilu_real yp s p _ (hyp s p)
  have hp : p.val / 64 < 8 := by have := p.isLt; omega
  have hfin : grpDx Gen.k0_pay252 v11 Gen.k0_pay254 (BitVec.ofNat 32 lane) acs al dy dt dxs yp b c ar dst (ix3 0 s p)
      = (H 7 (H 6 (H 5 (H 4 (H 3 (H 2 (H 1 (H 0 (carried al b dst)))))))) (ix2 s p)
        * dt (ix2 s p) + dxs (ix2 s p)) * dsilu yp (ix2 s p) := by
    unfold grpDx
    dsimp only
    rw [show ∀ v : FVec Ideal S128x512 .f32, shapeCast S1x128x512 v shapeCasts_S128x512_S1x128x512 (ix3 0 s p) = v (ix2 s p) from fun v => by pointwise]
    rfl
  rw [hfin, h8, hy, hdt, hdxs, ← EReal.coe_mul, ← EReal.coe_add, ← EReal.coe_mul]
  congr 4
  fin_vals (⟨p.val / 64, hp⟩ : Fin 8) with hk
  all_goals
    simp only at hk
    simp [hk]

end Cert.Proof.KernelIdeal

end
-- ==== Proof.BlockIdeal.lean ====
/-
  One chunk of a block of positions at the extended reals: when the operands' blocks hold the real numbers the scan's
  arguments give, a trip stores the gradient at the chunk's positions and carries on the state gradient at its start.
-/
module

public import proofs.«01_k».proof.Proof.GroupIdeal
public import Idealize.ShloMosaic.Lib.Pipeline.ValueKit

@[expose] public section

set_option maxRecDepth 16384

noncomputable section

namespace Cert.Proof.KernelIdeal

open Cert.KernelIdeal Cert.KernelIdeal.Facts₀
open Cert.Proof.Ssd
open Idealize.ShloMosaic

/-- The sum of the decays of the chunk at `e` up to its position `s`. -/
def cum (a : ℕ → ℝ) (e s : ℕ) : ℝ := psum a (e + s + 1) - psum a e

/-- The row of a block that is position `s` of its chunk `q`. -/
abbrev row (q : Fin 4) (s : Fin 128) : Fin 512 := ⟨128 * q.val + s.val, by omega⟩

/-- What the operands' blocks hold at the block of positions that starts at `e`: of the decays `H` of each head, the
    step sizes `dt` of each head, the projections `bc`, the cotangents `dy` and `dx` and the gate's argument `yp`. -/
structure Holds (H : ℕ → ℕ → ℝ) (dt bc dy dx yp : ℕ → ℕ → ℝ) (e : ℕ)
    (X3 X4 : S1x512x1024.Idx → EReal) (X5 : S1x512x512.Idx → EReal) (X6 : S1x512x128.Idx → EReal)
    (X7 : S1x4x16x128.Idx → EReal) (X8 X10 X12 : S1x512x1024.Idx → EReal) : Prop where
  step : ∀ (q : Fin 4) (s : Fin 128) (p : Fin 1024), X3 (ix3 0 (row q s) p) = ((dt (e + 128 * q + s) (p / 64) : ℝ) : EReal)
  sum : ∀ (q : Fin 4) (s : Fin 128) (p : Fin 1024), X4 (ix3 0 (row q s) p) = ((cum (H (p / 64)) (e + 128 * q) s : ℝ) : EReal)
  proj : ∀ (q : Fin 4) (s : Fin 128) (n : Fin 512), X5 (ix3 0 (row q s) n) = ((bc (e + 128 * q + s) n : ℝ) : EReal)
  sumPad : ∀ (q : Fin 4) (s : Fin 128) (h : Fin 16),
    X6 (ix3 0 (row q s) ⟨16 + h.val, by omega⟩) = ((cum (H h) (e + 128 * q) s : ℝ) : EReal)
  sumRow : ∀ (q : Fin 4) (s : Fin 128) (h : Fin 16), X7 (ix4 0 q h s) = ((cum (H h) (e + 128 * q) s : ℝ) : EReal)
  cot : ∀ (q : Fin 4) (s : Fin 128) (p : Fin 1024), X8 (ix3 0 (row q s) p) = ((dy (e + 128 * q + s) p : ℝ) : EReal)
  gate : ∀ (q : Fin 4) (s : Fin 128) (p : Fin 1024), X10 (ix3 0 (row q s) p) = ((yp (e + 128 * q + s) p : ℝ) : EReal)
  skip : ∀ (q : Fin 4) (s : Fin 128) (p : Fin 1024), X12 (ix3 0 (row q s) p) = ((dx (e + 128 * q + s) p : ℝ) : EReal)

/-- A chunk's rows of a block, read at a row and a lane. -/
theorem ld_rows {N P : ℕ} (X : (⟨3, ![1, 512, N]⟩ : Shape).Idx → EReal) (o : Fin 3 → ℕ)
    (inb : ∀ a, o a + (⟨3, ![1, 128, P]⟩ : Shape).size a ≤ (⟨3, ![1, 512, N]⟩ : Shape).size a)
    (h : (⟨3, ![1, 128, P]⟩ : Shape).ShapeCasts ⟨2, ![128, P]⟩) (k : Fin 4) (c0 : ℕ)
    (ho : o = ![0, 384 - 128 * k.val, c0]) (s : Fin 128) (p : Fin P) (x : Fin N) (hx : x.val = c0 + p.val) :
    shapeCast ⟨2, ![128, P]⟩ (View.ld (Val := Elt Ideal) (e' := .f32) X
      (Rect.unit (s := ⟨3, ![1, 512, N]⟩) o (⟨3, ![1, 128, P]⟩ : Shape).size inb)) h (ix2 s p) = X (ix3 0 (row k.rev s) x) := by
  subst ho
  rw [shapeCast_dropUnit_apply]
  refine View.ld_unit_apply_of _ _ _ _ _ _ fun a => ?_
  fin_cases a
  · rfl
  · show 128 * k.rev.val + s.val = 384 - 128 * k.val + s.val
    rw [Fin.val_rev]; omega
  · exact hx

/-- A head's row of the transposed sums. -/
theorem ld_sumRow (X : S1x4x16x128.Idx → EReal) (o : Fin 4 → ℕ) (inb : ∀ a, o a + S1x1x1x128.size a ≤ S1x4x16x128.size a)
    (k : Fin 4) (h : Fin 16) (ho : o = ![0, 3 - k.val, h.val, 0]) (s : Fin 128) :
    View.ld (Val := Elt Ideal) (e' := .f32) X (Rect.unit (s := S1x4x16x128) o S1x1x1x128.size inb) (ix4 0 0 0 s)
      = X (ix4 0 k.rev h s) := by
  subst ho
  refine View.ld_unit_apply_of _ _ _ _ _ _ fun a => ?_
  fin_cases a
  · rfl
  · show k.rev.val = 3 - k.val + 0
    rw [Fin.val_rev]; omega
  · rfl
  · show s.val = 0 + s.val
    omega

section Chunk

variable {H : ℕ → ℕ → ℝ} {dt bc dy dx yp : ℕ → ℕ → ℝ} {e N : ℕ}
    {X3 X4 : S1x512x1024.Idx → EReal} {X5 : S1x512x512.Idx → EReal} {X6 : S1x512x128.Idx → EReal}
    {X7 : S1x4x16x128.Idx → EReal} {X8 X10 X12 : S1x512x1024.Idx → EReal}
    (hX : Holds H dt bc dy dx yp e X3 X4 X5 X6 X7 X8 X10 X12)

/-- The state gradient of group `g` before position `e`, at a state index and a lane of the group. -/
def groupState (H : ℕ → ℕ → ℝ) (bc dy : ℕ → ℕ → ℝ) (N g e : ℕ) (n : Fin 128) (p : ℕ) : ℝ :=
  stateGrad (H (8 * g + p / 64)) (fun l => dy l (512 * g + p)) (fun l n => bc l (256 + 128 * g + n)) N e n

/-- The gradient of the gate's argument at a position and a lane of group `g`. -/
def groupGrad (H : ℕ → ℕ → ℝ) (dt bc dy dx yp : ℕ → ℕ → ℝ) (N g s p : ℕ) : ℝ :=
  (grad (H (8 * g + p / 64)) (fun l => dy l (512 * g + p)) (fun l n => bc l (128 * g + n)) (fun l n => bc l (256 + 128 * g + n)) N s
    * dt s (8 * g + p / 64) + dx s (512 * g + p)) * dgate (yp s (512 * g + p))

include hX in
/-- The state gradient the first group carries on. -/
theorem dstVal0_real (k : Fin k0_t1_loop.trips) (k4 : Fin 4) (hk : k4.val = k.val) (he : e + 128 * k4.rev.val + 128 ≤ N)
    (dst : FVec Ideal S128x512 .f32)
    (hdst : ∀ (n : Fin 128) (p : Fin 512), dst (ix2 n p) = ((groupState H bc dy N 0 (e + 128 * k4.rev.val + 128) n p : ℝ) : EReal))
    (n : Fin 128) (p : Fin 512) :
    dstVal0 k X4 X5 X8 dst (ix2 n p) = ((groupState H bc dy N 0 (e + 128 * k4.rev.val) n p : ℝ) : EReal) := by
  have hal := fun (l : Fin 128) (p : Fin 512) => (ld_rows X4 (k0_off2 k) (k0_off2_inb k) shapeCasts_S1x128x512_S128x512 k4 0
    (by rw [hk]; exact Gen.k0_off2_eq k) l p ⟨p.val, by omega⟩ (by simp)).trans (hX.sum k4.rev l _)
  have hc := fun (l n : Fin 128) => (ld_rows X5 (k0_off4 k) (k0_off4_inb k) shapeCasts_S1x128x128_S128x128 k4 256
    (by rw [hk]; exact Gen.k0_off4_eq k) l n ⟨256 + n.val, by omega⟩ rfl).trans (hX.proj k4.rev l _)
  have hdy := fun (l : Fin 128) (p : Fin 512) => (ld_rows X8 (k0_off2 k) (k0_off2_inb k) shapeCasts_S1x128x512_S128x512 k4 0
    (by rw [hk]; exact Gen.k0_off2_eq k) l p ⟨p.val, by omega⟩ (by simp)).trans (hX.cot k4.rev l _)
  unfold dstVal0
  refine (grpDst_real _ _ _ dst (fun j l => cum (H j) (e + 128 * k4.rev.val) l)
    (fun l n => bc (e + 128 * k4.rev.val + l) (256 + n)) (fun l p => dy (e + 128 * k4.rev.val + l) p)
    (fun n p => groupState H bc dy N 0 (e + 128 * k4.rev.val + 128) n p) hal hc hdy hdst n p).trans ?_
  unfold groupState
  rw [stateGrad_step _ _ _ N (e + 128 * k4.rev.val) he]
  simp only [cum, Nat.mul_zero, Nat.zero_add, Nat.add_zero]

include hX in
/-- The state gradient the second group carries on. -/
theorem dstVal1_real (k : Fin k0_t1_loop.trips) (k4 : Fin 4) (hk : k4.val = k.val) (he : e + 128 * k4.rev.val + 128 ≤ N)
    (dst : FVec Ideal S128x512 .f32)
    (hdst : ∀ (n : Fin 128) (p : Fin 512), dst (ix2 n p) = ((groupState H bc dy N 1 (e + 128 * k4.rev.val + 128) n p : ℝ) : EReal))
    (n : Fin 128) (p : Fin 512) :
    dstVal1 k X4 X5 X8 dst (ix2 n p) = ((groupState H bc dy N 1 (e + 128 * k4.rev.val) n p : ℝ) : EReal) := by
  have e8 : ∀ p : Fin 512, (512 + p.val) / 64 = 8 + p.val / 64 := fun p => by omega
  have hal := fun (l : Fin 128) (p : Fin 512) => (ld_rows X4 (k0_off13 k) (k0_off13_inb k) shapeCasts_S1x128x512_S128x512 k4 512
    (by rw [hk]; exact Gen.k0_off13_eq k) l p ⟨512 + p.val, by omega⟩ rfl).trans (hX.sum k4.rev l _)
  have hc := fun (l n : Fin 128) => (ld_rows X5 (k0_off15 k) (k0_off15_inb k) shapeCasts_S1x128x128_S128x128 k4 384
    (by rw [hk]; exact Gen.k0_off15_eq k) l n ⟨384 + n.val, by omega⟩ rfl).trans (hX.proj k4.rev l _)
  have hdy := fun (l : Fin 128) (p : Fin 512) => (ld_rows X8 (k0_off13 k) (k0_off13_inb k) shapeCasts_S1x128x512_S128x512 k4 512
    (by rw [hk]; exact Gen.k0_off13_eq k) l p ⟨512 + p.val, by omega⟩ rfl).trans (hX.cot k4.rev l _)
  simp only [e8] at hal
  unfold dstVal1
  refine (grpDst_real _ _ _ dst (fun j l => cum (H (8 + j)) (e + 128 * k4.rev.val) l)
    (fun l n => bc (e + 128 * k4.rev.val + l) (384 + n)) (fun l p => dy (e + 128 * k4.rev.val + l) (512 + p))
    (fun n p => groupState H bc dy N 1 (e + 128 * k4.rev.val + 128) n p) hal hc hdy hdst n p).trans ?_
  unfold groupState
  rw [stateGrad_step _ _ _ N (e + 128 * k4.rev.val) he]
  simp only [cum, Nat.mul_one, Nat.reduceAdd]

include hX in
/-- What the first group stores. -/
theorem dxVal0_real (k : Fin k0_t1_loop.trips) (k4 : Fin 4) (hk : k4.val = k.val) (he : e + 128 * k4.rev.val + 128 ≤ N)
    (dst : FVec Ideal S128x512 .f32)
    (hdst : ∀ (n : Fin 128) (p : Fin 512), dst (ix2 n p) = ((groupState H bc dy N 0 (e + 128 * k4.rev.val + 128) n p : ℝ) : EReal))
    (s : Fin 128) (p : Fin 512) :
    dxVal0 Gen.k0_pay252 (iota .tc S128x128 32 [1] iota_S128x128_d1_w32) Gen.k0_pay254 k X3 X4 X5 X6 X7 X8 X10 X12 dst (ix3 0 s p)
      = ((groupGrad H dt bc dy dx yp N 0 (e + 128 * k4.rev.val + s) p : ℝ) : EReal) := by
  have h2 : ∀ (X : S1x512x1024.Idx → EReal) (l : Fin 128) (p : Fin 512), _ := fun X l p =>
    ld_rows X (k0_off2 k) (k0_off2_inb k) shapeCasts_S1x128x512_S128x512 k4 0
      (by rw [hk]; exact Gen.k0_off2_eq k) l p ⟨p.val, by omega⟩ (by simp)
  have hb := fun (l n : Fin 128) => (ld_rows X5 (k0_off3 k) (k0_off3_inb k) shapeCasts_S1x128x128_S128x128 k4 0
    (by rw [hk]; exact Gen.k0_off3_eq k) l n ⟨n.val, by omega⟩ (by simp)).trans (hX.proj k4.rev l _)
  have hc := fun (l n : Fin 128) => (ld_rows X5 (k0_off4 k) (k0_off4_inb k) shapeCasts_S1x128x128_S128x128 k4 256
    (by rw [hk]; exact Gen.k0_off4_eq k) l n ⟨256 + n.val, by omega⟩ rfl).trans (hX.proj k4.rev l _)
  have hacs := fun (l : Fin 128) (j : Fin 8) => (ld_rows X6 (k0_off1 k) (k0_off1_inb k) shapeCasts_S1x128x128_S128x128 k4 0
    (by rw [hk]; exact Gen.k0_off1_eq k) l ⟨16 + j.val, by omega⟩ ⟨16 + j.val, by omega⟩ (by simp)).trans (hX.sumPad k4.rev l ⟨j.val, by omega⟩)
  unfold dxVal0
  refine (grpDx_real 16 (by omega) _ v11_apply _ _ _ _ _ _ _ _ _ dst (fun j l => cum (H j) (e + 128 * k4.rev.val) l)
    (fun l n => bc (e + 128 * k4.rev.val + l) n) (fun l n => bc (e + 128 * k4.rev.val + l) (256 + n))
    (fun l p => dy (e + 128 * k4.rev.val + l) p) (fun n p => groupState H bc dy N 0 (e + 128 * k4.rev.val + 128) n p)
    (fun l p => dt (e + 128 * k4.rev.val + l) (p / 64)) (fun l p => dx (e + 128 * k4.rev.val + l) p)
    (fun l p => yp (e + 128 * k4.rev.val + l) p) hacs ?_
    (fun l p => (h2 X4 l p).trans (hX.sum k4.rev l _)) hb hc (fun l p => (h2 X8 l p).trans (hX.cot k4.rev l _))
    (fun l p => (h2 X3 l p).trans (hX.step k4.rev l _)) (fun l p => (h2 X12 l p).trans (hX.skip k4.rev l _))
    (fun l p => (h2 X10 l p).trans (hX.gate k4.rev l _)) hdst s p).trans ?_
  · intro j l
    have key : ∀ (h : Fin 16) (o) (inb), o = ![0, 3 - k4.val, h.val, 0] → _ := fun h o inb ho =>
      (ld_sumRow X7 o inb k4 h ho l).trans (hX.sumRow k4.rev l h)
    rw [hk] at key
    fin_cases j
    · exact key 0 _ _ (Gen.k0_off5_eq k)
    · exact key 1 _ _ (Gen.k0_off6_eq k)
    · exact key 2 _ _ (Gen.k0_off7_eq k)
    · exact key 3 _ _ (Gen.k0_off8_eq k)
    · exact key 4 _ _ (Gen.k0_off9_eq k)
    · exact key 5 _ _ (Gen.k0_off10_eq k)
    · exact key 6 _ _ (Gen.k0_off11_eq k)
    · exact key 7 _ _ (Gen.k0_off12_eq k)
  · unfold groupGrad groupState
    rw [grad_chunk _ _ _ _ N (e + 128 * k4.rev.val) s.val he s.isLt]
    simp only [cum, Nat.mul_zero, Nat.zero_add, Nat.add_zero]

include hX in
/-- What the second group stores. -/
theorem dxVal1_real (k : Fin k0_t1_loop.trips) (k4 : Fin 4) (hk : k4.val = k.val) (he : e + 128 * k4.rev.val + 128 ≤ N)
    (dst : FVec Ideal S128x512 .f32)
    (hdst : ∀ (n : Fin 128) (p : Fin 512), dst (ix2 n p) = ((groupState H bc dy N 1 (e + 128 * k4.rev.val + 128) n p : ℝ) : EReal))
    (s : Fin 128) (p : Fin 512) :
    dxVal1 Gen.k0_pay252 (iota .tc S128x128 32 [1] iota_S128x128_d1_w32) Gen.k0_pay254 k X3 X4 X5 X6 X7 X8 X10 X12 dst (ix3 0 s p)
      = ((groupGrad H dt bc dy dx yp N 1 (e + 128 * k4.rev.val + s) p : ℝ) : EReal) := by
  have e8 : ∀ p : Fin 512, (512 + p.val) / 64 = 8 + p.val / 64 := fun p => by omega
  have h2 : ∀ (X : S1x512x1024.Idx → EReal) (l : Fin 128) (p : Fin 512), _ := fun X l p =>
    ld_rows X (k0_off13 k) (k0_off13_inb k) shapeCasts_S1x128x512_S128x512 k4 512
      (by rw [hk]; exact Gen.k0_off13_eq k) l p ⟨512 + p.val, by omega⟩ rfl
  have hb := fun (l n : Fin 128) => (ld_rows X5 (k0_off14 k) (k0_off14_inb k) shapeCasts_S1x128x128_S128x128 k4 128
    (by rw [hk]; exact Gen.k0_off14_eq k) l n ⟨128 + n.val, by omega⟩ rfl).trans (hX.proj k4.rev l _)
  have hc := fun (l n : Fin 128) => (ld_rows X5 (k0_off15 k) (k0_off15_inb k) shapeCasts_S1x128x128_S128x128 k4 384
    (by rw [hk]; exact Gen.k0_off15_eq k) l n ⟨384 + n.val, by omega⟩ rfl).trans (hX.proj k4.rev l _)
  have hacs := fun (l : Fin 128) (j : Fin 8) => (ld_rows X6 (k0_off1 k) (k0_off1_inb k) shapeCasts_S1x128x128_S128x128 k4 0
    (by rw [hk]; exact Gen.k0_off1_eq k) l ⟨24 + j.val, by omega⟩ ⟨16 + (8 + j.val), by omega⟩ (by show 16 + (8 + j.val) = 0 + (24 + j.val); omega)).trans
      (hX.sumPad k4.rev l ⟨8 + j.val, by omega⟩)
  have hal := fun l p => (h2 X4 l p).trans (hX.sum k4.rev l _)
  have hdt := fun l p => (h2 X3 l p).trans (hX.step k4.rev l _)
  simp only [e8] at hal hdt
  unfold dxVal1
  refine (grpDx_real 24 (by omega) _ v11_apply _ _ _ _ _ _ _ _ _ dst (fun j l => cum (H (8 + j)) (e + 128 * k4.rev.val) l)
    (fun l n => bc (e + 128 * k4.rev.val + l) (128 + n)) (fun l n => bc (e + 128 * k4.rev.val + l) (384 + n))
    (fun l p => dy (e + 128 * k4.rev.val + l) (512 + p)) (fun n p => groupState H bc dy N 1 (e + 128 * k4.rev.val + 128) n p)
    (fun l p => dt (e + 128 * k4.rev.val + l) (8 + p / 64)) (fun l p => dx (e + 128 * k4.rev.val + l) (512 + p))
    (fun l p => yp (e + 128 * k4.rev.val + l) (512 + p)) hacs ?_
    hal hb hc (fun l p => (h2 X8 l p).trans (hX.cot k4.rev l _))
    hdt (fun l p => (h2 X12 l p).trans (hX.skip k4.rev l _))
    (fun l p => (h2 X10 l p).trans (hX.gate k4.rev l _)) hdst s p).trans ?_
  · intro j l
    have key : ∀ (h : Fin 16) (o) (inb), o = ![0, 3 - k4.val, h.val, 0] → _ := fun h o inb ho =>
      (ld_sumRow X7 o inb k4 h ho l).trans (hX.sumRow k4.rev l h)
    rw [hk] at key
    fin_cases j
    · exact key 8 _ _ (Gen.k0_off16_eq k)
    · exact key 9 _ _ (Gen.k0_off17_eq k)
    · exact key 10 _ _ (Gen.k0_off18_eq k)
    · exact key 11 _ _ (Gen.k0_off19_eq k)
    · exact key 12 _ _ (Gen.k0_off20_eq k)
    · exact key 13 _ _ (Gen.k0_off21_eq k)
    · exact key 14 _ _ (Gen.k0_off22_eq k)
    · exact key 15 _ _ (Gen.k0_off23_eq k)
  · unfold groupGrad groupState
    rw [grad_chunk _ _ _ _ N (e + 128 * k4.rev.val) s.val he s.isLt]
    simp only [cum, Nat.mul_one, Nat.reduceAdd]

end Chunk

end Cert.Proof.KernelIdeal

end
-- ==== Proof.HostReal.lean ====
/-
  The operands' arrays at the extended reals: of finite arguments, each holds the real numbers the scan's mathematics
  names.
-/
module

public import proofs.«01_k».proof.Proof.HostIdeal
public import proofs.«01_k».proof.Proof.BlockIdeal
public import Idealize.ShloMosaic.Lib.Pointwise

@[expose] public section

set_option maxRecDepth 16384

noncomputable section

namespace Cert.Proof.KernelIdeal

open Cert.KernelIdeal Cert.KernelIdeal.Facts₀
open Cert.Proof.Ssd
open Idealize.ShloMosaic

/-- The position of a sequence that is position `s` of its chunk `q`. -/
abbrev pos (q : Fin 16) (s : Fin 128) : Fin 2048 := ⟨128 * q.val + s.val, by omega⟩

theorem gated_apply {X0 : S4x2048x1536.Idx → EReal} (h0 : Finite X0) (b : Fin 4) (s : Fin 2048) (p : Fin 1536) :
    gated (F := Ideal) X0 (ix3 b s p) = ((silu (at3 X0 b s p) : ℝ) : EReal) := by
  pointwise [gated]
  rw [at3_eq h0, host_silu]

theorem proj_apply {X0 : S4x2048x1536.Idx → EReal} (h0 : Finite X0) (b : Fin 4) (s : Fin 2048) (n : Fin 512) :
    extractStridedSlice S4x2048x512 ![0, 0, 1024] (gated (F := Ideal) X0) slices_S4x2048x1536_S4x2048x512_0_0_1024 (ix3 b s n)
      = ((silu (at3 X0 b s (1024 + n)) : ℝ) : EReal) := by
  pointwise [gated]
  rw [at3_eq h0, host_silu]

section Sums

variable {X1 : S4x2048x16.Idx → EReal} {X2 : S16.Idx → EReal} (h1 : Finite X1) (h2 : Finite X2)

include h1 h2

theorem decays_apply (b : Fin 4) (q : Fin 16) (s : Fin 128) (h : Fin 16) :
    decays (F := Ideal) X1 X2 (ix4 b q s h) = ((decay X1 X2 b h (128 * q + s) : ℝ) : EReal) := by
  pointwise [decays]
  rw [at3_eq h1, at1_eq h2, ← EReal.coe_mul]
  unfold decay
  congr 3
  show q.val * 128 + s.val = 128 * q.val + s.val
  omega

theorem sums_apply (b : Fin 4) (q : Fin 16) (s : Fin 128) (h : Fin 16) :
    sums (F := Ideal) X1 X2 (ix4 b q s h) = ((cum (decay X1 X2 b h) (128 * q) s : ℝ) : EReal) := by
  unfold sums Host.reduceWindowAdd
  rw [Ideal.hostReduceWindowAdd_def,
    show (broadcastInDim S_ ![] bcast_S_S_ (constant (F := Ideal) S_ .f32 0x00000000#32) : FVec Ideal S_ .f32) (Shape.Idx.first h_S_) = 0 by
      pointwise]
  refine (cumsum_axis2 (by decide) _ (fun j => decay X1 X2 b h (128 * q + j)) b q h (fun i => decays_apply h1 h2 b q i h) _ s).trans ?_
  unfold cum
  rw [Nat.add_assoc, ← psum_chunk]
  rfl

theorem sumsT_apply (b : Fin 4) (q h : Fin 16) (s : Fin 128) :
    transpose S4x16x16x128 [0, 1, 3, 2] (sums (F := Ideal) X1 X2) transposes_S4x16x128x16_S4x16x16x128_0_1_3_2 (ix4 b q h s)
      = ((cum (decay X1 X2 b h) (128 * q) s : ℝ) : EReal) := by
  rw [← sums_apply h1 h2]
  generalize sums (F := Ideal) X1 X2 = v
  pointwise

theorem sumRows_apply (b : Fin 4) (q : Fin 16) (s : Fin 128) (h : Fin 16) :
    sumRows (F := Ideal) X1 X2 (ix3 b (pos q s) h) = ((cum (decay X1 X2 b h) (128 * q) s : ℝ) : EReal) := by
  rw [← sums_apply h1 h2]
  unfold sumRows
  generalize sums (F := Ideal) X1 X2 = v
  refine shapeCast_apply _ _ _ _ ?_
  rw [Shape.rowMajor_val_four, Shape.rowMajor_val_three]
  show ((b.val * 16 + q.val) * 128 + s.val) * 16 + h.val = (b.val * 2048 + (128 * q.val + s.val)) * 16 + h.val
  omega

theorem sumPad_apply (b : Fin 4) (q : Fin 16) (s : Fin 128) (h : Fin 16) :
    pad S4x2048x128 ![0, 0, 16] ![0, 0, 96] ![0, 0, 0] (sumRows (F := Ideal) X1 X2) (sitofp .f32 (constantI S_ 32 0#32))
      pads_S4x2048x16_S4x2048x128_000_000_16960 h_S_ (ix3 b (pos q s) ⟨16 + h.val, by omega⟩)
      = ((cum (decay X1 X2 b h) (128 * q) s : ℝ) : EReal) := by
  rw [← sumRows_apply h1 h2]
  generalize sumRows (F := Ideal) X1 X2 = v
  pointwise
  exact dif_pos (pos q s).isLt

end Sums

theorem spread_apply (X : FVec Ideal S4x2048x16 .f32) (b : Fin 4) (s : Fin 2048) (p : Fin 1024) :
    spread X (ix3 b s p) = X (ix3 b s ⟨p.val / 64, by omega⟩) := by
  pointwise [spread]

end Cert.Proof.KernelIdeal

end
-- ==== Proof.WindowIdeal.lean ====
/-
  The block of positions a grid point works on, and what the operands' blocks hold there: the blocks of a sequence run
  from its last to its first.
-/
module

public import proofs.«01_k».proof.Proof.HostReal
public import Idealize.ShloMosaic.Lib.Pipeline.ValueKit

@[expose] public section

set_option maxRecDepth 16384

noncomputable section

namespace Cert.Proof.KernelIdeal

open Cert.KernelIdeal Cert.KernelIdeal.Facts₀
open Cert.Proof.Ssd
open Idealize.ShloMosaic Idealize.ShloMosaic.TcCoe Idealize.ShloMosaic.Tactic
open Idealize.ShloMosaic.Pipeline (Dat Cfg Window)

/-- The sequence of a point. -/
def seqOf (t : Fin cfg0.N) : Fin 4 := ⟨t.val / 4, by have : t.val < 16 := t.isLt; omega⟩

/-- The block of positions of a point. -/
def blkOf (t : Fin cfg0.N) : Fin 4 := ⟨3 - t.val % 4, by omega⟩

/-- The row `r` of the block of point `t`, in its sequence. -/
abbrev rowOf (t : Fin cfg0.N) (r : Fin 512) : Fin 2048 := ⟨512 * (blkOf t).val + r.val, by omega⟩

theorem idx1 : ∀ t : Fin cfg0.N, win0_1.index t = ![(seqOf t).val, (blkOf t).val, 0] := by decide +kernel
theorem idx2 : ∀ t : Fin cfg0.N, win0_2.index t = ![(seqOf t).val, (blkOf t).val, 0] := by decide +kernel
theorem idx3 : ∀ t : Fin cfg0.N, win0_3.index t = ![(seqOf t).val, (blkOf t).val, 0] := by decide +kernel
theorem idx4 : ∀ t : Fin cfg0.N, win0_4.index t = ![(seqOf t).val, (blkOf t).val, 0] := by decide +kernel
theorem idx5 : ∀ t : Fin cfg0.N, win0_5.index t = ![(seqOf t).val, (blkOf t).val, 0, 0] := by decide +kernel
theorem idx6 : ∀ t : Fin cfg0.N, win0_6.index t = ![(seqOf t).val, (blkOf t).val, 0] := by decide +kernel
theorem idx8 : ∀ t : Fin cfg0.N, win0_8.index t = ![(seqOf t).val, (blkOf t).val, 0] := by decide +kernel
theorem idx10 : ∀ t : Fin cfg0.N, win0_10.index t = ![(seqOf t).val, (blkOf t).val, 0] := by decide +kernel
theorem idx11 : ∀ t : Fin cfg0.N, win0_11.index t = ![(seqOf t).val, (blkOf t).val, 0] := by decide +kernel

section Reads

variable {F : FTy → Type} [FloatOps F] [Named F] (m : (ℓ : Loc nD τ sig) → Buf (Elt F) ℓ) (c : Dev nD) (t : Fin cfg0.N)

theorem read1 (r : Fin 512) (p : Fin 1024) : Gen.iblk m c 1 t (ix3 0 r p) = Gen.V m c main_v46 (ix3 (seqOf t) (rowOf t r) p) := by
  blk_ext [Gen.iblk, idx1 t]
theorem read2 (r : Fin 512) (p : Fin 1024) : Gen.iblk m c 2 t (ix3 0 r p) = Gen.V m c main_v48 (ix3 (seqOf t) (rowOf t r) p) := by
  blk_ext [Gen.iblk, idx2 t]
theorem read3 (r : Fin 512) (p : Fin 512) : Gen.iblk m c 3 t (ix3 0 r p) = Gen.V m c main_v2 (ix3 (seqOf t) (rowOf t r) p) := by
  blk_ext [Gen.iblk, idx3 t]
theorem read4 (r : Fin 512) (p : Fin 128) : Gen.iblk m c 4 t (ix3 0 r p) = Gen.V m c main_v49 (ix3 (seqOf t) (rowOf t r) p) := by
  blk_ext [Gen.iblk, idx4 t]
theorem read5 (q : Fin 4) (h : Fin 16) (s : Fin 128) :
    Gen.iblk m c 5 t (ix4 0 q h s) = Gen.V m c main_v8 (ix4 (seqOf t) ⟨4 * (blkOf t).val + q.val, by omega⟩ h s) := by
  blk_ext [Gen.iblk, idx5 t]
theorem read6 (r : Fin 512) (p : Fin 1024) : Gen.iblk m c 6 t (ix3 0 r p) = Gen.V m c main_arg3 (ix3 (seqOf t) (rowOf t r) p) := by
  blk_ext [Gen.iblk, idx6 t]
theorem read8 (r : Fin 512) (p : Fin 1024) : Gen.X0_8 m c t (ix3 0 r p) = Gen.V m c main_arg0 (ix3 (seqOf t) (rowOf t r) ⟨p.val, by omega⟩) := by
  unfold Gen.X0_8 Pipeline.Window.fill
  rw [dif_pos (Gen.moved0_8 t _)]
  blk_ext [Gen.iblk, idx8 t]
theorem read10 (r : Fin 512) (p : Fin 1024) : Gen.iblk m c 10 t (ix3 0 r p) = Gen.V m c main_arg4 (ix3 (seqOf t) (rowOf t r) p) := by
  blk_ext [Gen.iblk, idx10 t]

end Reads

end Cert.Proof.KernelIdeal

end
-- ==== Proof.ValueIdeal.lean ====
/-
  The launch at the extended reals: of finite arguments the scratch holds, between two chunks, the gradient of the state
  there, and every point stores its block of the gradient of the gate's argument.
-/
module

public import proofs.«01_k».proof.Proof.PointIdeal
public import proofs.«01_k».proof.Proof.WindowIdeal

@[expose] public section

set_option maxRecDepth 16384

noncomputable section

namespace Cert.Proof.KernelIdeal

open Cert.KernelIdeal Cert.KernelIdeal.Facts₀
open Cert.Proof.Ssd
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

section Point

variable (t : Fin cfg0.N) {H : ℕ → ℕ → ℝ} {dt bc dy dx yp : ℕ → ℕ → ℝ} {e N : ℕ}
  (hX : Holds H dt bc dy dx yp e (Gen.iblk m c 1 t) (Gen.iblk m c 2 t) (Gen.iblk m c 3 t) (Gen.iblk m c 4 t)
    (Gen.iblk m c 5 t) (Gen.iblk m c 6 t) (Gen.X0_8 m c t) (Gen.iblk m c 10 t))
  (he : e + 512 ≤ N)

include hX he

/-- The first group's half of the scratch between the chunks of a block. -/
theorem half0_real (h : ∀ (n : Fin 128) (p : Fin 512), half0 c (scrAt m c t 0) (ix2 n p) = ((groupState H bc dy N 0 (e + 512) n p : ℝ) : EReal))
    (k : ℕ) (hk : k ≤ 4) (n : Fin 128) (p : Fin 512) :
    half0 c (scrAt m c t k) (ix2 n p) = ((groupState H bc dy N 0 (e + 512 - 128 * k) n p : ℝ) : EReal) := by
  induction k generalizing n p with
  | zero => exact h n p
  | succ k ih =>
    have hr : ((⟨k, hk⟩ : Fin 4).rev).val = 3 - k := by rw [Fin.val_rev]; simp only; omega
    rw [scrAt_half0 m c t ⟨k, hk⟩, dstVal0_real (N := N) hX ⟨k, hk⟩ ⟨k, hk⟩ rfl (by omega) _ (fun n p => by
      rw [ih (by omega) n p, hr, show e + 512 - 128 * k = e + 128 * (3 - k) + 128 by omega]) n p, hr,
      show e + 512 - 128 * (k + 1) = e + 128 * (3 - k) by omega]

/-- The second group's half of the scratch between the chunks of a block. -/
theorem half1_real (h : ∀ (n : Fin 128) (p : Fin 512), half1 c (scrAt m c t 0) (ix2 n p) = ((groupState H bc dy N 1 (e + 512) n p : ℝ) : EReal))
    (k : ℕ) (hk : k ≤ 4) (n : Fin 128) (p : Fin 512) :
    half1 c (scrAt m c t k) (ix2 n p) = ((groupState H bc dy N 1 (e + 512 - 128 * k) n p : ℝ) : EReal) := by
  induction k generalizing n p with
  | zero => exact h n p
  | succ k ih =>
    have hr : ((⟨k, hk⟩ : Fin 4).rev).val = 3 - k := by rw [Fin.val_rev]; simp only; omega
    rw [scrAt_half1 m c t ⟨k, hk⟩, dstVal1_real (N := N) hX ⟨k, hk⟩ ⟨k, hk⟩ rfl (by omega) _ (fun n p => by
      rw [ih (by omega) n p, hr, show e + 512 - 128 * k = e + 128 * (3 - k) + 128 by omega]) n p, hr,
      show e + 512 - 128 * (k + 1) = e + 128 * (3 - k) by omega]

/-- The block of the gradient at a row and a lane of the first group. -/
theorem dxOut0_real (h : ∀ (n : Fin 128) (p : Fin 512), half0 c (scrAt m c t 0) (ix2 n p) = ((groupState H bc dy N 0 (e + 512) n p : ℝ) : EReal))
    (q : Fin 4) (s : Fin 128) (p : Fin 512) :
    dxOut m c t (ix3 0 (row q s) ⟨p.val, by omega⟩) = ((groupGrad H dt bc dy dx yp N 0 (e + 128 * q.val + s) p : ℝ) : EReal) := by
  have hr : q.rev.val = 3 - q.val := by rw [Fin.val_rev]; omega
  rw [dxOut_half0 m c t ⟨q.rev.val, q.rev.isLt⟩ (ix3 0 s p) _
      (by show 128 * q.val + s.val = (3 - q.rev.val) * 128 + s.val; omega) rfl,
    dxVal0_real (N := N) hX ⟨q.rev.val, q.rev.isLt⟩ q.rev rfl (by rw [Fin.rev_rev]; omega) _ (fun n p => by
      rw [half0_real m c t hX he h q.rev.val (by omega) n p, Fin.rev_rev, hr,
        show e + 512 - 128 * (3 - q.val) = e + 128 * q.val + 128 by omega]) s p, Fin.rev_rev]

/-- The block of the gradient at a row and a lane of the second group. -/
theorem dxOut1_real (h : ∀ (n : Fin 128) (p : Fin 512), half1 c (scrAt m c t 0) (ix2 n p) = ((groupState H bc dy N 1 (e + 512) n p : ℝ) : EReal))
    (q : Fin 4) (s : Fin 128) (p : Fin 512) :
    dxOut m c t (ix3 0 (row q s) ⟨512 + p.val, by omega⟩) = ((groupGrad H dt bc dy dx yp N 1 (e + 128 * q.val + s) p : ℝ) : EReal) := by
  have hr : q.rev.val = 3 - q.val := by rw [Fin.val_rev]; omega
  rw [dxOut_half1 m c t ⟨q.rev.val, q.rev.isLt⟩ (ix3 0 s p) _
      (by show 128 * q.val + s.val = (3 - q.rev.val) * 128 + s.val; omega) rfl,
    dxVal1_real (N := N) hX ⟨q.rev.val, q.rev.isLt⟩ q.rev rfl (by rw [Fin.rev_rev]; omega) _ (fun n p => by
      rw [half1_real m c t hX he h q.rev.val (by omega) n p, Fin.rev_rev, hr,
        show e + 512 - 128 * (3 - q.val) = e + 128 * q.val + 128 by omega]) s p, Fin.rev_rev]

end Point

/-- The arguments as functions of the initial memory. -/
abbrev a0 : S4x2048x1536.Idx → EReal := m ((c : Thread nD τ).loc main_arg0)
abbrev a1 : S4x2048x16.Idx → EReal := m ((c : Thread nD τ).loc main_arg1)
abbrev a2 : S16.Idx → EReal := m ((c : Thread nD τ).loc main_arg2)
abbrev a3 : S4x2048x1024.Idx → EReal := m ((c : Thread nD τ).loc main_arg3)
abbrev a4 : S4x2048x1024.Idx → EReal := m ((c : Thread nD τ).loc main_arg4)

/-- The decays of each head of a sequence, at each position. -/
abbrev hd (b : ℕ) : ℕ → ℕ → ℝ := fun h => decay (a1 m c) (a2 m c) b h
/-- The projections of a sequence, at each position. -/
abbrev pj (b : ℕ) : ℕ → ℕ → ℝ := fun j n => silu (at3 (a0 m c) b j (1024 + n))
/-- The output cotangents of a sequence, at each position. -/
abbrev ct (b : ℕ) : ℕ → ℕ → ℝ := fun j p => at3 (a3 m c) b j p

section Launch

variable (h0 : Finite (a0 m c)) (h1 : Finite (a1 m c)) (h2 : Finite (a2 m c)) (h3 : Finite (a3 m c)) (h4 : Finite (a4 m c))
include h0 h1 h2 h3 h4

/-- What the operands' blocks hold at a point. -/
theorem holds_at (t : Fin cfg0.N) : Holds (hd m c (seqOf t)) (fun j h => at3 (a1 m c) (seqOf t) j h) (pj m c (seqOf t))
    (ct m c (seqOf t)) (fun j p => at3 (a4 m c) (seqOf t) j p) (fun j p => at3 (a0 m c) (seqOf t) j p) (512 * (blkOf t).val)
    (Gen.iblk m c 1 t) (Gen.iblk m c 2 t) (Gen.iblk m c 3 t) (Gen.iblk m c 4 t)
    (Gen.iblk m c 5 t) (Gen.iblk m c 6 t) (Gen.X0_8 m c t) (Gen.iblk m c 10 t) := by
  have hr : ∀ (q : Fin 4) (s : Fin 128), rowOf t (row q s) = pos ⟨4 * (blkOf t).val + q.val, by omega⟩ s := fun q s =>
    Fin.ext (by show 512 * (blkOf t).val + (128 * q.val + s.val) = 128 * (4 * (blkOf t).val + q.val) + s.val; omega)
  have hv : ∀ (q : Fin 4) (s : Fin 128), (rowOf t (row q s)).val = 512 * (blkOf t).val + 128 * q.val + s.val := fun q s =>
    (Nat.add_assoc _ _ _).symm
  have hq : ∀ q : Fin 4, 128 * (4 * (blkOf t).val + q.val) = 512 * (blkOf t).val + 128 * q.val := fun q => by omega
  constructor
  · intro q s p
    rw [read1, V_v46, spread_apply, ← hv]
    exact at3_eq h1 _ _ _
  · intro q s p
    rw [read2, V_v48, spread_apply, hr, sumRows_apply h1 h2, hq]
  · intro q s n
    rw [read3, V_v2, proj_apply h0, hv]
  · intro q s h
    rw [read4, V_v49, hr, sumPad_apply h1 h2, hq]
  · intro q s h
    rw [read5, V_v8, sumsT_apply h1 h2, hq]
  · intro q s p
    rw [read6, Gen.V_main_arg3, ← hv]
    exact at3_eq h3 _ _ _
  · intro q s p
    rw [read8, Gen.V_main_arg0, ← hv]
    exact at3_eq h0 _ _ _
  · intro q s p
    rw [read10, Gen.V_main_arg4, ← hv]
    exact at3_eq h4 _ _ _

/-- The scratch when a point starts. -/
theorem start_real (i : ℕ) (hi : i < cfg0.N) (n : Fin 128) (p : Fin 512) :
    half0 c (scrAt m c ⟨i, hi⟩ 0) (ix2 n p) = ((groupState (hd m c (seqOf ⟨i, hi⟩)) (pj m c (seqOf ⟨i, hi⟩)) (ct m c (seqOf ⟨i, hi⟩))
        2048 0 (512 * (blkOf ⟨i, hi⟩).val + 512) n p : ℝ) : EReal)
      ∧ half1 c (scrAt m c ⟨i, hi⟩ 0) (ix2 n p) = ((groupState (hd m c (seqOf ⟨i, hi⟩)) (pj m c (seqOf ⟨i, hi⟩)) (ct m c (seqOf ⟨i, hi⟩))
        2048 1 (512 * (blkOf ⟨i, hi⟩).val + 512) n p : ℝ) : EReal) := by
  induction i generalizing n p with
  | zero =>
    obtain ⟨z0, z1⟩ := entry_zero m c ⟨0, hi⟩ rfl (ix2 n p)
    rw [z0, z1]
    have e : 512 * (blkOf ⟨0, hi⟩).val + 512 = 2048 := rfl
    unfold groupState
    rw [e, stateGrad_end, stateGrad_end]
    exact ⟨Idealize.ShloMosaic.Ideal.ofBits_zero_f32, Idealize.ShloMosaic.Ideal.ofBits_zero_f32⟩
  | succ i ih =>
    by_cases hm : (i + 1) % 4 = 0
    · obtain ⟨z0, z1⟩ := entry_zero m c ⟨i + 1, hi⟩ hm (ix2 n p)
      rw [z0, z1]
      have e : 512 * (blkOf ⟨i + 1, hi⟩).val + 512 = 2048 := by
        show 512 * (3 - (i + 1) % 4) + 512 = 2048
        omega
      unfold groupState
      rw [e, stateGrad_end, stateGrad_end]
      exact ⟨Idealize.ShloMosaic.Ideal.ofBits_zero_f32, Idealize.ShloMosaic.Ideal.ofBits_zero_f32⟩
    · have hi' : i < cfg0.N := Nat.lt_of_succ_lt hi
      have es : seqOf ⟨i + 1, hi⟩ = seqOf ⟨i, hi'⟩ := Fin.ext (by show (i + 1) / 4 = i / 4; omega)
      have eb : 512 * (blkOf ⟨i + 1, hi⟩).val + 512 = 512 * (blkOf ⟨i, hi'⟩).val + 512 - 128 * 4 := by
        show 512 * (3 - (i + 1) % 4) + 512 = 512 * (3 - i % 4) + 512 - 128 * 4
        omega
      have hx := holds_at m c h0 h1 h2 h3 h4 ⟨i, hi'⟩
      have hb : 512 * (blkOf ⟨i, hi'⟩).val + 512 ≤ 2048 := by omega
      rw [entry_carry m c ⟨i + 1, hi⟩ hm, show D m c (i + 1) = scrAt m c ⟨i, hi'⟩ 4 from D_point m c ⟨i, hi'⟩, es, eb]
      exact ⟨half0_real m c _ hx hb (fun n p => (ih hi' n p).1) 4 le_rfl n p, half1_real m c _ hx hb (fun n p => (ih hi' n p).2) 4 le_rfl n p⟩

/-- What a point stores: the gradient at its rows. -/
theorem dxOut_real (t : Fin cfg0.N) (r : Fin 512) (p : Fin 1024) : dxOut m c t (ix3 0 r p)
    = ((gradX (a0 m c) (a1 m c) (a2 m c) (a3 m c) (a4 m c) (seqOf t) (rowOf t r) p : ℝ) : EReal) := by
  have hx := holds_at m c h0 h1 h2 h3 h4 t
  have hb : 512 * (blkOf t).val + 512 ≤ 2048 := by omega
  obtain ⟨q, s, rfl⟩ : ∃ (q : Fin 4) (s : Fin 128), r = row q s :=
    ⟨⟨r.val / 128, by omega⟩, ⟨r.val % 128, by omega⟩, Fin.ext (by show r.val = 128 * (r.val / 128) + r.val % 128; omega)⟩
  have hv : (rowOf t (row q s)).val = 512 * (blkOf t).val + 128 * q.val + s.val := (Nat.add_assoc _ _ _).symm
  rw [hv]
  by_cases hp : p.val < 512
  · refine (dxOut0_real m c t hx hb (fun n p => (start_real m c h0 h1 h2 h3 h4 t.val t.isLt n p).1) q s ⟨p.val, hp⟩).trans ?_
    unfold groupGrad gradX projB projC
    simp only [Nat.mul_zero, Nat.zero_add, Nat.div_eq_of_lt hp, ← Nat.add_assoc, Nat.add_zero, pj, Nat.reduceAdd]
  · obtain ⟨p', hp'⟩ : ∃ p' : Fin 512, p.val = 512 + p'.val := ⟨⟨p.val - 512, by omega⟩, by show p.val = 512 + (p.val - 512); omega⟩
    have e : p = ⟨512 + p'.val, by omega⟩ := Fin.ext hp'
    rw [e]
    refine (dxOut1_real m c t hx hb (fun n p => (start_real m c h0 h1 h2 h3 h4 t.val t.isLt n p).2) q s p').trans ?_
    unfold groupGrad gradX projB projC
    have e1 : (512 + p'.val) / 512 = 1 := by omega
    have e2 : (512 + p'.val) / 64 = 8 + p'.val / 64 := by omega
    simp only [e1, e2, Nat.mul_one, ← Nat.add_assoc, pj, Nat.reduceAdd]

end Launch

end Cert.Proof.KernelIdeal

end
-- ==== Proof.RefIdeal.lean ====
/-
  The reference read entry by entry over the reals: with every argument finite, it writes the gradient of `Spec`.
-/
module

public import proofs.«01_k».proof.Proof.Spec
public import proofs.«01_k».proof.Proof.Gen.ReferenceIdeal.Read
public import Idealize.ShloMosaic.Lib.Pointwise
public import Idealize.ShloMosaic.Lib.WordCmp

@[expose] public section

set_option maxRecDepth 16384

noncomputable section

namespace Cert.Proof.ReferenceIdeal

open Cert.ReferenceIdeal Cert.ReferenceIdeal.Read
open Cert.Proof.Ssd
open Idealize.ShloMosaic

variable {X0 : FVec Ideal S4x2048x1536 .f32} {X1 : FVec Ideal S4x2048x16 .f32} {X2 : FVec Ideal S16 .f32} {X3 X4 : FVec Ideal S4x2048x1024 .f32}
variable (h0 : Finite X0) (h1 : Finite X1) (h2 : Finite X2) (h3 : Finite X3) (h4 : Finite X4)

include h0 in
theorem sigm_apply (b : Fin 4) (s : Fin 2048) (c : Fin 1024) :
    val_main_v1_2 (F := Ideal) X0 (ix3 b s c) = ((sigm (at3 X0 b s c) : ℝ) : EReal) := by
  pointwise [val_main_v1_2, val_main_call0_v4, val_main_call0_v3, val_main_call0_v2, val_main_call0_v1, val_main_call0_v0, val_main_v0,
    val_main_call0_cst, val_main_call0_cst_0]
  rw [at3_eq h0, host_sigm]

include h0 in
theorem projB_apply (b : Fin 4) (s : Fin 2048) (g : Fin 2) (n : Fin 128) :
    val_main_v6 (F := Ideal) X0 (ix4 b s g n) = ((projB X0 b g s n : ℝ) : EReal) := by
  pointwise [val_main_v6, val_main_v5, val_main_v4, val_main_call1_v5, val_main_call1_v4, val_main_call1_v3, val_main_call1_v2,
    val_main_call1_v1, val_main_call1_v0, val_main_v3, val_main_call1_cst, val_main_call1_cst_0]
  rw [at3_eq h0, host_silu]
  unfold projB
  congr 3
  show 1024 + (g.val * 128 + n.val) = 1024 + 128 * g.val + n.val
  omega

include h0 in
theorem projC_apply (b : Fin 4) (s : Fin 2048) (g : Fin 2) (n : Fin 128) :
    val_main_v8 (F := Ideal) X0 (ix4 b s g n) = ((projC X0 b g s n : ℝ) : EReal) := by
  pointwise [val_main_v8, val_main_v7, val_main_v4, val_main_call1_v5, val_main_call1_v4, val_main_call1_v3, val_main_call1_v2,
    val_main_call1_v1, val_main_call1_v0, val_main_v3, val_main_call1_cst, val_main_call1_cst_0]
  rw [at3_eq h0, host_silu]
  unfold projC
  congr 3
  show 1024 + (256 + (g.val * 128 + n.val)) = 1280 + 128 * g.val + n.val
  omega

include h1 h2 in
theorem decay_apply (b : Fin 4) (g : Fin 2) (h : Fin 8) (s : Fin 2048) :
    val_main_v19 (F := Ideal) X1 X2 (ix4 b g h s) = ((decay X1 X2 b (g * 8 + h) s : ℝ) : EReal) := by
  pointwise [val_main_v19, val_main_v16, val_main_v15, val_main_v14, val_main_v10, val_main_v9]
  rw [at3_eq h1, at1_eq h2, ← EReal.coe_mul]
  rfl

include h1 h2 in
theorem cum_apply (b : Fin 4) (g : Fin 2) (h : Fin 8) (s : Fin 2048) :
    val_main_v20 (F := Ideal) X1 X2 (ix4 b g h s) = ((psum (decay X1 X2 b (g * 8 + h)) (s + 1) : ℝ) : EReal) := by
  unfold val_main_v20 Host.reduceWindowAdd
  rw [Ideal.hostReduceWindowAdd_def,
    show val_main_call3_call0_v0 (F := Ideal) (Shape.Idx.first Gen.h_S_) = 0 by
      pointwise [val_main_call3_call0_v0, val_main_call3_call0_cst]]
  exact cumsum_axis3 (by decide) _ _ b g h (fun i => decay_apply h1 h2 b g h i) _ s

include h1 h2 in
theorem factor_apply (b : Fin 4) (g : Fin 2) (h : Fin 8) (l s : Fin 2048) :
    val_main_v27 (F := Ideal) X1 X2 (ix5 b g h l s)
      = ((if s.val ≤ l.val then Real.exp (psum (decay X1 X2 b (g * 8 + h)) (l + 1) - psum (decay X1 X2 b (g * 8 + h)) (s + 1)) else 0 : ℝ) : EReal) := by
  pointwise [val_main_v27, val_main_v26, val_main_call4_v2, val_main_call4_v1, val_main_call4_v0, val_main_cst, val_main_v25,
    val_main_v24, val_main_v23, val_main_v22, val_main_v21, val_main_v18, val_main_call2_v5, val_main_call2_c_0, val_main_call2_v4,
    val_main_call2_v3, val_main_call2_v2, val_main_call2_v1, val_main_call2_c, val_main_call2_v0, val_main_v17, val_main_c]
  have hl := l.isLt
  have hs := s.isLt
  rw [cum_apply h1 h2, cum_apply h1 h2, ← EReal.coe_sub, show IntOp.addi (BitVec.ofNat 32 l.val) 0#32 = BitVec.ofNat 32 l.val from BitVec.add_zero _,
    WordCmp.cmpi_sge_ofNat (by norm_num; omega) (by norm_num; omega), select_ofBool]
  by_cases hsl : s.val ≤ l.val
  · rw [decide_eq_true hsl, if_pos rfl, if_pos hsl, show (1#1 : BitVec 1) = BitVec.ofBool true from rfl, select_ofBool, if_pos rfl, Ideal.exp_coe]
  · rw [decide_eq_false hsl, if_neg Bool.false_ne_true, if_neg hsl, show (0#1 : BitVec 1) = BitVec.ofBool false from rfl, select_ofBool,
      if_neg Bool.false_ne_true, show (id (constant (F := Ideal) S_ FTy.f32 4286578688#32) ix0 : Ideal .f32) = (⊥ : EReal) by
        show Ideal.ofBits .f32 4286578688#32 = ⊥
        simp [Ideal.ofBits, Ideal.ieee], Ideal.exp_bot, EReal.coe_zero]

include h0 h1 h2 h3 h4 in
/-- The gradient before the gate. -/
theorem inner_apply (b : Fin 4) (s : Fin 2048) (p : Fin 1024) :
    val_main_v44 (F := Ideal) X0 X1 X2 X3 X4 (ix3 b s p)
      = ((at3 X4 b s p + grad (decay X1 X2 b (p / 64)) (fun l => at3 X3 b l p) (projB X0 b (p / 512)) (projC X0 b (p / 512)) 2048 s
          * at3 X1 b s (p / 64) : ℝ) : EReal) := by
  have hp := p.isLt
  have hv : ∀ l : Fin 2048, val_main_v31 (F := Ideal) X0 X1 X2 (ix5 b ⟨p.val / 512, by omega⟩ ⟨p.val / 64 % 8, by omega⟩ l s)
      = (((∑ n, projC X0 b (p / 512) l n * projB X0 b (p / 512) s n)
        * (if s.val ≤ l.val then Real.exp (psum (decay X1 X2 b (p / 64)) (l + 1) - psum (decay X1 X2 b (p / 64)) (s + 1)) else 0) : ℝ) : EReal) := fun l => by
    pointwise [val_main_v31, val_main_v30, val_main_v29, val_main_v28]
    simp only [projB_apply h0, projC_apply h0, factor_apply h1 h2, ← EReal.coe_mul, coe_sum]
    rw [show p.val / 512 * 8 + p.val / 64 % 8 = p.val / 64 by omega]
  pointwise [val_main_v44, val_main_v43, val_main_v42, val_main_v41, val_main_v40, val_main_v39, val_main_v38, val_main_v37, val_main_v36,
    val_main_v11, val_main_v9]
  simp only [hv, at3_eq h3, at3_eq h4, at3_eq h1, ← EReal.coe_mul, coe_sum, ← EReal.coe_add]
  rw [show p.val / 512 * 8 + p.val / 64 % 8 = p.val / 64 by omega]
  unfold grad
  rw [← Fin.sum_univ_eq_sum_range (fun l => at3 X3 b l p * ((∑ n, projC X0 b (p / 512) l n * projB X0 b (p / 512) s n)
        * (if s.val ≤ l then Real.exp (psum (decay X1 X2 b (p / 64)) (l + 1) - psum (decay X1 X2 b (p / 64)) (s + 1)) else 0))) 2048]

include h0 h1 h2 h3 h4 in
/-- The reference's result, entry by entry. -/
theorem result_apply (b : Fin 4) (s : Fin 2048) (p : Fin 1024) :
    val_main_v45 (F := Ideal) X0 X1 X2 X3 X4 (ix3 b s p) = ((gradX X0 X1 X2 X3 X4 b s p : ℝ) : EReal) := by
  pointwise [val_main_v45, val_main_call5_v2, val_main_call5_v1, val_main_call5_v0, val_main_v1_1, val_main_call0_v7, val_main_call0_v6,
    val_main_call0_cst_1, val_main_v0]
  rw [inner_apply h0 h1 h2 h3 h4, sigm_apply h0, at3_eq h0, ← EReal.coe_one]
  simp only [← EReal.coe_mul, ← EReal.coe_add, ← EReal.coe_sub]
  congr 1
  unfold gradX dgate
  ring

end Cert.Proof.ReferenceIdeal

end
-- ==== Proof.FrameIdeal.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.LaunchIdeal

@[expose] public section

set_option maxRecDepth 65536

noncomputable section

namespace Cert.Proof.KernelIdeal

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (Piece)
open Idealize.ShloMosaic.Pipeline (Dat RDat Cfg Window BodyObligation BodyObligationLoose)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

theorem intoΦ (c : Dev nD) : Pipeline.ΦA spec0 c ⊢ ((dats m 0 c).Φ 0 : sProp 𝕄) := by
  rw [show (dats m 0 c).Φ 0 = Φ m c 0 from rfl]
  unfold Pipeline.ΦA Φ
  rw [Gen.scopedRest0_eq]
  iintro ⟨⟨%f, Hf⟩, HR⟩
  isplitl [Hf]
  · iexists f
    isplitr; · ipureintro; exact fun h => absurd h (Nat.lt_irrefl 0)
    rw [scr_own]
    iexact Hf
  iexact HR

theorem outOfΦ (c : Dev nD) : ((dats m 0 c).Φ (Fin.last cfg0.N) : sProp 𝕄) ⊢ Pipeline.ΦA spec0 c := by
  rw [show (dats m 0 c).Φ (Fin.last cfg0.N) = Φ m c cfg0.N from rfl]
  unfold Pipeline.ΦA Φ
  rw [Gen.scopedRest0_eq]
  simp only [scr_own]
  iintro ⟨⟨%f, -, Hf⟩, HR⟩
  isplitl [Hf]
  · iexists f; iexact Hf
  iexact HR

/-- What the launch leaves: every array of a window at what its windows wrote, the others as the launch found
    them, every counter at zero. -/
theorem run_main : θ_run defs (onTc (τ := τ) (main (F := F))) ⟨m, fun _ => 0, ρ⟩
    (fun r => RDat.FramePost cfg0 (fun c => (dats m 0 c).toRForget fgt) (Gen.V m) r ∧ r.2.sem = fun _ => 0) :=
  Pipeline.θ_run_frame_track_forget_shared cfgs (dats m) 0 Gen.launch₀0 defs₀ 𝒱₀ fgt m ρ main
    (hbody := fun c => (body_obligation m c).loose)
    (hq := fun _ _ _ => rfl) (howed := fun _ _ => rfl) (V := Gen.V m) (hmain := Gen.hmain m 𝒱₀) (hA := fun _ _ => rfl)
    (hin := intoΦ m) (hout := outOfΦ m)
    (Q' := fun r => RDat.FramePost cfg0 (fun c => (dats m 0 c).toRForget fgt) (Gen.V m) r ∧ r.2.sem = fun _ => 0)
    (hQ' := fun _ h => h)

set_option maxHeartbeats 4000000 in
/-- The launch leaves the arguments as they were, every counter at zero, and the gradient of `x` at the blocks the
    points stored. -/
theorem run_values : θ_run defs (onTc (τ := τ) (main (F := F))) ⟨m, fun _ => 0, ρ⟩ (fun r => (∀ c : Dev nD,
      r.2.mem ((c.tc : Thread nD τ).loc main_v50_0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨((dats m 0 c).toRForget_arrAt_iff (w := 11) (fgt := fgt) rfl _ _).mp ((h.1 c).1 11),
      (RDat.FramePost.arr_in h.1 c 9 rfl).trans (Gen.V_main_arg0 m c),
      ((h.1 c).2 main_arg1 (Pipeline.mem_restRefs_of main_arg1 (by decide) (by decide))).trans (Gen.V_main_arg1 m c),
      ((h.1 c).2 main_arg2 (Pipeline.mem_restRefs_of main_arg2 (by decide) (by decide))).trans (Gen.V_main_arg2 m c),
      (RDat.FramePost.arr_in h.1 c 6 rfl).trans (Gen.V_main_arg3 m c),
      (RDat.FramePost.arr_in h.1 c 10 rfl).trans (Gen.V_main_arg4 m c)⟩, h.2⟩) (run_main m ρ)

end Cert.Proof.KernelIdeal

end
-- ==== Proof.ArrayIdeal.lean ====
/-
  The array after the launch at the extended reals: of finite arguments it is the reference's result.
-/
module

public import proofs.«01_k».proof.Proof.ValueIdeal
public import proofs.«01_k».proof.Proof.RefIdeal
public import proofs.«01_k».proof.Proof.FrameIdeal

@[expose] public section

set_option maxRecDepth 16384

noncomputable section

namespace Cert.Proof.KernelIdeal

open Cert.KernelIdeal Cert.KernelIdeal.Facts₀
open Cert.Proof.Ssd
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)
  (h0 : Finite (a0 m c)) (h1 : Finite (a1 m c)) (h2 : Finite (a2 m c)) (h3 : Finite (a3 m c)) (h4 : Finite (a4 m c))

include h0 h1 h2 h3 h4

/-- The gradient of the gate's argument, whole. -/
theorem arr_real : (dats m 0 c).arrAt 11 cfg0.N
    = Cert.ReferenceIdeal.Read.val_main_v45 (F := Ideal) (a0 m c) (a1 m c) (a2 m c) (a3 m c) (a4 m c) := by
  refine (dats m 0 c).arrAt_eq_of_covers 11 _ (by decide +kernel) fun t hf y => ?_
  blk_simp
  rw [after_11]
  obtain ⟨r, p, rfl⟩ : ∃ (r : Fin 512) (p : Fin 1024), y = ix3 (0 : Fin 1) r p := by
    refine ⟨y 1, y 2, funext fun a => ?_⟩
    fin_cases a
    · exact Subsingleton.elim (α := Fin 1) _ _
    · rfl
    · rfl
  have hy : ((cfg0.win 11).blk t).view.emb (ix3 (0 : Fin 1) r p) = ix3 (seqOf t) (rowOf t r) p := by
    blk_ext [idx11 t]
  refine (dxOut_real m c h0 h1 h2 h3 h4 t r p).trans ?_
  refine (Cert.Proof.ReferenceIdeal.result_apply h0 h1 h2 h3 h4 (seqOf t) (rowOf t r) p).symm.trans ?_
  exact congrArg _ hy.symm

end Cert.Proof.KernelIdeal

end
-- ==== Proof.FinitePre.lean ====
/-
  The precondition read at the extended reals: every entry of every argument is a real number.
-/
module

public import proofs.«01_k».proof.Pre_finite
public import proofs.«01_k».proof.Proof.Spec
public import Idealize.ShloMosaic.Lib.ReduceAll
public import Idealize.ShloMosaic.Lib.Affine
public import Idealize.ShloMosaic.Lib.Decide

@[expose] public section

noncomputable section

namespace Cert.Pre_finite

open Cert.Proof.Ssd
open Idealize.ShloMosaic

instance facts : Facts where
  bcast_S_S4x2048x1536 := by decide
  reducesTo_S4x2048x1536_S_d0_1_2 := by decide
  h_S_ := by decide
  bcast_S_S4x2048x16 := by decide
  reducesTo_S4x2048x16_S_d0_1_2 := by decide
  bcast_S_S16 := by decide
  reducesTo_S16_S_d0 := by decide
  bcast_S_S4x2048x1024 := by decide
  reducesTo_S4x2048x1024_S_d0_1_2 := by decide

instance : Subsingleton S_.Idx := ⟨fun a b => funext fun i => i.elim0⟩

/-- An array whose entries' absolute values are all below infinity holds real numbers. -/
theorem finite_of_all {s : Shape} {axes : List (Fin s.rank)} (X : FVec Ideal s .f32) (hb : S_.BroadcastsInDim s (![] : Fin 0 → Fin s.rank))
    (h : s.ReducesTo axes S_) (j : S_.Idx)
    (e : Host.reduce IntOp.andi (cmpf .olt (Host.absf X) (broadcastInDim s ![] hb (constant (F := Ideal) S_ .f32 0x7F800000#32)))
      (constantI S_ 1 1#1) h Facts.h_S_ j = 1#1) : Finite X := by
  intro i
  have hi := Host.reduce_andi_all _ _ h Facts.h_S_ j e i
  have hinf : Ideal.ofBits FTy.f32 0x7F800000#32 = ⊤ := by simp [Ideal.ofBits, Ideal.ieee]
  have hc : Ideal.cmp .olt (max (X i) (-(X i))) ⊤ = 1#1 := by
    rw [← hinf]; exact hi
  have hlt : max (X i) (-(X i)) < ⊤ := by
    by_contra hn
    have : Ideal.cmp .olt (max (X i) (-(X i))) ⊤ = 0#1 := by
      show BitVec.ofBool (decide _) = 0#1
      rw [decide_eq_false hn]; rfl
    rw [this] at hc
    exact absurd hc (by decide)
  constructor
  · intro ht
    rw [ht] at hlt
    exact absurd (le_max_left _ _) (not_le.mpr hlt)
  · intro hbot
    rw [hbot, EReal.neg_bot] at hlt
    exact absurd (le_max_right _ _) (not_le.mpr hlt)

/-- The precondition, argument by argument. -/
theorem finite_args (X0 : FVec Ideal S4x2048x1536 .f32) (X1 : FVec Ideal S4x2048x16 .f32) (X2 : FVec Ideal S16 .f32)
    (X3 X4 : FVec Ideal S4x2048x1024 .f32) (h : fn (F := Ideal) X0 X1 X2 X3 X4 = fun _ => 1#1) :
    Finite X0 ∧ Finite X1 ∧ Finite X2 ∧ Finite X3 ∧ Finite X4 := by
  obtain ⟨h', h4⟩ := IntOp.andi_eq_one.mp (congrFun h ix0)
  obtain ⟨h', h3⟩ := IntOp.andi_eq_one.mp h'
  obtain ⟨h', h2⟩ := IntOp.andi_eq_one.mp h'
  obtain ⟨h0, h1⟩ := IntOp.andi_eq_one.mp h'
  exact ⟨finite_of_all _ _ _ _ h0, finite_of_all _ _ _ _ h1, finite_of_all _ _ _ _ h2, finite_of_all _ _ _ _ h3,
    finite_of_all _ _ _ _ h4⟩

end Cert.Pre_finite

end
-- ==== Proof.MidCases.lean ====
/-
  What the body leaves, case by case: the product's block after each half of the columns, and after the second half the
  four results' blocks, as the generated payloads of the blocks the point works on.
-/
module

public import proofs.«01_k».proof.Proof.Gen.Kernel2Ideal.Frame
public import Idealize.ShloMosaic.Lib.Pipeline.Value
public import Idealize.ShloMosaic.Lib.Tactic

@[expose] public section

set_option maxRecDepth 65536

noncomputable section

namespace Cert.Proof.Kernel2Ideal

open Cert.Kernel2Ideal Cert.Kernel2Ideal.Gen
open Idealize.ShloMosaic Idealize.ShloMosaic.TcCoe

variable {F : FTy → Type} [FloatOps F]

theorem hz : (![0, 0] : Fin 2 → Nat) = fun _ => 0 := funext fun a => by fin_cases a <;> rfl

variable (c : Dev nD) (i : grid0.Coords) (arg2 : Memref sig .tc .vmem S512x2816 .bf16) (harg2 : arg2.IsWhole) (arg3 : Memref sig .tc .vmem S1024x2816 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole)

/-- The first point clears the first sum. -/
theorem out0_A_9_eq (hc0 : cond0_0 i) (hc1 : cond0_1 i) (hc2 : ¬cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) :
    out0_A_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 = k0_pay1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  rw [View.canon_unit_zero (S := S1x1024) hz]

/-- The first point clears the second sum. -/
theorem out0_A_10_eq (hc0 : cond0_0 i) (hc1 : cond0_1 i) (hc2 : ¬cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) :
    out0_A_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 = k0_pay2 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  rw [View.canon_unit_zero (S := S1x1024) hz]

/-- The first half of the columns' product, at the first point. -/
theorem sout0_A_0_eq (hc0 : cond0_0 i) (hc1 : cond0_1 i) (hc2 : ¬cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 = k0_pay4 k0_pay3 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  rw [View.canon_cons_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz,
    View.ld_unit_zero (S := S1x1024) hz, View.ld_unit_zero (S := S512x2816) hz, View.ld_unit_zero (S := S1024x2816) hz]

/-- The first half of the columns' product. -/
theorem sout0_C_0_eq (hc0 : ¬cond0_0 i) (hc1 : cond0_1 i) (hc2 : ¬cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) :
    sout0_C_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 = k0_pay4 k0_pay3 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_C
  dsimp only
  sl_unfold_words
  rw [View.canon_cons_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz,
    View.ld_unit_zero (S := S1x1024) hz, View.ld_unit_zero (S := S512x2816) hz, View.ld_unit_zero (S := S1024x2816) hz]

/-- The gradient of the middle activation. -/
theorem out0_B_7_eq (hc0 : ¬cond0_0 i) (hc1 : ¬cond0_1 i) (hc2 : cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) (xo9 : Vec F S1x1024 .f32) (xo10 : Vec F S1x1024 .f32) (xs0 : Vec F S512x1024 .f32) :
    out0_B_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0 = k0_pay13 (k0_pay4 xs0 x0 x1) x2 x4 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0)]
  unfold kernelRun0_B
  dsimp only
  sl_unfold_words
  rw [View.canon_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz,
    View.ld_unit_zero (S := S1x1024) hz, View.ld_unit_zero (S := S512x2816) hz, View.ld_unit_zero (S := S1024x2816) hz]

/-- The gradient of the mixer's output. -/
theorem out0_B_8_eq (hc0 : ¬cond0_0 i) (hc1 : ¬cond0_1 i) (hc2 : cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) (xo9 : Vec F S1x1024 .f32) (xo10 : Vec F S1x1024 .f32) (xs0 : Vec F S512x1024 .f32) :
    out0_B_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0 = k0_pay8 (k0_pay13 (k0_pay4 xs0 x0 x1) x2 x4 x6) x3 x5 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0)]
  unfold kernelRun0_B
  dsimp only
  sl_unfold_words
  rw [View.canon_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz,
    View.ld_unit_zero (S := S1x1024) hz, View.ld_unit_zero (S := S512x2816) hz, View.ld_unit_zero (S := S1024x2816) hz]

/-- The first norm's weight's gradient, the block's rows added. -/
theorem out0_B_9_eq (hc0 : ¬cond0_0 i) (hc1 : ¬cond0_1 i) (hc2 : cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) (xo9 : Vec F S1x1024 .f32) (xo10 : Vec F S1x1024 .f32) (xs0 : Vec F S512x1024 .f32) :
    out0_B_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0 = k0_pay7 (k0_pay13 (k0_pay4 xs0 x0 x1) x2 x4 x6) x3 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0)]
  unfold kernelRun0_B
  dsimp only
  sl_unfold_words
  rw [View.canon_unit_zero (S := S1x1024) hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz,
    View.ld_unit_zero (S := S1x1024) hz, View.ld_unit_zero (S := S512x2816) hz, View.ld_unit_zero (S := S1024x2816) hz]

/-- The second norm's weight's gradient, the block's rows added. -/
theorem out0_B_10_eq (hc0 : ¬cond0_0 i) (hc1 : ¬cond0_1 i) (hc2 : cond0_2 i)
    (x0 : Vec F S512x2816 .bf16) (x1 : Vec F S1024x2816 .bf16) (x2 : Vec F S512x1024 .f32) (x3 : Vec F S512x1024 .f32) (x4 : Vec F S512x1024 .f32) (x5 : Vec F S1x1024 .f32) (x6 : Vec F S1x1024 .f32) (xo9 : Vec F S1x1024 .f32) (xo10 : Vec F S1x1024 .f32) (xs0 : Vec F S512x1024 .f32) :
    out0_B_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0 = k0_pay12 (k0_pay4 xs0 x0 x1) x2 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo9 xo10 xs0)]
  unfold kernelRun0_B
  dsimp only
  sl_unfold_words
  rw [View.canon_unit_zero (S := S1x1024) hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz,
    View.ld_unit_zero (S := S1x1024) hz, View.ld_unit_zero (S := S512x2816) hz, View.ld_unit_zero (S := S1024x2816) hz]

end Cert.Proof.Kernel2Ideal

end
-- ==== Proof.MidReal.lean ====
/-
  Over the reals: the gradient of a row divided by its root mean square, in the form the kernel computes and in the
  form differentiation gives, and the constants both programs write.
-/
module

public import proofs.«01_k».proof.Proof.Spec

@[expose] public section

noncomputable section

namespace Cert.Proof.Mid

open Idealize.ShloMosaic

/-- The small number added to a row's mean square: the 32-bit number nearest to one millionth. -/
def eps : ℝ := 8796093 * (2 : ℝ) ^ (-43 : ℤ)

theorem eps_pos : 0 < eps := by unfold eps; positivity

theorem eps_eq : Ideal.ofBits FTy.f32 0x358637BD#32 = ((eps : ℝ) : EReal) := by
  simp [Ideal.ofBits, Ideal.ieee, eps, -EReal.coe_mul]

theorem inv_eq : Ideal.ofBits FTy.f32 0x3A800000#32 = ((1 / 1024 : ℝ) : EReal) := by
  simp [Ideal.ofBits, Ideal.ieee, -EReal.coe_mul]; norm_num

theorem count_eq : Ideal.ofBits FTy.f32 0x44800000#32 = ((1024 : ℝ) : EReal) := by
  simp [Ideal.ofBits, Ideal.ieee, -EReal.coe_mul]; norm_num

theorem half_eq : Ideal.ofBits FTy.f32 0xBF000000#32 = ((-(1 / 2) : ℝ) : EReal) := by
  simp [Ideal.ofBits, Ideal.ieee, -EReal.coe_mul]; norm_num

/-- A row's mean square, with the small number. -/
def msq (x : Fin 1024 → ℝ) : ℝ := (∑ j, x j * x j) * (1 / 1024) + eps

theorem msq_pos (x : Fin 1024 → ℝ) : 0 < msq x := by
  have h : 0 ≤ ∑ j, x j * x j := Finset.sum_nonneg fun j _ => mul_self_nonneg _
  have := eps_pos
  unfold msq
  positivity

/-- One over a row's root mean square. -/
def rr (x : Fin 1024 → ℝ) : ℝ := (Real.sqrt (msq x))⁻¹

theorem rsqrt_msq (x : Fin 1024 → ℝ) : Ideal.rsqrt ((msq x : ℝ) : EReal) = ((rr x : ℝ) : EReal) := by
  have h := msq_pos x
  rw [Ideal.rsqrt_coe, if_neg (not_lt.mpr h.le), if_neg h.ne']
  rfl

theorem rr_sq (x : Fin 1024 → ℝ) : rr x * (1 / msq x) = rr x * rr x * rr x := by
  have h := msq_pos x
  have hs : Real.sqrt (msq x) * Real.sqrt (msq x) = msq x := Real.mul_self_sqrt h.le
  have hr : rr x * rr x = 1 / msq x := by
    unfold rr
    rw [← mul_inv, hs, one_div]
  rw [← hr, mul_assoc]

/-- A row divided by its root mean square. -/
def nrm (x : Fin 1024 → ℝ) (d : Fin 1024) : ℝ := x d * rr x

/-- The gradient to a row of `nrm`, of the gradient `g` of its result. -/
def back (x g : Fin 1024 → ℝ) (d : Fin 1024) : ℝ := rr x * (g d - nrm x d * ((∑ j, g j * nrm x j) * (1 / 1024)))

/-- What differentiation leaves as the coefficient of a row's own entries, half of it. -/
def coef (x g : Fin 1024 → ℝ) : ℝ := (∑ j, x j * g j) * (-(1 / 2) * (rr x * (1 / msq x))) * (1 / 1024)

/-- The two forms agree. -/
theorem back_eq (x g : Fin 1024 → ℝ) (d : Fin 1024) : g d * rr x + x d * coef x g + coef x g * x d = back x g d := by
  have hs : ∑ j, g j * nrm x j = (∑ j, x j * g j) * rr x := by
    rw [Finset.sum_mul]
    exact Finset.sum_congr rfl fun j _ => by unfold nrm; ring
  unfold back coef
  rw [hs, rr_sq]
  unfold nrm
  ring

/-- The real entries of a matrix, zero outside. -/
def at2 {A B : ℕ} (X : (⟨2, ![A, B]⟩ : Shape).Idx → EReal) (a : ℕ) (b : ℕ) : ℝ :=
  if h : a < A ∧ b < B then (X (ix2 ⟨a, h.1⟩ ⟨b, h.2⟩)).toReal else 0

theorem at2_eq {A B : ℕ} {X : (⟨2, ![A, B]⟩ : Shape).Idx → EReal} (hX : Ssd.Finite X) (a : Fin A) (b : Fin B) :
    X (ix2 a b) = ((at2 X a b : ℝ) : EReal) := by
  unfold at2
  rw [dif_pos ⟨a.isLt, b.isLt⟩]
  exact (EReal.coe_toReal (hX _).1 (hX _).2).symm

/-- Row `a` of a matrix of 1024 columns. -/
abbrev row {A : ℕ} (X : (⟨2, ![A, 1024]⟩ : Shape).Idx → EReal) (a : ℕ) : Fin 1024 → ℝ := fun d => at2 X a d

section Step

variable (mix x : (⟨2, ![8192, 1024]⟩ : Shape).Idx → EReal) (pmw pfw : (⟨2, ![1, 1024]⟩ : Shape).Idx → EReal)
  (wup : (⟨2, ![1024, 5632]⟩ : Shape).Idx → EReal) (dy : (⟨2, ![8192, 1024]⟩ : Shape).Idx → EReal) (du : (⟨2, ![8192, 5632]⟩ : Shape).Idx → EReal)

/-- The middle activation, row by row. -/
def mid (t : ℕ) : Fin 1024 → ℝ := fun d => row x t d + nrm (row mix t) d * row pmw 0 d

/-- The gradient of the second norm's result: the product with the transposed weight. -/
def dup (t : ℕ) : Fin 1024 → ℝ := fun d => ∑ k ∈ Finset.range 5632, at2 du t k * at2 wup d k

/-- The gradient of the middle activation. -/
def dmid (t : ℕ) : Fin 1024 → ℝ := fun d => row dy t d + back (mid mix x pmw t) (fun j => dup wup du t j * row pfw 0 j) d

/-- The gradient of the mixer's output. -/
def dmix (t : ℕ) : Fin 1024 → ℝ := back (row mix t) (fun j => dmid mix x pmw pfw wup dy du t j * row pmw 0 j)

/-- The second norm's weight's gradient over the first `n` rows. -/
def dpf (n : ℕ) (d : Fin 1024) : ℝ := ∑ t ∈ Finset.range n, dup wup du t d * nrm (mid mix x pmw t) d

/-- The first norm's weight's gradient over the first `n` rows. -/
def dpm (n : ℕ) (d : Fin 1024) : ℝ := ∑ t ∈ Finset.range n, dmid mix x pmw pfw wup dy du t d * nrm (row mix t) d

end Step

end Cert.Proof.Mid

end
-- ==== Proof.MidBlock.lean ====
/-
  The second call's body over the reals: what each payload leaves of blocks holding real numbers.
-/
module

public import proofs.«01_k».proof.Proof.MidReal
public import proofs.«01_k».proof.Proof.Gen.Kernel2Ideal.Skeleton
public import Idealize.ShloMosaic.Lib.Pointwise

@[expose] public section

set_option maxRecDepth 16384

noncomputable section

namespace Cert.Proof.Kernel2Ideal

open Cert.Kernel2Ideal Cert.Kernel2Ideal.Gen
open Cert.Proof.Mid Cert.Proof.Ssd
open Idealize.ShloMosaic

theorem zero1_apply (d : Fin 1024) : k0_pay1 (F := Ideal) (ix2 0 d) = ((0 : ℝ) : EReal) := by
  pointwise [k0_pay1]
  exact EReal.coe_zero.symm

theorem zero2_apply (d : Fin 1024) : k0_pay2 (F := Ideal) (ix2 0 d) = ((0 : ℝ) : EReal) := by
  pointwise [k0_pay2]
  exact EReal.coe_zero.symm

theorem zero3_apply (r : Fin 512) (d : Fin 1024) : k0_pay3 (F := Ideal) (ix2 r d) = ((0 : ℝ) : EReal) := by
  pointwise [k0_pay3]
  exact EReal.coe_zero.symm

/-- A step of the product: the columns' part of the sum added. -/
theorem prod_apply {A : FVec Ideal S512x1024 .f32} {D : FVec Ideal S512x2816 .bf16} {W : FVec Ideal S1024x2816 .bf16}
    {a : Fin 512 → Fin 1024 → ℝ} {p : Fin 512 → Fin 2816 → ℝ} {w : Fin 1024 → Fin 2816 → ℝ}
    (hA : ∀ r d, A (ix2 r d) = ((a r d : ℝ) : EReal)) (hD : ∀ r k, D (ix2 r k) = ((p r k : ℝ) : EReal)) (hW : ∀ d k, W (ix2 d k) = ((w d k : ℝ) : EReal))
    (r : Fin 512) (d : Fin 1024) : k0_pay4 (F := Ideal) A D W (ix2 r d) = ((a r d + ∑ k, p r k * w d k : ℝ) : EReal) := by
  pointwise [k0_pay4]
  simp only [hA, hD, hW, ← EReal.coe_mul, coe_sum, ← EReal.coe_add]

section Norms

variable {G X Y : FVec Ideal S512x1024 .f32} {W acc : FVec Ideal S1x1024 .f32} {g x y : Fin 512 → Fin 1024 → ℝ} {w z : Fin 1024 → ℝ}
variable (hG : ∀ r d, G (ix2 r d) = ((g r d : ℝ) : EReal)) (hX : ∀ r d, X (ix2 r d) = ((x r d : ℝ) : EReal))
  (hY : ∀ r d, Y (ix2 r d) = ((y r d : ℝ) : EReal)) (hW : ∀ d, W (ix2 0 d) = ((w d : ℝ) : EReal)) (hz : ∀ d, acc (ix2 0 d) = ((z d : ℝ) : EReal))

include hX in
theorem rr10_apply (r : Fin 512) : k0_pay10 (F := Ideal) X (ix2 r 0) = ((rr (x r) : ℝ) : EReal) := by
  pointwise [k0_pay10, k0_pay9]
  simp only [hX, ← EReal.coe_mul, coe_sum, inv_eq, eps_eq, ← EReal.coe_add]
  exact rsqrt_msq (x r)

include hX in
theorem nrm11_apply (r : Fin 512) (d : Fin 1024) : k0_pay11 (F := Ideal) X (ix2 r d) = ((nrm (x r) d : ℝ) : EReal) := by
  unfold k0_pay11 k0_pay9
  pointwise
  rw [rr10_apply hX, hX, ← EReal.coe_mul]
  rfl

include hX in
theorem rr5_apply (r : Fin 512) : k0_pay5 (F := Ideal) X (ix2 r 0) = ((rr (x r) : ℝ) : EReal) := by
  pointwise [k0_pay5]
  simp only [hX, ← EReal.coe_mul, coe_sum, inv_eq, eps_eq, ← EReal.coe_add]
  exact rsqrt_msq (x r)

include hX in
theorem nrm6_apply (r : Fin 512) (d : Fin 1024) : k0_pay6 (F := Ideal) X (ix2 r d) = ((nrm (x r) d : ℝ) : EReal) := by
  unfold k0_pay6
  pointwise
  rw [rr5_apply hX, hX, ← EReal.coe_mul]
  rfl

include hG hX hz in
/-- The second norm's weight's gradient, a block of rows added. -/
theorem dpf12_apply (d : Fin 1024) : k0_pay12 (F := Ideal) G X acc (ix2 0 d) = ((z d + ∑ r, g r d * nrm (x r) d : ℝ) : EReal) := by
  unfold k0_pay12
  pointwise
  simp only [nrm11_apply hX, hG, hz, ← EReal.coe_mul, coe_sum, ← EReal.coe_add]

include hG hX hz in
/-- The first norm's weight's gradient, a block of rows added. -/
theorem dpm7_apply (d : Fin 1024) : k0_pay7 (F := Ideal) G X acc (ix2 0 d) = ((z d + ∑ r, g r d * nrm (x r) d : ℝ) : EReal) := by
  unfold k0_pay7
  pointwise
  simp only [nrm6_apply hX, hG, hz, ← EReal.coe_mul, coe_sum, ← EReal.coe_add]

include hG hX hY hW in
/-- The gradient of the middle activation. -/
theorem dmid13_apply (r : Fin 512) (d : Fin 1024) :
    k0_pay13 (F := Ideal) G X Y W (ix2 r d) = ((y r d + back (x r) (fun j => g r j * w j) d : ℝ) : EReal) := by
  unfold k0_pay13
  pointwise
  simp only [nrm11_apply hX, rr10_apply hX, hG, hY, hW, inv_eq, ← EReal.coe_mul, coe_sum, ← EReal.coe_sub, ← EReal.coe_add]
  rfl

include hG hX hW in
/-- The gradient of the mixer's output. -/
theorem dmix8_apply (r : Fin 512) (d : Fin 1024) : k0_pay8 (F := Ideal) G X W (ix2 r d) = ((back (x r) (fun j => g r j * w j) d : ℝ) : EReal) := by
  unfold k0_pay8
  pointwise
  simp only [nrm6_apply hX, rr5_apply hX, hG, hW, inv_eq, ← EReal.coe_mul, coe_sum, ← EReal.coe_sub, ← EReal.coe_add]
  rfl

end Norms

end Cert.Proof.Kernel2Ideal

end
-- ==== Proof.MidHost.lean ====
/-
  What the operations before the second call leave in its operands' arrays, and what the operands' blocks hold at a
  grid point: of finite arguments, real numbers.
-/
module

public import proofs.«01_k».proof.Proof.MidReal
public import proofs.«01_k».proof.Proof.Gen.Kernel2Ideal.Frame
public import Idealize.ShloMosaic.Lib.StableHlo.Run
public import Idealize.ShloMosaic.Lib.Pointwise
public import Idealize.ShloMosaic.Lib.Pipeline.ValueKit

@[expose] public section

set_option maxRecDepth 65536

noncomputable section

namespace Cert.Proof.Kernel2Ideal

open Cert.Kernel2Ideal Cert.Kernel2Ideal.Facts₀
open Cert.Proof.Mid Cert.Proof.Ssd
open Idealize.ShloMosaic Idealize.ShloMosaic.TcCoe Idealize.ShloMosaic.Tactic
open Idealize.ShloMosaic.Pipeline (Dat Cfg Window)

section Terms

variable {F : FTy → Type} [FloatOps F] [Named F]

/-- The middle activation, as the operations before the call compute it. -/
def midT (X0 X1 : FVec F S8192x1024 .f32) (X2 : FVec F S1x1024 .f32) : FVec F S8192x1024 .f32 :=
  addf X1 (mulf (mulf X0 (broadcastInDim S8192x1024 ![0, 1] bcast_S8192x1_S8192x1024_0_1
    (Host.rsqrt (addf (Host.divf (broadcastInDim S8192x1 ![0] bcast_S8192_S8192x1_0
      (Host.reduceAdd (mulf X0 X0) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 X2))

variable (m : (ℓ : Loc nD τ sig) → Buf (Elt F) ℓ) (c : Dev nD)

set_option maxHeartbeats 4000000 in
theorem V_v12 : Gen.V m c main_v12 = midT (m ((c : Thread nD τ).loc main_arg0)) (m ((c : Thread nD τ).loc main_arg1)) (m ((c : Thread nD τ).loc main_arg2)) := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_v13 : Gen.V m c main_v13 = truncf .bf16 (m ((c : Thread nD τ).loc main_arg6) : FVec F S8192x5632 .f32) bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_v14 : Gen.V m c main_v14 = truncf .bf16 (m ((c : Thread nD τ).loc main_arg4) : FVec F S1024x5632 .f32) bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The block of rows a point works on. -/
def rowBlk (t : Fin cfg0.N) : Fin 16 := ⟨t.val / 2, by have : t.val < 32 := t.isLt; omega⟩

/-- The half of the columns a point adds. -/
def colBlk (t : Fin cfg0.N) : Fin 2 := ⟨t.val % 2, by omega⟩

abbrev rowAt (t : Fin cfg0.N) (r : Fin 512) : Fin 8192 := ⟨512 * (rowBlk t).val + r.val, by omega⟩
abbrev colAt (t : Fin cfg0.N) (k : Fin 2816) : Fin 5632 := ⟨2816 * (colBlk t).val + k.val, by omega⟩

theorem idx0 : ∀ t : Fin cfg0.N, win0_0.index t = ![(rowBlk t).val, (colBlk t).val] := by decide +kernel
theorem idx1 : ∀ t : Fin cfg0.N, win0_1.index t = ![0, (colBlk t).val] := by decide +kernel
theorem idx2 : ∀ t : Fin cfg0.N, win0_2.index t = ![(rowBlk t).val, 0] := by decide +kernel
theorem idx3 : ∀ t : Fin cfg0.N, win0_3.index t = ![(rowBlk t).val, 0] := by decide +kernel
theorem idx4 : ∀ t : Fin cfg0.N, win0_4.index t = ![(rowBlk t).val, 0] := by decide +kernel
theorem idx5 : ∀ t : Fin cfg0.N, win0_5.index t = ![0, 0] := by decide +kernel
theorem idx6 : ∀ t : Fin cfg0.N, win0_6.index t = ![0, 0] := by decide +kernel

variable (t : Fin cfg0.N)

theorem read0 (r : Fin 512) (k : Fin 2816) : Gen.iblk m c 0 t (ix2 r k) = Gen.V m c main_v13 (ix2 (rowAt t r) (colAt t k)) := by
  blk_ext [Gen.iblk, idx0 t]
theorem read1 (d : Fin 1024) (k : Fin 2816) : Gen.iblk m c 1 t (ix2 d k) = Gen.V m c main_v14 (ix2 d (colAt t k)) := by
  blk_ext [Gen.iblk, idx1 t]
theorem read2 (r : Fin 512) (d : Fin 1024) : Gen.iblk m c 2 t (ix2 r d) = Gen.V m c main_v12 (ix2 (rowAt t r) d) := by
  blk_ext [Gen.iblk, idx2 t]
theorem read3 (r : Fin 512) (d : Fin 1024) : Gen.iblk m c 3 t (ix2 r d) = Gen.V m c main_arg0 (ix2 (rowAt t r) d) := by
  blk_ext [Gen.iblk, idx3 t]
theorem read4 (r : Fin 512) (d : Fin 1024) : Gen.iblk m c 4 t (ix2 r d) = Gen.V m c main_arg5 (ix2 (rowAt t r) d) := by
  blk_ext [Gen.iblk, idx4 t]
theorem read5 (d : Fin 1024) : Gen.iblk m c 5 t (ix2 0 d) = Gen.V m c main_arg2 (ix2 0 d) := by
  blk_ext [Gen.iblk, idx5 t]
theorem read6 (d : Fin 1024) : Gen.iblk m c 6 t (ix2 0 d) = Gen.V m c main_arg3 (ix2 0 d) := by
  blk_ext [Gen.iblk, idx6 t]

end Terms

section Real

theorem midT_apply {X0 X1 : FVec Ideal S8192x1024 .f32} {X2 : FVec Ideal S1x1024 .f32} (h0 : Finite X0) (h1 : Finite X1) (h2 : Finite X2)
    (t : Fin 8192) (d : Fin 1024) : midT (F := Ideal) X0 X1 X2 (ix2 t d) = ((mid X0 X1 X2 t d : ℝ) : EReal) := by
  pointwise [midT]
  simp only [at2_eq h0, at2_eq h1, at2_eq h2, eps_eq, count_eq, ← EReal.coe_mul, coe_sum]
  rw [Ideal.div_coe (by norm_num), ← EReal.coe_mul, ← EReal.coe_add]
  erw [rsqrt_msq (row X0 t)]
  rw [← EReal.coe_mul, ← EReal.coe_mul, ← EReal.coe_add]
  rfl

variable (m : (ℓ : Loc nD τ sig) → Buf (Elt Ideal) ℓ) (c : Dev nD)

/-- The arguments' arrays. -/
abbrev a0 : FVec Ideal S8192x1024 .f32 := m ((c : Thread nD τ).loc main_arg0)
abbrev a1 : FVec Ideal S8192x1024 .f32 := m ((c : Thread nD τ).loc main_arg1)
abbrev a2 : FVec Ideal S1x1024 .f32 := m ((c : Thread nD τ).loc main_arg2)
abbrev a3 : FVec Ideal S1x1024 .f32 := m ((c : Thread nD τ).loc main_arg3)
abbrev a4 : FVec Ideal S1024x5632 .f32 := m ((c : Thread nD τ).loc main_arg4)
abbrev a5 : FVec Ideal S8192x1024 .f32 := m ((c : Thread nD τ).loc main_arg5)
abbrev a6 : FVec Ideal S8192x5632 .f32 := m ((c : Thread nD τ).loc main_arg6)

variable (h0 : Finite (a0 m c)) (h1 : Finite (a1 m c)) (h2 : Finite (a2 m c)) (h3 : Finite (a3 m c)) (h4 : Finite (a4 m c))
  (h5 : Finite (a5 m c)) (h6 : Finite (a6 m c)) (t : Fin cfg0.N)

include h6 in
theorem blk0 (r : Fin 512) (k : Fin 2816) : Gen.iblk m c 0 t (ix2 r k)
    = ((at2 (a6 m c) (512 * (rowBlk t).val + r.val) (2816 * (colBlk t).val + k.val) : ℝ) : EReal) := by
  rw [read0, V_v13]
  exact at2_eq h6 _ _

include h4 in
theorem blk1 (d : Fin 1024) (k : Fin 2816) : Gen.iblk m c 1 t (ix2 d k)
    = ((at2 (a4 m c) d (2816 * (colBlk t).val + k.val) : ℝ) : EReal) := by
  rw [read1, V_v14]
  exact at2_eq h4 _ _

include h0 h1 h2 in
theorem blk2 (r : Fin 512) (d : Fin 1024) : Gen.iblk m c 2 t (ix2 r d)
    = ((mid (a0 m c) (a1 m c) (a2 m c) (512 * (rowBlk t).val + r.val) d : ℝ) : EReal) := by
  rw [read2, V_v12]
  exact midT_apply h0 h1 h2 _ _

include h0 in
theorem blk3 (r : Fin 512) (d : Fin 1024) : Gen.iblk m c 3 t (ix2 r d) = ((row (a0 m c) (512 * (rowBlk t).val + r.val) d : ℝ) : EReal) := by
  rw [read3, Gen.V_main_arg0]
  exact at2_eq h0 _ _

include h5 in
theorem blk4 (r : Fin 512) (d : Fin 1024) : Gen.iblk m c 4 t (ix2 r d) = ((row (a5 m c) (512 * (rowBlk t).val + r.val) d : ℝ) : EReal) := by
  rw [read4, Gen.V_main_arg5]
  exact at2_eq h5 _ _

include h2 in
theorem blk5 (d : Fin 1024) : Gen.iblk m c 5 t (ix2 0 d) = ((row (a2 m c) 0 d : ℝ) : EReal) := by
  rw [read5, Gen.V_main_arg2]
  exact at2_eq h2 _ _

include h3 in
theorem blk6 (d : Fin 1024) : Gen.iblk m c 6 t (ix2 0 d) = ((row (a3 m c) 0 d : ℝ) : EReal) := by
  rw [read6, Gen.V_main_arg3]
  exact at2_eq h3 _ _

end Real

end Cert.Proof.Kernel2Ideal

end
-- ==== Proof.MidValue.lean ====
/-
  The second call's fold over the grid, over the reals: after the first half of the columns the product's block holds
  half the sum, after the second half the results' blocks hold the gradients and the two sums cover the rows so far.
-/
module

public import proofs.«01_k».proof.Proof.MidCases
public import proofs.«01_k».proof.Proof.MidBlock
public import proofs.«01_k».proof.Proof.MidHost
public import proofs.«01_k».proof.Proof.Gen.Kernel2Ideal.Value

@[expose] public section

set_option maxRecDepth 65536

noncomputable section

namespace Cert.Proof.Kernel2Ideal

open Cert.Kernel2Ideal Cert.Kernel2Ideal.Gen Cert.Kernel2Ideal.Value
open Cert.Proof.Mid Cert.Proof.Ssd
open Idealize.ShloMosaic Idealize.ShloMosaic.TcCoe

section Steps

variable {F : FTy → Type} [FloatOps F] (m : (ℓ : Loc nD τ sig) → Buf (Elt F) ℓ) (c : Dev nD) (t : Fin cfg0.N)
  (acc : Vec F S512x1024 .f32 × Vec F S512x1024 .bf16 × Vec F S1x1024 .f32 × Vec F S1x1024 .f32 × Vec F S512x1024 .f32)

/-- The product's block after the first half of the columns. -/
theorem even_scr (h1 : t.val % 2 = 0) : (stAt0 m c t.val t.isLt acc).2.2.2.2 = k0_pay4 k0_pay3 (iblk m c 0 t) (iblk m c 1 t) := by
  by_cases h0 : t.val % 32 = 0
  · rw [stAt0_A m c t acc h0 h1 (by omega)]
    dsimp only
    rw [sout0_A_0_eq]
  · rw [stAt0_C m c t acc h0 h1 (by omega)]
    dsimp only
    rw [sout0_C_0_eq]

theorem zero_9 (h0 : t.val % 32 = 0) : (stAt0 m c t.val t.isLt acc).2.2.1 = k0_pay1 := by
  rw [stAt0_A m c t acc h0 (by omega) (by omega)]
  dsimp only
  rw [out0_A_9_eq]

theorem zero_10 (h0 : t.val % 32 = 0) : (stAt0 m c t.val t.isLt acc).2.2.2.1 = k0_pay2 := by
  rw [stAt0_A m c t acc h0 (by omega) (by omega)]
  dsimp only
  rw [out0_A_10_eq]

theorem even_9 (h0 : ¬t.val % 32 = 0) (h1 : t.val % 2 = 0) : (stAt0 m c t.val t.isLt acc).2.2.1 = acc.2.2.1 := by
  rw [stAt0_C m c t acc h0 h1 (by omega)]
  rfl

theorem even_10 (h0 : ¬t.val % 32 = 0) (h1 : t.val % 2 = 0) : (stAt0 m c t.val t.isLt acc).2.2.2.1 = acc.2.2.2.1 := by
  rw [stAt0_C m c t acc h0 h1 (by omega)]
  rfl

variable (h2 : t.val % 2 = 1)

include h2

theorem odd_7 : (stAt0 m c t.val t.isLt acc).1
    = k0_pay13 (k0_pay4 acc.2.2.2.2 (iblk m c 0 t) (iblk m c 1 t)) (iblk m c 2 t) (iblk m c 4 t) (iblk m c 6 t) := by
  rw [stAt0_B m c t acc (by omega) (by omega) h2]
  dsimp only
  rw [out0_B_7_eq]

theorem odd_8 : (stAt0 m c t.val t.isLt acc).2.1
    = k0_pay8 (k0_pay13 (k0_pay4 acc.2.2.2.2 (iblk m c 0 t) (iblk m c 1 t)) (iblk m c 2 t) (iblk m c 4 t) (iblk m c 6 t)) (iblk m c 3 t) (iblk m c 5 t) := by
  rw [stAt0_B m c t acc (by omega) (by omega) h2]
  dsimp only
  rw [out0_B_8_eq]

theorem odd_9 : (stAt0 m c t.val t.isLt acc).2.2.1
    = k0_pay7 (k0_pay13 (k0_pay4 acc.2.2.2.2 (iblk m c 0 t) (iblk m c 1 t)) (iblk m c 2 t) (iblk m c 4 t) (iblk m c 6 t)) (iblk m c 3 t) acc.2.2.1 := by
  rw [stAt0_B m c t acc (by omega) (by omega) h2]
  dsimp only
  rw [out0_B_9_eq]

theorem odd_10 : (stAt0 m c t.val t.isLt acc).2.2.2.1
    = k0_pay12 (k0_pay4 acc.2.2.2.2 (iblk m c 0 t) (iblk m c 1 t)) (iblk m c 2 t) acc.2.2.2.1 := by
  rw [stAt0_B m c t acc (by omega) (by omega) h2]
  dsimp only
  rw [out0_B_10_eq]

end Steps

/-- Half of a product's row. -/
def half (wup : (⟨2, ![1024, 5632]⟩ : Shape).Idx → EReal) (du : (⟨2, ![8192, 5632]⟩ : Shape).Idx → EReal) (t : ℕ) (d : Fin 1024) : ℝ :=
  ∑ k : Fin 2816, at2 du t k * at2 wup d k

theorem dup_half (wup : (⟨2, ![1024, 5632]⟩ : Shape).Idx → EReal) (du : (⟨2, ![8192, 5632]⟩ : Shape).Idx → EReal) (t : ℕ) (d : Fin 1024) :
    half wup du t d + ∑ k : Fin 2816, at2 du t (2816 + k.val) * at2 wup d (2816 + k.val) = dup wup du t d := by
  unfold half dup
  rw [← Finset.sum_range (fun k => at2 du t k * at2 wup d k), ← Finset.sum_range (fun k => at2 du t (2816 + k) * at2 wup d (2816 + k)),
    ← Finset.sum_range_add]

/-- A sum over rows, a block of rows added. -/
theorem rows_add (f : ℕ → ℝ) (i : ℕ) : (∑ t ∈ Finset.range (512 * i), f t) + ∑ r : Fin 512, f (512 * i + r.val) = ∑ t ∈ Finset.range (512 * (i + 1)), f t := by
  rw [Nat.mul_add, Nat.mul_one, Finset.sum_range_add, ← Finset.sum_range (fun r => f (512 * i + r))]

section Fold

variable (m : (ℓ : Loc nD τ sig) → Buf (Elt Ideal) ℓ) (c : Dev nD)
variable (h0 : Finite (a0 m c)) (h1 : Finite (a1 m c)) (h2 : Finite (a2 m c)) (h3 : Finite (a3 m c)) (h4 : Finite (a4 m c))
  (h5 : Finite (a5 m c)) (h6 : Finite (a6 m c))

/-- The fold of the points' steps. -/
abbrev st (n : ℕ) (h : 0 + n < cfg0.N) := Pipeline.accAt (fun n h => stAt0 m c n h junk0) (stAt0 m c) 0 n h

/-- After the first half of the columns of block `i`. -/
structure Even (i : ℕ) (s : Vec Ideal S512x1024 .f32 × Vec Ideal S512x1024 .bf16 × Vec Ideal S1x1024 .f32 × Vec Ideal S1x1024 .f32 × Vec Ideal S512x1024 .f32) : Prop where
  scr : ∀ r d, s.2.2.2.2 (ix2 r d) = ((half (a4 m c) (a6 m c) (512 * i + r.val) d : ℝ) : EReal)
  o9 : ∀ d, s.2.2.1 (ix2 0 d) = ((dpm (a0 m c) (a1 m c) (a2 m c) (a3 m c) (a4 m c) (a5 m c) (a6 m c) (512 * i) d : ℝ) : EReal)
  o10 : ∀ d, s.2.2.2.1 (ix2 0 d) = ((dpf (a0 m c) (a1 m c) (a2 m c) (a4 m c) (a6 m c) (512 * i) d : ℝ) : EReal)

/-- After block `i`. -/
structure Odd (i : ℕ) (s : Vec Ideal S512x1024 .f32 × Vec Ideal S512x1024 .bf16 × Vec Ideal S1x1024 .f32 × Vec Ideal S1x1024 .f32 × Vec Ideal S512x1024 .f32) : Prop where
  o7 : ∀ r d, s.1 (ix2 r d) = ((dmid (a0 m c) (a1 m c) (a2 m c) (a3 m c) (a4 m c) (a5 m c) (a6 m c) (512 * i + r.val) d : ℝ) : EReal)
  o8 : ∀ r d, s.2.1 (ix2 r d) = ((dmix (a0 m c) (a1 m c) (a2 m c) (a3 m c) (a4 m c) (a5 m c) (a6 m c) (512 * i + r.val) d : ℝ) : EReal)
  o9 : ∀ d, s.2.2.1 (ix2 0 d) = ((dpm (a0 m c) (a1 m c) (a2 m c) (a3 m c) (a4 m c) (a5 m c) (a6 m c) (512 * (i + 1)) d : ℝ) : EReal)
  o10 : ∀ d, s.2.2.2.1 (ix2 0 d) = ((dpf (a0 m c) (a1 m c) (a2 m c) (a4 m c) (a6 m c) (512 * (i + 1)) d : ℝ) : EReal)

include h4 h6 in
theorem scr_real (t : Fin cfg0.N) (ht : t.val % 2 = 0) (acc) (r : Fin 512) (d : Fin 1024) :
    (stAt0 m c t.val t.isLt acc).2.2.2.2 (ix2 r d) = ((half (a4 m c) (a6 m c) (512 * (t.val / 2) + r.val) d : ℝ) : EReal) := by
  rw [even_scr m c t acc ht]
  refine (prod_apply (fun r d => zero3_apply r d) (fun r k => blk0 m c h6 t r k) (fun d k => blk1 m c h4 t d k) r d).trans ?_
  rw [zero_add]
  unfold half
  refine congrArg _ (Finset.sum_congr rfl fun k _ => ?_)
  rw [show (colBlk t).val = 0 from ht, show (rowBlk t).val = t.val / 2 from rfl, Nat.mul_zero, Nat.zero_add]

include h4 h6 in
theorem even_zero (t : Fin cfg0.N) (ht : t.val = 0) (acc) : Even m c 0 (stAt0 m c t.val t.isLt acc) where
  scr r d := by
    rw [scr_real m c h4 h6 t (by omega), ht]
  o9 d := by
    rw [zero_9 m c t acc (by omega)]
    exact zero1_apply d
  o10 d := by
    rw [zero_10 m c t acc (by omega)]
    exact zero2_apply d

include h4 h6 in
theorem even_succ (t : Fin cfg0.N) (i : ℕ) (ht : t.val = 2 * (i + 1)) (acc) (hacc : Odd m c i acc) :
    Even m c (i + 1) (stAt0 m c t.val t.isLt acc) := by
  have hN : t.val < 32 := t.isLt
  constructor
  · intro r d
    rw [scr_real m c h4 h6 t (by omega), show t.val / 2 = i + 1 by omega]
  · intro d
    rw [even_9 m c t acc (by omega) (by omega), hacc.o9]
  · intro d
    rw [even_10 m c t acc (by omega) (by omega), hacc.o10]

include h0 h1 h2 h3 h4 h5 h6 in
theorem odd_of (t : Fin cfg0.N) (i : ℕ) (ht : t.val = 2 * i + 1) (acc) (hacc : Even m c i acc) : Odd m c i (stAt0 m c t.val t.isLt acc) := by
  have hm : t.val % 2 = 1 := by omega
  have hr : (rowBlk t).val = i := by show t.val / 2 = i; omega
  have hc : (colBlk t).val = 1 := hm
  have hp : ∀ r d, k0_pay4 (F := Ideal) acc.2.2.2.2 (iblk m c 0 t) (iblk m c 1 t) (ix2 r d)
      = ((dup (a4 m c) (a6 m c) (512 * i + r.val) d : ℝ) : EReal) := fun r d => by
    refine (prod_apply hacc.scr (fun r k => blk0 m c h6 t r k) (fun d k => blk1 m c h4 t d k) r d).trans ?_
    rw [← dup_half, hr, hc]
  have b2 := blk2 m c h0 h1 h2 t
  have b3 := blk3 m c h0 t
  have b4 := blk4 m c h5 t
  rw [hr] at b2 b3 b4
  have hd : ∀ r d, k0_pay13 (F := Ideal) (k0_pay4 acc.2.2.2.2 (iblk m c 0 t) (iblk m c 1 t)) (iblk m c 2 t) (iblk m c 4 t) (iblk m c 6 t) (ix2 r d)
      = ((dmid (a0 m c) (a1 m c) (a2 m c) (a3 m c) (a4 m c) (a5 m c) (a6 m c) (512 * i + r.val) d : ℝ) : EReal) := fun r d =>
    dmid13_apply hp b2 b4 (blk6 m c h3 t) r d
  constructor
  · intro r d
    rw [odd_7 m c t acc hm]
    exact hd r d
  · intro r d
    rw [odd_8 m c t acc hm]
    exact dmix8_apply hd b3 (blk5 m c h2 t) r d
  · intro d
    rw [odd_9 m c t acc hm]
    refine (dpm7_apply hd b3 hacc.o9 d).trans ?_
    unfold dpm
    rw [← rows_add]
  · intro d
    rw [odd_10 m c t acc hm]
    refine (dpf12_apply hp b2 hacc.o10 d).trans ?_
    unfold dpf
    rw [← rows_add]

include h0 h1 h2 h3 h4 h5 h6

theorem fold_odd (i : ℕ) (h : 0 + (2 * i + 1) < cfg0.N) : Odd m c i (st m c (2 * i + 1) h) := by
  induction i with
  | zero =>
    refine odd_of m c h0 h1 h2 h3 h4 h5 h6 ⟨0 + (2 * 0 + 1), h⟩ 0 rfl _ ?_
    exact even_zero m c h4 h6 ⟨0, Nat.lt_of_succ_lt h⟩ rfl _
  | succ i ih =>
    have e : 0 + (2 * (i + 1) + 1) = 2 * (i + 1) + 1 := Nat.zero_add _
    refine odd_of m c h0 h1 h2 h3 h4 h5 h6 ⟨0 + (2 * (i + 1) + 1), h⟩ (i + 1) e _ ?_
    exact even_succ m c h4 h6 ⟨0 + (2 * i + 1 + 1), Nat.lt_of_succ_lt h⟩ i (by show 0 + (2 * i + 1 + 1) = _; omega) _ (ih _)

end Fold

end Cert.Proof.Kernel2Ideal

end
-- ==== Proof.MidRef.lean ====
/-
  The second call's reference read entry by entry over the reals: with every argument finite, its four results are the
  gradients of `MidReal`.
-/
module

public import proofs.«01_k».proof.Proof.MidReal
public import proofs.«01_k».proof.Proof.Gen.Reference2Ideal.Read
public import Idealize.ShloMosaic.Lib.Pointwise

@[expose] public section

set_option maxRecDepth 16384

noncomputable section

namespace Cert.Proof.Reference2Ideal

open Cert.Reference2Ideal Cert.Reference2Ideal.Read
open Cert.Proof.Ssd Cert.Proof.Mid
open Idealize.ShloMosaic

variable {X0 X1 : FVec Ideal S8192x1024 .f32} {X2 X3 : FVec Ideal S1x1024 .f32} {X4 : FVec Ideal S1024x5632 .f32}
  {X5 : FVec Ideal S8192x1024 .f32} {X6 : FVec Ideal S8192x5632 .f32}
variable (h0 : Finite X0) (h1 : Finite X1) (h2 : Finite X2) (h3 : Finite X3) (h4 : Finite X4) (h5 : Finite X5) (h6 : Finite X6)

include h0 in
theorem msq_mix (t : Fin 8192) : val_main_v6 (F := Ideal) X0 (ix2 t 0) = ((msq (row X0 t) : ℝ) : EReal) := by
  pointwise [val_main_v6, val_main_v5, val_main_v4, val_main_v3, val_main_v2, val_main_v1, val_main_v0, val_main_cst, val_main_cst_0,
    val_main_cst_1]
  simp only [at2_eq h0, eps_eq, count_eq, ← EReal.coe_mul, coe_sum]
  rw [Ideal.div_coe (by norm_num), ← EReal.coe_mul, ← EReal.coe_add]
  rfl

include h0 in
theorem rr_mix (t : Fin 8192) : val_main_v7 (F := Ideal) X0 (ix2 t 0) = ((rr (row X0 t) : ℝ) : EReal) := by
  unfold val_main_v7
  pointwise
  rw [msq_mix h0, rsqrt_msq]

include h0 in
theorem nrm_mix (t : Fin 8192) (d : Fin 1024) : val_main_v12 (F := Ideal) X0 (ix2 t d) = ((nrm (row X0 t) d : ℝ) : EReal) := by
  unfold val_main_v12 val_main_v11
  pointwise
  rw [rr_mix h0, at2_eq h0, ← EReal.coe_mul]
  rfl

include h0 in
theorem slope_mix (t : Fin 8192) :
    val_main_v10 (F := Ideal) X0 (ix2 t 0) = ((-(1 / 2) * (rr (row X0 t) * (1 / msq (row X0 t))) : ℝ) : EReal) := by
  unfold val_main_v10 val_main_v9 val_main_v8 val_main_cst_2
  pointwise
  rw [msq_mix h0, rr_mix h0, half_eq, Ideal.div_coe (msq_pos _).ne', ← EReal.coe_mul, ← EReal.coe_mul]

include h0 h1 h2 in
theorem mid_apply (t : Fin 8192) (d : Fin 1024) : val_main_v15 (F := Ideal) X0 X1 X2 (ix2 t d) = ((mid X0 X1 X2 t d : ℝ) : EReal) := by
  unfold val_main_v15 val_main_v14 val_main_v13
  pointwise
  rw [nrm_mix h0, at2_eq h1, at2_eq h2, ← EReal.coe_mul, ← EReal.coe_add]
  rfl

include h0 h1 h2 in
theorem msq_mid (t : Fin 8192) : val_main_v22 (F := Ideal) X0 X1 X2 (ix2 t 0) = ((msq (mid X0 X1 X2 t) : ℝ) : EReal) := by
  pointwise [val_main_v22, val_main_v21, val_main_v20, val_main_v19, val_main_v18, val_main_v17, val_main_v16, val_main_cst_3, val_main_cst_4,
    val_main_cst_5]
  simp only [mid_apply h0 h1 h2, eps_eq, count_eq, ← EReal.coe_mul, coe_sum]
  rw [Ideal.div_coe (by norm_num), ← EReal.coe_mul, ← EReal.coe_add]
  rfl

include h0 h1 h2 in
theorem rr_mid (t : Fin 8192) : val_main_v23 (F := Ideal) X0 X1 X2 (ix2 t 0) = ((rr (mid X0 X1 X2 t) : ℝ) : EReal) := by
  unfold val_main_v23
  pointwise
  rw [msq_mid h0 h1 h2, rsqrt_msq]

include h0 h1 h2 in
theorem nrm_mid (t : Fin 8192) (d : Fin 1024) : val_main_v28 (F := Ideal) X0 X1 X2 (ix2 t d) = ((nrm (mid X0 X1 X2 t) d : ℝ) : EReal) := by
  unfold val_main_v28 val_main_v27
  pointwise
  rw [rr_mid h0 h1 h2, mid_apply h0 h1 h2, ← EReal.coe_mul]
  rfl

include h0 h1 h2 in
theorem slope_mid (t : Fin 8192) :
    val_main_v26 (F := Ideal) X0 X1 X2 (ix2 t 0) = ((-(1 / 2) * (rr (mid X0 X1 X2 t) * (1 / msq (mid X0 X1 X2 t))) : ℝ) : EReal) := by
  unfold val_main_v26 val_main_v25 val_main_v24 val_main_cst_6
  pointwise
  rw [msq_mid h0 h1 h2, rr_mid h0 h1 h2, half_eq, Ideal.div_coe (msq_pos _).ne', ← EReal.coe_mul, ← EReal.coe_mul]

include h4 h6 in
theorem dup_apply (t : Fin 8192) (d : Fin 1024) : val_main_v32 (F := Ideal) X4 X6 (ix2 t d) = ((dup X4 X6 t d : ℝ) : EReal) := by
  pointwise [val_main_v32]
  simp only [at2_eq h4, at2_eq h6, ← EReal.coe_mul, coe_sum]
  unfold dup
  rw [Finset.sum_range]

include h3 h4 h6 in
theorem dnrm_apply (t : Fin 8192) (d : Fin 1024) :
    val_main_v37 (F := Ideal) X3 X4 X6 (ix2 t d) = ((dup X4 X6 t d * row X3 0 d : ℝ) : EReal) := by
  unfold val_main_v37 val_main_v36
  pointwise
  rw [dup_apply h4 h6, at2_eq h3, ← EReal.coe_mul]
  rfl

include h0 h1 h2 h3 h4 h6 in
theorem coef_mid (t : Fin 8192) (d : Fin 1024) : val_main_v48 (F := Ideal) X0 X1 X2 X3 X4 X6 (ix2 t d)
    = ((coef (mid X0 X1 X2 t) (fun j => dup X4 X6 t j * row X3 0 j) : ℝ) : EReal) := by
  pointwise [val_main_v48, val_main_v47, val_main_v46, val_main_v45, val_main_v44, val_main_v40, val_main_v39, val_main_v38, val_main_cst_8,
    val_main_cst_9, val_main_cst_10]
  simp only [Fin.sum_univ_one, mid_apply h0 h1 h2, slope_mid h0 h1 h2, dnrm_apply h3 h4 h6, count_eq, ← EReal.coe_mul, coe_sum]
  rw [Ideal.div_coe (by norm_num), ← EReal.coe_mul]
  rfl

include h0 h1 h2 h3 h4 h5 h6 in
/-- The first result. -/
theorem dmid_apply (t : Fin 8192) (d : Fin 1024) :
    val_main_v52 (F := Ideal) X0 X1 X2 X3 X4 X5 X6 (ix2 t d) = ((dmid X0 X1 X2 X3 X4 X5 X6 t d : ℝ) : EReal) := by
  unfold val_main_v52 val_main_v51 val_main_v50 val_main_v49 val_main_v43 val_main_v42 val_main_v41
  pointwise
  rw [coef_mid h0 h1 h2 h3 h4 h6, mid_apply h0 h1 h2, dnrm_apply h3 h4 h6, rr_mid h0 h1 h2, at2_eq h5]
  simp only [← EReal.coe_mul, ← EReal.coe_add]
  unfold dmid
  rw [← back_eq]
  congr 1
  ring

include h0 h1 h2 h4 h6 in
/-- The fourth result. -/
theorem dpf_apply (d : Fin 1024) :
    val_main_v35 (F := Ideal) X0 X1 X2 X4 X6 (ix2 0 d) = ((dpf X0 X1 X2 X4 X6 8192 d : ℝ) : EReal) := by
  pointwise [val_main_v35, val_main_v34, val_main_v33, val_main_cst_7]
  simp only [nrm_mid h0 h1 h2, dup_apply h4 h6, ← EReal.coe_mul, coe_sum]
  unfold dpf
  rw [Finset.sum_range]
  congr 1
  exact Finset.sum_congr rfl fun _ _ => mul_comm _ _

include h0 h1 h2 h3 h4 h5 h6 in
/-- The third result. -/
theorem dpm_apply (d : Fin 1024) :
    val_main_v56 (F := Ideal) X0 X1 X2 X3 X4 X5 X6 (ix2 0 d) = ((dpm X0 X1 X2 X3 X4 X5 X6 8192 d : ℝ) : EReal) := by
  pointwise [val_main_v56, val_main_v55, val_main_v54, val_main_v53, val_main_cst_11]
  simp only [nrm_mix h0, dmid_apply h0 h1 h2 h3 h4 h5 h6, ← EReal.coe_mul, coe_sum]
  unfold dpm
  rw [Finset.sum_range]
  congr 1
  exact Finset.sum_congr rfl fun _ _ => mul_comm _ _

include h0 h1 h2 h3 h4 h5 h6 in
theorem dsum_apply (t : Fin 8192) (d : Fin 1024) : val_main_v58 (F := Ideal) X0 X1 X2 X3 X4 X5 X6 (ix2 t d)
    = ((dmid X0 X1 X2 X3 X4 X5 X6 t d * row X2 0 d : ℝ) : EReal) := by
  unfold val_main_v58 val_main_v57 val_main_v53
  pointwise
  rw [dmid_apply h0 h1 h2 h3 h4 h5 h6, at2_eq h2, ← EReal.coe_mul]
  rfl

include h0 h1 h2 h3 h4 h5 h6 in
theorem coef_mix (t : Fin 8192) (d : Fin 1024) : val_main_v68 (F := Ideal) X0 X1 X2 X3 X4 X5 X6 (ix2 t d)
    = ((coef (row X0 t) (fun j => dmid X0 X1 X2 X3 X4 X5 X6 t j * row X2 0 j) : ℝ) : EReal) := by
  pointwise [val_main_v68, val_main_v67, val_main_v66, val_main_v65, val_main_v64, val_main_v61, val_main_v60, val_main_v59, val_main_cst_12,
    val_main_cst_13, val_main_cst_14]
  simp only [Fin.sum_univ_one, at2_eq h0, slope_mix h0, dsum_apply h0 h1 h2 h3 h4 h5 h6, count_eq, ← EReal.coe_mul, coe_sum]
  rw [Ideal.div_coe (by norm_num), ← EReal.coe_mul]
  rfl

include h0 h1 h2 h3 h4 h5 h6 in
/-- The second result. -/
theorem dmix_apply (t : Fin 8192) (d : Fin 1024) :
    val_main_v73 (F := Ideal) X0 X1 X2 X3 X4 X5 X6 (ix2 t d) = ((dmix X0 X1 X2 X3 X4 X5 X6 t d : ℝ) : EReal) := by
  unfold val_main_v73 val_main_v72 val_main_v71 val_main_v70 val_main_v69 val_main_v63 val_main_v62
  pointwise
  rw [coef_mix h0 h1 h2 h3 h4 h5 h6, dsum_apply h0 h1 h2 h3 h4 h5 h6, rr_mix h0, at2_eq h0]
  simp only [← EReal.coe_mul, ← EReal.coe_add]
  unfold dmix
  rw [← back_eq]

end Cert.Proof.Reference2Ideal

end
-- ==== Proof.MidArray.lean ====
/-
  The second call's four results, whole: of finite arguments they are the reference's.
-/
module

public import proofs.«01_k».proof.Proof.MidValue
public import proofs.«01_k».proof.Proof.MidRef

@[expose] public section

set_option maxRecDepth 16384

noncomputable section

namespace Cert.Proof.Kernel2Ideal

open Cert.Kernel2Ideal Cert.Kernel2Ideal.Value
open Cert.Proof.Mid Cert.Proof.Ssd
open Idealize.ShloMosaic Idealize.ShloMosaic.TcCoe

variable (m : (ℓ : Loc nD τ sig) → Buf (Elt Ideal) ℓ) (c : Dev nD)
variable (h0 : Finite (a0 m c)) (h1 : Finite (a1 m c)) (h2 : Finite (a2 m c)) (h3 : Finite (a3 m c)) (h4 : Finite (a4 m c))
  (h5 : Finite (a5 m c)) (h6 : Finite (a6 m c))

theorem ix_eq {A B : ℕ} (i : (⟨2, ![A, B]⟩ : Shape).Idx) : i = ix2 (i 0) (i 1) := funext fun a => by fin_cases a <;> rfl

theorem row_eq (a : Fin 1) : a = 0 := Subsingleton.elim _ _

include h0 h1 h2 h3 h4 h5 h6

theorem arr7 : G7 m c = Cert.Reference2Ideal.Read.val_main_v52 (F := Ideal) (a0 m c) (a1 m c) (a2 m c) (a3 m c) (a4 m c) (a5 m c) (a6 m c) := by
  funext i
  obtain ⟨t, d, rfl⟩ : ∃ (t : Fin 8192) (d : Fin 1024), i = ix2 t d := ⟨i 0, i 1, ix_eq i⟩
  refine Eq.trans ?_ (Cert.Proof.Reference2Ideal.dmid_apply h0 h1 h2 h3 h4 h5 h6 t d).symm
  have ht := t.isLt
  have hd := d.isLt
  have hp : pt7Of (ix2 t d) = 2 * (t.val / 512) + 1 := by
    show 2 * (1 * (t.val / 512 - 0) + 1 * (d.val / 1024 - 0)) + 1 = _
    omega
  have hl : loc7Of (ix2 t d) = ix2 (⟨t.val % 512, Nat.mod_lt _ (by decide)⟩ : Fin 512) d := by
    funext a; apply Fin.ext
    match a with
    | ⟨0, _⟩ => rfl
    | ⟨1, _⟩ => show d.val % 1024 = d.val; omega
  have hlt : 0 + (2 * (t.val / 512) + 1) < Cert.Kernel2Ideal.cfg0.N := lt_of_lt_of_eq (by omega) Gen.N_0.symm
  unfold G7
  rw [dif_pos (by rw [hp]; omega), hl, fold0_congr m c _ _ _ hlt hp]
  refine ((fold_odd m c h0 h1 h2 h3 h4 h5 h6 (t.val / 512) hlt).o7 _ d).trans ?_
  rw [show 512 * (t.val / 512) + t.val % 512 = t.val by omega]

theorem arr8 : G8 m c = Cert.Reference2Ideal.Read.val_main_v73 (F := Ideal) (a0 m c) (a1 m c) (a2 m c) (a3 m c) (a4 m c) (a5 m c) (a6 m c) := by
  funext i
  obtain ⟨t, d, rfl⟩ : ∃ (t : Fin 8192) (d : Fin 1024), i = ix2 t d := ⟨i 0, i 1, ix_eq i⟩
  refine Eq.trans ?_ (Cert.Proof.Reference2Ideal.dmix_apply h0 h1 h2 h3 h4 h5 h6 t d).symm
  have ht := t.isLt
  have hd := d.isLt
  have hp : pt8Of (ix2 t d) = 2 * (t.val / 512) + 1 := by
    show 2 * (1 * (t.val / 512 - 0) + 1 * (d.val / 1024 - 0)) + 1 = _
    omega
  have hl : loc8Of (ix2 t d) = ix2 (⟨t.val % 512, Nat.mod_lt _ (by decide)⟩ : Fin 512) d := by
    funext a; apply Fin.ext
    match a with
    | ⟨0, _⟩ => rfl
    | ⟨1, _⟩ => show d.val % 1024 = d.val; omega
  have hlt : 0 + (2 * (t.val / 512) + 1) < Cert.Kernel2Ideal.cfg0.N := lt_of_lt_of_eq (by omega) Gen.N_0.symm
  unfold G8
  rw [dif_pos (by rw [hp]; omega), hl, fold0_congr m c _ _ _ hlt hp]
  refine ((fold_odd m c h0 h1 h2 h3 h4 h5 h6 (t.val / 512) hlt).o8 _ d).trans ?_
  rw [show 512 * (t.val / 512) + t.val % 512 = t.val by omega]

theorem arr9 : G9 m c = Cert.Reference2Ideal.Read.val_main_v56 (F := Ideal) (a0 m c) (a1 m c) (a2 m c) (a3 m c) (a4 m c) (a5 m c) (a6 m c) := by
  funext i
  obtain ⟨d, rfl⟩ : ∃ d : Fin 1024, i = ix2 0 d := ⟨i 1, (ix_eq i).trans (congrArg (ix2 · (i 1)) (row_eq (i 0)))⟩
  refine Eq.trans ?_ (Cert.Proof.Reference2Ideal.dpm_apply h0 h1 h2 h3 h4 h5 h6 d).symm
  rw [G9_last m c]
  exact (fold_odd m c h0 h1 h2 h3 h4 h5 h6 15 (lt_of_lt_of_eq (by decide) Gen.N_0.symm)).o9 d

theorem arr10 : G10 m c = Cert.Reference2Ideal.Read.val_main_v35 (F := Ideal) (a0 m c) (a1 m c) (a2 m c) (a4 m c) (a6 m c) := by
  funext i
  obtain ⟨d, rfl⟩ : ∃ d : Fin 1024, i = ix2 0 d := ⟨i 1, (ix_eq i).trans (congrArg (ix2 · (i 1)) (row_eq (i 0)))⟩
  refine Eq.trans ?_ (Cert.Proof.Reference2Ideal.dpf_apply h0 h1 h2 h4 h6 d).symm
  rw [G10_last m c]
  exact (fold_odd m c h0 h1 h2 h3 h4 h5 h6 15 (lt_of_lt_of_eq (by decide) Gen.N_0.symm)).o10 d

end Cert.Proof.Kernel2Ideal

end
-- ==== Proof.FinitePre2.lean ====
/-
  The second precondition read at the extended reals: every entry of every argument is a real number.
-/
module

public import proofs.«01_k».proof.Pre_finite2
public import proofs.«01_k».proof.Proof.Spec
public import Idealize.ShloMosaic.Lib.ReduceAll
public import Idealize.ShloMosaic.Lib.Affine
public import Idealize.ShloMosaic.Lib.Decide

@[expose] public section

noncomputable section

namespace Cert.Pre_finite2

open Cert.Proof.Ssd
open Idealize.ShloMosaic

instance facts : Facts where
  bcast_S_S8192x1024 := by decide
  reducesTo_S8192x1024_S_d0_1 := by decide
  h_S_ := by decide
  bcast_S_S1x1024 := by decide
  reducesTo_S1x1024_S_d0_1 := by decide
  bcast_S_S1024x5632 := by decide
  reducesTo_S1024x5632_S_d0_1 := by decide
  bcast_S_S8192x5632 := by decide
  reducesTo_S8192x5632_S_d0_1 := by decide

instance : Subsingleton S_.Idx := ⟨fun a b => funext fun i => i.elim0⟩

/-- An array whose entries' absolute values are all below infinity holds real numbers. -/
theorem finite_of_all {s : Shape} {axes : List (Fin s.rank)} (X : FVec Ideal s .f32) (hb : S_.BroadcastsInDim s (![] : Fin 0 → Fin s.rank))
    (h : s.ReducesTo axes S_) (j : S_.Idx)
    (e : Host.reduce IntOp.andi (cmpf .olt (Host.absf X) (broadcastInDim s ![] hb (constant (F := Ideal) S_ .f32 0x7F800000#32)))
      (constantI S_ 1 1#1) h Facts.h_S_ j = 1#1) : Finite X := by
  intro i
  have hi := Host.reduce_andi_all _ _ h Facts.h_S_ j e i
  have hinf : Ideal.ofBits FTy.f32 0x7F800000#32 = ⊤ := by simp [Ideal.ofBits, Ideal.ieee]
  have hc : Ideal.cmp .olt (max (X i) (-(X i))) ⊤ = 1#1 := by
    rw [← hinf]; exact hi
  have hlt : max (X i) (-(X i)) < ⊤ := by
    by_contra hn
    have : Ideal.cmp .olt (max (X i) (-(X i))) ⊤ = 0#1 := by
      show BitVec.ofBool (decide _) = 0#1
      rw [decide_eq_false hn]; rfl
    rw [this] at hc
    exact absurd hc (by decide)
  constructor
  · intro ht
    rw [ht] at hlt
    exact absurd (le_max_left _ _) (not_le.mpr hlt)
  · intro hbot
    rw [hbot, EReal.neg_bot] at hlt
    exact absurd (le_max_right _ _) (not_le.mpr hlt)

/-- The precondition, argument by argument. -/
theorem finite_args (X0 X1 : FVec Ideal S8192x1024 .f32) (X2 X3 : FVec Ideal S1x1024 .f32) (X4 : FVec Ideal S1024x5632 .f32)
    (X5 : FVec Ideal S8192x1024 .f32) (X6 : FVec Ideal S8192x5632 .f32) (h : fn (F := Ideal) X0 X1 X2 X3 X4 X5 X6 = fun _ => 1#1) :
    Finite X0 ∧ Finite X1 ∧ Finite X2 ∧ Finite X3 ∧ Finite X4 ∧ Finite X5 ∧ Finite X6 := by
  obtain ⟨h', h6⟩ := IntOp.andi_eq_one.mp (congrFun h ix0)
  obtain ⟨h', h5⟩ := IntOp.andi_eq_one.mp h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  exact ⟨finite_of_all _ _ _ _ h0, finite_of_all _ _ _ _ h1, finite_of_all _ _ _ _ h2, finite_of_all _ _ _ _ h3,
    finite_of_all _ _ _ _ h4, finite_of_all _ _ _ _ h5, finite_of_all _ _ _ _ h6⟩

end Cert.Pre_finite2

end
-- ==== Proof.Prod.lean ====
/-
  The entries of a product's operands and the sums over their rows, over the extended reals.
-/
module

public import Idealize.ShloMosaic.Lib.Pointwise
public import Idealize.ShloMosaic.Lib.Pipeline.ValueKit

@[expose] public section

noncomputable section

namespace Cert.Proof.Prod

open Idealize.ShloMosaic

/-- An array's entry, zero outside. -/
def ent {A B : ℕ} (X : (⟨2, ![A, B]⟩ : Shape).Idx → EReal) (a b : ℕ) : EReal :=
  if h : a < A ∧ b < B then X (ix2 ⟨a, h.1⟩ ⟨b, h.2⟩) else 0

theorem ent_eq {A B : ℕ} (X : (⟨2, ![A, B]⟩ : Shape).Idx → EReal) (a : Fin A) (b : Fin B) : X (ix2 a b) = ent X a b := by
  unfold ent
  rw [dif_pos ⟨a.isLt, b.isLt⟩]

/-- The product of two columns, over the first `n` rows. -/
def colSum {A B C D : ℕ} (X : (⟨2, ![A, B]⟩ : Shape).Idx → EReal) (Y : (⟨2, ![C, D]⟩ : Shape).Idx → EReal) (n i j : ℕ) : EReal :=
  ∑ t ∈ Finset.range n, ent X t i * ent Y t j

theorem colSum_zero {A B C D : ℕ} (X : (⟨2, ![A, B]⟩ : Shape).Idx → EReal) (Y : (⟨2, ![C, D]⟩ : Shape).Idx → EReal) (i j : ℕ) :
    colSum X Y 0 i j = 0 := Finset.sum_range_zero _

/-- A block of rows added. -/
theorem colSum_add {A B C D : ℕ} (X : (⟨2, ![A, B]⟩ : Shape).Idx → EReal) (Y : (⟨2, ![C, D]⟩ : Shape).Idx → EReal) (n s i j : ℕ) :
    colSum X Y n i j + ∑ t : Fin s, ent X (n + t.val) i * ent Y (n + t.val) j = colSum X Y (n + s) i j := by
  unfold colSum
  rw [Finset.sum_range_add, ← Finset.sum_range (fun t => ent X (n + t) i * ent Y (n + t) j)]

/-- All rows, as a sum over the rows' indices. -/
theorem colSum_all {A B D : ℕ} (X : (⟨2, ![A, B]⟩ : Shape).Idx → EReal) (Y : (⟨2, ![A, D]⟩ : Shape).Idx → EReal) (i : Fin B) (j : Fin D) :
    colSum X Y A i j = ∑ t : Fin A, Y (ix2 t j) * X (ix2 t i) := by
  unfold colSum
  rw [Finset.sum_range]
  exact Finset.sum_congr rfl fun t _ => by rw [ent_eq Y, ent_eq X, mul_comm]

theorem ix_eq {A B : ℕ} (i : (⟨2, ![A, B]⟩ : Shape).Idx) : i = ix2 (i 0) (i 1) := funext fun a => by fin_cases a <;> rfl

end Cert.Proof.Prod

end
-- ==== Proof.UpGrad.lean ====
/-
  The call computing the gradient of the up projection's weight: the product's block after each block of rows, the fold over the
  grid, and its result whole — of any arguments, the reference's.
-/
module

public import proofs.«01_k».proof.Proof.Prod
public import proofs.«01_k».proof.Proof.Gen.Kernel3Ideal.Value
public import proofs.«01_k».proof.Proof.Gen.Reference3Ideal.Read
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel3Ideal

open Cert.Kernel3Ideal Cert.Kernel3Ideal.Gen Cert.Kernel3Ideal.Value
open Cert.Proof.Prod
open Idealize.ShloMosaic Idealize.ShloMosaic.TcCoe Idealize.ShloMosaic.Tactic

section Cases

variable {F : FTy → Type} [FloatOps F]

theorem hz : (![0, 0] : Fin 2 → Nat) = fun _ => 0 := funext fun a => by fin_cases a <;> rfl

/-- The first block of rows: the sum cleared, the block added. -/
theorem sout0_A_0_eq (c : Dev nD) (i : grid0.Coords) (arg3 : Memref sig .tc .vmem S4096x1024 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i) (x0 : Vec F S4096x1024 .bf16) (x1 : Vec F S4096x512 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x512) hz]
  simp only [View.readCov_unit_zero (S := S1024x512) _ hz, View.readAt_eq_ld, harg3.read_unread, harg4.read_unread, harg5.read_unread, harg6.read_unread, View.ld_unit_zero (S := S1024x512) hz, View.ld_unit_zero (S := S4096x1024) hz, View.ld_unit_zero (S := S4096x512) hz]

/-- The last block of rows added, and the sum written out. -/
theorem out0_B_2_eq (c : Dev nD) (i : grid0.Coords) (arg3 : Memref sig .tc .vmem S4096x1024 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i) (x0 : Vec F S4096x1024 .bf16) (x1 : Vec F S4096x512 .bf16) (xs0 : Vec F S1024x512 .f32) :
    out0_B_2 c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero (S := S1024x512) hz]
  simp only [View.readCov_unit_zero (S := S1024x512) _ hz, View.readAt_eq_ld, harg3.read_unread, harg4.read_unread, harg5.read_unread, harg6.read_unread, View.ld_unit_zero (S := S1024x512) hz, View.ld_unit_zero (S := S4096x1024) hz, View.ld_unit_zero (S := S4096x512) hz]

end Cases

section Steps

variable {F : FTy → Type} [FloatOps F] (m : (ℓ : Loc nD τ sig) → Buf (Elt F) ℓ) (c : Dev nD) (t : Fin cfg0.N)
  (acc : Vec F S1024x512 .bf16 × Vec F S1024x512 .f32)

theorem first_scr (h : t.val % 2 = 0) : (stAt0 m c t.val t.isLt acc).2 = k0_pay2 k0_pay1 (iblk m c 0 t) (iblk m c 1 t) := by
  rw [stAt0_A m c t acc h (by omega)]
  dsimp only
  rw [sout0_A_0_eq]

theorem last_out (h : t.val % 2 = 1) : (stAt0 m c t.val t.isLt acc).1 = k0_pay3 (k0_pay2 acc.2 (iblk m c 0 t) (iblk m c 1 t)) := by
  rw [stAt0_B m c t acc (by omega) h]
  dsimp only
  rw [out0_B_2_eq]

/-- The blocks a point works on: of rows added, of the result's rows, of its columns. -/
def kB (t : Fin cfg0.N) : Fin 2 := ⟨t.val % 2, by omega⟩
def iB (t : Fin cfg0.N) : Fin 1 := ⟨t.val / 22, by have : t.val < 22 := t.isLt; omega⟩
def jB (t : Fin cfg0.N) : Fin 11 := ⟨t.val / 2 % 11, by omega⟩

abbrev kAt (t : Fin cfg0.N) (k : Fin 4096) : Fin 8192 := ⟨4096 * (kB t).val + k.val, by omega⟩
abbrev iAt (t : Fin cfg0.N) (r : Fin 1024) : Fin 1024 := ⟨1024 * (iB t).val + r.val, by omega⟩
abbrev jAt (t : Fin cfg0.N) (d : Fin 512) : Fin 5632 := ⟨512 * (jB t).val + d.val, by omega⟩

theorem idx0 : ∀ t : Fin cfg0.N, win0_0.index t = ![(kB t).val, (iB t).val] := by decide +kernel
theorem idx1 : ∀ t : Fin cfg0.N, win0_1.index t = ![(kB t).val, (jB t).val] := by decide +kernel

theorem read0 (k : Fin 4096) (r : Fin 1024) : iblk m c 0 t (ix2 k r) = V m c main_v0 (ix2 (kAt t k) (iAt t r)) := by
  blk_ext [Gen.iblk, idx0 t]
theorem read1 (k : Fin 4096) (d : Fin 512) : iblk m c 1 t (ix2 k d) = V m c main_v1 (ix2 (kAt t k) (jAt t d)) := by
  blk_ext [Gen.iblk, idx1 t]

end Steps

section Fold

theorem pay1_apply (r : Fin 1024) (d : Fin 512) : k0_pay1 (F := Ideal) (ix2 r d) = 0 := by
  pointwise [k0_pay1]

theorem pay2_apply (acc : Vec Ideal S1024x512 .f32) (x0 : Vec Ideal S4096x1024 .bf16) (x1 : Vec Ideal S4096x512 .bf16) (r : Fin 1024) (d : Fin 512) :
    k0_pay2 (F := Ideal) acc x0 x1 (ix2 r d) = acc (ix2 r d) + ∑ k : Fin 4096, x0 (ix2 k r) * x1 (ix2 k d) := by
  pointwise [k0_pay2]

theorem pay3_apply (acc : Vec Ideal S1024x512 .f32) (r : Fin 1024) (d : Fin 512) : k0_pay3 (F := Ideal) acc (ix2 r d) = acc (ix2 r d) := by
  pointwise [k0_pay3]

variable (m : (ℓ : Loc nD τ sig) → Buf (Elt Ideal) ℓ) (c : Dev nD)

/-- The operands' arrays. -/
abbrev y0 : FVec Ideal S8192x1024 .bf16 := V m c main_v0
abbrev y1 : FVec Ideal S8192x5632 .bf16 := V m c main_v1

/-- A point's block of rows added to the rows before it. -/
theorem step (t : Fin cfg0.N) (acc : Vec Ideal S1024x512 .f32) (n i j : ℕ) (hn : t.val = n) (hi : n / 22 = i) (hj : n / 2 % 11 = j) (r : Fin 1024) (d : Fin 512)
    (ha : acc (ix2 r d) = colSum (y0 m c) (y1 m c) (4096 * (n % 2)) (1024 * i + r.val) (512 * j + d.val)) :
    k0_pay2 (F := Ideal) acc (iblk m c 0 t) (iblk m c 1 t) (ix2 r d)
      = colSum (y0 m c) (y1 m c) (4096 * (n % 2 + 1)) (1024 * i + r.val) (512 * j + d.val) := by
  subst hn hi hj
  rw [pay2_apply, ha, Nat.mul_add, Nat.mul_one, ← colSum_add]
  refine congrArg (_ + ·) (Finset.sum_congr rfl fun k _ => ?_)
  rw [read0, read1]
  exact congrArg₂ (· * ·) (ent_eq (y0 m c) (kAt t k) (iAt t r)) (ent_eq (y1 m c) (kAt t k) (jAt t d))

/-- The fold of the points' steps. -/
abbrev st (n : ℕ) (h : 0 + n < cfg0.N) := Pipeline.accAt (fun n h => stAt0 m c n h junk0) (stAt0 m c) 0 n h

theorem clear (t : Fin cfg0.N) (n : ℕ) (hn : t.val = n) (h0 : n % 2 = 0) (acc : Vec Ideal S1024x512 .bf16 × Vec Ideal S1024x512 .f32) (r : Fin 1024) (d : Fin 512) :
    (stAt0 m c t.val t.isLt acc).2 (ix2 r d)
      = colSum (y0 m c) (y1 m c) (4096 * (n % 2 + 1)) (1024 * (n / 22) + r.val) (512 * (n / 2 % 11) + d.val) := by
  rw [first_scr m c t acc (by omega)]
  refine step m c t _ n _ _ hn rfl rfl r d ?_
  rw [pay1_apply, h0, Nat.mul_zero, colSum_zero]

/-- Before a result's block is written, its sum covers the blocks of rows so far. -/
theorem fold_scr : ∀ (n : ℕ) (h : 0 + n < cfg0.N), n % 2 < 1 → ∀ r d, (st m c n h).2 (ix2 r d)
    = colSum (y0 m c) (y1 m c) (4096 * (n % 2 + 1)) (1024 * (n / 22) + r.val) (512 * (n / 2 % 11) + d.val)
  | 0, h, hl => fun r d => clear m c ⟨0, h⟩ 0 rfl rfl _ r d
  | n + 1, h, hl => fun r d => by
    by_cases h0 : (n + 1) % 2 = 0
    · exact clear m c ⟨0 + (n + 1), h⟩ (n + 1) (Nat.zero_add _) h0 _ r d
    · omega

/-- A result's block, when it is written, covers all rows. -/
theorem fold_out (n : ℕ) (h : 0 + n < cfg0.N) (hl : n % 2 = 1) (r : Fin 1024) (d : Fin 512) : (st m c n h).1 (ix2 r d)
    = colSum (y0 m c) (y1 m c) 8192 (1024 * (n / 22) + r.val) (512 * (n / 2 % 11) + d.val) := by
  obtain ⟨n, rfl⟩ : ∃ k, n = k + 1 := ⟨n - 1, by omega⟩
  have ih := fold_scr m c n (by omega) (by omega) r d
  have hv : ((⟨0 + (n + 1), h⟩ : Fin cfg0.N)).val = n + 1 := Nat.zero_add _
  show (stAt0 m c ((⟨0 + (n + 1), h⟩ : Fin cfg0.N)).val _ (st m c n (by omega))).1 (ix2 r d) = _
  rw [last_out m c ⟨0 + (n + 1), h⟩ _ (by omega), pay3_apply]
  refine (step m c ⟨0 + (n + 1), h⟩ _ (n + 1) _ _ hv rfl rfl r d (ih.trans ?_)).trans ?_
  · rw [show (n + 1) % 2 = n % 2 + 1 by omega, show (n + 1) / 22 = n / 22 by omega, show (n + 1) / 2 = n / 2 by omega]
  · rw [hl]

/-- The call's result, an entry. -/
theorem G2_apply (i : Fin 1024) (j : Fin 5632) : G2 m c (ix2 i j) = colSum (y0 m c) (y1 m c) 8192 i j := by
  have hi := i.isLt
  have hj := j.isLt
  have hp : pt2Of (ix2 i j) = 2 * (11 * (i.val / 1024) + j.val / 512) + 1 := by
    show 2 * (11 * (i.val / 1024 - 0) + 1 * (j.val / 512 - 0)) + 1 = _
    omega
  have hl : loc2Of (ix2 i j) = ix2 (⟨i.val % 1024, Nat.mod_lt _ (by decide)⟩ : Fin 1024) (⟨j.val % 512, Nat.mod_lt _ (by decide)⟩ : Fin 512) := by
    funext a; apply Fin.ext
    match a with
    | ⟨0, _⟩ => rfl
    | ⟨1, _⟩ => rfl
  have hlt : 0 + (2 * (11 * (i.val / 1024) + j.val / 512) + 1) < cfg0.N := lt_of_lt_of_eq (by omega) Gen.N_0.symm
  unfold G2
  rw [dif_pos (by rw [hp]; omega), hl, fold0_congr m c _ _ _ hlt hp]
  refine (fold_out m c _ hlt (by omega) _ _).trans ?_
  have e1 : 1024 * ((2 * (11 * (i.val / 1024) + j.val / 512) + 1) / 22) + i.val % 1024 = i.val := by omega
  have e2 : 512 * ((2 * (11 * (i.val / 1024) + j.val / 512) + 1) / 2 % 11) + j.val % 512 = j.val := by omega
  rw [e1, e2]

/-- The arguments' arrays. -/
abbrev a0 : FVec Ideal S8192x1024 .f32 := m ((c : Thread nD τ).loc main_arg0)
abbrev a1 : FVec Ideal S8192x5632 .f32 := m ((c : Thread nD τ).loc main_arg1)

theorem V_v0 : V m c main_v0 = truncf (F := Ideal) .bf16 (a0 m c) Cert.Kernel3Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Cert.Kernel3Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The reference's entry. -/
theorem ref_apply (X : FVec Ideal S8192x1024 .f32) (Y : FVec Ideal S8192x5632 .f32) (i : Fin 1024) (j : Fin 5632) :
    Cert.Reference3Ideal.Read.val_main_v4 (F := Ideal) X Y (ix2 i j) = ∑ t : Fin 8192, Y (ix2 t j) * X (ix2 t i) := by
  pointwise [Cert.Reference3Ideal.Read.val_main_v4, Cert.Reference3Ideal.Read.val_main_v3, Cert.Reference3Ideal.Read.val_main_v2]

/-- The call's result is the reference's. -/
theorem arr2 : G2 m c = Cert.Reference3Ideal.Read.val_main_v4 (F := Ideal) (a0 m c) (a1 m c) := by
  funext i
  obtain ⟨i, j, rfl⟩ : ∃ (a : Fin 1024) (b : Fin 5632), i = ix2 a b := ⟨i 0, i 1, ix_eq i⟩
  rw [G2_apply, ref_apply, colSum_all, y0, y1, V_v0, V_v1]
  rfl

end Fold

end Cert.Proof.Kernel3Ideal

end
-- ==== Proof.InGrad.lean ====
/-
  The call computing the gradient of the in projection's weight: the product's block after each block of rows, the fold over the
  grid, and its result whole — of any arguments, the reference's.
-/
module

public import proofs.«01_k».proof.Proof.Prod
public import proofs.«01_k».proof.Proof.Gen.Kernel4Ideal.Value
public import proofs.«01_k».proof.Proof.Gen.Reference4Ideal.Read
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel4Ideal

open Cert.Kernel4Ideal Cert.Kernel4Ideal.Gen Cert.Kernel4Ideal.Value
open Cert.Proof.Prod
open Idealize.ShloMosaic Idealize.ShloMosaic.TcCoe Idealize.ShloMosaic.Tactic

section Cases

variable {F : FTy → Type} [FloatOps F]

theorem hz : (![0, 0] : Fin 2 → Nat) = fun _ => 0 := funext fun a => by fin_cases a <;> rfl

/-- The first block of rows: the sum cleared, the block added. -/
theorem sout0_A_0_eq (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S4096x1024 .bf16) (x1 : Vec F S4096x1024 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz]
  simp only [View.readCov_unit_zero (S := S1024x1024) _ hz, View.readAt_eq_ld, harg3.read_unread, harg4.read_unread, harg5.read_unread, harg6.read_unread, View.ld_unit_zero (S := S1024x1024) hz, View.ld_unit_zero (S := S4096x1024) hz]

/-- The last block of rows added, and the sum written out. -/
theorem out0_B_2_eq (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S4096x1024 .bf16) (x1 : Vec F S4096x1024 .bf16) (xs0 : Vec F S1024x1024 .f32) :
    out0_B_2 c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero (S := S1024x1024) hz]
  simp only [View.readCov_unit_zero (S := S1024x1024) _ hz, View.readAt_eq_ld, harg3.read_unread, harg4.read_unread, harg5.read_unread, harg6.read_unread, View.ld_unit_zero (S := S1024x1024) hz, View.ld_unit_zero (S := S4096x1024) hz]

end Cases

section Steps

variable {F : FTy → Type} [FloatOps F] (m : (ℓ : Loc nD τ sig) → Buf (Elt F) ℓ) (c : Dev nD) (t : Fin cfg0.N)
  (acc : Vec F S1024x1024 .bf16 × Vec F S1024x1024 .f32)

theorem first_scr (h : t.val % 2 = 0) : (stAt0 m c t.val t.isLt acc).2 = k0_pay2 k0_pay1 (iblk m c 0 t) (iblk m c 1 t) := by
  rw [stAt0_A m c t acc h (by omega)]
  dsimp only
  rw [sout0_A_0_eq]

theorem last_out (h : t.val % 2 = 1) : (stAt0 m c t.val t.isLt acc).1 = k0_pay3 (k0_pay2 acc.2 (iblk m c 0 t) (iblk m c 1 t)) := by
  rw [stAt0_B m c t acc (by omega) h]
  dsimp only
  rw [out0_B_2_eq]

/-- The blocks a point works on: of rows added, of the result's rows, of its columns. -/
def kB (t : Fin cfg0.N) : Fin 2 := ⟨t.val % 2, by omega⟩
def iB (t : Fin cfg0.N) : Fin 1 := ⟨t.val / 14, by have : t.val < 14 := t.isLt; omega⟩
def jB (t : Fin cfg0.N) : Fin 7 := ⟨t.val / 2 % 7, by omega⟩

abbrev kAt (t : Fin cfg0.N) (k : Fin 4096) : Fin 8192 := ⟨4096 * (kB t).val + k.val, by omega⟩
abbrev iAt (t : Fin cfg0.N) (r : Fin 1024) : Fin 1024 := ⟨1024 * (iB t).val + r.val, by omega⟩
abbrev jAt (t : Fin cfg0.N) (d : Fin 1024) : Fin 7168 := ⟨1024 * (jB t).val + d.val, by omega⟩

theorem idx0 : ∀ t : Fin cfg0.N, win0_0.index t = ![(kB t).val, (iB t).val] := by decide +kernel
theorem idx1 : ∀ t : Fin cfg0.N, win0_1.index t = ![(kB t).val, (jB t).val] := by decide +kernel

theorem read0 (k : Fin 4096) (r : Fin 1024) : iblk m c 0 t (ix2 k r) = V m c main_v0 (ix2 (kAt t k) (iAt t r)) := by
  blk_ext [Gen.iblk, idx0 t]
theorem read1 (k : Fin 4096) (d : Fin 1024) : iblk m c 1 t (ix2 k d) = V m c main_v1 (ix2 (kAt t k) (jAt t d)) := by
  blk_ext [Gen.iblk, idx1 t]

end Steps

section Fold

theorem pay1_apply (r : Fin 1024) (d : Fin 1024) : k0_pay1 (F := Ideal) (ix2 r d) = 0 := by
  pointwise [k0_pay1]

theorem pay2_apply (acc : Vec Ideal S1024x1024 .f32) (x0 : Vec Ideal S4096x1024 .bf16) (x1 : Vec Ideal S4096x1024 .bf16) (r : Fin 1024) (d : Fin 1024) :
    k0_pay2 (F := Ideal) acc x0 x1 (ix2 r d) = acc (ix2 r d) + ∑ k : Fin 4096, x0 (ix2 k r) * x1 (ix2 k d) := by
  pointwise [k0_pay2]

theorem pay3_apply (acc : Vec Ideal S1024x1024 .f32) (r : Fin 1024) (d : Fin 1024) : k0_pay3 (F := Ideal) acc (ix2 r d) = acc (ix2 r d) := by
  pointwise [k0_pay3]

variable (m : (ℓ : Loc nD τ sig) → Buf (Elt Ideal) ℓ) (c : Dev nD)

/-- The operands' arrays. -/
abbrev y0 : FVec Ideal S8192x1024 .bf16 := V m c main_v0
abbrev y1 : FVec Ideal S8192x7168 .bf16 := V m c main_v1

/-- A point's block of rows added to the rows before it. -/
theorem step (t : Fin cfg0.N) (acc : Vec Ideal S1024x1024 .f32) (n i j : ℕ) (hn : t.val = n) (hi : n / 14 = i) (hj : n / 2 % 7 = j) (r : Fin 1024) (d : Fin 1024)
    (ha : acc (ix2 r d) = colSum (y0 m c) (y1 m c) (4096 * (n % 2)) (1024 * i + r.val) (1024 * j + d.val)) :
    k0_pay2 (F := Ideal) acc (iblk m c 0 t) (iblk m c 1 t) (ix2 r d)
      = colSum (y0 m c) (y1 m c) (4096 * (n % 2 + 1)) (1024 * i + r.val) (1024 * j + d.val) := by
  subst hn hi hj
  rw [pay2_apply, ha, Nat.mul_add, Nat.mul_one, ← colSum_add]
  refine congrArg (_ + ·) (Finset.sum_congr rfl fun k _ => ?_)
  rw [read0, read1]
  exact congrArg₂ (· * ·) (ent_eq (y0 m c) (kAt t k) (iAt t r)) (ent_eq (y1 m c) (kAt t k) (jAt t d))

/-- The fold of the points' steps. -/
abbrev st (n : ℕ) (h : 0 + n < cfg0.N) := Pipeline.accAt (fun n h => stAt0 m c n h junk0) (stAt0 m c) 0 n h

theorem clear (t : Fin cfg0.N) (n : ℕ) (hn : t.val = n) (h0 : n % 2 = 0) (acc : Vec Ideal S1024x1024 .bf16 × Vec Ideal S1024x1024 .f32) (r : Fin 1024) (d : Fin 1024) :
    (stAt0 m c t.val t.isLt acc).2 (ix2 r d)
      = colSum (y0 m c) (y1 m c) (4096 * (n % 2 + 1)) (1024 * (n / 14) + r.val) (1024 * (n / 2 % 7) + d.val) := by
  rw [first_scr m c t acc (by omega)]
  refine step m c t _ n _ _ hn rfl rfl r d ?_
  rw [pay1_apply, h0, Nat.mul_zero, colSum_zero]

/-- Before a result's block is written, its sum covers the blocks of rows so far. -/
theorem fold_scr : ∀ (n : ℕ) (h : 0 + n < cfg0.N), n % 2 < 1 → ∀ r d, (st m c n h).2 (ix2 r d)
    = colSum (y0 m c) (y1 m c) (4096 * (n % 2 + 1)) (1024 * (n / 14) + r.val) (1024 * (n / 2 % 7) + d.val)
  | 0, h, hl => fun r d => clear m c ⟨0, h⟩ 0 rfl rfl _ r d
  | n + 1, h, hl => fun r d => by
    by_cases h0 : (n + 1) % 2 = 0
    · exact clear m c ⟨0 + (n + 1), h⟩ (n + 1) (Nat.zero_add _) h0 _ r d
    · omega

/-- A result's block, when it is written, covers all rows. -/
theorem fold_out (n : ℕ) (h : 0 + n < cfg0.N) (hl : n % 2 = 1) (r : Fin 1024) (d : Fin 1024) : (st m c n h).1 (ix2 r d)
    = colSum (y0 m c) (y1 m c) 8192 (1024 * (n / 14) + r.val) (1024 * (n / 2 % 7) + d.val) := by
  obtain ⟨n, rfl⟩ : ∃ k, n = k + 1 := ⟨n - 1, by omega⟩
  have ih := fold_scr m c n (by omega) (by omega) r d
  have hv : ((⟨0 + (n + 1), h⟩ : Fin cfg0.N)).val = n + 1 := Nat.zero_add _
  show (stAt0 m c ((⟨0 + (n + 1), h⟩ : Fin cfg0.N)).val _ (st m c n (by omega))).1 (ix2 r d) = _
  rw [last_out m c ⟨0 + (n + 1), h⟩ _ (by omega), pay3_apply]
  refine (step m c ⟨0 + (n + 1), h⟩ _ (n + 1) _ _ hv rfl rfl r d (ih.trans ?_)).trans ?_
  · rw [show (n + 1) % 2 = n % 2 + 1 by omega, show (n + 1) / 14 = n / 14 by omega, show (n + 1) / 2 = n / 2 by omega]
  · rw [hl]

/-- The call's result, an entry. -/
theorem G2_apply (i : Fin 1024) (j : Fin 7168) : G2 m c (ix2 i j) = colSum (y0 m c) (y1 m c) 8192 i j := by
  have hi := i.isLt
  have hj := j.isLt
  have hp : pt2Of (ix2 i j) = 2 * (7 * (i.val / 1024) + j.val / 1024) + 1 := by
    show 2 * (7 * (i.val / 1024 - 0) + 1 * (j.val / 1024 - 0)) + 1 = _
    omega
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have hlt : 0 + (2 * (7 * (i.val / 1024) + j.val / 1024) + 1) < cfg0.N := lt_of_lt_of_eq (by omega) Gen.N_0.symm
  unfold G2
  rw [dif_pos (by rw [hp]; omega), hl, fold0_congr m c _ _ _ hlt hp]
  refine (fold_out m c _ hlt (by omega) _ _).trans ?_
  have e1 : 1024 * ((2 * (7 * (i.val / 1024) + j.val / 1024) + 1) / 14) + i.val % 1024 = i.val := by omega
  have e2 : 1024 * ((2 * (7 * (i.val / 1024) + j.val / 1024) + 1) / 2 % 7) + j.val % 1024 = j.val := by omega
  rw [e1, e2]

/-- The arguments' arrays. -/
abbrev a0 : FVec Ideal S8192x1024 .f32 := m ((c : Thread nD τ).loc main_arg0)
abbrev a1 : FVec Ideal S8192x7168 .f32 := m ((c : Thread nD τ).loc main_arg1)

theorem V_v0 : V m c main_v0 = truncf (F := Ideal) .bf16 (a0 m c) Cert.Kernel4Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Cert.Kernel4Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The reference's entry. -/
theorem ref_apply (X : FVec Ideal S8192x1024 .f32) (Y : FVec Ideal S8192x7168 .f32) (i : Fin 1024) (j : Fin 7168) :
    Cert.Reference4Ideal.Read.val_main_v4 (F := Ideal) X Y (ix2 i j) = ∑ t : Fin 8192, Y (ix2 t j) * X (ix2 t i) := by
  pointwise [Cert.Reference4Ideal.Read.val_main_v4, Cert.Reference4Ideal.Read.val_main_v3, Cert.Reference4Ideal.Read.val_main_v2]

/-- The call's result is the reference's. -/
theorem arr2 : G2 m c = Cert.Reference4Ideal.Read.val_main_v4 (F := Ideal) (a0 m c) (a1 m c) := by
  funext i
  obtain ⟨i, j, rfl⟩ : ∃ (a : Fin 1024) (b : Fin 7168), i = ix2 a b := ⟨i 0, i 1, ix_eq i⟩
  rw [G2_apply, ref_apply, colSum_all, y0, y1, V_v0, V_v1]
  rfl

end Fold

end Cert.Proof.Kernel4Ideal

end
-- ==== Proof.ActGrad.lean ====
/-
  The call computing the gradient of the gated activation: each block it writes, and its result whole — of any arguments, the reference's.
-/
module

public import proofs.«01_k».proof.Proof.Prod
public import proofs.«01_k».proof.Proof.Gen.Kernel5Ideal.Value
public import proofs.«01_k».proof.Proof.Gen.Reference5Ideal.Read
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel5Ideal

open Cert.Kernel5Ideal Cert.Kernel5Ideal.Gen Cert.Kernel5Ideal.Value
open Cert.Proof.Prod
open Idealize.ShloMosaic Idealize.ShloMosaic.TcCoe Idealize.ShloMosaic.Tactic

section Blocks

variable {F : FTy → Type} [FloatOps F] (m : (ℓ : Loc nD τ sig) → Buf (Elt F) ℓ) (c : Dev nD) (t : Fin cfg0.N)

theorem hz : (![0, 0] : Fin 2 → Nat) = fun _ => 0 := funext fun a => by fin_cases a <;> rfl

theorem out0_2_eq (x0 : Vec F S2048x1024 .bf16) (x1 : Vec F S1408x1024 .bf16) : out0_2 x0 x1 = k0_pay1 x0 x1 := by
  unfold out0_2
  rw [View.canon_unit_zero (S := S2048x1408) hz, View.ld_unit_zero (S := S2048x1024) hz, View.ld_unit_zero (S := S1408x1024) hz]

/-- The blocks a point works on: of the result's rows, of its columns. -/
def iB (t : Fin cfg0.N) : Fin 4 := ⟨t.val / 2, by have : t.val < 8 := t.isLt; omega⟩
def jB (t : Fin cfg0.N) : Fin 2 := ⟨t.val % 2, by omega⟩

abbrev iAt (t : Fin cfg0.N) (r : Fin 2048) : Fin 8192 := ⟨2048 * (iB t).val + r.val, by omega⟩
abbrev jAt (t : Fin cfg0.N) (d : Fin 1408) : Fin 2816 := ⟨1408 * (jB t).val + d.val, by omega⟩

theorem idx0 : ∀ t : Fin cfg0.N, win0_0.index t = ![(iB t).val, 0] := by decide +kernel
theorem idx1 : ∀ t : Fin cfg0.N, win0_1.index t = ![(jB t).val, 0] := by decide +kernel
theorem idx2 : ∀ t : Fin cfg0.N, win0_2.index t = ![(iB t).val, (jB t).val] := by decide +kernel

theorem read0 (r : Fin 2048) (k : Fin 1024) : iblk m c 0 t (ix2 r k) = V m c main_v0 (ix2 (iAt t r) k) := by
  blk_ext [Gen.iblk, idx0 t]
theorem read1 (d : Fin 1408) (k : Fin 1024) : iblk m c 1 t (ix2 d k) = V m c main_v1 (ix2 (jAt t d) k) := by
  blk_ext [Gen.iblk, idx1 t]

/-- A result's index lies in a point's block when the block's coordinates are the index's. -/
theorem mem_blk2 (t : Fin cfg0.N) (i : S8192x2816.Idx) :
    i ∈ ((cfg0.win 2).blk t).view.set ↔ ∀ a : Fin 2, win0_2.index t a * S2048x1408.size a ≤ (i a).val ∧ (i a).val < win0_2.index t a * S2048x1408.size a + S2048x1408.size a := by
  show i ∈ ((View.whole main_v2).slice (win0_2.rect t)).set ↔ _
  rw [View.set_slice_whole, Rect.mem_set_unit]
  exact Iff.rfl

theorem flush2 : ∀ t : Fin cfg0.N, (cfg0.win 2).flush t = true := by decide +kernel

/-- Every index of the result is in some point's block. -/
theorem covered2 (i : S8192x2816.Idx) : ∃ t : Fin cfg0.N, (cfg0.win 2).flush t = true ∧ i ∈ ((cfg0.win 2).blk t).view.set := by
  have h0 : (i 0).val < 8192 := (i 0).isLt
  have h1 : (i 1).val < 2816 := (i 1).isLt
  have hlt : 2 * ((i 0).val / 2048) + (i 1).val / 1408 < cfg0.N := lt_of_lt_of_eq (by omega) Gen.N_0.symm
  refine ⟨⟨_, hlt⟩, flush2 _, ?_⟩
  rw [mem_blk2, idx2]
  intro a
  match a with
  | ⟨0, _⟩ =>
    show (2 * ((i 0).val / 2048) + (i 1).val / 1408) / 2 * 2048 ≤ (i 0).val ∧ (i 0).val < (2 * ((i 0).val / 2048) + (i 1).val / 1408) / 2 * 2048 + 2048
    omega
  | ⟨1, _⟩ =>
    show (2 * ((i 0).val / 2048) + (i 1).val / 1408) % 2 * 1408 ≤ (i 1).val ∧ (i 1).val < (2 * ((i 0).val / 2048) + (i 1).val / 1408) % 2 * 1408 + 1408
    omega

end Blocks

section Result

theorem pay1_apply (x0 : Vec Ideal S2048x1024 .bf16) (x1 : Vec Ideal S1408x1024 .bf16) (r : Fin 2048) (d : Fin 1408) :
    k0_pay1 (F := Ideal) x0 x1 (ix2 r d) = ∑ k : Fin 1024, x0 (ix2 r k) * x1 (ix2 d k) := by
  pointwise [k0_pay1]

variable (m : (ℓ : Loc nD τ sig) → Buf (Elt Ideal) ℓ) (c : Dev nD)

/-- The arguments' arrays. -/
abbrev a0 : FVec Ideal S8192x1024 .f32 := m ((c : Thread nD τ).loc main_arg0)
abbrev a1 : FVec Ideal S2816x1024 .f32 := m ((c : Thread nD τ).loc main_arg1)

theorem V_v0 : V m c main_v0 = truncf (F := Ideal) .bf16 (a0 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The reference's entry. -/
theorem ref_apply (X : FVec Ideal S8192x1024 .f32) (Y : FVec Ideal S2816x1024 .f32) (i : Fin 8192) (j : Fin 2816) :
    Cert.Reference5Ideal.Read.val_main_v2 (F := Ideal) X Y (ix2 i j) = ∑ k : Fin 1024, X (ix2 i k) * Y (ix2 j k) := by
  pointwise [Cert.Reference5Ideal.Read.val_main_v2]

/-- A block of the product, an entry. -/
theorem blk_apply (t : Fin cfg0.N) (r : Fin 2048) (d : Fin 1408) : k0_pay1 (F := Ideal) (iblk m c 0 t) (iblk m c 1 t) (ix2 r d)
    = Cert.Reference5Ideal.Read.val_main_v2 (F := Ideal) (a0 m c) (a1 m c) (ix2 (iAt t r) (jAt t d)) := by
  rw [pay1_apply, ref_apply]
  refine Finset.sum_congr rfl fun k _ => ?_
  rw [read0, read1, V_v0, V_v1]
  rfl

/-- What a point writes back is its block of the reference's result. -/
theorem flushed2_eq (t : Fin cfg0.N) : (dats m 0 c).flushed 2 t
    = ((cfg0.win 2).blk t).view.read (Elt Ideal) (Cert.Reference5Ideal.Read.val_main_v2 (F := Ideal) (a0 m c) (a1 m c)) := by
  rw [flushed2, out0_2_eq]
  funext y
  obtain ⟨r, d, rfl⟩ : ∃ (a : Fin 2048) (b : Fin 1408), y = ix2 a b := ⟨y 0, y 1, ix_eq y⟩
  refine (blk_apply m c t r d).trans (congrArg (Cert.Reference5Ideal.Read.val_main_v2 (F := Ideal) (a0 m c) (a1 m c)) ?_)
  have hb0 : (((cfg0.win 2).blk t).view.emb (ix2 r d) 0).val = win0_2.index t (0 : Fin 2) * 2048 + 1 * r.val := rfl
  have hb1 : (((cfg0.win 2).blk t).view.emb (ix2 r d) 1).val = win0_2.index t (1 : Fin 2) * 1408 + 1 * d.val := rfl
  have i0 : win0_2.index t (0 : Fin 2) = (iB t).val := congrFun (idx2 t) 0
  have i1 : win0_2.index t (1 : Fin 2) = (jB t).val := congrFun (idx2 t) 1
  funext a; apply Fin.ext
  match a with
  | ⟨0, _⟩ =>
    show 2048 * (iB t).val + r.val = (((cfg0.win 2).blk t).view.emb (ix2 r d) 0).val
    rw [hb0, i0]; omega
  | ⟨1, _⟩ =>
    show 1408 * (jB t).val + d.val = (((cfg0.win 2).blk t).view.emb (ix2 r d) 1).val
    rw [hb1, i1]; omega

/-- The call's result is the reference's. -/
theorem arr2 : (dats m 0 c).arrAt 2 cfg0.N = Cert.Reference5Ideal.Read.val_main_v2 (F := Ideal) (a0 m c) (a1 m c) :=
  (dats m 0 c).arrAt_eq_of_cover 2 _ (fun t _ => flushed2_eq m c t) covered2

end Result

end Cert.Proof.Kernel5Ideal

end
-- ==== Proof.DownGrad.lean ====
/-
  The call computing the gradient of the down projection's weight: the product's block after each block of rows, the fold over the
  grid, and its result whole — of any arguments, the reference's.
-/
module

public import proofs.«01_k».proof.Proof.Prod
public import proofs.«01_k».proof.Proof.Gen.Kernel6Ideal.Value
public import proofs.«01_k».proof.Proof.Gen.Reference6Ideal.Read
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel6Ideal

open Cert.Kernel6Ideal Cert.Kernel6Ideal.Gen Cert.Kernel6Ideal.Value
open Cert.Proof.Prod
open Idealize.ShloMosaic Idealize.ShloMosaic.TcCoe Idealize.ShloMosaic.Tactic

section Cases

variable {F : FTy → Type} [FloatOps F]

theorem hz : (![0, 0] : Fin 2 → Nat) = fun _ => 0 := funext fun a => by fin_cases a <;> rfl

/-- The first block of rows: the sum cleared, the block added. -/
theorem sout0_A_0_eq (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i) (hc1 : ¬cond0_1 i) (x0 : Vec F S2048x1408 .bf16) (x1 : Vec F S2048x1024 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1408x1024) hz]
  simp only [View.readCov_unit_zero (S := S1408x1024) _ hz, View.readAt_eq_ld, harg3.read_unread, harg4.read_unread, harg5.read_unread, harg6.read_unread, View.ld_unit_zero (S := S1408x1024) hz, View.ld_unit_zero (S := S2048x1408) hz, View.ld_unit_zero (S := S2048x1024) hz]

/-- A further block of rows added. -/
theorem sout0_B_0_eq (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : ¬cond0_1 i) (x0 : Vec F S2048x1408 .bf16) (x1 : Vec F S2048x1024 .bf16) (xs0 : Vec F S1408x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1408x1024) hz]
  simp only [View.readCov_unit_zero (S := S1408x1024) _ hz, View.readAt_eq_ld, harg3.read_unread, harg4.read_unread, harg5.read_unread, harg6.read_unread, View.ld_unit_zero (S := S1408x1024) hz, View.ld_unit_zero (S := S2048x1408) hz, View.ld_unit_zero (S := S2048x1024) hz]

/-- The last block of rows added, and the sum written out. -/
theorem out0_C_2_eq (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (x0 : Vec F S2048x1408 .bf16) (x1 : Vec F S2048x1024 .bf16) (xs0 : Vec F S1408x1024 .f32) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1408x1024) hz]
  simp only [View.readCov_unit_zero (S := S1408x1024) _ hz, View.readAt_eq_ld, harg3.read_unread, harg4.read_unread, harg5.read_unread, harg6.read_unread, View.ld_unit_zero (S := S1408x1024) hz, View.ld_unit_zero (S := S2048x1408) hz, View.ld_unit_zero (S := S2048x1024) hz]

end Cases

section Steps

variable {F : FTy → Type} [FloatOps F] (m : (ℓ : Loc nD τ sig) → Buf (Elt F) ℓ) (c : Dev nD) (t : Fin cfg0.N)
  (acc : Vec F S1408x1024 .bf16 × Vec F S1408x1024 .f32)

theorem first_scr (h : t.val % 4 = 0) : (stAt0 m c t.val t.isLt acc).2 = k0_pay2 k0_pay1 (iblk m c 0 t) (iblk m c 1 t) := by
  rw [stAt0_A m c t acc h (by omega)]
  dsimp only
  rw [sout0_A_0_eq]

theorem mid_scr (h : ¬t.val % 4 = 0) (h' : ¬t.val % 4 = 3) : (stAt0 m c t.val t.isLt acc).2 = k0_pay2 acc.2 (iblk m c 0 t) (iblk m c 1 t) := by
  rw [stAt0_B m c t acc h h']
  dsimp only
  rw [sout0_B_0_eq]

theorem last_out (h : t.val % 4 = 3) : (stAt0 m c t.val t.isLt acc).1 = k0_pay3 (k0_pay2 acc.2 (iblk m c 0 t) (iblk m c 1 t)) := by
  rw [stAt0_C m c t acc (by omega) h]
  dsimp only
  rw [out0_C_2_eq]

/-- The blocks a point works on: of rows added, of the result's rows, of its columns. -/
def kB (t : Fin cfg0.N) : Fin 4 := ⟨t.val % 4, by omega⟩
def iB (t : Fin cfg0.N) : Fin 2 := ⟨t.val / 4, by have : t.val < 8 := t.isLt; omega⟩
def jB (t : Fin cfg0.N) : Fin 1 := ⟨t.val / 4 % 1, by omega⟩

abbrev kAt (t : Fin cfg0.N) (k : Fin 2048) : Fin 8192 := ⟨2048 * (kB t).val + k.val, by omega⟩
abbrev iAt (t : Fin cfg0.N) (r : Fin 1408) : Fin 2816 := ⟨1408 * (iB t).val + r.val, by omega⟩
abbrev jAt (t : Fin cfg0.N) (d : Fin 1024) : Fin 1024 := ⟨1024 * (jB t).val + d.val, by omega⟩

theorem idx0 : ∀ t : Fin cfg0.N, win0_0.index t = ![(kB t).val, (iB t).val] := by decide +kernel
theorem idx1 : ∀ t : Fin cfg0.N, win0_1.index t = ![(kB t).val, (jB t).val] := by decide +kernel

theorem read0 (k : Fin 2048) (r : Fin 1408) : iblk m c 0 t (ix2 k r) = V m c main_v0 (ix2 (kAt t k) (iAt t r)) := by
  blk_ext [Gen.iblk, idx0 t]
theorem read1 (k : Fin 2048) (d : Fin 1024) : iblk m c 1 t (ix2 k d) = V m c main_v1 (ix2 (kAt t k) (jAt t d)) := by
  blk_ext [Gen.iblk, idx1 t]

end Steps

section Fold

theorem pay1_apply (r : Fin 1408) (d : Fin 1024) : k0_pay1 (F := Ideal) (ix2 r d) = 0 := by
  pointwise [k0_pay1]

theorem pay2_apply (acc : Vec Ideal S1408x1024 .f32) (x0 : Vec Ideal S2048x1408 .bf16) (x1 : Vec Ideal S2048x1024 .bf16) (r : Fin 1408) (d : Fin 1024) :
    k0_pay2 (F := Ideal) acc x0 x1 (ix2 r d) = acc (ix2 r d) + ∑ k : Fin 2048, x0 (ix2 k r) * x1 (ix2 k d) := by
  pointwise [k0_pay2]

theorem pay3_apply (acc : Vec Ideal S1408x1024 .f32) (r : Fin 1408) (d : Fin 1024) : k0_pay3 (F := Ideal) acc (ix2 r d) = acc (ix2 r d) := by
  pointwise [k0_pay3]

variable (m : (ℓ : Loc nD τ sig) → Buf (Elt Ideal) ℓ) (c : Dev nD)

/-- The operands' arrays. -/
abbrev y0 : FVec Ideal S8192x2816 .bf16 := V m c main_v0
abbrev y1 : FVec Ideal S8192x1024 .bf16 := V m c main_v1

/-- A point's block of rows added to the rows before it. -/
theorem step (t : Fin cfg0.N) (acc : Vec Ideal S1408x1024 .f32) (n i j : ℕ) (hn : t.val = n) (hi : n / 4 = i) (hj : n / 4 % 1 = j) (r : Fin 1408) (d : Fin 1024)
    (ha : acc (ix2 r d) = colSum (y0 m c) (y1 m c) (2048 * (n % 4)) (1408 * i + r.val) (1024 * j + d.val)) :
    k0_pay2 (F := Ideal) acc (iblk m c 0 t) (iblk m c 1 t) (ix2 r d)
      = colSum (y0 m c) (y1 m c) (2048 * (n % 4 + 1)) (1408 * i + r.val) (1024 * j + d.val) := by
  subst hn hi hj
  rw [pay2_apply, ha, Nat.mul_add, Nat.mul_one, ← colSum_add]
  refine congrArg (_ + ·) (Finset.sum_congr rfl fun k _ => ?_)
  rw [read0, read1]
  exact congrArg₂ (· * ·) (ent_eq (y0 m c) (kAt t k) (iAt t r)) (ent_eq (y1 m c) (kAt t k) (jAt t d))

/-- The fold of the points' steps. -/
abbrev st (n : ℕ) (h : 0 + n < cfg0.N) := Pipeline.accAt (fun n h => stAt0 m c n h junk0) (stAt0 m c) 0 n h

theorem clear (t : Fin cfg0.N) (n : ℕ) (hn : t.val = n) (h0 : n % 4 = 0) (acc : Vec Ideal S1408x1024 .bf16 × Vec Ideal S1408x1024 .f32) (r : Fin 1408) (d : Fin 1024) :
    (stAt0 m c t.val t.isLt acc).2 (ix2 r d)
      = colSum (y0 m c) (y1 m c) (2048 * (n % 4 + 1)) (1408 * (n / 4) + r.val) (1024 * (n / 4 % 1) + d.val) := by
  rw [first_scr m c t acc (by omega)]
  refine step m c t _ n _ _ hn rfl rfl r d ?_
  rw [pay1_apply, h0, Nat.mul_zero, colSum_zero]

/-- Before a result's block is written, its sum covers the blocks of rows so far. -/
theorem fold_scr : ∀ (n : ℕ) (h : 0 + n < cfg0.N), n % 4 < 3 → ∀ r d, (st m c n h).2 (ix2 r d)
    = colSum (y0 m c) (y1 m c) (2048 * (n % 4 + 1)) (1408 * (n / 4) + r.val) (1024 * (n / 4 % 1) + d.val)
  | 0, h, hl => fun r d => clear m c ⟨0, h⟩ 0 rfl rfl _ r d
  | n + 1, h, hl => fun r d => by
    by_cases h0 : (n + 1) % 4 = 0
    · exact clear m c ⟨0 + (n + 1), h⟩ (n + 1) (Nat.zero_add _) h0 _ r d
    · have ih := fold_scr n (by omega) (by omega) r d
      have hv : ((⟨0 + (n + 1), h⟩ : Fin cfg0.N)).val = n + 1 := Nat.zero_add _
      show (stAt0 m c ((⟨0 + (n + 1), h⟩ : Fin cfg0.N)).val _ (st m c n (by omega))).2 (ix2 r d) = _
      rw [mid_scr m c ⟨0 + (n + 1), h⟩ _ (by omega) (by omega)]
      refine step m c ⟨0 + (n + 1), h⟩ _ (n + 1) _ _ hv rfl rfl r d (ih.trans ?_)
      rw [show (n + 1) % 4 = n % 4 + 1 by omega, show (n + 1) / 4 = n / 4 by omega]

/-- A result's block, when it is written, covers all rows. -/
theorem fold_out (n : ℕ) (h : 0 + n < cfg0.N) (hl : n % 4 = 3) (r : Fin 1408) (d : Fin 1024) : (st m c n h).1 (ix2 r d)
    = colSum (y0 m c) (y1 m c) 8192 (1408 * (n / 4) + r.val) (1024 * (n / 4 % 1) + d.val) := by
  obtain ⟨n, rfl⟩ : ∃ k, n = k + 1 := ⟨n - 1, by omega⟩
  have ih := fold_scr m c n (by omega) (by omega) r d
  have hv : ((⟨0 + (n + 1), h⟩ : Fin cfg0.N)).val = n + 1 := Nat.zero_add _
  show (stAt0 m c ((⟨0 + (n + 1), h⟩ : Fin cfg0.N)).val _ (st m c n (by omega))).1 (ix2 r d) = _
  rw [last_out m c ⟨0 + (n + 1), h⟩ _ (by omega), pay3_apply]
  refine (step m c ⟨0 + (n + 1), h⟩ _ (n + 1) _ _ hv rfl rfl r d (ih.trans ?_)).trans ?_
  · rw [show (n + 1) % 4 = n % 4 + 1 by omega, show (n + 1) / 4 = n / 4 by omega]
  · rw [hl]

/-- The call's result, an entry. -/
theorem G2_apply (i : Fin 2816) (j : Fin 1024) : G2 m c (ix2 i j) = colSum (y0 m c) (y1 m c) 8192 i j := by
  have hi := i.isLt
  have hj := j.isLt
  have hp : pt2Of (ix2 i j) = 4 * (1 * (i.val / 1408) + j.val / 1024) + 3 := by
    show 4 * (1 * (i.val / 1408 - 0) + 1 * (j.val / 1024 - 0)) + 3 = _
    omega
  have hl : loc2Of (ix2 i j) = ix2 (⟨i.val % 1408, Nat.mod_lt _ (by decide)⟩ : Fin 1408) (⟨j.val % 1024, Nat.mod_lt _ (by decide)⟩ : Fin 1024) := by
    funext a; apply Fin.ext
    match a with
    | ⟨0, _⟩ => rfl
    | ⟨1, _⟩ => rfl
  have hlt : 0 + (4 * (1 * (i.val / 1408) + j.val / 1024) + 3) < cfg0.N := lt_of_lt_of_eq (by omega) Gen.N_0.symm
  unfold G2
  rw [dif_pos (by rw [hp]; omega), hl, fold0_congr m c _ _ _ hlt hp]
  refine (fold_out m c _ hlt (by omega) _ _).trans ?_
  have e1 : 1408 * ((4 * (1 * (i.val / 1408) + j.val / 1024) + 3) / 4) + i.val % 1408 = i.val := by omega
  have e2 : 1024 * ((4 * (1 * (i.val / 1408) + j.val / 1024) + 3) / 4 % 1) + j.val % 1024 = j.val := by omega
  rw [e1, e2]

/-- The arguments' arrays. -/
abbrev a0 : FVec Ideal S8192x2816 .f32 := m ((c : Thread nD τ).loc main_arg0)
abbrev a1 : FVec Ideal S8192x1024 .f32 := m ((c : Thread nD τ).loc main_arg1)

theorem V_v0 : V m c main_v0 = truncf (F := Ideal) .bf16 (a0 m c) Cert.Kernel6Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Cert.Kernel6Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The reference's entry. -/
theorem ref_apply (X : FVec Ideal S8192x2816 .f32) (Y : FVec Ideal S8192x1024 .f32) (i : Fin 2816) (j : Fin 1024) :
    Cert.Reference6Ideal.Read.val_main_v4 (F := Ideal) X Y (ix2 i j) = ∑ t : Fin 8192, Y (ix2 t j) * X (ix2 t i) := by
  pointwise [Cert.Reference6Ideal.Read.val_main_v4, Cert.Reference6Ideal.Read.val_main_v3, Cert.Reference6Ideal.Read.val_main_v2]

/-- The call's result is the reference's. -/
theorem arr2 : G2 m c = Cert.Reference6Ideal.Read.val_main_v4 (F := Ideal) (a0 m c) (a1 m c) := by
  funext i
  obtain ⟨i, j, rfl⟩ : ∃ (a : Fin 2816) (b : Fin 1024), i = ix2 a b := ⟨i 0, i 1, ix_eq i⟩
  rw [G2_apply, ref_apply, colSum_all, y0, y1, V_v0, V_v1]
  rfl

end Fold

end Cert.Proof.Kernel6Ideal

end
-- ==== Proof.OutGrad.lean ====
/-
  The call computing the gradient of the out projection's weight: the product's block after each block of rows, the fold over the
  grid, and its result whole — of any arguments, the reference's.
-/
module

public import proofs.«01_k».proof.Proof.Prod
public import proofs.«01_k».proof.Proof.Gen.Kernel7Ideal.Value
public import proofs.«01_k».proof.Proof.Gen.Reference7Ideal.Read
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel7Ideal

open Cert.Kernel7Ideal Cert.Kernel7Ideal.Gen Cert.Kernel7Ideal.Value
open Cert.Proof.Prod
open Idealize.ShloMosaic Idealize.ShloMosaic.TcCoe Idealize.ShloMosaic.Tactic

section Cases

variable {F : FTy → Type} [FloatOps F]

theorem hz : (![0, 0] : Fin 2 → Nat) = fun _ => 0 := funext fun a => by fin_cases a <;> rfl

/-- The first block of rows: the sum cleared, the block added. -/
theorem sout0_A_0_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S2048x1024 .bf16) (x1 : Vec F S2048x1024 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz]
  simp only [View.readCov_unit_zero (S := S1024x1024) _ hz, View.readAt_eq_ld, harg3.read_unread, harg4.read_unread, harg5.read_unread, harg6.read_unread, View.ld_unit_zero (S := S1024x1024) hz, View.ld_unit_zero (S := S2048x1024) hz]

/-- A further block of rows added. -/
theorem sout0_B_0_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 : Vec F S2048x1024 .bf16) (x1 : Vec F S2048x1024 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x1024) hz]
  simp only [View.readCov_unit_zero (S := S1024x1024) _ hz, View.readAt_eq_ld, harg3.read_unread, harg4.read_unread, harg5.read_unread, harg6.read_unread, View.ld_unit_zero (S := S1024x1024) hz, View.ld_unit_zero (S := S2048x1024) hz]

/-- The last block of rows added, and the sum written out. -/
theorem out0_C_2_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S2048x1024 .bf16) (x1 : Vec F S2048x1024 .bf16) (xs0 : Vec F S1024x1024 .f32) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x1024) hz]
  simp only [View.readCov_unit_zero (S := S1024x1024) _ hz, View.readAt_eq_ld, harg3.read_unread, harg4.read_unread, harg5.read_unread, harg6.read_unread, View.ld_unit_zero (S := S1024x1024) hz, View.ld_unit_zero (S := S2048x1024) hz]

end Cases

section Steps

variable {F : FTy → Type} [FloatOps F] (m : (ℓ : Loc nD τ sig) → Buf (Elt F) ℓ) (c : Dev nD) (t : Fin cfg0.N)
  (acc : Vec F S1024x1024 .bf16 × Vec F S1024x1024 .f32)

theorem first_scr (h : t.val % 4 = 0) : (stAt0 m c t.val t.isLt acc).2 = k0_pay2 k0_pay1 (iblk m c 0 t) (iblk m c 1 t) := by
  rw [stAt0_A m c t acc h (by omega)]
  dsimp only
  rw [sout0_A_0_eq]

theorem mid_scr (h : ¬t.val % 4 = 0) (h' : ¬t.val % 4 = 3) : (stAt0 m c t.val t.isLt acc).2 = k0_pay2 acc.2 (iblk m c 0 t) (iblk m c 1 t) := by
  rw [stAt0_B m c t acc h h']
  dsimp only
  rw [sout0_B_0_eq]

theorem last_out (h : t.val % 4 = 3) : (stAt0 m c t.val t.isLt acc).1 = k0_pay3 (k0_pay2 acc.2 (iblk m c 0 t) (iblk m c 1 t)) := by
  rw [stAt0_C m c t acc (by omega) h]
  dsimp only
  rw [out0_C_2_eq]

/-- The blocks a point works on: of rows added, of the result's rows, of its columns. -/
def kB (t : Fin cfg0.N) : Fin 4 := ⟨t.val % 4, by omega⟩
def iB (t : Fin cfg0.N) : Fin 2 := ⟨t.val / 4, by have : t.val < 8 := t.isLt; omega⟩
def jB (t : Fin cfg0.N) : Fin 1 := ⟨t.val / 4 % 1, by omega⟩

abbrev kAt (t : Fin cfg0.N) (k : Fin 2048) : Fin 8192 := ⟨2048 * (kB t).val + k.val, by omega⟩
abbrev iAt (t : Fin cfg0.N) (r : Fin 1024) : Fin 2048 := ⟨1024 * (iB t).val + r.val, by omega⟩
abbrev jAt (t : Fin cfg0.N) (d : Fin 1024) : Fin 1024 := ⟨1024 * (jB t).val + d.val, by omega⟩

theorem idx0 : ∀ t : Fin cfg0.N, win0_0.index t = ![(kB t).val, (iB t).val] := by decide +kernel
theorem idx1 : ∀ t : Fin cfg0.N, win0_1.index t = ![(kB t).val, (jB t).val] := by decide +kernel

theorem read0 (k : Fin 2048) (r : Fin 1024) : iblk m c 0 t (ix2 k r) = V m c main_v0 (ix2 (kAt t k) (iAt t r)) := by
  blk_ext [Gen.iblk, idx0 t]
theorem read1 (k : Fin 2048) (d : Fin 1024) : iblk m c 1 t (ix2 k d) = V m c main_v1 (ix2 (kAt t k) (jAt t d)) := by
  blk_ext [Gen.iblk, idx1 t]

end Steps

section Fold

theorem pay1_apply (r : Fin 1024) (d : Fin 1024) : k0_pay1 (F := Ideal) (ix2 r d) = 0 := by
  pointwise [k0_pay1]

theorem pay2_apply (acc : Vec Ideal S1024x1024 .f32) (x0 : Vec Ideal S2048x1024 .bf16) (x1 : Vec Ideal S2048x1024 .bf16) (r : Fin 1024) (d : Fin 1024) :
    k0_pay2 (F := Ideal) acc x0 x1 (ix2 r d) = acc (ix2 r d) + ∑ k : Fin 2048, x0 (ix2 k r) * x1 (ix2 k d) := by
  pointwise [k0_pay2]

theorem pay3_apply (acc : Vec Ideal S1024x1024 .f32) (r : Fin 1024) (d : Fin 1024) : k0_pay3 (F := Ideal) acc (ix2 r d) = acc (ix2 r d) := by
  pointwise [k0_pay3]

variable (m : (ℓ : Loc nD τ sig) → Buf (Elt Ideal) ℓ) (c : Dev nD)

/-- The operands' arrays. -/
abbrev y0 : FVec Ideal S8192x2048 .bf16 := V m c main_v0
abbrev y1 : FVec Ideal S8192x1024 .bf16 := V m c main_v1

/-- A point's block of rows added to the rows before it. -/
theorem step (t : Fin cfg0.N) (acc : Vec Ideal S1024x1024 .f32) (n i j : ℕ) (hn : t.val = n) (hi : n / 4 = i) (hj : n / 4 % 1 = j) (r : Fin 1024) (d : Fin 1024)
    (ha : acc (ix2 r d) = colSum (y0 m c) (y1 m c) (2048 * (n % 4)) (1024 * i + r.val) (1024 * j + d.val)) :
    k0_pay2 (F := Ideal) acc (iblk m c 0 t) (iblk m c 1 t) (ix2 r d)
      = colSum (y0 m c) (y1 m c) (2048 * (n % 4 + 1)) (1024 * i + r.val) (1024 * j + d.val) := by
  subst hn hi hj
  rw [pay2_apply, ha, Nat.mul_add, Nat.mul_one, ← colSum_add]
  refine congrArg (_ + ·) (Finset.sum_congr rfl fun k _ => ?_)
  rw [read0, read1]
  exact congrArg₂ (· * ·) (ent_eq (y0 m c) (kAt t k) (iAt t r)) (ent_eq (y1 m c) (kAt t k) (jAt t d))

/-- The fold of the points' steps. -/
abbrev st (n : ℕ) (h : 0 + n < cfg0.N) := Pipeline.accAt (fun n h => stAt0 m c n h junk0) (stAt0 m c) 0 n h

theorem clear (t : Fin cfg0.N) (n : ℕ) (hn : t.val = n) (h0 : n % 4 = 0) (acc : Vec Ideal S1024x1024 .bf16 × Vec Ideal S1024x1024 .f32) (r : Fin 1024) (d : Fin 1024) :
    (stAt0 m c t.val t.isLt acc).2 (ix2 r d)
      = colSum (y0 m c) (y1 m c) (2048 * (n % 4 + 1)) (1024 * (n / 4) + r.val) (1024 * (n / 4 % 1) + d.val) := by
  rw [first_scr m c t acc (by omega)]
  refine step m c t _ n _ _ hn rfl rfl r d ?_
  rw [pay1_apply, h0, Nat.mul_zero, colSum_zero]

/-- Before a result's block is written, its sum covers the blocks of rows so far. -/
theorem fold_scr : ∀ (n : ℕ) (h : 0 + n < cfg0.N), n % 4 < 3 → ∀ r d, (st m c n h).2 (ix2 r d)
    = colSum (y0 m c) (y1 m c) (2048 * (n % 4 + 1)) (1024 * (n / 4) + r.val) (1024 * (n / 4 % 1) + d.val)
  | 0, h, hl => fun r d => clear m c ⟨0, h⟩ 0 rfl rfl _ r d
  | n + 1, h, hl => fun r d => by
    by_cases h0 : (n + 1) % 4 = 0
    · exact clear m c ⟨0 + (n + 1), h⟩ (n + 1) (Nat.zero_add _) h0 _ r d
    · have ih := fold_scr n (by omega) (by omega) r d
      have hv : ((⟨0 + (n + 1), h⟩ : Fin cfg0.N)).val = n + 1 := Nat.zero_add _
      show (stAt0 m c ((⟨0 + (n + 1), h⟩ : Fin cfg0.N)).val _ (st m c n (by omega))).2 (ix2 r d) = _
      rw [mid_scr m c ⟨0 + (n + 1), h⟩ _ (by omega) (by omega)]
      refine step m c ⟨0 + (n + 1), h⟩ _ (n + 1) _ _ hv rfl rfl r d (ih.trans ?_)
      rw [show (n + 1) % 4 = n % 4 + 1 by omega, show (n + 1) / 4 = n / 4 by omega]

/-- A result's block, when it is written, covers all rows. -/
theorem fold_out (n : ℕ) (h : 0 + n < cfg0.N) (hl : n % 4 = 3) (r : Fin 1024) (d : Fin 1024) : (st m c n h).1 (ix2 r d)
    = colSum (y0 m c) (y1 m c) 8192 (1024 * (n / 4) + r.val) (1024 * (n / 4 % 1) + d.val) := by
  obtain ⟨n, rfl⟩ : ∃ k, n = k + 1 := ⟨n - 1, by omega⟩
  have ih := fold_scr m c n (by omega) (by omega) r d
  have hv : ((⟨0 + (n + 1), h⟩ : Fin cfg0.N)).val = n + 1 := Nat.zero_add _
  show (stAt0 m c ((⟨0 + (n + 1), h⟩ : Fin cfg0.N)).val _ (st m c n (by omega))).1 (ix2 r d) = _
  rw [last_out m c ⟨0 + (n + 1), h⟩ _ (by omega), pay3_apply]
  refine (step m c ⟨0 + (n + 1), h⟩ _ (n + 1) _ _ hv rfl rfl r d (ih.trans ?_)).trans ?_
  · rw [show (n + 1) % 4 = n % 4 + 1 by omega, show (n + 1) / 4 = n / 4 by omega]
  · rw [hl]

/-- The call's result, an entry. -/
theorem G2_apply (i : Fin 2048) (j : Fin 1024) : G2 m c (ix2 i j) = colSum (y0 m c) (y1 m c) 8192 i j := by
  have hi := i.isLt
  have hj := j.isLt
  have hp : pt2Of (ix2 i j) = 4 * (1 * (i.val / 1024) + j.val / 1024) + 3 := by
    show 4 * (1 * (i.val / 1024 - 0) + 1 * (j.val / 1024 - 0)) + 3 = _
    omega
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have hlt : 0 + (4 * (1 * (i.val / 1024) + j.val / 1024) + 3) < cfg0.N := lt_of_lt_of_eq (by omega) Gen.N_0.symm
  unfold G2
  rw [dif_pos (by rw [hp]; omega), hl, fold0_congr m c _ _ _ hlt hp]
  refine (fold_out m c _ hlt (by omega) _ _).trans ?_
  have e1 : 1024 * ((4 * (1 * (i.val / 1024) + j.val / 1024) + 3) / 4) + i.val % 1024 = i.val := by omega
  have e2 : 1024 * ((4 * (1 * (i.val / 1024) + j.val / 1024) + 3) / 4 % 1) + j.val % 1024 = j.val := by omega
  rw [e1, e2]

/-- The arguments' arrays. -/
abbrev a0 : FVec Ideal S8192x2048 .f32 := m ((c : Thread nD τ).loc main_arg0)
abbrev a1 : FVec Ideal S8192x1024 .f32 := m ((c : Thread nD τ).loc main_arg1)

theorem V_v0 : V m c main_v0 = truncf (F := Ideal) .bf16 (a0 m c) Cert.Kernel7Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Cert.Kernel7Ideal.Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The reference's entry. -/
theorem ref_apply (X : FVec Ideal S8192x2048 .f32) (Y : FVec Ideal S8192x1024 .f32) (i : Fin 2048) (j : Fin 1024) :
    Cert.Reference7Ideal.Read.val_main_v4 (F := Ideal) X Y (ix2 i j) = ∑ t : Fin 8192, Y (ix2 t j) * X (ix2 t i) := by
  pointwise [Cert.Reference7Ideal.Read.val_main_v4, Cert.Reference7Ideal.Read.val_main_v3, Cert.Reference7Ideal.Read.val_main_v2]

/-- The call's result is the reference's. -/
theorem arr2 : G2 m c = Cert.Reference7Ideal.Read.val_main_v4 (F := Ideal) (a0 m c) (a1 m c) := by
  funext i
  obtain ⟨i, j, rfl⟩ : ∃ (a : Fin 2048) (b : Fin 1024), i = ix2 a b := ⟨i 0, i 1, ix_eq i⟩
  rw [G2_apply, ref_apply, colSum_all, y0, y1, V_v0, V_v1]
  rfl

end Fold

end Cert.Proof.Kernel7Ideal

end
-- ==== Proof.UpProduct.lean ====
/-
  The call computing the up projection: each block it writes, and its result whole — of any arguments, the reference's.
-/
module

public import proofs.«01_k».proof.Proof.Prod
public import proofs.«01_k».proof.Proof.Gen.Kernel8Ideal.Value
public import proofs.«01_k».proof.Proof.Gen.Reference8Ideal.Read
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel8Ideal

open Cert.Kernel8Ideal Cert.Kernel8Ideal.Gen Cert.Kernel8Ideal.Value
open Cert.Proof.Prod
open Idealize.ShloMosaic Idealize.ShloMosaic.TcCoe Idealize.ShloMosaic.Tactic

section Blocks

variable {F : FTy → Type} [FloatOps F] (m : (ℓ : Loc nD τ sig) → Buf (Elt F) ℓ) (c : Dev nD) (t : Fin cfg0.N)

theorem hz : (![0, 0] : Fin 2 → Nat) = fun _ => 0 := funext fun a => by fin_cases a <;> rfl

theorem out0_2_eq (x0 : Vec F S2048x1024 .bf16) (x1 : Vec F S1024x512 .bf16) : out0_2 x0 x1 = k0_pay1 x0 x1 := by
  unfold out0_2
  rw [View.canon_unit_zero (S := S2048x512) hz, View.ld_unit_zero (S := S2048x1024) hz, View.ld_unit_zero (S := S1024x512) hz]

/-- The blocks a point works on: of the result's rows, of its columns. -/
def iB (t : Fin cfg0.N) : Fin 4 := ⟨t.val / 11, by have : t.val < 44 := t.isLt; omega⟩
def jB (t : Fin cfg0.N) : Fin 11 := ⟨t.val % 11, by omega⟩

abbrev iAt (t : Fin cfg0.N) (r : Fin 2048) : Fin 8192 := ⟨2048 * (iB t).val + r.val, by omega⟩
abbrev jAt (t : Fin cfg0.N) (d : Fin 512) : Fin 5632 := ⟨512 * (jB t).val + d.val, by omega⟩

theorem idx0 : ∀ t : Fin cfg0.N, win0_0.index t = ![(iB t).val, 0] := by decide +kernel
theorem idx1 : ∀ t : Fin cfg0.N, win0_1.index t = ![0, (jB t).val] := by decide +kernel
theorem idx2 : ∀ t : Fin cfg0.N, win0_2.index t = ![(iB t).val, (jB t).val] := by decide +kernel

theorem read0 (r : Fin 2048) (k : Fin 1024) : iblk m c 0 t (ix2 r k) = V m c main_v0 (ix2 (iAt t r) k) := by
  blk_ext [Gen.iblk, idx0 t]
theorem read1 (d : Fin 512) (k : Fin 1024) : iblk m c 1 t (ix2 k d) = V m c main_v1 (ix2 k (jAt t d)) := by
  blk_ext [Gen.iblk, idx1 t]

/-- A result's index lies in a point's block when the block's coordinates are the index's. -/
theorem mem_blk2 (t : Fin cfg0.N) (i : S8192x5632.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v2).slice (win0_2.rect t)).set ↔ _
  rw [View.set_slice_whole, Rect.mem_set_unit]
  exact Iff.rfl

theorem flush2 : ∀ t : Fin cfg0.N, (cfg0.win 2).flush t = true := by decide +kernel

/-- Every index of the result is in some point's block. -/
theorem covered2 (i : S8192x5632.Idx) : ∃ t : Fin cfg0.N, (cfg0.win 2).flush t = true ∧ i ∈ ((cfg0.win 2).blk t).view.set := by
  have h0 : (i 0).val < 8192 := (i 0).isLt
  have h1 : (i 1).val < 5632 := (i 1).isLt
  have hlt : 11 * ((i 0).val / 2048) + (i 1).val / 512 < cfg0.N := lt_of_lt_of_eq (by omega) Gen.N_0.symm
  refine ⟨⟨_, hlt⟩, flush2 _, ?_⟩
  rw [mem_blk2, idx2]
  intro a
  match a with
  | ⟨0, _⟩ =>
    show (11 * ((i 0).val / 2048) + (i 1).val / 512) / 11 * 2048 ≤ (i 0).val ∧ (i 0).val < (11 * ((i 0).val / 2048) + (i 1).val / 512) / 11 * 2048 + 2048
    omega
  | ⟨1, _⟩ =>
    show (11 * ((i 0).val / 2048) + (i 1).val / 512) % 11 * 512 ≤ (i 1).val ∧ (i 1).val < (11 * ((i 0).val / 2048) + (i 1).val / 512) % 11 * 512 + 512
    omega

end Blocks

section Result

theorem pay1_apply (x0 : Vec Ideal S2048x1024 .bf16) (x1 : Vec Ideal S1024x512 .bf16) (r : Fin 2048) (d : Fin 512) :
    k0_pay1 (F := Ideal) x0 x1 (ix2 r d) = ∑ k : Fin 1024, x0 (ix2 r k) * x1 (ix2 k d) := by
  pointwise [k0_pay1]

variable (m : (ℓ : Loc nD τ sig) → Buf (Elt Ideal) ℓ) (c : Dev nD)

/-- The arguments' arrays. -/
abbrev a0 : FVec Ideal S8192x1024 .f32 := m ((c : Thread nD τ).loc main_arg0)
abbrev a1 : FVec Ideal S1024x5632 .f32 := m ((c : Thread nD τ).loc main_arg1)

theorem V_v0 : V m c main_v0 = truncf (F := Ideal) .bf16 (a0 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The reference's entry. -/
theorem ref_apply (X : FVec Ideal S8192x1024 .f32) (Y : FVec Ideal S1024x5632 .f32) (i : Fin 8192) (j : Fin 5632) :
    Cert.Reference8Ideal.Read.val_main_v0 (F := Ideal) X Y (ix2 i j) = ∑ k : Fin 1024, X (ix2 i k) * Y (ix2 k j) := by
  pointwise [Cert.Reference8Ideal.Read.val_main_v0]

/-- A block of the product, an entry. -/
theorem blk_apply (t : Fin cfg0.N) (r : Fin 2048) (d : Fin 512) : k0_pay1 (F := Ideal) (iblk m c 0 t) (iblk m c 1 t) (ix2 r d)
    = Cert.Reference8Ideal.Read.val_main_v0 (F := Ideal) (a0 m c) (a1 m c) (ix2 (iAt t r) (jAt t d)) := by
  rw [pay1_apply, ref_apply]
  refine Finset.sum_congr rfl fun k _ => ?_
  rw [read0, read1, V_v0, V_v1]
  rfl

/-- What a point writes back is its block of the reference's result. -/
theorem flushed2_eq (t : Fin cfg0.N) : (dats m 0 c).flushed 2 t
    = ((cfg0.win 2).blk t).view.read (Elt Ideal) (Cert.Reference8Ideal.Read.val_main_v0 (F := Ideal) (a0 m c) (a1 m c)) := by
  rw [flushed2, out0_2_eq]
  funext y
  obtain ⟨r, d, rfl⟩ : ∃ (a : Fin 2048) (b : Fin 512), y = ix2 a b := ⟨y 0, y 1, ix_eq y⟩
  refine (blk_apply m c t r d).trans (congrArg (Cert.Reference8Ideal.Read.val_main_v0 (F := Ideal) (a0 m c) (a1 m c)) ?_)
  have hb0 : (((cfg0.win 2).blk t).view.emb (ix2 r d) 0).val = win0_2.index t (0 : Fin 2) * 2048 + 1 * r.val := rfl
  have hb1 : (((cfg0.win 2).blk t).view.emb (ix2 r d) 1).val = win0_2.index t (1 : Fin 2) * 512 + 1 * d.val := rfl
  have i0 : win0_2.index t (0 : Fin 2) = (iB t).val := congrFun (idx2 t) 0
  have i1 : win0_2.index t (1 : Fin 2) = (jB t).val := congrFun (idx2 t) 1
  funext a; apply Fin.ext
  match a with
  | ⟨0, _⟩ =>
    show 2048 * (iB t).val + r.val = (((cfg0.win 2).blk t).view.emb (ix2 r d) 0).val
    rw [hb0, i0]; omega
  | ⟨1, _⟩ =>
    show 512 * (jB t).val + d.val = (((cfg0.win 2).blk t).view.emb (ix2 r d) 1).val
    rw [hb1, i1]; omega

/-- The call's result is the reference's. -/
theorem arr2 : (dats m 0 c).arrAt 2 cfg0.N = Cert.Reference8Ideal.Read.val_main_v0 (F := Ideal) (a0 m c) (a1 m c) :=
  (dats m 0 c).arrAt_eq_of_cover 2 _ (fun t _ => flushed2_eq m c t) covered2

end Result

end Cert.Proof.Kernel8Ideal

end
-- ==== Proof.FirstCases.lean ====
/-
  What the body leaves, case by case: the product's block after each half of the columns, and after the second half the
  two results' blocks, as the generated payloads of the blocks the point works on.
-/
module

public import proofs.«01_k».proof.Proof.Gen.Kernel9Ideal.Frame
public import Idealize.ShloMosaic.Lib.Pipeline.Value
public import Idealize.ShloMosaic.Lib.Tactic

@[expose] public section

set_option maxRecDepth 65536

noncomputable section

namespace Cert.Proof.Kernel9Ideal

open Cert.Kernel9Ideal Cert.Kernel9Ideal.Gen
open Idealize.ShloMosaic Idealize.ShloMosaic.TcCoe

variable {F : FTy → Type} [FloatOps F]

theorem hz : (![0, 0] : Fin 2 → Nat) = fun _ => 0 := funext fun a => by fin_cases a <;> rfl

variable (c : Dev nD) (i : grid0.Coords) (arg2 : Memref sig .tc .vmem S512x3584 .bf16) (harg2 : arg2.IsWhole) (arg3 : Memref sig .tc .vmem S1024x3584 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole)

/-- The first point clears the sum. -/
theorem out0_A_6_eq (hc0 : cond0_0 i) (hc1 : cond0_1 i) (hc2 : ¬cond0_2 i)
    (x0 : Vec F S512x3584 .bf16) (x1 : Vec F S1024x3584 .bf16) (x2 : Vec F S512x1024 .f32) (x3 : Vec F S512x1024 .f32) (x4 : Vec F S1x1024 .f32) :
    out0_A_6 c i arg2 harg2 arg3 harg3 arg4 harg4 arg5 harg5 arg6 harg6 arg7 harg7 arg8 harg8 arg9 harg9 hc0 hc1 hc2 x0 x1 x2 x3 x4 = k0_pay1 := by
  unfold out0_A_6
  rw [View.read_writes_eq_canon _ _ _ (cover0_A_6 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero (S := S1x1024) hz]

/-- The first half of the columns' product, at the first point. -/
theorem sout0_A_0_eq (hc0 : cond0_0 i) (hc1 : cond0_1 i) (hc2 : ¬cond0_2 i)
    (x0 : Vec F S512x3584 .bf16) (x1 : Vec F S1024x3584 .bf16) (x2 : Vec F S512x1024 .f32) (x3 : Vec F S512x1024 .f32) (x4 : Vec F S1x1024 .f32) :
    sout0_A_0 c i arg2 harg2 arg3 harg3 arg4 harg4 arg5 harg5 arg6 harg6 arg7 harg7 arg8 harg8 arg9 harg9 hc0 hc1 hc2 x0 x1 x2 x3 x4 = k0_pay3 k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, View.ld_unit_zero (S := S512x1024) hz,
    View.ld_unit_zero (S := S1x1024) hz, View.ld_unit_zero (S := S512x3584) hz, View.ld_unit_zero (S := S1024x3584) hz]

/-- The first half of the columns' product. -/
theorem sout0_C_0_eq (hc0 : ¬cond0_0 i) (hc1 : cond0_1 i) (hc2 : ¬cond0_2 i)
    (x0 : Vec F S512x3584 .bf16) (x1 : Vec F S1024x3584 .bf16) (x2 : Vec F S512x1024 .f32) (x3 : Vec F S512x1024 .f32) (x4 : Vec F S1x1024 .f32) :
    sout0_C_0 c i arg2 harg2 arg3 harg3 arg4 harg4 arg5 harg5 arg6 harg6 arg7 harg7 arg8 harg8 arg9 harg9 hc0 hc1 hc2 x0 x1 x2 x3 x4 = k0_pay3 k0_pay2 x0 x1 := by
  unfold sout0_C_0
  rw [View.read_writes_eq_canon _ _ _ (scover0_C_0 c i arg2 harg2 arg3 harg3 arg4 harg4 arg5 harg5 arg6 harg6 arg7 harg7 arg8 harg8 arg9 harg9 hc0 hc1 hc2 x0 x1 x2 x3 x4)]
  unfold kernelRun0_C
  dsimp only
  sl_unfold_words
  rw [View.canon_cons_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, View.ld_unit_zero (S := S512x1024) hz,
    View.ld_unit_zero (S := S1x1024) hz, View.ld_unit_zero (S := S512x3584) hz, View.ld_unit_zero (S := S1024x3584) hz]

/-- The gradient of the layer's input. -/
theorem out0_B_5_eq (hc0 : ¬cond0_0 i) (hc1 : ¬cond0_1 i) (hc2 : cond0_2 i)
    (x0 : Vec F S512x3584 .bf16) (x1 : Vec F S1024x3584 .bf16) (x2 : Vec F S512x1024 .f32) (x3 : Vec F S512x1024 .f32) (x4 : Vec F S1x1024 .f32) (xo6 : Vec F S1x1024 .f32) (xs0 : Vec F S512x1024 .f32) :
    out0_B_5 c i arg2 harg2 arg3 harg3 arg4 harg4 arg5 harg5 arg6 harg6 arg7 harg7 arg8 harg8 arg9 harg9 hc0 hc1 hc2 x0 x1 x2 x3 x4 xo6 xs0 = k0_pay7 (k0_pay3 xs0 x0 x1) x2 x3 x4 := by
  unfold out0_B_5
  rw [View.read_writes_eq_canon _ _ _ (cover0_B_5 c i arg2 harg2 arg3 harg3 arg4 harg4 arg5 harg5 arg6 harg6 arg7 harg7 arg8 harg8 arg9 harg9 hc0 hc1 hc2 x0 x1 x2 x3 x4 xo6 xs0)]
  unfold kernelRun0_B
  dsimp only
  sl_unfold_words
  rw [View.canon_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, View.ld_unit_zero (S := S512x1024) hz,
    View.ld_unit_zero (S := S1x1024) hz, View.ld_unit_zero (S := S512x3584) hz, View.ld_unit_zero (S := S1024x3584) hz]

/-- The norm's weight's gradient, the block's rows added. -/
theorem out0_B_6_eq (hc0 : ¬cond0_0 i) (hc1 : ¬cond0_1 i) (hc2 : cond0_2 i)
    (x0 : Vec F S512x3584 .bf16) (x1 : Vec F S1024x3584 .bf16) (x2 : Vec F S512x1024 .f32) (x3 : Vec F S512x1024 .f32) (x4 : Vec F S1x1024 .f32) (xo6 : Vec F S1x1024 .f32) (xs0 : Vec F S512x1024 .f32) :
    out0_B_6 c i arg2 harg2 arg3 harg3 arg4 harg4 arg5 harg5 arg6 harg6 arg7 harg7 arg8 harg8 arg9 harg9 hc0 hc1 hc2 x0 x1 x2 x3 x4 xo6 xs0 = k0_pay6 (k0_pay3 xs0 x0 x1) x2 xo6 := by
  unfold out0_B_6
  rw [View.read_writes_eq_canon _ _ _ (cover0_B_6 c i arg2 harg2 arg3 harg3 arg4 harg4 arg5 harg5 arg6 harg6 arg7 harg7 arg8 harg8 arg9 harg9 hc0 hc1 hc2 x0 x1 x2 x3 x4 xo6 xs0)]
  unfold kernelRun0_B
  dsimp only
  sl_unfold_words
  rw [View.canon_unit_zero (S := S1x1024) hz]
  simp only [View.readCov_unit_zero (S := S512x1024) _ hz, View.readAt_eq_ld, harg2.read_unread, harg3.read_unread, harg4.read_unread, harg5.read_unread, harg6.read_unread, harg7.read_unread, harg8.read_unread, harg9.read_unread, View.ld_unit_zero (S := S512x1024) hz,
    View.ld_unit_zero (S := S1x1024) hz, View.ld_unit_zero (S := S512x3584) hz, View.ld_unit_zero (S := S1024x3584) hz]

end Cert.Proof.Kernel9Ideal

end
-- ==== Proof.FirstBlock.lean ====
/-
  The body of the first norm's gradient over the reals: what each payload leaves of blocks holding real numbers.
-/
module

public import proofs.«01_k».proof.Proof.MidReal
public import proofs.«01_k».proof.Proof.Gen.Kernel9Ideal.Skeleton
public import Idealize.ShloMosaic.Lib.Pointwise

@[expose] public section

set_option maxRecDepth 16384

noncomputable section

namespace Cert.Proof.Kernel9Ideal

open Cert.Kernel9Ideal Cert.Kernel9Ideal.Gen
open Cert.Proof.Mid Cert.Proof.Ssd
open Idealize.ShloMosaic

theorem zero1_apply (d : Fin 1024) : k0_pay1 (F := Ideal) (ix2 0 d) = ((0 : ℝ) : EReal) := by
  pointwise [k0_pay1]
  exact EReal.coe_zero.symm

theorem zero2_apply (r : Fin 512) (d : Fin 1024) : k0_pay2 (F := Ideal) (ix2 r d) = ((0 : ℝ) : EReal) := by
  pointwise [k0_pay2]
  exact EReal.coe_zero.symm

/-- A step of the product: the columns' part of the sum added. -/
theorem prod_apply {A : FVec Ideal S512x1024 .f32} {D : FVec Ideal S512x3584 .bf16} {W : FVec Ideal S1024x3584 .bf16}
    {a : Fin 512 → Fin 1024 → ℝ} {p : Fin 512 → Fin 3584 → ℝ} {w : Fin 1024 → Fin 3584 → ℝ}
    (hA : ∀ r d, A (ix2 r d) = ((a r d : ℝ) : EReal)) (hD : ∀ r k, D (ix2 r k) = ((p r k : ℝ) : EReal)) (hW : ∀ d k, W (ix2 d k) = ((w d k : ℝ) : EReal))
    (r : Fin 512) (d : Fin 1024) : k0_pay3 (F := Ideal) A D W (ix2 r d) = ((a r d + ∑ k, p r k * w d k : ℝ) : EReal) := by
  pointwise [k0_pay3]
  simp only [hA, hD, hW, ← EReal.coe_mul, coe_sum, ← EReal.coe_add]

section Norms

variable {G X Y : FVec Ideal S512x1024 .f32} {W acc : FVec Ideal S1x1024 .f32} {g x y : Fin 512 → Fin 1024 → ℝ} {w z : Fin 1024 → ℝ}
variable (hG : ∀ r d, G (ix2 r d) = ((g r d : ℝ) : EReal)) (hX : ∀ r d, X (ix2 r d) = ((x r d : ℝ) : EReal))
  (hY : ∀ r d, Y (ix2 r d) = ((y r d : ℝ) : EReal)) (hW : ∀ d, W (ix2 0 d) = ((w d : ℝ) : EReal)) (hz : ∀ d, acc (ix2 0 d) = ((z d : ℝ) : EReal))

include hX in
theorem rr4_apply (r : Fin 512) : k0_pay4 (F := Ideal) X (ix2 r 0) = ((rr (x r) : ℝ) : EReal) := by
  pointwise [k0_pay4]
  simp only [hX, ← EReal.coe_mul, coe_sum, inv_eq, eps_eq, ← EReal.coe_add]
  exact rsqrt_msq (x r)

include hX in
theorem nrm5_apply (r : Fin 512) (d : Fin 1024) : k0_pay5 (F := Ideal) X (ix2 r d) = ((nrm (x r) d : ℝ) : EReal) := by
  unfold k0_pay5
  pointwise
  rw [rr4_apply hX, hX, ← EReal.coe_mul]
  rfl

include hG hX hz in
/-- The norm's weight's gradient, a block of rows added. -/
theorem dw6_apply (d : Fin 1024) : k0_pay6 (F := Ideal) G X acc (ix2 0 d) = ((z d + ∑ r, g r d * nrm (x r) d : ℝ) : EReal) := by
  unfold k0_pay6
  pointwise
  simp only [nrm5_apply hX, hG, hz, ← EReal.coe_mul, coe_sum, ← EReal.coe_add]

include hG hX hY hW in
/-- The gradient of the layer's input. -/
theorem dx7_apply (r : Fin 512) (d : Fin 1024) :
    k0_pay7 (F := Ideal) G X Y W (ix2 r d) = ((y r d + back (x r) (fun j => g r j * w j) d : ℝ) : EReal) := by
  unfold k0_pay7
  pointwise
  simp only [nrm5_apply hX, rr4_apply hX, hG, hY, hW, inv_eq, ← EReal.coe_mul, coe_sum, ← EReal.coe_sub, ← EReal.coe_add]
  rfl

end Norms

end Cert.Proof.Kernel9Ideal

end
-- ==== Proof.FirstReal.lean ====
/-
  The gradient of the first norm, over the reals: what the in projection's gradient leaves of it, and the columns of the
  projection in the order the kernel keeps them, padded with zeros.
-/
module

public import proofs.«01_k».proof.Proof.MidReal

@[expose] public section

noncomputable section

namespace Cert.Proof.First

open Cert.Proof.Mid Cert.Proof.Ssd
open Idealize.ShloMosaic

/-- The column a permuted column comes from. -/
def pcol (j : ℕ) : ℕ := if j < 4096 then j else if j < 6656 then j + 16 else if j < 6672 then j - 2560 else j

/-- The place a column goes to. -/
def place (k : ℕ) : ℕ := if k < 4096 then k else if k < 4112 then k + 2560 else if k < 6672 then k - 16 else k

/-- The permuted columns' sum is the columns' sum. -/
theorem sum_pcol (f : ℕ → ℝ) : ∑ j ∈ Finset.range 6688, f (pcol j) = ∑ k ∈ Finset.range 6688, f k := by
  refine Finset.sum_nbij' pcol place ?_ ?_ ?_ ?_ fun _ _ => rfl
  · intro j hj
    have := Finset.mem_range.mp hj
    exact Finset.mem_range.mpr (by unfold pcol; split_ifs <;> omega)
  · intro k hk
    have := Finset.mem_range.mp hk
    exact Finset.mem_range.mpr (by unfold place; split_ifs <;> omega)
  · intro j hj
    have := Finset.mem_range.mp hj
    unfold pcol place
    split_ifs <;> omega
  · intro k hk
    have := Finset.mem_range.mp hk
    unfold pcol place
    split_ifs <;> omega

/-- A row's permuted columns, zeros after them. -/
def padded {A : ℕ} (X : (⟨2, ![A, 6688]⟩ : Shape).Idx → EReal) (t j : ℕ) : ℝ := if j < 6688 then at2 X t (pcol j) else 0

/-- The product of two padded rows is the rows' product. -/
theorem sum_padded {A B : ℕ} (X : (⟨2, ![A, 6688]⟩ : Shape).Idx → EReal) (Y : (⟨2, ![B, 6688]⟩ : Shape).Idx → EReal) (s t : ℕ) :
    ∑ j ∈ Finset.range 7168, padded X s j * padded Y t j = ∑ k ∈ Finset.range 6688, at2 X s k * at2 Y t k := by
  rw [show 7168 = 6688 + 480 from rfl, Finset.sum_range_add, ← sum_pcol fun k => at2 X s k * at2 Y t k]
  have hz : ∑ j ∈ Finset.range 480, padded X s (6688 + j) * padded Y t (6688 + j) = 0 :=
    Finset.sum_eq_zero fun j _ => by unfold padded; rw [if_neg (by omega), zero_mul]
  rw [hz, add_zero]
  exact Finset.sum_congr rfl fun j hj => by unfold padded; rw [if_pos (Finset.mem_range.mp hj), if_pos (Finset.mem_range.mp hj)]

/-- A row's columns permuted and padded with zeros, piece by piece. -/
theorem pick {A : ℕ} {X : (⟨2, ![A, 6688]⟩ : Shape).Idx → EReal} (hX : Finite X) (t : Fin A) {j : ℕ} (hj : j < 7168) :
    (if h : j < 4096 then X (ix2 t ⟨j, by omega⟩)
      else if h : j - 4096 < 2560 then X (ix2 t ⟨4112 + (j - 4096), by omega⟩)
      else if h : j - 4096 - 2560 < 16 then X (ix2 t ⟨4096 + (j - 4096 - 2560), by omega⟩)
      else if h : j - 4096 - 2560 - 16 < 16 then X (ix2 t ⟨6672 + (j - 4096 - 2560 - 16), by omega⟩) else 0)
      = ((padded X t j : ℝ) : EReal) := by
  have e : ∀ (v : ℕ) (hv : v < 6688), v = pcol j → X (ix2 t ⟨v, hv⟩) = ((at2 X t (pcol j) : ℝ) : EReal) := by
    intro v hv h
    rw [← h]
    exact at2_eq hX t ⟨v, hv⟩
  unfold padded
  by_cases h1 : j < 4096
  · rw [dif_pos h1, if_pos (by omega)]
    exact e _ _ (by unfold pcol; split_ifs <;> omega)
  rw [dif_neg h1]
  by_cases h2 : j - 4096 < 2560
  · rw [dif_pos h2, if_pos (by omega)]
    exact e _ _ (by unfold pcol; split_ifs <;> omega)
  rw [dif_neg h2]
  by_cases h3 : j - 4096 - 2560 < 16
  · rw [dif_pos h3, if_pos (by omega)]
    exact e _ _ (by unfold pcol; split_ifs <;> omega)
  rw [dif_neg h3]
  by_cases h4 : j - 4096 - 2560 - 16 < 16
  · rw [dif_pos h4, if_pos (by omega)]
    exact e _ _ (by unfold pcol; split_ifs <;> omega)
  rw [dif_neg h4, if_neg (by omega), EReal.coe_zero]

section Step

variable (x : (⟨2, ![8192, 1024]⟩ : Shape).Idx → EReal) (w : (⟨2, ![1, 1024]⟩ : Shape).Idx → EReal)
  (win : (⟨2, ![1024, 6688]⟩ : Shape).Idx → EReal) (dx1 : (⟨2, ![8192, 1024]⟩ : Shape).Idx → EReal) (dproj : (⟨2, ![8192, 6688]⟩ : Shape).Idx → EReal)

/-- The gradient of the norm's result: the product with the transposed weight. -/
def dh (t : ℕ) : Fin 1024 → ℝ := fun d => ∑ k ∈ Finset.range 6688, at2 dproj t k * at2 win d k

/-- The gradient of the layer's input. -/
def dx (t : ℕ) : Fin 1024 → ℝ := fun d => row dx1 t d + back (row x t) (fun j => dh win dproj t j * row w 0 j) d

/-- The norm's weight's gradient over the first `n` rows. -/
def dw (n : ℕ) (d : Fin 1024) : ℝ := ∑ t ∈ Finset.range n, dh win dproj t d * nrm (row x t) d

end Step

end Cert.Proof.First

end
-- ==== Proof.FirstHost.lean ====
/-
  What the operations before the call leave in its operands' arrays, and what the operands' blocks hold at a
  grid point: of finite arguments, real numbers.
-/
module

public import proofs.«01_k».proof.Proof.FirstReal
public import proofs.«01_k».proof.Proof.Gen.Kernel9Ideal.Frame
public import Idealize.ShloMosaic.Lib.StableHlo.Run
public import Idealize.ShloMosaic.Lib.Pointwise
public import Idealize.ShloMosaic.Lib.Pipeline.ValueKit

@[expose] public section

set_option maxRecDepth 65536

noncomputable section

namespace Cert.Proof.Kernel9Ideal

open Cert.Kernel9Ideal Cert.Kernel9Ideal.Facts₀
open Cert.Proof.Mid Cert.Proof.First Cert.Proof.Ssd
open Idealize.ShloMosaic Idealize.ShloMosaic.TcCoe Idealize.ShloMosaic.Tactic
open Idealize.ShloMosaic.Pipeline (Dat Cfg Window)

section Terms

variable {F : FTy → Type} [FloatOps F] [Named F]

/-- The projection's gradient, its columns permuted and padded. -/
def permD (X : FVec F S8192x6688 .bf16) : FVec F S8192x7168 .bf16 :=
  concatenate S8192x7168 1 [⟨S8192x4096, (extractStridedSlice S8192x4096 ![0, 0] X slices_S8192x6688_S8192x4096_0_0 : FVec F S8192x4096 .bf16)⟩,
    ⟨S8192x2560, (extractStridedSlice S8192x2560 ![0, 4112] X slices_S8192x6688_S8192x2560_0_4112 : FVec F S8192x2560 .bf16)⟩,
    ⟨S8192x16, (extractStridedSlice S8192x16 ![0, 4096] X slices_S8192x6688_S8192x16_0_4096 : FVec F S8192x16 .bf16)⟩,
    ⟨S8192x16, (extractStridedSlice S8192x16 ![0, 6672] X slices_S8192x6688_S8192x16_0_6672 : FVec F S8192x16 .bf16)⟩,
    ⟨S8192x480, (broadcastInDim S8192x480 ![] bcast_S_S8192x480 (constant S_ .bf16 0x0000#16) : FVec F S8192x480 .bf16)⟩]
    concatenates_S8192x4096_S8192x2560_S8192x16_S8192x16_S8192x480_S8192x7168_d1

/-- The in projection's weight, its columns permuted and padded. -/
def permW (X : FVec F S1024x6688 .bf16) : FVec F S1024x7168 .bf16 :=
  concatenate S1024x7168 1 [⟨S1024x4096, (extractStridedSlice S1024x4096 ![0, 0] X slices_S1024x6688_S1024x4096_0_0 : FVec F S1024x4096 .bf16)⟩,
    ⟨S1024x2560, (extractStridedSlice S1024x2560 ![0, 4112] X slices_S1024x6688_S1024x2560_0_4112 : FVec F S1024x2560 .bf16)⟩,
    ⟨S1024x16, (extractStridedSlice S1024x16 ![0, 4096] X slices_S1024x6688_S1024x16_0_4096 : FVec F S1024x16 .bf16)⟩,
    ⟨S1024x16, (extractStridedSlice S1024x16 ![0, 6672] X slices_S1024x6688_S1024x16_0_6672 : FVec F S1024x16 .bf16)⟩,
    ⟨S1024x480, (broadcastInDim S1024x480 ![] bcast_S_S1024x480 (constant S_ .bf16 0x0000#16) : FVec F S1024x480 .bf16)⟩]
    concatenates_S1024x4096_S1024x2560_S1024x16_S1024x16_S1024x480_S1024x7168_d1

variable (m : (ℓ : Loc nD τ sig) → Buf (Elt F) ℓ) (c : Dev nD)

set_option maxHeartbeats 4000000 in
theorem V_v6 : Gen.V m c main_v6 = permD (truncf .bf16 (m ((c : Thread nD τ).loc main_arg4) : FVec F S8192x6688 .f32) bitsLt_bf16_f32) := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_v13 : Gen.V m c main_v13 = permW (truncf .bf16 (m ((c : Thread nD τ).loc main_arg2) : FVec F S1024x6688 .f32) bitsLt_bf16_f32) := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The block of rows a point works on. -/
def rowBlk (t : Fin cfg0.N) : Fin 16 := ⟨t.val / 2, by have : t.val < 32 := t.isLt; omega⟩

/-- The half of the columns a point adds. -/
def colBlk (t : Fin cfg0.N) : Fin 2 := ⟨t.val % 2, by omega⟩

abbrev rowAt (t : Fin cfg0.N) (r : Fin 512) : Fin 8192 := ⟨512 * (rowBlk t).val + r.val, by omega⟩
abbrev colAt (t : Fin cfg0.N) (k : Fin 3584) : Fin 7168 := ⟨3584 * (colBlk t).val + k.val, by omega⟩

theorem idx0 : ∀ t : Fin cfg0.N, win0_0.index t = ![(rowBlk t).val, (colBlk t).val] := by decide +kernel
theorem idx1 : ∀ t : Fin cfg0.N, win0_1.index t = ![0, (colBlk t).val] := by decide +kernel
theorem idx2 : ∀ t : Fin cfg0.N, win0_2.index t = ![(rowBlk t).val, 0] := by decide +kernel
theorem idx3 : ∀ t : Fin cfg0.N, win0_3.index t = ![(rowBlk t).val, 0] := by decide +kernel
theorem idx4 : ∀ t : Fin cfg0.N, win0_4.index t = ![0, 0] := by decide +kernel

variable (t : Fin cfg0.N)

theorem read0 (r : Fin 512) (k : Fin 3584) : Gen.iblk m c 0 t (ix2 r k) = Gen.V m c main_v6 (ix2 (rowAt t r) (colAt t k)) := by
  blk_ext [Gen.iblk, idx0 t]
theorem read1 (d : Fin 1024) (k : Fin 3584) : Gen.iblk m c 1 t (ix2 d k) = Gen.V m c main_v13 (ix2 d (colAt t k)) := by
  blk_ext [Gen.iblk, idx1 t]
theorem read2 (r : Fin 512) (d : Fin 1024) : Gen.iblk m c 2 t (ix2 r d) = Gen.V m c main_arg0 (ix2 (rowAt t r) d) := by
  blk_ext [Gen.iblk, idx2 t]
theorem read3 (r : Fin 512) (d : Fin 1024) : Gen.iblk m c 3 t (ix2 r d) = Gen.V m c main_arg3 (ix2 (rowAt t r) d) := by
  blk_ext [Gen.iblk, idx3 t]
theorem read4 (d : Fin 1024) : Gen.iblk m c 4 t (ix2 0 d) = Gen.V m c main_arg1 (ix2 0 d) := by
  blk_ext [Gen.iblk, idx4 t]

end Terms

section Real

theorem permD_apply {X : FVec Ideal S8192x6688 .bf16} (hX : Finite X) (t : Fin 8192) (j : Fin 7168) :
    permD (F := Ideal) X (ix2 t j) = ((padded X t j : ℝ) : EReal) := by
  have hj := j.isLt
  pointwise [permD]
  exact pick hX t hj

theorem permW_apply {X : FVec Ideal S1024x6688 .bf16} (hX : Finite X) (t : Fin 1024) (j : Fin 7168) :
    permW (F := Ideal) X (ix2 t j) = ((padded X t j : ℝ) : EReal) := by
  have hj := j.isLt
  pointwise [permW]
  exact pick hX t hj

variable (m : (ℓ : Loc nD τ sig) → Buf (Elt Ideal) ℓ) (c : Dev nD)

/-- The arguments' arrays. -/
abbrev a0 : FVec Ideal S8192x1024 .f32 := m ((c : Thread nD τ).loc main_arg0)
abbrev a1 : FVec Ideal S1x1024 .f32 := m ((c : Thread nD τ).loc main_arg1)
abbrev a2 : FVec Ideal S1024x6688 .f32 := m ((c : Thread nD τ).loc main_arg2)
abbrev a3 : FVec Ideal S8192x1024 .f32 := m ((c : Thread nD τ).loc main_arg3)
abbrev a4 : FVec Ideal S8192x6688 .f32 := m ((c : Thread nD τ).loc main_arg4)

variable (h0 : Finite (a0 m c)) (h1 : Finite (a1 m c)) (h2 : Finite (a2 m c)) (h3 : Finite (a3 m c)) (h4 : Finite (a4 m c)) (t : Fin cfg0.N)

include h4 in
theorem blk0 (r : Fin 512) (k : Fin 3584) : Gen.iblk m c 0 t (ix2 r k)
    = ((padded (a4 m c) (512 * (rowBlk t).val + r.val) (3584 * (colBlk t).val + k.val) : ℝ) : EReal) := by
  rw [read0, V_v6]
  exact permD_apply h4 _ _

include h2 in
theorem blk1 (d : Fin 1024) (k : Fin 3584) : Gen.iblk m c 1 t (ix2 d k)
    = ((padded (a2 m c) d (3584 * (colBlk t).val + k.val) : ℝ) : EReal) := by
  rw [read1, V_v13]
  exact permW_apply h2 _ _

include h0 in
theorem blk2 (r : Fin 512) (d : Fin 1024) : Gen.iblk m c 2 t (ix2 r d) = ((row (a0 m c) (512 * (rowBlk t).val + r.val) d : ℝ) : EReal) := by
  rw [read2, Gen.V_main_arg0]
  exact at2_eq h0 _ _

include h3 in
theorem blk3 (r : Fin 512) (d : Fin 1024) : Gen.iblk m c 3 t (ix2 r d) = ((row (a3 m c) (512 * (rowBlk t).val + r.val) d : ℝ) : EReal) := by
  rw [read3, Gen.V_main_arg3]
  exact at2_eq h3 _ _

include h1 in
theorem blk4 (d : Fin 1024) : Gen.iblk m c 4 t (ix2 0 d) = ((row (a1 m c) 0 d : ℝ) : EReal) := by
  rw [read4, Gen.V_main_arg1]
  exact at2_eq h1 _ _

end Real

end Cert.Proof.Kernel9Ideal

end
-- ==== Proof.FirstValue.lean ====
/-
  The fold of the first norm's gradient over the grid, over the reals: after the first half of the columns the product's
  block holds half the sum, after the second half the result's block holds the gradient and the sum covers the rows so far.
-/
module

public import proofs.«01_k».proof.Proof.FirstCases
public import proofs.«01_k».proof.Proof.FirstBlock
public import proofs.«01_k».proof.Proof.FirstHost
public import proofs.«01_k».proof.Proof.Gen.Kernel9Ideal.Value

@[expose] public section

set_option maxRecDepth 65536

noncomputable section

namespace Cert.Proof.Kernel9Ideal

open Cert.Kernel9Ideal Cert.Kernel9Ideal.Gen Cert.Kernel9Ideal.Value
open Cert.Proof.Mid Cert.Proof.First Cert.Proof.Ssd
open Idealize.ShloMosaic Idealize.ShloMosaic.TcCoe

section Steps

variable {F : FTy → Type} [FloatOps F] (m : (ℓ : Loc nD τ sig) → Buf (Elt F) ℓ) (c : Dev nD) (t : Fin cfg0.N)
  (acc : Vec F S512x1024 .f32 × Vec F S1x1024 .f32 × Vec F S512x1024 .f32)

/-- The product's block after the first half of the columns. -/
theorem even_scr (h1 : t.val % 2 = 0) : (stAt0 m c t.val t.isLt acc).2.2 = k0_pay3 k0_pay2 (iblk m c 0 t) (iblk m c 1 t) := by
  by_cases h0 : t.val % 32 = 0
  · rw [stAt0_A m c t acc h0 h1 (by omega)]
    dsimp only
    rw [sout0_A_0_eq]
  · rw [stAt0_C m c t acc h0 h1 (by omega)]
    dsimp only
    rw [sout0_C_0_eq]

theorem zero_6 (h0 : t.val % 32 = 0) : (stAt0 m c t.val t.isLt acc).2.1 = k0_pay1 := by
  rw [stAt0_A m c t acc h0 (by omega) (by omega)]
  dsimp only
  rw [out0_A_6_eq]

theorem even_6 (h0 : ¬t.val % 32 = 0) (h1 : t.val % 2 = 0) : (stAt0 m c t.val t.isLt acc).2.1 = acc.2.1 := by
  rw [stAt0_C m c t acc h0 h1 (by omega)]
  rfl

variable (h2 : t.val % 2 = 1)

include h2

theorem odd_5 : (stAt0 m c t.val t.isLt acc).1
    = k0_pay7 (k0_pay3 acc.2.2 (iblk m c 0 t) (iblk m c 1 t)) (iblk m c 2 t) (iblk m c 3 t) (iblk m c 4 t) := by
  rw [stAt0_B m c t acc (by omega) (by omega) h2]
  dsimp only
  rw [out0_B_5_eq]

theorem odd_6 : (stAt0 m c t.val t.isLt acc).2.1
    = k0_pay6 (k0_pay3 acc.2.2 (iblk m c 0 t) (iblk m c 1 t)) (iblk m c 2 t) acc.2.1 := by
  rw [stAt0_B m c t acc (by omega) (by omega) h2]
  dsimp only
  rw [out0_B_6_eq]

end Steps

/-- Half of a product's row. -/
def half (win : (⟨2, ![1024, 6688]⟩ : Shape).Idx → EReal) (dproj : (⟨2, ![8192, 6688]⟩ : Shape).Idx → EReal) (t : ℕ) (d : Fin 1024) : ℝ :=
  ∑ k : Fin 3584, padded dproj t k * padded win d k

theorem dh_half (win : (⟨2, ![1024, 6688]⟩ : Shape).Idx → EReal) (dproj : (⟨2, ![8192, 6688]⟩ : Shape).Idx → EReal) (t : ℕ) (d : Fin 1024) :
    half win dproj t d + ∑ k : Fin 3584, padded dproj t (3584 + k.val) * padded win d (3584 + k.val) = dh win dproj t d := by
  unfold half dh
  rw [← sum_padded, ← Finset.sum_range (fun k => padded dproj t k * padded win d k),
    ← Finset.sum_range (fun k => padded dproj t (3584 + k) * padded win d (3584 + k)), ← Finset.sum_range_add]

/-- A sum over rows, a block of rows added. -/
theorem rows_add (f : ℕ → ℝ) (i : ℕ) : (∑ t ∈ Finset.range (512 * i), f t) + ∑ r : Fin 512, f (512 * i + r.val) = ∑ t ∈ Finset.range (512 * (i + 1)), f t := by
  rw [Nat.mul_add, Nat.mul_one, Finset.sum_range_add, ← Finset.sum_range (fun r => f (512 * i + r))]

section Fold

variable (m : (ℓ : Loc nD τ sig) → Buf (Elt Ideal) ℓ) (c : Dev nD)
variable (h0 : Finite (a0 m c)) (h1 : Finite (a1 m c)) (h2 : Finite (a2 m c)) (h3 : Finite (a3 m c)) (h4 : Finite (a4 m c))

/-- The fold of the points' steps. -/
abbrev st (n : ℕ) (h : 0 + n < cfg0.N) := Pipeline.accAt (fun n h => stAt0 m c n h junk0) (stAt0 m c) 0 n h

/-- After the first half of the columns of block `i`. -/
structure Even (i : ℕ) (s : Vec Ideal S512x1024 .f32 × Vec Ideal S1x1024 .f32 × Vec Ideal S512x1024 .f32) : Prop where
  scr : ∀ r d, s.2.2 (ix2 r d) = ((half (a2 m c) (a4 m c) (512 * i + r.val) d : ℝ) : EReal)
  o6 : ∀ d, s.2.1 (ix2 0 d) = ((dw (a0 m c) (a2 m c) (a4 m c) (512 * i) d : ℝ) : EReal)

/-- After block `i`. -/
structure Odd (i : ℕ) (s : Vec Ideal S512x1024 .f32 × Vec Ideal S1x1024 .f32 × Vec Ideal S512x1024 .f32) : Prop where
  o5 : ∀ r d, s.1 (ix2 r d) = ((dx (a0 m c) (a1 m c) (a2 m c) (a3 m c) (a4 m c) (512 * i + r.val) d : ℝ) : EReal)
  o6 : ∀ d, s.2.1 (ix2 0 d) = ((dw (a0 m c) (a2 m c) (a4 m c) (512 * (i + 1)) d : ℝ) : EReal)

include h2 h4 in
theorem scr_real (t : Fin cfg0.N) (ht : t.val % 2 = 0) (acc) (r : Fin 512) (d : Fin 1024) :
    (stAt0 m c t.val t.isLt acc).2.2 (ix2 r d) = ((half (a2 m c) (a4 m c) (512 * (t.val / 2) + r.val) d : ℝ) : EReal) := by
  rw [even_scr m c t acc ht]
  refine (prod_apply (fun r d => zero2_apply r d) (fun r k => blk0 m c h4 t r k) (fun d k => blk1 m c h2 t d k) r d).trans ?_
  rw [zero_add]
  unfold half
  refine congrArg _ (Finset.sum_congr rfl fun k _ => ?_)
  rw [show (colBlk t).val = 0 from ht, show (rowBlk t).val = t.val / 2 from rfl, Nat.mul_zero, Nat.zero_add]

include h2 h4 in
theorem even_zero (t : Fin cfg0.N) (ht : t.val = 0) (acc) : Even m c 0 (stAt0 m c t.val t.isLt acc) where
  scr r d := by
    rw [scr_real m c h2 h4 t (by omega), ht]
  o6 d := by
    rw [zero_6 m c t acc (by omega)]
    exact zero1_apply d

include h2 h4 in
theorem even_succ (t : Fin cfg0.N) (i : ℕ) (ht : t.val = 2 * (i + 1)) (acc) (hacc : Odd m c i acc) :
    Even m c (i + 1) (stAt0 m c t.val t.isLt acc) := by
  have hN : t.val < 32 := t.isLt
  constructor
  · intro r d
    rw [scr_real m c h2 h4 t (by omega), show t.val / 2 = i + 1 by omega]
  · intro d
    rw [even_6 m c t acc (by omega) (by omega), hacc.o6]

include h0 h1 h2 h3 h4 in
theorem odd_of (t : Fin cfg0.N) (i : ℕ) (ht : t.val = 2 * i + 1) (acc) (hacc : Even m c i acc) : Odd m c i (stAt0 m c t.val t.isLt acc) := by
  have hm : t.val % 2 = 1 := by omega
  have hr : (rowBlk t).val = i := by show t.val / 2 = i; omega
  have hc : (colBlk t).val = 1 := hm
  have hp : ∀ r d, k0_pay3 (F := Ideal) acc.2.2 (iblk m c 0 t) (iblk m c 1 t) (ix2 r d)
      = ((dh (a2 m c) (a4 m c) (512 * i + r.val) d : ℝ) : EReal) := fun r d => by
    refine (prod_apply hacc.scr (fun r k => blk0 m c h4 t r k) (fun d k => blk1 m c h2 t d k) r d).trans ?_
    rw [← dh_half, hr, hc]
  have b2 := blk2 m c h0 t
  have b3 := blk3 m c h3 t
  rw [hr] at b2 b3
  constructor
  · intro r d
    rw [odd_5 m c t acc hm]
    exact dx7_apply hp b2 b3 (blk4 m c h1 t) r d
  · intro d
    rw [odd_6 m c t acc hm]
    refine (dw6_apply hp b2 hacc.o6 d).trans ?_
    unfold dw
    rw [← rows_add]

include h0 h1 h2 h3 h4

theorem fold_odd (i : ℕ) (h : 0 + (2 * i + 1) < cfg0.N) : Odd m c i (st m c (2 * i + 1) h) := by
  induction i with
  | zero =>
    refine odd_of m c h0 h1 h2 h3 h4 ⟨0 + (2 * 0 + 1), h⟩ 0 rfl _ ?_
    exact even_zero m c h2 h4 ⟨0, Nat.lt_of_succ_lt h⟩ rfl _
  | succ i ih =>
    have e : 0 + (2 * (i + 1) + 1) = 2 * (i + 1) + 1 := Nat.zero_add _
    refine odd_of m c h0 h1 h2 h3 h4 ⟨0 + (2 * (i + 1) + 1), h⟩ (i + 1) e _ ?_
    exact even_succ m c h2 h4 ⟨0 + (2 * i + 1 + 1), Nat.lt_of_succ_lt h⟩ i (by show 0 + (2 * i + 1 + 1) = _; omega) _ (ih _)

end Fold

end Cert.Proof.Kernel9Ideal

end
-- ==== Proof.FirstRef.lean ====
/-
  The reference of the first norm's gradient read entry by entry over the reals: with every argument finite, its two results are the
  gradients of `FirstReal`.
-/
module

public import proofs.«01_k».proof.Proof.FirstReal
public import proofs.«01_k».proof.Proof.Gen.Reference9Ideal.Read
public import Idealize.ShloMosaic.Lib.Pointwise

@[expose] public section

set_option maxRecDepth 16384

noncomputable section

namespace Cert.Proof.Reference9Ideal

open Cert.Reference9Ideal Cert.Reference9Ideal.Read
open Cert.Proof.Ssd Cert.Proof.Mid Cert.Proof.First
open Idealize.ShloMosaic

variable {X0 : FVec Ideal S8192x1024 .f32} {X1 : FVec Ideal S1x1024 .f32} {X2 : FVec Ideal S1024x6688 .f32}
  {X3 : FVec Ideal S8192x1024 .f32} {X4 : FVec Ideal S8192x6688 .f32}
variable (h0 : Finite X0) (h1 : Finite X1) (h2 : Finite X2) (h3 : Finite X3) (h4 : Finite X4)

include h0 in
theorem msq_in (t : Fin 8192) : val_main_v6 (F := Ideal) X0 (ix2 t 0) = ((msq (row X0 t) : ℝ) : EReal) := by
  pointwise [val_main_v6, val_main_v5, val_main_v4, val_main_v3, val_main_v2, val_main_v1, val_main_v0, val_main_cst, val_main_cst_0,
    val_main_cst_1]
  simp only [at2_eq h0, eps_eq, count_eq, ← EReal.coe_mul, coe_sum]
  rw [Ideal.div_coe (by norm_num), ← EReal.coe_mul, ← EReal.coe_add]
  rfl

include h0 in
theorem rr_in (t : Fin 8192) : val_main_v7 (F := Ideal) X0 (ix2 t 0) = ((rr (row X0 t) : ℝ) : EReal) := by
  unfold val_main_v7
  pointwise
  rw [msq_in h0, rsqrt_msq]

include h0 in
theorem nrm_in (t : Fin 8192) (d : Fin 1024) : val_main_v12 (F := Ideal) X0 (ix2 t d) = ((nrm (row X0 t) d : ℝ) : EReal) := by
  unfold val_main_v12 val_main_v11
  pointwise
  rw [rr_in h0, at2_eq h0, ← EReal.coe_mul]
  rfl

include h0 in
theorem slope_in (t : Fin 8192) :
    val_main_v10 (F := Ideal) X0 (ix2 t 0) = ((-(1 / 2) * (rr (row X0 t) * (1 / msq (row X0 t))) : ℝ) : EReal) := by
  unfold val_main_v10 val_main_v9 val_main_v8 val_main_cst_2
  pointwise
  rw [msq_in h0, rr_in h0, half_eq, Ideal.div_coe (msq_pos _).ne', ← EReal.coe_mul, ← EReal.coe_mul]

include h2 h4 in
theorem dh_apply (t : Fin 8192) (d : Fin 1024) : val_main_v16 (F := Ideal) X2 X4 (ix2 t d) = ((dh X2 X4 t d : ℝ) : EReal) := by
  pointwise [val_main_v16]
  simp only [at2_eq h2, at2_eq h4, ← EReal.coe_mul, coe_sum]
  unfold dh
  rw [Finset.sum_range]

include h1 h2 h4 in
theorem dnrm_apply (t : Fin 8192) (d : Fin 1024) :
    val_main_v21 (F := Ideal) X1 X2 X4 (ix2 t d) = ((dh X2 X4 t d * row X1 0 d : ℝ) : EReal) := by
  unfold val_main_v21 val_main_v20
  pointwise
  rw [dh_apply h2 h4, at2_eq h1, ← EReal.coe_mul]
  rfl

include h0 h1 h2 h4 in
theorem coef_in (t : Fin 8192) (d : Fin 1024) : val_main_v32 (F := Ideal) X0 X1 X2 X4 (ix2 t d)
    = ((coef (row X0 t) (fun j => dh X2 X4 t j * row X1 0 j) : ℝ) : EReal) := by
  pointwise [val_main_v32, val_main_v31, val_main_v30, val_main_v29, val_main_v28, val_main_v24, val_main_v23, val_main_v22, val_main_cst_4,
    val_main_cst_5, val_main_cst_6]
  simp only [Fin.sum_univ_one, at2_eq h0, slope_in h0, dnrm_apply h1 h2 h4, count_eq, ← EReal.coe_mul, coe_sum]
  rw [Ideal.div_coe (by norm_num), ← EReal.coe_mul]
  rfl

include h0 h1 h2 h3 h4 in
/-- The first result. -/
theorem dx_apply (t : Fin 8192) (d : Fin 1024) :
    val_main_v36 (F := Ideal) X0 X1 X2 X3 X4 (ix2 t d) = ((dx X0 X1 X2 X3 X4 t d : ℝ) : EReal) := by
  unfold val_main_v36 val_main_v35 val_main_v34 val_main_v33 val_main_v27 val_main_v26 val_main_v25
  pointwise
  rw [coef_in h0 h1 h2 h4, dnrm_apply h1 h2 h4, rr_in h0, at2_eq h0, at2_eq h3]
  simp only [← EReal.coe_mul, ← EReal.coe_add]
  unfold dx
  rw [← back_eq]
  congr 1
  ring

include h0 h2 h4 in
/-- The second result. -/
theorem dw_apply (d : Fin 1024) : val_main_v19 (F := Ideal) X0 X2 X4 (ix2 0 d) = ((dw X0 X2 X4 8192 d : ℝ) : EReal) := by
  pointwise [val_main_v19, val_main_v18, val_main_v17, val_main_cst_3]
  simp only [nrm_in h0, dh_apply h2 h4, ← EReal.coe_mul, coe_sum]
  unfold dw
  rw [Finset.sum_range]
  congr 1
  exact Finset.sum_congr rfl fun _ _ => mul_comm _ _

end Cert.Proof.Reference9Ideal

end
-- ==== Proof.FirstArray.lean ====
/-
  The first norm's gradient's two results, whole: of finite arguments they are the reference's.
-/
module

public import proofs.«01_k».proof.Proof.FirstValue
public import proofs.«01_k».proof.Proof.FirstRef

@[expose] public section

set_option maxRecDepth 16384

noncomputable section

namespace Cert.Proof.Kernel9Ideal

open Cert.Kernel9Ideal Cert.Kernel9Ideal.Value
open Cert.Proof.Mid Cert.Proof.First Cert.Proof.Ssd
open Idealize.ShloMosaic Idealize.ShloMosaic.TcCoe

variable (m : (ℓ : Loc nD τ sig) → Buf (Elt Ideal) ℓ) (c : Dev nD)
variable (h0 : Finite (a0 m c)) (h1 : Finite (a1 m c)) (h2 : Finite (a2 m c)) (h3 : Finite (a3 m c)) (h4 : Finite (a4 m c))

theorem ix_eq {A B : ℕ} (i : (⟨2, ![A, B]⟩ : Shape).Idx) : i = ix2 (i 0) (i 1) := funext fun a => by fin_cases a <;> rfl

theorem row_eq (a : Fin 1) : a = 0 := Subsingleton.elim _ _

include h0 h1 h2 h3 h4

theorem arr5 : G5 m c = Cert.Reference9Ideal.Read.val_main_v36 (F := Ideal) (a0 m c) (a1 m c) (a2 m c) (a3 m c) (a4 m c) := by
  funext i
  obtain ⟨t, d, rfl⟩ : ∃ (t : Fin 8192) (d : Fin 1024), i = ix2 t d := ⟨i 0, i 1, ix_eq i⟩
  refine Eq.trans ?_ (Cert.Proof.Reference9Ideal.dx_apply h0 h1 h2 h3 h4 t d).symm
  have ht := t.isLt
  have hd := d.isLt
  have hp : pt5Of (ix2 t d) = 2 * (t.val / 512) + 1 := by
    show 2 * (1 * (t.val / 512 - 0) + 1 * (d.val / 1024 - 0)) + 1 = _
    omega
  have hl : loc5Of (ix2 t d) = ix2 (⟨t.val % 512, Nat.mod_lt _ (by decide)⟩ : Fin 512) d := by
    funext a; apply Fin.ext
    match a with
    | ⟨0, _⟩ => rfl
    | ⟨1, _⟩ => show d.val % 1024 = d.val; omega
  have hlt : 0 + (2 * (t.val / 512) + 1) < Cert.Kernel9Ideal.cfg0.N := lt_of_lt_of_eq (by omega) Gen.N_0.symm
  unfold G5
  rw [dif_pos (by rw [hp]; omega), hl, fold0_congr m c _ _ _ hlt hp]
  refine ((fold_odd m c h0 h1 h2 h3 h4 (t.val / 512) hlt).o5 _ d).trans ?_
  rw [show 512 * (t.val / 512) + t.val % 512 = t.val by omega]

theorem arr6 : G6 m c = Cert.Reference9Ideal.Read.val_main_v19 (F := Ideal) (a0 m c) (a2 m c) (a4 m c) := by
  funext i
  obtain ⟨d, rfl⟩ : ∃ d : Fin 1024, i = ix2 0 d := ⟨i 1, (ix_eq i).trans (congrArg (ix2 · (i 1)) (row_eq (i 0)))⟩
  refine Eq.trans ?_ (Cert.Proof.Reference9Ideal.dw_apply h0 h2 h4 d).symm
  rw [G6_last m c]
  exact (fold_odd m c h0 h1 h2 h3 h4 15 (lt_of_lt_of_eq (by decide) Gen.N_0.symm)).o6 d

end Cert.Proof.Kernel9Ideal

end
-- ==== Proof.FinitePre9.lean ====
/-
  The first norm's gradient's precondition read at the extended reals: every entry of every argument is a real number.
-/
module

public import proofs.«01_k».proof.Pre_finite9
public import proofs.«01_k».proof.Proof.Spec
public import Idealize.ShloMosaic.Lib.ReduceAll
public import Idealize.ShloMosaic.Lib.Affine
public import Idealize.ShloMosaic.Lib.Decide

@[expose] public section

noncomputable section

namespace Cert.Pre_finite9

open Cert.Proof.Ssd
open Idealize.ShloMosaic

instance facts : Facts where
  bcast_S_S8192x1024 := by decide
  reducesTo_S8192x1024_S_d0_1 := by decide
  h_S_ := by decide
  bcast_S_S1x1024 := by decide
  reducesTo_S1x1024_S_d0_1 := by decide
  bcast_S_S1024x6688 := by decide
  reducesTo_S1024x6688_S_d0_1 := by decide
  bcast_S_S8192x6688 := by decide
  reducesTo_S8192x6688_S_d0_1 := by decide

instance : Subsingleton S_.Idx := ⟨fun a b => funext fun i => i.elim0⟩

/-- An array whose entries' absolute values are all below infinity holds real numbers. -/
theorem finite_of_all {s : Shape} {axes : List (Fin s.rank)} (X : FVec Ideal s .f32) (hb : S_.BroadcastsInDim s (![] : Fin 0 → Fin s.rank))
    (h : s.ReducesTo axes S_) (j : S_.Idx)
    (e : Host.reduce IntOp.andi (cmpf .olt (Host.absf X) (broadcastInDim s ![] hb (constant (F := Ideal) S_ .f32 0x7F800000#32)))
      (constantI S_ 1 1#1) h Facts.h_S_ j = 1#1) : Finite X := by
  intro i
  have hi := Host.reduce_andi_all _ _ h Facts.h_S_ j e i
  have hinf : Ideal.ofBits FTy.f32 0x7F800000#32 = ⊤ := by simp [Ideal.ofBits, Ideal.ieee]
  have hc : Ideal.cmp .olt (max (X i) (-(X i))) ⊤ = 1#1 := by
    rw [← hinf]; exact hi
  have hlt : max (X i) (-(X i)) < ⊤ := by
    by_contra hn
    have : Ideal.cmp .olt (max (X i) (-(X i))) ⊤ = 0#1 := by
      show BitVec.ofBool (decide _) = 0#1
      rw [decide_eq_false hn]; rfl
    rw [this] at hc
    exact absurd hc (by decide)
  constructor
  · intro ht
    rw [ht] at hlt
    exact absurd (le_max_left _ _) (not_le.mpr hlt)
  · intro hbot
    rw [hbot, EReal.neg_bot] at hlt
    exact absurd (le_max_right _ _) (not_le.mpr hlt)

/-- The precondition, argument by argument. -/
theorem finite_args (X0 : FVec Ideal S8192x1024 .f32) (X1 : FVec Ideal S1x1024 .f32) (X2 : FVec Ideal S1024x6688 .f32)
    (X3 : FVec Ideal S8192x1024 .f32) (X4 : FVec Ideal S8192x6688 .f32) (h : fn (F := Ideal) X0 X1 X2 X3 X4 = fun _ => 1#1) :
    Finite X0 ∧ Finite X1 ∧ Finite X2 ∧ Finite X3 ∧ Finite X4 := by
  obtain ⟨h', h4⟩ := IntOp.andi_eq_one.mp (congrFun h ix0)
  obtain ⟨h', h3⟩ := IntOp.andi_eq_one.mp h'
  obtain ⟨h', h2⟩ := IntOp.andi_eq_one.mp h'
  obtain ⟨h0, h1⟩ := IntOp.andi_eq_one.mp h'
  exact ⟨finite_of_all _ _ _ _ h0, finite_of_all _ _ _ _ h1, finite_of_all _ _ _ _ h2, finite_of_all _ _ _ _ h3, finite_of_all _ _ _ _ h4⟩

end Cert.Pre_finite9

end
-- ==== Proof.OutCases.lean ====
/-
  The call of the out projection with the two norms after it, case by case: what its body leaves in each result's block,
  as the generated payloads of the blocks the point works on.
-/
module

public import proofs.«01_k».proof.Proof.Gen.Kernel10Ideal.Frame
public import Idealize.ShloMosaic.Lib.Pipeline.Value
public import Idealize.ShloMosaic.Lib.Tactic

@[expose] public section

set_option maxRecDepth 65536

noncomputable section

namespace Cert.Proof.Kernel10Ideal

open Cert.Kernel10Ideal Cert.Kernel10Ideal.Gen
open Idealize.ShloMosaic Idealize.ShloMosaic.TcCoe

variable {F : FTy → Type} [FloatOps F]

theorem hz : (![0, 0] : Fin 2 → Nat) = fun _ => 0 := funext fun a => by fin_cases a <;> rfl

/-- The projection's block. -/
theorem out0_A_5_eq (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x2048 .bf16) (x1 : Vec F S2048x1024 .bf16) (x2 : Vec F S512x1024 .f32) (x3 : Vec F S1x1024 .f32) (x4 : Vec F S1x1024 .f32) :
    out0_A_5 c i arg2 harg2 arg3 harg3 arg4 harg4 arg5 harg5 arg6 harg6 arg7 harg7 arg8 harg8 arg9 harg9 arg10 harg10 x0 x1 x2 x3 x4 = k0_pay2 x0 x1 := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x2048) hz, View.ld_unit_zero (S := S2048x1024) hz, View.ld_unit_zero (S := S512x1024) hz, View.ld_unit_zero (S := S1x1024) hz]

/-- The middle activation's block. -/
theorem out0_A_6_eq (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x2048 .bf16) (x1 : Vec F S2048x1024 .bf16) (x2 : Vec F S512x1024 .f32) (x3 : Vec F S1x1024 .f32) (x4 : Vec F S1x1024 .f32) :
    out0_A_6 c i arg2 harg2 arg3 harg3 arg4 harg4 arg5 harg5 arg6 harg6 arg7 harg7 arg8 harg8 arg9 harg9 arg10 harg10 x0 x1 x2 x3 x4 = k0_pay3 x0 x1 x2 x3 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x2048) hz, View.ld_unit_zero (S := S2048x1024) hz, View.ld_unit_zero (S := S512x1024) hz, View.ld_unit_zero (S := S1x1024) hz]

/-- The second norm's block. -/
theorem out0_A_7_eq (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x2048 .bf16) (x1 : Vec F S2048x1024 .bf16) (x2 : Vec F S512x1024 .f32) (x3 : Vec F S1x1024 .f32) (x4 : Vec F S1x1024 .f32) :
    out0_A_7 c i arg2 harg2 arg3 harg3 arg4 harg4 arg5 harg5 arg6 harg6 arg7 harg7 arg8 harg8 arg9 harg9 arg10 harg10 x0 x1 x2 x3 x4 = k0_pay1 (k0_pay4 x0 x1 x2 x3 x4) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x2048) hz, View.ld_unit_zero (S := S2048x1024) hz, View.ld_unit_zero (S := S512x1024) hz, View.ld_unit_zero (S := S1x1024) hz]

end Cert.Proof.Kernel10Ideal

end
-- ==== Proof.OutMid.lean ====
/-
  The call of the out projection with the two norms after it: its three results whole — of any arguments, the reference's.
  The norms are kept as functions over the extended reals, so nothing need be finite.
-/
module

public import proofs.«01_k».proof.Proof.OutCases
public import proofs.«01_k».proof.Proof.Prod
public import proofs.«01_k».proof.Proof.MidReal
public import proofs.«01_k».proof.Proof.Gen.Kernel10Ideal.Value
public import proofs.«01_k».proof.Proof.Gen.Reference10Ideal.Read
public import Idealize.ShloMosaic.Lib.StableHlo.Run
public import Idealize.ShloMosaic.Lib.Pipeline.Value
public import Idealize.ShloMosaic.Lib.Tactic

@[expose] public section

set_option maxRecDepth 65536

noncomputable section

/-- One over a row's root mean square, over the extended reals. -/
def Cert.Proof.Prod.er (x : Fin 1024 → EReal) : EReal :=
  Idealize.ShloMosaic.Ideal.rsqrt ((∑ j, x j * x j) * ((1 / 1024 : ℝ) : EReal) + ((Cert.Proof.Mid.eps : ℝ) : EReal))

namespace Cert.Proof.Kernel10Ideal

open Cert.Kernel10Ideal Cert.Kernel10Ideal.Gen Cert.Kernel10Ideal.Value
open Cert.Proof.Prod Cert.Proof.Mid
open Idealize.ShloMosaic Idealize.ShloMosaic.TcCoe Idealize.ShloMosaic.Tactic

section Blocks

abbrev iAt (t : Fin cfg0.N) (r : Fin 512) : Fin 8192 := ⟨512 * t.val + r.val, by have : t.val < 16 := t.isLt; omega⟩

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

section Reads

variable {F : FTy → Type} [FloatOps F] (m : (ℓ : Loc nD τ sig) → Buf (Elt F) ℓ) (c : Dev nD) (t : Fin cfg0.N)

theorem read0 (r : Fin 512) (k : Fin 2048) : iblk m c 0 t (ix2 r k) = V m c main_v0 (ix2 (iAt t r) k) := by
  blk_ext [Gen.iblk, idx0 t]
theorem read1 (k : Fin 2048) (d : Fin 1024) : iblk m c 1 t (ix2 k d) = V m c main_v1 (ix2 k d) := by
  blk_ext [Gen.iblk, idx1 t]
theorem read2 (r : Fin 512) (d : Fin 1024) : iblk m c 2 t (ix2 r d) = V m c main_arg2 (ix2 (iAt t r) d) := by
  blk_ext [Gen.iblk, idx2 t]
theorem read3 (d : Fin 1024) : iblk m c 3 t (ix2 0 d) = V m c main_arg3 (ix2 0 d) := by
  blk_ext [Gen.iblk, idx3 t]
theorem read4 (d : Fin 1024) : iblk m c 4 t (ix2 0 d) = V m c main_arg4 (ix2 0 d) := by
  blk_ext [Gen.iblk, idx4 t]

end Reads

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2_0).slice (win0_5.rect t)).set ↔ _
  rw [View.set_slice_whole, Rect.mem_set_unit]
  exact Iff.rfl

/-- Every index of the result is in some point's block. -/
theorem covered5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hlt : (i 0).val / 512 < cfg0.N := lt_of_lt_of_eq (by omega) Gen.N_0.symm
  refine ⟨⟨_, hlt⟩, flush0_5 _, ?_⟩
  rw [mem_blk5, idx5]
  intro a
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- Where a block's entry lies in the result. -/
theorem emb5 (t : Fin cfg0.N) (r : Fin 512) (d : Fin 1024) : ((cfg0.win 5).blk t).view.emb (ix2 r d) = ix2 (iAt t r) d := by
  have hb0 : (((cfg0.win 5).blk t).view.emb (ix2 r d) 0).val = win0_5.index t (0 : Fin 2) * 512 + 1 * r.val := rfl
  have hb1 : (((cfg0.win 5).blk t).view.emb (ix2 r d) 1).val = win0_5.index t (1 : Fin 2) * 1024 + 1 * d.val := rfl
  have i0 : win0_5.index t (0 : Fin 2) = t.val := congrFun (idx5 t) 0
  have i1 : win0_5.index t (1 : Fin 2) = 0 := congrFun (idx5 t) 1
  funext a; apply Fin.ext
  match a with
  | ⟨0, _⟩ =>
    show (((cfg0.win 5).blk t).view.emb (ix2 r d) 0).val = 512 * t.val + r.val
    rw [hb0, i0]; omega
  | ⟨1, _⟩ =>
    show (((cfg0.win 5).blk t).view.emb (ix2 r d) 1).val = d.val
    rw [hb1, i1]; omega

theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v2_1).slice (win0_6.rect t)).set ↔ _
  rw [View.set_slice_whole, Rect.mem_set_unit]
  exact Iff.rfl

/-- Every index of the result is in some point's block. -/
theorem covered6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hlt : (i 0).val / 512 < cfg0.N := lt_of_lt_of_eq (by omega) Gen.N_0.symm
  refine ⟨⟨_, hlt⟩, flush0_6 _, ?_⟩
  rw [mem_blk6, idx6]
  intro a
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- Where a block's entry lies in the result. -/
theorem emb6 (t : Fin cfg0.N) (r : Fin 512) (d : Fin 1024) : ((cfg0.win 6).blk t).view.emb (ix2 r d) = ix2 (iAt t r) d := by
  have hb0 : (((cfg0.win 6).blk t).view.emb (ix2 r d) 0).val = win0_6.index t (0 : Fin 2) * 512 + 1 * r.val := rfl
  have hb1 : (((cfg0.win 6).blk t).view.emb (ix2 r d) 1).val = win0_6.index t (1 : Fin 2) * 1024 + 1 * d.val := rfl
  have i0 : win0_6.index t (0 : Fin 2) = t.val := congrFun (idx6 t) 0
  have i1 : win0_6.index t (1 : Fin 2) = 0 := congrFun (idx6 t) 1
  funext a; apply Fin.ext
  match a with
  | ⟨0, _⟩ =>
    show (((cfg0.win 6).blk t).view.emb (ix2 r d) 0).val = 512 * t.val + r.val
    rw [hb0, i0]; omega
  | ⟨1, _⟩ =>
    show (((cfg0.win 6).blk t).view.emb (ix2 r d) 1).val = d.val
    rw [hb1, i1]; omega

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v2_2).slice (win0_7.rect t)).set ↔ _
  rw [View.set_slice_whole, Rect.mem_set_unit]
  exact Iff.rfl

/-- Every index of the result is in some point's block. -/
theorem covered7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  have hlt : (i 0).val / 512 < cfg0.N := lt_of_lt_of_eq (by omega) Gen.N_0.symm
  refine ⟨⟨_, hlt⟩, flush0_7 _, ?_⟩
  rw [mem_blk7, idx7]
  intro a
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- Where a block's entry lies in the result. -/
theorem emb7 (t : Fin cfg0.N) (r : Fin 512) (d : Fin 1024) : ((cfg0.win 7).blk t).view.emb (ix2 r d) = ix2 (iAt t r) d := by
  have hb0 : (((cfg0.win 7).blk t).view.emb (ix2 r d) 0).val = win0_7.index t (0 : Fin 2) * 512 + 1 * r.val := rfl
  have hb1 : (((cfg0.win 7).blk t).view.emb (ix2 r d) 1).val = win0_7.index t (1 : Fin 2) * 1024 + 1 * d.val := rfl
  have i0 : win0_7.index t (0 : Fin 2) = t.val := congrFun (idx7 t) 0
  have i1 : win0_7.index t (1 : Fin 2) = 0 := congrFun (idx7 t) 1
  funext a; apply Fin.ext
  match a with
  | ⟨0, _⟩ =>
    show (((cfg0.win 7).blk t).view.emb (ix2 r d) 0).val = 512 * t.val + r.val
    rw [hb0, i0]; omega
  | ⟨1, _⟩ =>
    show (((cfg0.win 7).blk t).view.emb (ix2 r d) 1).val = d.val
    rw [hb1, i1]; omega

end Blocks

section Result

/-- An entry of the projection. -/
def pmix (X : (⟨2, ![8192, 2048]⟩ : Shape).Idx → EReal) (Y : (⟨2, ![2048, 1024]⟩ : Shape).Idx → EReal) (i : Fin 8192) (d : Fin 1024) : EReal :=
  ∑ k : Fin 2048, X (ix2 i k) * Y (ix2 k d)

/-- An entry of the middle activation. -/
def pmid (X : (⟨2, ![8192, 2048]⟩ : Shape).Idx → EReal) (Y : (⟨2, ![2048, 1024]⟩ : Shape).Idx → EReal) (Z : (⟨2, ![8192, 1024]⟩ : Shape).Idx → EReal)
    (U : (⟨2, ![1, 1024]⟩ : Shape).Idx → EReal) (i : Fin 8192) (d : Fin 1024) : EReal :=
  Z (ix2 i d) + pmix X Y i d * er (pmix X Y i) * U (ix2 0 d)

/-- An entry of the second norm. -/
def pnorm (X : (⟨2, ![8192, 2048]⟩ : Shape).Idx → EReal) (Y : (⟨2, ![2048, 1024]⟩ : Shape).Idx → EReal) (Z : (⟨2, ![8192, 1024]⟩ : Shape).Idx → EReal)
    (U T : (⟨2, ![1, 1024]⟩ : Shape).Idx → EReal) (i : Fin 8192) (d : Fin 1024) : EReal :=
  pmid X Y Z U i d * er (pmid X Y Z U i) * T (ix2 0 d)

section Payloads

variable {x0 : Vec Ideal S512x2048 .bf16} {x1 : Vec Ideal S2048x1024 .bf16} {x2 : Vec Ideal S512x1024 .f32} {x3 x4 : Vec Ideal S1x1024 .f32}

theorem pay2_apply (r : Fin 512) (d : Fin 1024) : k0_pay2 (F := Ideal) x0 x1 (ix2 r d) = ∑ k : Fin 2048, x0 (ix2 r k) * x1 (ix2 k d) := by
  pointwise [k0_pay2]

variable {p z : Fin 512 → Fin 1024 → EReal} {u w : Fin 1024 → EReal}
variable (hp : ∀ r d, k0_pay2 (F := Ideal) x0 x1 (ix2 r d) = p r d) (hx : ∀ r d, x2 (ix2 r d) = z r d)
  (hu : ∀ d, x3 (ix2 0 d) = u d) (hw : ∀ d, x4 (ix2 0 d) = w d)

include hp hx hu in
theorem pay3_apply (r : Fin 512) (d : Fin 1024) : k0_pay3 (F := Ideal) x0 x1 x2 x3 (ix2 r d) = z r d + p r d * er (p r) * u d := by
  unfold k0_pay3
  pointwise
  simp only [hp, hx, hu, inv_eq, eps_eq]
  rfl

include hw in
theorem pay4_apply {q : Fin 512 → Fin 1024 → EReal} (hq : ∀ r d, k0_pay3 (F := Ideal) x0 x1 x2 x3 (ix2 r d) = q r d) (r : Fin 512) (d : Fin 1024) :
    k0_pay1 (F := Ideal) (k0_pay4 x0 x1 x2 x3 x4) (ix2 r d) = q r d * er (q r) * w d := by
  unfold k0_pay1 k0_pay4
  pointwise
  simp only [hq, hw, inv_eq, eps_eq]
  rfl

end Payloads

section Reference

open Cert.Reference10Ideal.Read

variable (X : FVec Ideal Cert.Reference10Ideal.S8192x2048 .f32) (Y : FVec Ideal Cert.Reference10Ideal.S2048x1024 .f32)
  (Z : FVec Ideal Cert.Reference10Ideal.S8192x1024 .f32) (U T : FVec Ideal Cert.Reference10Ideal.S1x1024 .f32) (i : Fin 8192) (d : Fin 1024)

theorem ref0 : val_main_v0 (F := Ideal) X Y (ix2 i d) = pmix X Y i d := by
  pointwise [val_main_v0]
  rfl

theorem ref8 : val_main_v8 (F := Ideal) X Y (ix2 i 0) = er (pmix X Y i) := by
  pointwise [val_main_v8, val_main_v7, val_main_v6, val_main_v5, val_main_v4, val_main_v3, val_main_v2, val_main_v1, val_main_cst, val_main_cst_0, val_main_cst_1]
  simp only [ref0, eps_eq, count_eq]
  rw [Ideal.div_coe (by norm_num)]
  rfl

theorem ref13 : val_main_v13 (F := Ideal) X Y Z U (ix2 i d) = pmid X Y Z U i d := by
  unfold val_main_v13 val_main_v12 val_main_v11 val_main_v10 val_main_v9
  pointwise
  rw [ref0, ref8]
  rfl

theorem ref21 : val_main_v21 (F := Ideal) X Y Z U (ix2 i 0) = er (pmid X Y Z U i) := by
  pointwise [val_main_v21, val_main_v20, val_main_v19, val_main_v18, val_main_v17, val_main_v16, val_main_v15, val_main_v14, val_main_cst_2, val_main_cst_3, val_main_cst_4]
  simp only [ref13, eps_eq, count_eq]
  rw [Ideal.div_coe (by norm_num)]
  rfl

theorem ref26 : val_main_v26 (F := Ideal) X Y Z U T (ix2 i d) = pnorm X Y Z U T i d := by
  unfold val_main_v26 val_main_v25 val_main_v24 val_main_v23 val_main_v22
  pointwise
  rw [ref13, ref21]
  rfl

end Reference

variable (m : (ℓ : Loc nD τ sig) → Buf (Elt Ideal) ℓ) (c : Dev nD)

/-- The arguments' arrays. -/
abbrev a0 : FVec Ideal S8192x2048 .f32 := m ((c : Thread nD τ).loc main_arg0)
abbrev a1 : FVec Ideal S2048x1024 .f32 := m ((c : Thread nD τ).loc main_arg1)
abbrev a2 : FVec Ideal S8192x1024 .f32 := m ((c : Thread nD τ).loc main_arg2)
abbrev a3 : FVec Ideal S1x1024 .f32 := m ((c : Thread nD τ).loc main_arg3)
abbrev a4 : FVec Ideal S1x1024 .f32 := m ((c : Thread nD τ).loc main_arg4)

theorem V_v0 : V m c main_v0 = truncf (F := Ideal) .bf16 (a0 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem blk_mix (t : Fin cfg0.N) (r : Fin 512) (d : Fin 1024) : k0_pay2 (F := Ideal) (iblk m c 0 t) (iblk m c 1 t) (ix2 r d)
    = pmix (a0 m c) (a1 m c) (iAt t r) d := by
  rw [pay2_apply]
  refine Finset.sum_congr rfl fun k _ => ?_
  rw [read0, read1, V_v0, V_v1]
  rfl

theorem blk2 (t : Fin cfg0.N) (r : Fin 512) (d : Fin 1024) : iblk m c 2 t (ix2 r d) = a2 m c (ix2 (iAt t r) d) := by
  rw [read2, V_main_arg2]

theorem blk3 (t : Fin cfg0.N) (d : Fin 1024) : iblk m c 3 t (ix2 0 d) = a3 m c (ix2 0 d) := by
  rw [read3, V_main_arg3]

theorem blk4 (t : Fin cfg0.N) (d : Fin 1024) : iblk m c 4 t (ix2 0 d) = a4 m c (ix2 0 d) := by
  rw [read4, V_main_arg4]

theorem blk_mid (t : Fin cfg0.N) (r : Fin 512) (d : Fin 1024) :
    k0_pay3 (F := Ideal) (iblk m c 0 t) (iblk m c 1 t) (iblk m c 2 t) (iblk m c 3 t) (ix2 r d)
      = pmid (a0 m c) (a1 m c) (a2 m c) (a3 m c) (iAt t r) d :=
  pay3_apply (blk_mix m c t) (blk2 m c t) (blk3 m c t) r d

theorem blk_norm (t : Fin cfg0.N) (r : Fin 512) (d : Fin 1024) :
    k0_pay1 (F := Ideal) (k0_pay4 (iblk m c 0 t) (iblk m c 1 t) (iblk m c 2 t) (iblk m c 3 t) (iblk m c 4 t)) (ix2 r d)
      = pnorm (a0 m c) (a1 m c) (a2 m c) (a3 m c) (a4 m c) (iAt t r) d :=
  pay4_apply (blk4 m c t) (blk_mid m c t) r d

theorem out_mix (t : Fin cfg0.N) (r : Fin 512) (d : Fin 1024) : k0_pay2 (F := Ideal) (iblk m c 0 t) (iblk m c 1 t) (ix2 r d)
    = Cert.Reference10Ideal.Read.val_main_v0 (F := Ideal) (a0 m c) (a1 m c) (ix2 (iAt t r) d) :=
  (blk_mix m c t r d).trans (ref0 _ _ _ _).symm

theorem out_mid (t : Fin cfg0.N) (r : Fin 512) (d : Fin 1024) :
    k0_pay3 (F := Ideal) (iblk m c 0 t) (iblk m c 1 t) (iblk m c 2 t) (iblk m c 3 t) (ix2 r d)
      = Cert.Reference10Ideal.Read.val_main_v13 (F := Ideal) (a0 m c) (a1 m c) (a2 m c) (a3 m c) (ix2 (iAt t r) d) :=
  (blk_mid m c t r d).trans (ref13 _ _ _ _ _ _).symm

theorem out_norm (t : Fin cfg0.N) (r : Fin 512) (d : Fin 1024) :
    k0_pay1 (F := Ideal) (k0_pay4 (iblk m c 0 t) (iblk m c 1 t) (iblk m c 2 t) (iblk m c 3 t) (iblk m c 4 t)) (ix2 r d)
      = Cert.Reference10Ideal.Read.val_main_v26 (F := Ideal) (a0 m c) (a1 m c) (a2 m c) (a3 m c) (a4 m c) (ix2 (iAt t r) d) :=
  (blk_norm m c t r d).trans (ref26 _ _ _ _ _ _ _).symm

/-- The projection. -/
theorem arr5 : (dats m 0 c).arrAt 5 cfg0.N = Cert.Reference10Ideal.Read.val_main_v0 (F := Ideal) (a0 m c) (a1 m c) := by
  refine (dats m 0 c).arrAt_eq_of_cover 5 _ (fun t _ => ?_) covered5
  rw [flushed5_A, out0_A_5_eq]
  funext y
  obtain ⟨r, d, rfl⟩ : ∃ (a : Fin 512) (b : Fin 1024), y = ix2 a b := ⟨y 0, y 1, ix_eq y⟩
  exact (out_mix m c t r d).trans (congrArg (Cert.Reference10Ideal.Read.val_main_v0 (F := Ideal) (a0 m c) (a1 m c)) (emb5 t r d).symm)

/-- The middle activation. -/
theorem arr6 : (dats m 0 c).arrAt 6 cfg0.N = Cert.Reference10Ideal.Read.val_main_v13 (F := Ideal) (a0 m c) (a1 m c) (a2 m c) (a3 m c) := by
  refine (dats m 0 c).arrAt_eq_of_cover 6 _ (fun t _ => ?_) covered6
  rw [flushed6_A, out0_A_6_eq]
  funext y
  obtain ⟨r, d, rfl⟩ : ∃ (a : Fin 512) (b : Fin 1024), y = ix2 a b := ⟨y 0, y 1, ix_eq y⟩
  exact (out_mid m c t r d).trans (congrArg (Cert.Reference10Ideal.Read.val_main_v13 (F := Ideal) (a0 m c) (a1 m c) (a2 m c) (a3 m c)) (emb6 t r d).symm)

/-- The second norm. -/
theorem arr7 : (dats m 0 c).arrAt 7 cfg0.N = Cert.Reference10Ideal.Read.val_main_v26 (F := Ideal) (a0 m c) (a1 m c) (a2 m c) (a3 m c) (a4 m c) := by
  refine (dats m 0 c).arrAt_eq_of_cover 7 _ (fun t _ => ?_) covered7
  rw [flushed7_A, out0_A_7_eq]
  funext y
  obtain ⟨r, d, rfl⟩ : ∃ (a : Fin 512) (b : Fin 1024), y = ix2 a b := ⟨y 0, y 1, ix_eq y⟩
  exact (out_norm m c t r d).trans (congrArg (Cert.Reference10Ideal.Read.val_main_v26 (F := Ideal) (a0 m c) (a1 m c) (a2 m c) (a3 m c) (a4 m c)) (emb7 t r d).symm)

end Result

end Cert.Proof.Kernel10Ideal

end
-- ==== Proof.FinalCases.lean ====
/-
  The down projection's call with the last norm and the loss, case by case: what its body leaves in the blocks of the
  four results, as the generated payloads of the blocks the point works on.
-/
module

public import proofs.«01_k».proof.Proof.Gen.Kernel11Ideal.Frame
public import Idealize.ShloMosaic.Lib.Pipeline.Value
public import Idealize.ShloMosaic.Lib.Tactic

@[expose] public section

set_option maxRecDepth 65536

noncomputable section

namespace Cert.Proof.Kernel11Ideal

open Cert.Kernel11Ideal Cert.Kernel11Ideal.Gen
open Idealize.ShloMosaic Idealize.ShloMosaic.TcCoe

variable {F : FTy → Type} [FloatOps F]

theorem hz : (![0, 0] : Fin 2 → Nat) = fun _ => 0 := funext fun a => by fin_cases a <;> rfl

variable (c : Dev nD) (i : grid0.Coords) (arg2 : Memref sig .tc .vmem S512x2816 .bf16) (harg2 : arg2.IsWhole) (arg3 : Memref sig .tc .vmem S2816x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole)

/-- The block of the loss's gradient at the first point. -/
theorem out0_A_5_eq (hc0 : cond0_0 i)
    (x0 : Vec F S512x2816 .bf16) (x1 : Vec F S2816x1024 .bf16) (x2 : Vec F S512x1024 .f32) (x3 : Vec F S512x1024 .f32) (x4 : Vec F S1x1024 .f32) :
    out0_A_5 c i arg2 harg2 arg3 harg3 arg4 harg4 arg5 harg5 arg6 harg6 arg7 harg7 arg8 harg8 arg9 harg9 arg10 harg10 arg11 harg11 hc0 x0 x1 x2 x3 x4 = k0_pay1 (k0_pay9 x0 x1 x2 x4 x3) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_unit_zero (S := S512x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

/-- The block of the projection's gradient at the first point. -/
theorem out0_A_6_eq (hc0 : cond0_0 i)
    (x0 : Vec F S512x2816 .bf16) (x1 : Vec F S2816x1024 .bf16) (x2 : Vec F S512x1024 .f32) (x3 : Vec F S512x1024 .f32) (x4 : Vec F S1x1024 .f32) :
    out0_A_6 c i arg2 harg2 arg3 harg3 arg4 harg4 arg5 harg5 arg6 harg6 arg7 harg7 arg8 harg8 arg9 harg9 arg10 harg10 arg11 harg11 hc0 x0 x1 x2 x3 x4 = k0_pay3 (k0_pay7 x0 x1) (k0_pay8 x0 x1) (k0_pay9 x0 x1 x2 x4 x3) x4 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_unit_zero (S := S512x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

/-- The losses by feature so far at the first point. -/
theorem out0_A_7_eq (hc0 : cond0_0 i)
    (x0 : Vec F S512x2816 .bf16) (x1 : Vec F S2816x1024 .bf16) (x2 : Vec F S512x1024 .f32) (x3 : Vec F S512x1024 .f32) (x4 : Vec F S1x1024 .f32) :
    out0_A_7 c i arg2 harg2 arg3 harg3 arg4 harg4 arg5 harg5 arg6 harg6 arg7 harg7 arg8 harg8 arg9 harg9 arg10 harg10 arg11 harg11 hc0 x0 x1 x2 x3 x4 = k0_pay10 x0 x1 x2 x4 x3 k0_pay4 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_cons_unit_zero (S := S1x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

/-- The sum over the rows so far at the first point. -/
theorem out0_A_8_eq (hc0 : cond0_0 i)
    (x0 : Vec F S512x2816 .bf16) (x1 : Vec F S2816x1024 .bf16) (x2 : Vec F S512x1024 .f32) (x3 : Vec F S512x1024 .f32) (x4 : Vec F S1x1024 .f32) :
    out0_A_8 c i arg2 harg2 arg3 harg3 arg4 harg4 arg5 harg5 arg6 harg6 arg7 harg7 arg8 harg8 arg9 harg9 arg10 harg10 arg11 harg11 hc0 x0 x1 x2 x3 x4 = k0_pay2 (k0_pay8 x0 x1) (k0_pay9 x0 x1 x2 x4 x3) k0_pay5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_cons_unit_zero (S := S1x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

/-- The block of the loss's gradient. -/
theorem out0_B_5_eq (hc0 : ¬cond0_0 i)
    (x0 : Vec F S512x2816 .bf16) (x1 : Vec F S2816x1024 .bf16) (x2 : Vec F S512x1024 .f32) (x3 : Vec F S512x1024 .f32) (x4 : Vec F S1x1024 .f32) (xo7 : Vec F S1x1024 .f32) (xo8 : Vec F S1x1024 .f32) :
    out0_B_5 c i arg2 harg2 arg3 harg3 arg4 harg4 arg5 harg5 arg6 harg6 arg7 harg7 arg8 harg8 arg9 harg9 arg10 harg10 arg11 harg11 hc0 x0 x1 x2 x3 x4 xo7 xo8 = k0_pay1 (k0_pay9 x0 x1 x2 x4 x3) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 x0 x1 x2 x3 x4 xo7 xo8)]
  unfold kernelRun0_B
  dsimp only
  sl_unfold_words
  rw [View.canon_unit_zero (S := S512x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

/-- The block of the projection's gradient. -/
theorem out0_B_6_eq (hc0 : ¬cond0_0 i)
    (x0 : Vec F S512x2816 .bf16) (x1 : Vec F S2816x1024 .bf16) (x2 : Vec F S512x1024 .f32) (x3 : Vec F S512x1024 .f32) (x4 : Vec F S1x1024 .f32) (xo7 : Vec F S1x1024 .f32) (xo8 : Vec F S1x1024 .f32) :
    out0_B_6 c i arg2 harg2 arg3 harg3 arg4 harg4 arg5 harg5 arg6 harg6 arg7 harg7 arg8 harg8 arg9 harg9 arg10 harg10 arg11 harg11 hc0 x0 x1 x2 x3 x4 xo7 xo8 = k0_pay3 (k0_pay7 x0 x1) (k0_pay8 x0 x1) (k0_pay9 x0 x1 x2 x4 x3) x4 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 xo7 xo8)]
  unfold kernelRun0_B
  dsimp only
  sl_unfold_words
  rw [View.canon_unit_zero (S := S512x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

/-- The losses by feature so far. -/
theorem out0_B_7_eq (hc0 : ¬cond0_0 i)
    (x0 : Vec F S512x2816 .bf16) (x1 : Vec F S2816x1024 .bf16) (x2 : Vec F S512x1024 .f32) (x3 : Vec F S512x1024 .f32) (x4 : Vec F S1x1024 .f32) (xo7 : Vec F S1x1024 .f32) (xo8 : Vec F S1x1024 .f32) :
    out0_B_7 c i arg2 harg2 arg3 harg3 arg4 harg4 arg5 harg5 arg6 harg6 arg7 harg7 arg8 harg8 arg9 harg9 arg10 harg10 arg11 harg11 hc0 x0 x1 x2 x3 x4 xo7 xo8 = k0_pay10 x0 x1 x2 x4 x3 xo7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 xo7 xo8)]
  unfold kernelRun0_B
  dsimp only
  sl_unfold_words
  rw [View.canon_unit_zero (S := S1x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

/-- The sum over the rows so far. -/
theorem out0_B_8_eq (hc0 : ¬cond0_0 i)
    (x0 : Vec F S512x2816 .bf16) (x1 : Vec F S2816x1024 .bf16) (x2 : Vec F S512x1024 .f32) (x3 : Vec F S512x1024 .f32) (x4 : Vec F S1x1024 .f32) (xo7 : Vec F S1x1024 .f32) (xo8 : Vec F S1x1024 .f32) :
    out0_B_8 c i arg2 harg2 arg3 harg3 arg4 harg4 arg5 harg5 arg6 harg6 arg7 harg7 arg8 harg8 arg9 harg9 arg10 harg10 arg11 harg11 hc0 x0 x1 x2 x3 x4 xo7 xo8 = k0_pay2 (k0_pay8 x0 x1) (k0_pay9 x0 x1 x2 x4 x3) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 xo7 xo8)]
  unfold kernelRun0_B
  dsimp only
  sl_unfold_words
  rw [View.canon_unit_zero (S := S1x1024) hz]
  simp only [View.readCov_unit_zero (S := S1x1024) _ hz, View.readAt_eq_ld, harg2.read_unread, harg3.read_unread, harg4.read_unread, harg5.read_unread, harg6.read_unread, harg7.read_unread, harg8.read_unread, harg9.read_unread, harg10.read_unread, harg11.read_unread, View.ld_unit_zero (S := S512x2816) hz, View.ld_unit_zero (S := S2816x1024) hz, View.ld_unit_zero (S := S512x1024) hz, View.ld_unit_zero (S := S1x1024) hz]

end Cert.Proof.Kernel11Ideal

end
-- ==== Proof.FinalReal.lean ====
/-
  Over the reals: the down projection, the last norm, the error against the target, and the gradients the loss sends back
  through them.
-/
module

public import proofs.«01_k».proof.Proof.MidReal

@[expose] public section

noncomputable section

namespace Cert.Proof.Final

open Idealize.ShloMosaic
open Cert.Proof.Mid

variable (X : (⟨2, ![8192, 2816]⟩ : Shape).Idx → EReal) (Y : (⟨2, ![2816, 1024]⟩ : Shape).Idx → EReal)
  (Z T : (⟨2, ![8192, 1024]⟩ : Shape).Idx → EReal) (W : (⟨2, ![1, 1024]⟩ : Shape).Idx → EReal)

/-- The projection, row by row. -/
def proj (t : ℕ) : Fin 1024 → ℝ := fun d => ∑ k : Fin 2816, at2 X t k * at2 Y k d

/-- The error. -/
def err (t : ℕ) : Fin 1024 → ℝ := fun d => row Z t d + nrm (proj X Y t) d * row W 0 d - row T t d

/-- The loss's gradient. -/
def dlast (t : ℕ) : Fin 1024 → ℝ := fun d => err X Y Z T W t d * (1 / 1024)

/-- The projection's gradient. -/
def dproj (t : ℕ) : Fin 1024 → ℝ := back (proj X Y t) (fun j => dlast X Y Z T W t j * row W 0 j)

/-- The norm's weight's gradient over the first `n` rows. -/
def dwt (n : ℕ) (d : Fin 1024) : ℝ := ∑ t ∈ Finset.range n, dlast X Y Z T W t d * nrm (proj X Y t) d

/-- The loss of the first `n` rows, by feature. -/
def lanes (n : ℕ) (d : Fin 1024) : ℝ := ∑ t ∈ Finset.range n, err X Y Z T W t d * err X Y Z T W t d * (1 / 2048)

/-- A sum over rows, a block of rows added. -/
theorem rows_add (f : ℕ → ℝ) (i : ℕ) : (∑ t ∈ Finset.range (512 * i), f t) + ∑ r : Fin 512, f (512 * i + r.val) = ∑ t ∈ Finset.range (512 * (i + 1)), f t := by
  rw [Nat.mul_add, Nat.mul_one, Finset.sum_range_add, ← Finset.sum_range (fun r => f (512 * i + r))]

theorem halfp_eq : Ideal.ofBits FTy.f32 0x3F000000#32 = ((1 / 2 : ℝ) : EReal) := by
  simp [Ideal.ofBits, Ideal.ieee, -EReal.coe_mul]; norm_num

theorem scale_eq : Ideal.ofBits FTy.f32 0x3A000000#32 = ((1 / 2048 : ℝ) : EReal) := by
  simp [Ideal.ofBits, Ideal.ieee, -EReal.coe_mul]; norm_num

theorem two_eq : Ideal.ofBits FTy.f32 0x40000000#32 = ((2 : ℝ) : EReal) := by
  simp [Ideal.ofBits, Ideal.ieee, -EReal.coe_mul]; norm_num

end Cert.Proof.Final

end
-- ==== Proof.FinalBlock.lean ====
/-
  The call's body over the reals: what each payload leaves of blocks holding real numbers.
-/
module

public import proofs.«01_k».proof.Proof.FinalReal
public import proofs.«01_k».proof.Proof.Gen.Kernel11Ideal.Skeleton
public import Idealize.ShloMosaic.Lib.Pointwise

@[expose] public section

set_option maxRecDepth 16384

noncomputable section

namespace Cert.Proof.Kernel11Ideal

open Cert.Kernel11Ideal Cert.Kernel11Ideal.Gen
open Cert.Proof Cert.Proof.Mid Cert.Proof.Ssd
open Idealize.ShloMosaic

theorem zero5_apply (d : Fin 1024) : k0_pay5 (F := Ideal) (ix2 0 d) = ((0 : ℝ) : EReal) := by
  pointwise [k0_pay5]
  exact EReal.coe_zero.symm

theorem zero4_apply (d : Fin 1024) : k0_pay4 (F := Ideal) (ix2 0 d) = ((0 : ℝ) : EReal) := by
  pointwise [k0_pay4]
  exact EReal.coe_zero.symm

/-- The product. -/
theorem prod6_apply {A : FVec Ideal S512x2816 .bf16} {B : FVec Ideal S2816x1024 .bf16} {a : Fin 512 → Fin 2816 → ℝ} {b : Fin 2816 → Fin 1024 → ℝ}
    (hA : ∀ r k, A (ix2 r k) = ((a r k : ℝ) : EReal)) (hB : ∀ k d, B (ix2 k d) = ((b k d : ℝ) : EReal))
    (r : Fin 512) (d : Fin 1024) : k0_pay6 (F := Ideal) A B (ix2 r d) = ((∑ k, a r k * b k d : ℝ) : EReal) := by
  pointwise [k0_pay6]
  simp only [hA, hB, ← EReal.coe_mul, coe_sum]

section Norm

variable {A : FVec Ideal S512x2816 .bf16} {B : FVec Ideal S2816x1024 .bf16} {Z T : FVec Ideal S512x1024 .f32} {W acc : FVec Ideal S1x1024 .f32}
  {p z s : Fin 512 → Fin 1024 → ℝ} {w u : Fin 1024 → ℝ}
variable (hp : ∀ r d, k0_pay6 (F := Ideal) A B (ix2 r d) = ((p r d : ℝ) : EReal)) (hZ : ∀ r d, Z (ix2 r d) = ((z r d : ℝ) : EReal))
  (hT : ∀ r d, T (ix2 r d) = ((s r d : ℝ) : EReal)) (hW : ∀ d, W (ix2 0 d) = ((w d : ℝ) : EReal)) (hu : ∀ d, acc (ix2 0 d) = ((u d : ℝ) : EReal))

include hp in
theorem rr7_apply (r : Fin 512) : k0_pay7 (F := Ideal) A B (ix2 r 0) = ((rr (p r) : ℝ) : EReal) := by
  unfold k0_pay7
  pointwise
  simp only [hp, ← EReal.coe_mul, coe_sum, inv_eq, eps_eq, ← EReal.coe_add]
  exact rsqrt_msq (p r)

include hp in
theorem nrm8_apply (r : Fin 512) (d : Fin 1024) : k0_pay8 (F := Ideal) A B (ix2 r d) = ((nrm (p r) d : ℝ) : EReal) := by
  unfold k0_pay8
  pointwise
  rw [rr7_apply hp, hp, ← EReal.coe_mul]
  rfl

include hp hZ hT hW in
/-- The error. -/
theorem err9_apply (r : Fin 512) (d : Fin 1024) :
    k0_pay9 (F := Ideal) A B Z W T (ix2 r d) = ((z r d + nrm (p r) d * w d - s r d : ℝ) : EReal) := by
  unfold k0_pay9
  pointwise
  simp only [nrm8_apply hp, hZ, hT, hW, ← EReal.coe_mul, ← EReal.coe_add, ← EReal.coe_sub]

include hp hZ hT hW hu in
/-- The loss by feature, a block of rows added. -/
theorem lanes10_apply (d : Fin 1024) : k0_pay10 (F := Ideal) A B Z W T acc (ix2 0 d)
    = ((u d + ∑ r, (z r d + nrm (p r) d * w d - s r d) * (z r d + nrm (p r) d * w d - s r d) * (1 / 2048) : ℝ) : EReal) := by
  unfold k0_pay10
  pointwise
  simp only [err9_apply hp hZ hT hW, hu, Final.scale_eq, ← EReal.coe_mul, coe_sum, ← EReal.coe_add]
  rw [Finset.sum_mul]

variable {N E : FVec Ideal S512x1024 .f32} {R : FVec Ideal S512x1 .f32} {e : Fin 512 → Fin 1024 → ℝ}
  (hN : ∀ r d, N (ix2 r d) = ((nrm (p r) d : ℝ) : EReal)) (hR : ∀ r, R (ix2 r 0) = ((rr (p r) : ℝ) : EReal))
  (hE : ∀ r d, E (ix2 r d) = ((e r d : ℝ) : EReal))

include hE in
theorem dlast1_apply (r : Fin 512) (d : Fin 1024) : k0_pay1 (F := Ideal) E (ix2 r d) = ((e r d * (1 / 1024) : ℝ) : EReal) := by
  unfold k0_pay1
  pointwise
  rw [hE, inv_eq, ← EReal.coe_mul]

include hN hE hu in
/-- The norm's weight's gradient, a block of rows added. -/
theorem dwt2_apply (d : Fin 1024) : k0_pay2 (F := Ideal) N E acc (ix2 0 d) = ((u d + ∑ r, e r d * (1 / 1024) * nrm (p r) d : ℝ) : EReal) := by
  unfold k0_pay2
  pointwise
  simp only [dlast1_apply hE, hN, hu, ← EReal.coe_mul, coe_sum, ← EReal.coe_add]

include hN hR hE hW in
/-- The projection's gradient. -/
theorem dproj3_apply (r : Fin 512) (d : Fin 1024) :
    k0_pay3 (F := Ideal) R N E W (ix2 r d) = ((back (p r) (fun j => e r j * (1 / 1024) * w j) d : ℝ) : EReal) := by
  unfold k0_pay3
  pointwise
  simp only [dlast1_apply hE, hN, hR, hW, inv_eq, ← EReal.coe_mul, coe_sum, ← EReal.coe_sub, ← EReal.coe_add]
  rfl

end Norm

end Cert.Proof.Kernel11Ideal

end
-- ==== Proof.FinalRef.lean ====
/-
  The call's reference read entry by entry over the reals: with every argument finite, its four results are the
  gradients of `FinalReal`.
-/
module

public import proofs.«01_k».proof.Proof.FinalReal
public import proofs.«01_k».proof.Proof.Gen.Reference11Ideal.Read
public import Idealize.ShloMosaic.Lib.Pointwise

@[expose] public section

set_option maxRecDepth 16384

noncomputable section

namespace Cert.Proof.Reference11Ideal

open Cert.Reference11Ideal Cert.Reference11Ideal.Read
open Cert.Proof.Ssd Cert.Proof.Mid Cert.Proof.Final
open Idealize.ShloMosaic

variable {X : FVec Ideal S8192x2816 .f32} {Y : FVec Ideal S2816x1024 .f32} {Z T : FVec Ideal S8192x1024 .f32} {W : FVec Ideal S1x1024 .f32}
variable (h0 : Finite X) (h1 : Finite Y) (h2 : Finite Z) (h3 : Finite T) (h4 : Finite W)

include h0 h1 in
theorem proj_apply (t : Fin 8192) (d : Fin 1024) : val_main_v0 (F := Ideal) X Y (ix2 t d) = ((proj X Y t d : ℝ) : EReal) := by
  pointwise [val_main_v0]
  simp only [at2_eq h0, at2_eq h1, ← EReal.coe_mul, coe_sum]
  rfl

include h0 h1 in
theorem msq_apply (t : Fin 8192) : val_main_v7 (F := Ideal) X Y (ix2 t 0) = ((msq (proj X Y t) : ℝ) : EReal) := by
  pointwise [val_main_v7, val_main_v6, val_main_v5, val_main_v4, val_main_v3, val_main_v2, val_main_v1, val_main_cst, val_main_cst_0,
    val_main_cst_1]
  simp only [proj_apply h0 h1, eps_eq, count_eq, ← EReal.coe_mul, coe_sum]
  rw [Ideal.div_coe (by norm_num), ← EReal.coe_mul, ← EReal.coe_add]
  rfl

include h0 h1 in
theorem rr_apply (t : Fin 8192) : val_main_v8 (F := Ideal) X Y (ix2 t 0) = ((rr (proj X Y t) : ℝ) : EReal) := by
  unfold val_main_v8
  pointwise
  rw [msq_apply h0 h1, rsqrt_msq]

include h0 h1 in
theorem slope_apply (t : Fin 8192) :
    val_main_v11 (F := Ideal) X Y (ix2 t 0) = ((-(1 / 2) * (rr (proj X Y t) * (1 / msq (proj X Y t))) : ℝ) : EReal) := by
  unfold val_main_v11 val_main_v10 val_main_v9 val_main_cst_2
  pointwise
  rw [msq_apply h0 h1, rr_apply h0 h1, half_eq, Ideal.div_coe (msq_pos _).ne', ← EReal.coe_mul, ← EReal.coe_mul]

include h0 h1 in
theorem nrm_apply (t : Fin 8192) (d : Fin 1024) : val_main_v13 (F := Ideal) X Y (ix2 t d) = ((nrm (proj X Y t) d : ℝ) : EReal) := by
  unfold val_main_v13 val_main_v12
  pointwise
  rw [rr_apply h0 h1, proj_apply h0 h1, ← EReal.coe_mul]
  rfl

include h0 h1 h2 h3 h4

theorem err_apply (t : Fin 8192) (d : Fin 1024) : val_main_v17 (F := Ideal) X Y Z T W (ix2 t d) = ((err X Y Z T W t d : ℝ) : EReal) := by
  unfold val_main_v17 val_main_v16 val_main_v15 val_main_v14
  pointwise
  rw [nrm_apply h0 h1, at2_eq h2, at2_eq h3, at2_eq h4, ← EReal.coe_mul, ← EReal.coe_add, ← EReal.coe_sub]
  rfl

/-- The first result. -/
theorem dlast_apply (t : Fin 8192) (d : Fin 1024) : val_main_v31 (F := Ideal) X Y Z T W (ix2 t d) = ((dlast X Y Z T W t d : ℝ) : EReal) := by
  pointwise [val_main_v31, val_main_v30, val_main_v29, val_main_v28, val_main_v27, val_main_v26, val_main_v20, val_main_v19, val_main_cst_3,
    val_main_cst_8, val_main_cst_9, val_main_cst_10]
  rw [err_apply h0 h1 h2 h3 h4, halfp_eq, two_eq, count_eq, Ideal.div_coe (by norm_num)]
  simp only [← EReal.coe_mul]
  unfold dlast
  congr 1
  ring

theorem err_again (t : Fin 8192) (d : Fin 1024) : val_main_v64 (F := Ideal) X Y Z T W (ix2 t d) = ((err X Y Z T W t d : ℝ) : EReal) :=
  err_apply h0 h1 h2 h3 h4 t d

/-- The third result. -/
theorem lanes_apply (d : Fin 1024) : val_main_v71 (F := Ideal) X Y Z T W (ix2 0 d) = ((lanes X Y Z T W 8192 d : ℝ) : EReal) := by
  pointwise [val_main_v71, val_main_v70, val_main_v69, val_main_v68, val_main_v67, val_main_v66, val_main_v65, val_main_cst_18, val_main_cst_19,
    val_main_cst_20]
  simp only [err_again h0 h1 h2 h3 h4, halfp_eq, count_eq, ← EReal.coe_mul, coe_sum]
  rw [Ideal.div_coe (by norm_num), ← EReal.coe_mul]
  unfold lanes
  rw [Finset.sum_range, ← Finset.sum_mul]
  congr 1
  ring

/-- The fourth result. -/
theorem dwt_apply (d : Fin 1024) : val_main_v34 (F := Ideal) X Y Z T W (ix2 0 d) = ((dwt X Y Z T W 8192 d : ℝ) : EReal) := by
  pointwise [val_main_v34, val_main_v33, val_main_v32, val_main_cst_11]
  simp only [nrm_apply h0 h1, dlast_apply h0 h1 h2 h3 h4, ← EReal.coe_mul, coe_sum]
  unfold dwt
  rw [Finset.sum_range]
  congr 1
  exact Finset.sum_congr rfl fun _ _ => mul_comm _ _

theorem dsum_apply (t : Fin 8192) (d : Fin 1024) : val_main_v36 (F := Ideal) X Y Z T W (ix2 t d)
    = ((dlast X Y Z T W t d * row W 0 d : ℝ) : EReal) := by
  unfold val_main_v36 val_main_v35
  pointwise
  rw [dlast_apply h0 h1 h2 h3 h4, at2_eq h4, ← EReal.coe_mul]
  rfl

theorem coef_apply (t : Fin 8192) (d : Fin 1024) : val_main_v46 (F := Ideal) X Y Z T W (ix2 t d)
    = ((coef (proj X Y t) (fun j => dlast X Y Z T W t j * row W 0 j) : ℝ) : EReal) := by
  pointwise [val_main_v46, val_main_v45, val_main_v44, val_main_v43, val_main_v42, val_main_v39, val_main_v38, val_main_v37, val_main_cst_12,
    val_main_cst_13, val_main_cst_14]
  simp only [Fin.sum_univ_one, proj_apply h0 h1, slope_apply h0 h1, dsum_apply h0 h1 h2 h3 h4, count_eq, ← EReal.coe_mul, coe_sum]
  rw [Ideal.div_coe (by norm_num), ← EReal.coe_mul]
  rfl

/-- The second result. -/
theorem dproj_apply (t : Fin 8192) (d : Fin 1024) : val_main_v72 (F := Ideal) X Y Z T W (ix2 t d) = ((dproj X Y Z T W t d : ℝ) : EReal) := by
  unfold val_main_v72 val_main_v50 val_main_v49 val_main_v48 val_main_v47 val_main_v41 val_main_v40
  pointwise
  rw [coef_apply h0 h1 h2 h3 h4, dsum_apply h0 h1 h2 h3 h4, rr_apply h0 h1, proj_apply h0 h1]
  simp only [← EReal.coe_mul, ← EReal.coe_add]
  unfold dproj
  rw [← back_eq]

end Cert.Proof.Reference11Ideal

end
-- ==== Proof.FinalArray.lean ====
/-
  The down projection's call with the last norm and the loss: the loss's gradient, the projection's gradient,
  the loss by feature and the norm's weight's gradient whole — of finite arguments, the reference's.
-/
module

public import proofs.«01_k».proof.Proof.FinalCases
public import proofs.«01_k».proof.Proof.FinalBlock
public import proofs.«01_k».proof.Proof.FinalRef
public import proofs.«01_k».proof.Proof.Prod
public import proofs.«01_k».proof.Proof.Gen.Kernel11Ideal.Value
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel11Ideal

open Cert.Kernel11Ideal Cert.Kernel11Ideal.Gen Cert.Kernel11Ideal.Value
open Cert.Proof.Prod Cert.Proof.Mid Cert.Proof.Final Cert.Proof.Ssd
open Idealize.ShloMosaic Idealize.ShloMosaic.TcCoe Idealize.ShloMosaic.Tactic

section Blocks

abbrev iAt (t : Fin cfg0.N) (r : Fin 512) : Fin 8192 := ⟨512 * t.val + r.val, by have : t.val < 16 := t.isLt; omega⟩

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![0, 0] := by decide +kernel
theorem idx8 : ∀ t : Fin cfg0.N, win0_8.index t = ![0, 0] := by decide +kernel

section Reads

variable {F : FTy → Type} [FloatOps F] (m : (ℓ : Loc nD τ sig) → Buf (Elt F) ℓ) (c : Dev nD) (t : Fin cfg0.N)

theorem read0 (r : Fin 512) (k : Fin 2816) : iblk m c 0 t (ix2 r k) = V m c main_v0 (ix2 (iAt t r) k) := by
  blk_ext [Gen.iblk, idx0 t]
theorem read1 (k : Fin 2816) (d : Fin 1024) : iblk m c 1 t (ix2 k d) = V m c main_v1 (ix2 k d) := by
  blk_ext [Gen.iblk, idx1 t]
theorem read2 (r : Fin 512) (d : Fin 1024) : iblk m c 2 t (ix2 r d) = V m c main_arg2 (ix2 (iAt t r) d) := by
  blk_ext [Gen.iblk, idx2 t]
theorem read3 (r : Fin 512) (d : Fin 1024) : iblk m c 3 t (ix2 r d) = V m c main_arg3 (ix2 (iAt t r) d) := by
  blk_ext [Gen.iblk, idx3 t]
theorem read4 (d : Fin 1024) : iblk m c 4 t (ix2 0 d) = V m c main_arg4 (ix2 0 d) := by
  blk_ext [Gen.iblk, idx4 t]

theorem out5 : (outsAt0 m c t.val t.isLt).1 = k0_pay1 (k0_pay9 (iblk m c 0 t) (iblk m c 1 t) (iblk m c 2 t) (iblk m c 4 t) (iblk m c 3 t)) := by
  by_cases h0 : t.val % 16 = 0
  · rw [outsAt0_A m c t h0]
    dsimp only
    rw [out0_A_5_eq]
  · rw [outsAt0_B m c t h0]
    dsimp only
    rw [out0_B_5_eq]

theorem out6 : (outsAt0 m c t.val t.isLt).2.1 = k0_pay3 (k0_pay7 (iblk m c 0 t) (iblk m c 1 t)) (k0_pay8 (iblk m c 0 t) (iblk m c 1 t))
    (k0_pay9 (iblk m c 0 t) (iblk m c 1 t) (iblk m c 2 t) (iblk m c 4 t) (iblk m c 3 t)) (iblk m c 4 t) := by
  by_cases h0 : t.val % 16 = 0
  · rw [outsAt0_A m c t h0]
    dsimp only
    rw [out0_A_6_eq]
  · rw [outsAt0_B m c t h0]
    dsimp only
    rw [out0_B_6_eq]

theorem first7 (h0 : t.val % 16 = 0) : (outsAt0 m c t.val t.isLt).2.2.1
    = k0_pay10 (iblk m c 0 t) (iblk m c 1 t) (iblk m c 2 t) (iblk m c 4 t) (iblk m c 3 t) k0_pay4 := by
  rw [outsAt0_A m c t h0]
  dsimp only
  rw [out0_A_7_eq]

theorem next7 (h0 : ¬t.val % 16 = 0) : (outsAt0 m c t.val t.isLt).2.2.1
    = k0_pay10 (iblk m c 0 t) (iblk m c 1 t) (iblk m c 2 t) (iblk m c 4 t) (iblk m c 3 t)
      (outsAt0 m c (t.val - 1) (Nat.lt_of_le_of_lt (Nat.sub_le _ _) t.isLt)).2.2.1 := by
  rw [outsAt0_B m c t h0]
  dsimp only
  rw [out0_B_7_eq]

theorem first8 (h0 : t.val % 16 = 0) : (outsAt0 m c t.val t.isLt).2.2.2 = k0_pay2 (k0_pay8 (iblk m c 0 t) (iblk m c 1 t))
    (k0_pay9 (iblk m c 0 t) (iblk m c 1 t) (iblk m c 2 t) (iblk m c 4 t) (iblk m c 3 t)) k0_pay5 := by
  rw [outsAt0_A m c t h0]
  dsimp only
  rw [out0_A_8_eq]

theorem next8 (h0 : ¬t.val % 16 = 0) : (outsAt0 m c t.val t.isLt).2.2.2 = k0_pay2 (k0_pay8 (iblk m c 0 t) (iblk m c 1 t))
    (k0_pay9 (iblk m c 0 t) (iblk m c 1 t) (iblk m c 2 t) (iblk m c 4 t) (iblk m c 3 t))
    (outsAt0 m c (t.val - 1) (Nat.lt_of_le_of_lt (Nat.sub_le _ _) t.isLt)).2.2.2 := by
  rw [outsAt0_B m c t h0]
  dsimp only
  rw [out0_B_8_eq]

end Reads

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2_0).slice (win0_5.rect t)).set ↔ _
  rw [View.set_slice_whole, Rect.mem_set_unit]
  exact Iff.rfl

/-- Every index of the result is in some point's block. -/
theorem covered5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hlt : (i 0).val / 512 < cfg0.N := lt_of_lt_of_eq (by omega) Gen.N_0.symm
  refine ⟨⟨_, hlt⟩, flush0_5 _, ?_⟩
  rw [mem_blk5, idx5]
  intro a
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- Where a block's entry lies in the result. -/
theorem emb5 (t : Fin cfg0.N) (r : Fin 512) (d : Fin 1024) : ((cfg0.win 5).blk t).view.emb (ix2 r d) = ix2 (iAt t r) d := by
  have hb0 : (((cfg0.win 5).blk t).view.emb (ix2 r d) 0).val = win0_5.index t (0 : Fin 2) * 512 + 1 * r.val := rfl
  have hb1 : (((cfg0.win 5).blk t).view.emb (ix2 r d) 1).val = win0_5.index t (1 : Fin 2) * 1024 + 1 * d.val := rfl
  have i0 : win0_5.index t (0 : Fin 2) = t.val := congrFun (idx5 t) 0
  have i1 : win0_5.index t (1 : Fin 2) = 0 := congrFun (idx5 t) 1
  funext a; apply Fin.ext
  match a with
  | ⟨0, _⟩ =>
    show (((cfg0.win 5).blk t).view.emb (ix2 r d) 0).val = 512 * t.val + r.val
    rw [hb0, i0]; omega
  | ⟨1, _⟩ =>
    show (((cfg0.win 5).blk t).view.emb (ix2 r d) 1).val = d.val
    rw [hb1, i1]; omega

theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v2_1).slice (win0_6.rect t)).set ↔ _
  rw [View.set_slice_whole, Rect.mem_set_unit]
  exact Iff.rfl

/-- Every index of the result is in some point's block. -/
theorem covered6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hlt : (i 0).val / 512 < cfg0.N := lt_of_lt_of_eq (by omega) Gen.N_0.symm
  refine ⟨⟨_, hlt⟩, flush0_6 _, ?_⟩
  rw [mem_blk6, idx6]
  intro a
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- Where a block's entry lies in the result. -/
theorem emb6 (t : Fin cfg0.N) (r : Fin 512) (d : Fin 1024) : ((cfg0.win 6).blk t).view.emb (ix2 r d) = ix2 (iAt t r) d := by
  have hb0 : (((cfg0.win 6).blk t).view.emb (ix2 r d) 0).val = win0_6.index t (0 : Fin 2) * 512 + 1 * r.val := rfl
  have hb1 : (((cfg0.win 6).blk t).view.emb (ix2 r d) 1).val = win0_6.index t (1 : Fin 2) * 1024 + 1 * d.val := rfl
  have i0 : win0_6.index t (0 : Fin 2) = t.val := congrFun (idx6 t) 0
  have i1 : win0_6.index t (1 : Fin 2) = 0 := congrFun (idx6 t) 1
  funext a; apply Fin.ext
  match a with
  | ⟨0, _⟩ =>
    show (((cfg0.win 6).blk t).view.emb (ix2 r d) 0).val = 512 * t.val + r.val
    rw [hb0, i0]; omega
  | ⟨1, _⟩ =>
    show (((cfg0.win 6).blk t).view.emb (ix2 r d) 1).val = d.val
    rw [hb1, i1]; omega

theorem mem_blk7 (t : Fin cfg0.N) (i : S1x1024.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v2_2).slice (win0_7.rect t)).set ↔ _
  rw [View.set_slice_whole, Rect.mem_set_unit]
  exact Iff.rfl

/-- The last point writes the whole row back. -/
theorem covered7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have hlt : 15 < cfg0.N := lt_of_lt_of_eq (by omega) Gen.N_0.symm
  refine ⟨⟨15, hlt⟩, (flush0_7 _).mpr rfl, ?_⟩
  rw [mem_blk7, idx7]
  intro a
  match a with
  | ⟨0, _⟩ =>
    show 0 * 1 ≤ (i 0).val ∧ (i 0).val < 0 * 1 + 1
    omega
  | ⟨1, _⟩ =>
    show 0 * 1024 ≤ (i 1).val ∧ (i 1).val < 0 * 1024 + 1024
    omega

theorem emb7 (t : Fin cfg0.N) (d : Fin 1024) : ((cfg0.win 7).blk t).view.emb (ix2 0 d) = ix2 (0 : Fin 1) d := by
  have hb0 : (((cfg0.win 7).blk t).view.emb (ix2 0 d) 0).val = win0_7.index t (0 : Fin 2) * 1 + 1 * 0 := rfl
  have hb1 : (((cfg0.win 7).blk t).view.emb (ix2 0 d) 1).val = win0_7.index t (1 : Fin 2) * 1024 + 1 * d.val := rfl
  have i0 : win0_7.index t (0 : Fin 2) = 0 := congrFun (idx7 t) 0
  have i1 : win0_7.index t (1 : Fin 2) = 0 := congrFun (idx7 t) 1
  funext a; apply Fin.ext
  match a with
  | ⟨0, _⟩ =>
    show (((cfg0.win 7).blk t).view.emb (ix2 0 d) 0).val = 0
    rw [hb0, i0]
  | ⟨1, _⟩ =>
    show (((cfg0.win 7).blk t).view.emb (ix2 0 d) 1).val = d.val
    rw [hb1, i1]; omega

theorem mem_blk8 (t : Fin cfg0.N) (i : S1x1024.Idx) :
    i ∈ ((cfg0.win 8).blk t).view.set ↔ ∀ a : Fin 2, win0_8.index t a * S1x1024.size a ≤ (i a).val ∧ (i a).val < win0_8.index t a * S1x1024.size a + S1x1024.size a := by
  show i ∈ ((View.whole main_v2_3).slice (win0_8.rect t)).set ↔ _
  rw [View.set_slice_whole, Rect.mem_set_unit]
  exact Iff.rfl

/-- The last point writes the whole row back. -/
theorem covered8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  have hlt : 15 < cfg0.N := lt_of_lt_of_eq (by omega) Gen.N_0.symm
  refine ⟨⟨15, hlt⟩, (flush0_8 _).mpr rfl, ?_⟩
  rw [mem_blk8, idx8]
  intro a
  match a with
  | ⟨0, _⟩ =>
    show 0 * 1 ≤ (i 0).val ∧ (i 0).val < 0 * 1 + 1
    omega
  | ⟨1, _⟩ =>
    show 0 * 1024 ≤ (i 1).val ∧ (i 1).val < 0 * 1024 + 1024
    omega

theorem emb8 (t : Fin cfg0.N) (d : Fin 1024) : ((cfg0.win 8).blk t).view.emb (ix2 0 d) = ix2 (0 : Fin 1) d := by
  have hb0 : (((cfg0.win 8).blk t).view.emb (ix2 0 d) 0).val = win0_8.index t (0 : Fin 2) * 1 + 1 * 0 := rfl
  have hb1 : (((cfg0.win 8).blk t).view.emb (ix2 0 d) 1).val = win0_8.index t (1 : Fin 2) * 1024 + 1 * d.val := rfl
  have i0 : win0_8.index t (0 : Fin 2) = 0 := congrFun (idx8 t) 0
  have i1 : win0_8.index t (1 : Fin 2) = 0 := congrFun (idx8 t) 1
  funext a; apply Fin.ext
  match a with
  | ⟨0, _⟩ =>
    show (((cfg0.win 8).blk t).view.emb (ix2 0 d) 0).val = 0
    rw [hb0, i0]
  | ⟨1, _⟩ =>
    show (((cfg0.win 8).blk t).view.emb (ix2 0 d) 1).val = d.val
    rw [hb1, i1]; omega

end Blocks

section Result

variable (m : (ℓ : Loc nD τ sig) → Buf (Elt Ideal) ℓ) (c : Dev nD)

/-- The arguments' arrays. -/
abbrev a0 : FVec Ideal S8192x2816 .f32 := m ((c : Thread nD τ).loc main_arg0)
abbrev a1 : FVec Ideal S2816x1024 .f32 := m ((c : Thread nD τ).loc main_arg1)
abbrev a2 : FVec Ideal S8192x1024 .f32 := m ((c : Thread nD τ).loc main_arg2)
abbrev a3 : FVec Ideal S8192x1024 .f32 := m ((c : Thread nD τ).loc main_arg3)
abbrev a4 : FVec Ideal S1x1024 .f32 := m ((c : Thread nD τ).loc main_arg4)

theorem V_v0 : V m c main_v0 = truncf (F := Ideal) .bf16 (a0 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

variable (h0 : Finite (a0 m c)) (h1 : Finite (a1 m c)) (h2 : Finite (a2 m c)) (h3 : Finite (a3 m c)) (h4 : Finite (a4 m c))

include h0 in
theorem blk0 (t : Fin cfg0.N) (r : Fin 512) (k : Fin 2816) : iblk m c 0 t (ix2 r k) = ((at2 (a0 m c) (512 * t.val + r.val) k : ℝ) : EReal) := by
  rw [read0, V_v0]
  exact at2_eq h0 (iAt t r) k

include h1 in
theorem blk1 (t : Fin cfg0.N) (k : Fin 2816) (d : Fin 1024) : iblk m c 1 t (ix2 k d) = ((at2 (a1 m c) k d : ℝ) : EReal) := by
  rw [read1, V_v1]
  exact at2_eq h1 k d

include h2 in
theorem blk2 (t : Fin cfg0.N) (r : Fin 512) (d : Fin 1024) : iblk m c 2 t (ix2 r d) = ((row (a2 m c) (512 * t.val + r.val) d : ℝ) : EReal) := by
  rw [read2, V_main_arg2]
  exact at2_eq h2 (iAt t r) d

include h3 in
theorem blk3 (t : Fin cfg0.N) (r : Fin 512) (d : Fin 1024) : iblk m c 3 t (ix2 r d) = ((row (a3 m c) (512 * t.val + r.val) d : ℝ) : EReal) := by
  rw [read3, V_main_arg3]
  exact at2_eq h3 (iAt t r) d

include h4 in
theorem blk4 (t : Fin cfg0.N) (d : Fin 1024) : iblk m c 4 t (ix2 0 d) = ((row (a4 m c) 0 d : ℝ) : EReal) := by
  rw [read4, V_main_arg4]
  exact at2_eq h4 0 d

include h0 h1 in
theorem blk_proj (t : Fin cfg0.N) (r : Fin 512) (d : Fin 1024) : k0_pay6 (F := Ideal) (iblk m c 0 t) (iblk m c 1 t) (ix2 r d)
    = ((proj (a0 m c) (a1 m c) (512 * t.val + r.val) d : ℝ) : EReal) :=
  prod6_apply (blk0 m c h0 t) (blk1 m c h1 t) r d

include h0 h1 h2 h3 h4

theorem blk_err (t : Fin cfg0.N) (r : Fin 512) (d : Fin 1024) :
    k0_pay9 (F := Ideal) (iblk m c 0 t) (iblk m c 1 t) (iblk m c 2 t) (iblk m c 4 t) (iblk m c 3 t) (ix2 r d)
      = ((err (a0 m c) (a1 m c) (a2 m c) (a3 m c) (a4 m c) (512 * t.val + r.val) d : ℝ) : EReal) :=
  err9_apply (blk_proj m c h0 h1 t) (blk2 m c h2 t) (blk3 m c h3 t) (blk4 m c h4 t) r d

theorem blk_dlast (t : Fin cfg0.N) (r : Fin 512) (d : Fin 1024) :
    k0_pay1 (F := Ideal) (k0_pay9 (iblk m c 0 t) (iblk m c 1 t) (iblk m c 2 t) (iblk m c 4 t) (iblk m c 3 t)) (ix2 r d)
      = ((dlast (a0 m c) (a1 m c) (a2 m c) (a3 m c) (a4 m c) (512 * t.val + r.val) d : ℝ) : EReal) :=
  dlast1_apply (blk_err m c h0 h1 h2 h3 h4 t) r d

theorem blk_dproj (t : Fin cfg0.N) (r : Fin 512) (d : Fin 1024) :
    k0_pay3 (F := Ideal) (k0_pay7 (iblk m c 0 t) (iblk m c 1 t)) (k0_pay8 (iblk m c 0 t) (iblk m c 1 t))
      (k0_pay9 (iblk m c 0 t) (iblk m c 1 t) (iblk m c 2 t) (iblk m c 4 t) (iblk m c 3 t)) (iblk m c 4 t) (ix2 r d)
      = ((dproj (a0 m c) (a1 m c) (a2 m c) (a3 m c) (a4 m c) (512 * t.val + r.val) d : ℝ) : EReal) :=
  dproj3_apply (blk4 m c h4 t) (nrm8_apply (blk_proj m c h0 h1 t)) (rr7_apply (blk_proj m c h0 h1 t)) (blk_err m c h0 h1 h2 h3 h4 t) r d

/-- A step of the loss's sum over the rows. -/
theorem step7 (t : Fin cfg0.N) {acc : Vec Ideal S1x1024 .f32}
    (hacc : ∀ d, acc (ix2 0 d) = ((lanes (a0 m c) (a1 m c) (a2 m c) (a3 m c) (a4 m c) (512 * t.val) d : ℝ) : EReal)) (d : Fin 1024) :
    k0_pay10 (F := Ideal) (iblk m c 0 t) (iblk m c 1 t) (iblk m c 2 t) (iblk m c 4 t) (iblk m c 3 t) acc (ix2 0 d)
      = ((lanes (a0 m c) (a1 m c) (a2 m c) (a3 m c) (a4 m c) (512 * (t.val + 1)) d : ℝ) : EReal) := by
  refine (lanes10_apply (blk_proj m c h0 h1 t) (blk2 m c h2 t) (blk3 m c h3 t) (blk4 m c h4 t) hacc d).trans ?_
  unfold lanes
  rw [← rows_add]
  rfl

/-- A step of the sum over the rows. -/
theorem step8 (t : Fin cfg0.N) {acc : Vec Ideal S1x1024 .f32}
    (hacc : ∀ d, acc (ix2 0 d) = ((dwt (a0 m c) (a1 m c) (a2 m c) (a3 m c) (a4 m c) (512 * t.val) d : ℝ) : EReal)) (d : Fin 1024) :
    k0_pay2 (F := Ideal) (k0_pay8 (iblk m c 0 t) (iblk m c 1 t))
      (k0_pay9 (iblk m c 0 t) (iblk m c 1 t) (iblk m c 2 t) (iblk m c 4 t) (iblk m c 3 t)) acc (ix2 0 d)
      = ((dwt (a0 m c) (a1 m c) (a2 m c) (a3 m c) (a4 m c) (512 * (t.val + 1)) d : ℝ) : EReal) := by
  refine (dwt2_apply hacc (nrm8_apply (blk_proj m c h0 h1 t)) (blk_err m c h0 h1 h2 h3 h4 t) d).trans ?_
  unfold dwt
  rw [← rows_add]
  rfl

/-- The loss after each point covers the rows so far. -/
theorem fold7 (n : ℕ) : ∀ (h : n < cfg0.N) (d : Fin 1024), (outsAt0 m c n h).2.2.1 (ix2 0 d)
    = ((lanes (a0 m c) (a1 m c) (a2 m c) (a3 m c) (a4 m c) (512 * (n + 1)) d : ℝ) : EReal) := by
  induction n with
  | zero =>
    intro h d
    rw [first7 m c ⟨0, h⟩ rfl]
    refine step7 m c h0 h1 h2 h3 h4 ⟨0, h⟩ (fun d => (zero4_apply d).trans ?_) d
    show _ = ((lanes _ _ _ _ _ 0 d : ℝ) : EReal)
    unfold lanes
    rw [Finset.sum_range_zero]
  | succ n ih =>
    intro h d
    have hN : n + 1 < 16 := lt_of_lt_of_eq h Gen.N_0
    rw [next7 m c ⟨n + 1, h⟩ (by show ¬(n + 1) % 16 = 0; omega)]
    exact step7 m c h0 h1 h2 h3 h4 ⟨n + 1, h⟩ (fun d => ih _ d) d

/-- The sum after each point covers the rows so far. -/
theorem fold8 (n : ℕ) : ∀ (h : n < cfg0.N) (d : Fin 1024), (outsAt0 m c n h).2.2.2 (ix2 0 d)
    = ((dwt (a0 m c) (a1 m c) (a2 m c) (a3 m c) (a4 m c) (512 * (n + 1)) d : ℝ) : EReal) := by
  induction n with
  | zero =>
    intro h d
    rw [first8 m c ⟨0, h⟩ rfl]
    refine step8 m c h0 h1 h2 h3 h4 ⟨0, h⟩ (fun d => (zero5_apply d).trans ?_) d
    show _ = ((dwt _ _ _ _ _ 0 d : ℝ) : EReal)
    unfold dwt
    rw [Finset.sum_range_zero]
  | succ n ih =>
    intro h d
    have hN : n + 1 < 16 := lt_of_lt_of_eq h Gen.N_0
    rw [next8 m c ⟨n + 1, h⟩ (by show ¬(n + 1) % 16 = 0; omega)]
    exact step8 m c h0 h1 h2 h3 h4 ⟨n + 1, h⟩ (fun d => ih _ d) d

/-- The loss's gradient. -/
theorem arr5 : (dats m 0 c).arrAt 5 cfg0.N = Cert.Reference11Ideal.Read.val_main_v31 (F := Ideal) (a0 m c) (a1 m c) (a2 m c) (a3 m c) (a4 m c) := by
  refine (dats m 0 c).arrAt_eq_of_cover 5 _ (fun t _ => ?_) covered5
  rw [flushed5, out5]
  funext y
  obtain ⟨r, d, rfl⟩ : ∃ (a : Fin 512) (b : Fin 1024), y = ix2 a b := ⟨y 0, y 1, ix_eq y⟩
  exact ((blk_dlast m c h0 h1 h2 h3 h4 t r d).trans (Cert.Proof.Reference11Ideal.dlast_apply h0 h1 h2 h3 h4 (iAt t r) d).symm).trans
    (congrArg (Cert.Reference11Ideal.Read.val_main_v31 (F := Ideal) (a0 m c) (a1 m c) (a2 m c) (a3 m c) (a4 m c)) (emb5 t r d).symm)

/-- The projection's gradient. -/
theorem arr6 : (dats m 0 c).arrAt 6 cfg0.N = Cert.Reference11Ideal.Read.val_main_v72 (F := Ideal) (a0 m c) (a1 m c) (a2 m c) (a3 m c) (a4 m c) := by
  refine (dats m 0 c).arrAt_eq_of_cover 6 _ (fun t _ => ?_) covered6
  rw [flushed6, out6]
  funext y
  obtain ⟨r, d, rfl⟩ : ∃ (a : Fin 512) (b : Fin 1024), y = ix2 a b := ⟨y 0, y 1, ix_eq y⟩
  exact ((blk_dproj m c h0 h1 h2 h3 h4 t r d).trans (Cert.Proof.Reference11Ideal.dproj_apply h0 h1 h2 h3 h4 (iAt t r) d).symm).trans
    (congrArg (Cert.Reference11Ideal.Read.val_main_v72 (F := Ideal) (a0 m c) (a1 m c) (a2 m c) (a3 m c) (a4 m c)) (emb6 t r d).symm)

/-- The loss by feature. -/
theorem arr7 : (dats m 0 c).arrAt 7 cfg0.N = Cert.Reference11Ideal.Read.val_main_v71 (F := Ideal) (a0 m c) (a1 m c) (a2 m c) (a3 m c) (a4 m c) := by
  refine (dats m 0 c).arrAt_eq_of_cover 7 _ (fun t ht => ?_) covered7
  have hN : t.val < 16 := t.isLt
  have hl : t.val + 1 = 16 := by have := (flush0_7 t).mp ht; omega
  rw [flushed7]
  funext y
  obtain ⟨a, d, rfl⟩ : ∃ (a : Fin 1) (b : Fin 1024), y = ix2 a b := ⟨y 0, y 1, ix_eq y⟩
  obtain rfl : a = 0 := Subsingleton.elim _ _
  refine (Eq.trans ?_ (Cert.Proof.Reference11Ideal.lanes_apply h0 h1 h2 h3 h4 d).symm).trans
    (congrArg (Cert.Reference11Ideal.Read.val_main_v71 (F := Ideal) (a0 m c) (a1 m c) (a2 m c) (a3 m c) (a4 m c)) (emb7 t d).symm)
  refine (fold7 m c h0 h1 h2 h3 h4 t.val t.isLt d).trans ?_
  rw [hl]

/-- The norm's weight's gradient. -/
theorem arr8 : (dats m 0 c).arrAt 8 cfg0.N = Cert.Reference11Ideal.Read.val_main_v34 (F := Ideal) (a0 m c) (a1 m c) (a2 m c) (a3 m c) (a4 m c) := by
  refine (dats m 0 c).arrAt_eq_of_cover 8 _ (fun t ht => ?_) covered8
  have hN : t.val < 16 := t.isLt
  have hl : t.val + 1 = 16 := by have := (flush0_8 t).mp ht; omega
  rw [flushed8]
  funext y
  obtain ⟨a, d, rfl⟩ : ∃ (a : Fin 1) (b : Fin 1024), y = ix2 a b := ⟨y 0, y 1, ix_eq y⟩
  obtain rfl : a = 0 := Subsingleton.elim _ _
  refine (Eq.trans ?_ (Cert.Proof.Reference11Ideal.dwt_apply h0 h1 h2 h3 h4 d).symm).trans
    (congrArg (Cert.Reference11Ideal.Read.val_main_v34 (F := Ideal) (a0 m c) (a1 m c) (a2 m c) (a3 m c) (a4 m c)) (emb8 t d).symm)
  refine (fold8 m c h0 h1 h2 h3 h4 t.val t.isLt d).trans ?_
  rw [hl]

end Result

end Cert.Proof.Kernel11Ideal

end
-- ==== Proof.FinitePre11.lean ====
/-
  The precondition of the down projection and the loss read at the extended reals: every entry of every argument is a real number.
-/
module

public import proofs.«01_k».proof.Pre_finite11
public import proofs.«01_k».proof.Proof.Spec
public import Idealize.ShloMosaic.Lib.ReduceAll
public import Idealize.ShloMosaic.Lib.Affine
public import Idealize.ShloMosaic.Lib.Decide

@[expose] public section

noncomputable section

namespace Cert.Pre_finite11

open Cert.Proof.Ssd
open Idealize.ShloMosaic

instance facts : Facts where
  bcast_S_S8192x2816 := by decide
  reducesTo_S8192x2816_S_d0_1 := by decide
  h_S_ := by decide
  bcast_S_S2816x1024 := by decide
  reducesTo_S2816x1024_S_d0_1 := by decide
  bcast_S_S8192x1024 := by decide
  reducesTo_S8192x1024_S_d0_1 := by decide
  bcast_S_S1x1024 := by decide
  reducesTo_S1x1024_S_d0_1 := by decide

instance : Subsingleton S_.Idx := ⟨fun a b => funext fun i => i.elim0⟩

/-- An array whose entries' absolute values are all below infinity holds real numbers. -/
theorem finite_of_all {s : Shape} {axes : List (Fin s.rank)} (X : FVec Ideal s .f32) (hb : S_.BroadcastsInDim s (![] : Fin 0 → Fin s.rank))
    (h : s.ReducesTo axes S_) (j : S_.Idx)
    (e : Host.reduce IntOp.andi (cmpf .olt (Host.absf X) (broadcastInDim s ![] hb (constant (F := Ideal) S_ .f32 0x7F800000#32)))
      (constantI S_ 1 1#1) h Facts.h_S_ j = 1#1) : Finite X := by
  intro i
  have hi := Host.reduce_andi_all _ _ h Facts.h_S_ j e i
  have hinf : Ideal.ofBits FTy.f32 0x7F800000#32 = ⊤ := by simp [Ideal.ofBits, Ideal.ieee]
  have hc : Ideal.cmp .olt (max (X i) (-(X i))) ⊤ = 1#1 := by
    rw [← hinf]; exact hi
  have hlt : max (X i) (-(X i)) < ⊤ := by
    by_contra hn
    have : Ideal.cmp .olt (max (X i) (-(X i))) ⊤ = 0#1 := by
      show BitVec.ofBool (decide _) = 0#1
      rw [decide_eq_false hn]; rfl
    rw [this] at hc
    exact absurd hc (by decide)
  constructor
  · intro ht
    rw [ht] at hlt
    exact absurd (le_max_left _ _) (not_le.mpr hlt)
  · intro hbot
    rw [hbot, EReal.neg_bot] at hlt
    exact absurd (le_max_right _ _) (not_le.mpr hlt)

/-- The precondition, argument by argument. -/
theorem finite_args (X0 : FVec Ideal S8192x2816 .f32) (X1 : FVec Ideal S2816x1024 .f32) (X2 X3 : FVec Ideal S8192x1024 .f32)
    (X4 : FVec Ideal S1x1024 .f32) (h : fn (F := Ideal) X0 X1 X2 X3 X4 = fun _ => 1#1) :
    Finite X0 ∧ Finite X1 ∧ Finite X2 ∧ Finite X3 ∧ Finite X4 := by
  obtain ⟨h', h4⟩ := IntOp.andi_eq_one.mp (congrFun h ix0)
  obtain ⟨h', h3⟩ := IntOp.andi_eq_one.mp h'
  obtain ⟨h', h2⟩ := IntOp.andi_eq_one.mp h'
  obtain ⟨h0, h1⟩ := IntOp.andi_eq_one.mp h'
  exact ⟨finite_of_all _ _ _ _ h0, finite_of_all _ _ _ _ h1, finite_of_all _ _ _ _ h2, finite_of_all _ _ _ _ h3, finite_of_all _ _ _ _ h4⟩

end Cert.Pre_finite11

end
-- ==== Proof.NormRun.lean ====
/-
  The call of the norm with the input projection, over any float values: what its body leaves at a point, and its run.
  The first column block of a row block norms the rows and keeps them; every column block multiplies the kept rows.
-/
module

public import proofs.«01_k».proof.Proof.Gen.Kernel12Ideal.Frame
public import proofs.«01_k».proof.Proof.Gen.Kernel12Ideal.Skeleton
public import Idealize.ShloMosaic.Lib.Pipeline.Value
public import Idealize.ShloMosaic.Lib.Claim
public import Idealize.ShloMosaic.Lib.Tactic

@[expose] public section

set_option maxRecDepth 65536

noncomputable section

namespace Cert.Proof.Kernel12Ideal

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The body norms at the first column block of each row block. -/
theorem first_iff : ∀ t : Fin cfg0.N, k0_cond1 (grid0.coords t) = 1#1 ↔ t.val % 14 = 0 := by decide +kernel

/-- A buffer written whole, last, reads as what was written. -/
theorem read_last {S : Shape} {e : EltTy} {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, by
    subst h; show y ∈ (Rect.whole S).set; rw [Rect.set_whole]; exact Finset.mem_univ y⟩), View.canon_unit_zero h]

section Body

variable (c : Dev nD) (i : grid0.Coords) (arg2 : Memref sig .tc .vmem S2048x1024 .f32) (harg2 : arg2.IsWhole)
  (arg3 : Memref sig .tc .vmem S1x1024 .f32) (harg3 : arg3.IsWhole) (arg4 : Memref sig .tc .vmem S1024x512 .bf16) (harg4 : arg4.IsWhole)
  (arg5 : Memref sig .tc .vmem S2048x1024 .bf16) (harg5 : arg5.IsWhole) (arg6 : Memref sig .tc .vmem S2048x512 .f32) (harg6 : arg6.IsWhole)
  (arg7 : Memref sig .tc .vmem S2048x1024 .bf16) (harg7 : arg7.IsWhole)
  (x0 : Vec F S2048x1024 .f32) (x1 : Vec F S1x1024 .f32) (x2 : Vec F S1024x512 .bf16) (h s : Vec F S2048x1024 .bf16)

/-- At a first column block the body leaves the normed rows, the kept rows, and their product. -/
theorem run_first (hc0 : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x1) ∗ owns (c : Thread nD τ) arg6 fullShare (k0_pay3 (k0_pay2 x0 x1) x2)
            ∗ owns (c : Thread nD τ) arg7 fullShare (k0_pay2 x0 x1)) -∗ K ⟨⟩))
      ⊢ wp frame (wpE (defs₀ (F := F)) Variants.none c none) E (cc0_mm_norm_proj i arg2 harg2 arg3 harg3 arg4 harg4 arg5 harg5 arg6 harg6 arg7 harg7) K := by
  simp only [cc0_mm_norm_proj_eq_skeleton]; unfold cc0_mm_norm_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_last (S := S2048x1024) _ _ hz]
    simp only [View.readAt_eq_ld, harg2.read_unread, harg3.read_unread, View.ld_unit_zero (S := S2048x1024) hz, View.ld_unit_zero (S := S1x1024) hz]
  isplitl [H4]
  · iexists _; isplitr
    swap; · iexact H4
    ipureintro
    sl_unfold_words
    rw [read_last (S := S2048x512) _ _ hz]
    simp only [View.readCov_unit_zero (S := S2048x1024) _ hz, View.readAt_eq_ld, harg2.read_unread, harg3.read_unread, harg4.read_unread,
      View.ld_unit_zero (S := S2048x1024) hz, View.ld_unit_zero (S := S1x1024) hz, View.ld_unit_zero (S := S1024x512) hz]
  iexists _; isplitr
  swap; · iexact H5
  ipureintro
  sl_unfold_words
  rw [read_last (S := S2048x1024) _ _ hz]
  simp only [View.readAt_eq_ld, harg2.read_unread, harg3.read_unread, View.ld_unit_zero (S := S2048x1024) hz, View.ld_unit_zero (S := S1x1024) hz]

/-- At a later column block the body leaves the product of the kept rows, and all else as it was. -/
theorem run_later (hc0 : ¬k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare h ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare h ∗ owns (c : Thread nD τ) arg6 fullShare (k0_pay3 s x2)
            ∗ owns (c : Thread nD τ) arg7 fullShare s) -∗ K ⟨⟩))
      ⊢ wp frame (wpE (defs₀ (F := F)) Variants.none c none) E (cc0_mm_norm_proj i arg2 harg2 arg3 harg3 arg4 harg4 arg5 harg5 arg6 harg6 arg7 harg7) K := by
  simp only [cc0_mm_norm_proj_eq_skeleton]; unfold cc0_mm_norm_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_last (S := S2048x512) _ _ hz]
    simp only [View.readAt_eq_ld, harg4.read_unread, harg7.read_unread,
      View.ld_unit_zero (S := S2048x1024) hz, View.ld_unit_zero (S := S1024x512) hz]
  iexists _; isplitr; · ipureintro; exact harg7.read_unread _
  iexact H5

end Body

section Region

variable (m : (ℓ : Loc nD τ sig) → Buf (Elt F) ℓ) (ρ : Dev nD → PrngReg)

/-- The first point of a point's row block. -/
abbrev firstOf (n : ℕ) (hn : n < cfg0.N) : Fin cfg0.N := ⟨14 * (n / 14), by omega⟩

/-- The normed rows of a point's row block, -/
def hAt (c : Dev nD) (n : ℕ) (hn : n < cfg0.N) : Vec F S2048x1024 .bf16 :=
  k0_pay1 (iblk m c 0 (firstOf n hn)) (iblk m c 1 (firstOf n hn))

/-- and the rows kept for its column blocks. -/
def sAt (c : Dev nD) (n : ℕ) (hn : n < cfg0.N) : Vec F S2048x1024 .bf16 :=
  k0_pay2 (iblk m c 0 (firstOf n hn)) (iblk m c 1 (firstOf n hn))

theorem firstOf_first (t : Fin cfg0.N) (h : t.val % 14 = 0) : firstOf t.val t.isLt = t := Fin.ext (by show 14 * (t.val / 14) = t.val; omega)

theorem firstOf_later (n : ℕ) (hn : n < cfg0.N) (h : ¬n % 14 = 0) : firstOf n hn = firstOf (n - 1) (by omega) :=
  Fin.ext (by show 14 * (n / 14) = 14 * ((n - 1) / 14); omega)

/-- The buffer of the kept rows. -/
abbrev keptM : Memref sig .tc .vmem S2048x1024 .bf16 := Memref.whole cc0_scratch0

theorem ΦA_eq (c : Dev nD) :
    (Pipeline.ΦA spec0 c : sProp 𝕄) = iprop(iprop((∃ d, owns (c : Thread nD τ) keptM fullShare d)) ∗ (∃ r, prngReg c r)) := by
  unfold Pipeline.ΦA; rw [scopedRest0_eq]; simp only [keptM, owns_whole]; try rfl

/-- Before the first point the kept rows are anything; after a point they are its row block's. -/
def Kept (c : Dev nD) : (n : ℕ) → n ≤ cfg0.N → sProp 𝕄
  | 0, _ => Pipeline.ΦA spec0 c
  | n + 1, hn => iprop(iprop(owns (c : Thread nD τ) keptM fullShare (sAt m c n hn)) ∗ (∃ r, prngReg c r))

theorem kept_pos (c : Dev nD) (n : ℕ) (h : n ≤ cfg0.N) (h0 : n ≠ 0) :
    Kept m c n h = iprop(iprop(owns (c : Thread nD τ) keptM fullShare (sAt m c (n - 1) (by omega))) ∗ (∃ r, prngReg c r)) := by
  cases n with
  | zero => exact absurd rfl h0
  | succ n => rfl

/-- Whatever the point, the kept rows are something. -/
theorem kept_any (c : Dev nD) (n : ℕ) (h : n ≤ cfg0.N) : Kept m c n h ⊢ (Pipeline.ΦA spec0 c : sProp 𝕄) := by
  cases n with
  | zero => exact Idealize.SL.BI.Entails.refl _
  | succ n =>
    rw [ΦA_eq]
    show iprop(iprop(owns (c : Thread nD τ) keptM fullShare (sAt m c n h)) ∗ (∃ r, prngReg c r)) ⊢ _
    iintro ⟨HS, Hg⟩
    isplitl [HS]
    · iexists _; iexact HS
    iexact Hg

/-- The region's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt m c t.val t.isLt
    | ⟨4, _⟩ => k0_pay3 (sAt m c t.val t.isLt) (iblk m c 2 t)
  Φ t := Kept m c t.val (Nat.le_of_lt_succ t.isLt)
  q _ := fullShare
  owed _ := 0

theorem A_eq (c : Dev nD) (w : Fin cfg0.W) : (dats m 0 c).A w = V m c (Pipeline.arrRef spec0 w) := by dsimp only [dats]

theorem Φ_castSucc (c : Dev nD) (t : Fin cfg0.N) : (dats m 0 c).Φ t.castSucc = Kept m c t.val (Nat.le_of_lt t.isLt) := by
  dsimp only [dats]; exact Pipeline.Dat.Φ_castSucc (Kept m c) t

theorem after3 (c : Dev nD) (t : Fin cfg0.N) : (dats m 0 c).after 3 t = hAt m c t.val t.isLt := by dsimp only [dats]
theorem after4 (c : Dev nD) (t : Fin cfg0.N) : (dats m 0 c).after 4 t = k0_pay3 (sAt m c t.val t.isLt) (iblk m c 2 t) := by dsimp only [dats]

theorem before0 (c : Dev nD) (t : Fin cfg0.N) (d) : (dats m 0 c).before 0 t d = iblk m c 0 t :=
  before0_0_of m _ (by dsimp only [dats]) (fun t => by dsimp only [dats]) t d
theorem before1 (c : Dev nD) (t : Fin cfg0.N) (d) : (dats m 0 c).before 1 t d = iblk m c 1 t :=
  before0_1_of m _ (by dsimp only [dats]) (fun t => by dsimp only [dats]) t d
theorem before2 (c : Dev nD) (t : Fin cfg0.N) (d) : (dats m 0 c).before 2 t d = iblk m c 2 t :=
  before0_2_of m _ (by dsimp only [dats]) (fun t => by dsimp only [dats]) t d

theorem idle_later : ∀ t : Fin cfg0.N, ¬t.val % 14 = 0 → cfg0.idle 3 (grid0.coords t) = true := by decide +kernel
theorem live_first : ∀ t : Fin cfg0.N, t.val % 14 = 0 → cfg0.idle 3 (grid0.coords t) = false := by decide +kernel

theorem noFlush (t : Fin cfg0.N) (h : ¬t.val % 14 = 13) : (cfg0.win 3).flush t = false :=
  Bool.eq_false_iff.mpr fun hf => h ((flush0_3 t).mp hf)

/-- A later column block finds the first result's buffer at its row block's normed rows. -/
theorem before3 (c : Dev nD) (d) : ∀ (n : ℕ) (hn : n < cfg0.N), ¬n % 14 = 0 → (dats m 0 c).before 3 ⟨n, hn⟩ d = hAt m c n hn := by
  intro n
  induction n with
  | zero => intro _ h; exact absurd (Nat.zero_mod _) h
  | succ n ih =>
    intro hn h
    have hn' : n < cfg0.N := Nat.lt_of_succ_lt hn
    have hstep : hAt m c (n + 1) hn = hAt m c n hn' := by
      unfold hAt; rw [firstOf_later (n + 1) hn h]; rfl
    rw [(dats m 0 c).before_of_pos 3 ⟨n + 1, hn⟩ (Nat.succ_ne_zero n) ((cfg0.win 3).fetch_out rfl _), hstep]
    have hfl : (cfg0.win 3).flush ⟨n, hn'⟩ = false := noFlush ⟨n, hn'⟩ (by show ¬n % 14 = 13; omega)
    show (if (cfg0.win 3).flush ⟨n, hn'⟩ then d else (dats m 0 c).left 3 ⟨n, hn'⟩ d) = _
    rw [hfl, if_neg Bool.false_ne_true]
    unfold Dat.left
    by_cases h0 : n % 14 = 0
    · rw [live_first ⟨n, hn'⟩ h0]
      show (dats m 0 c).kept 3 ⟨n, hn'⟩ d = _
      unfold Dat.kept
      rw [Pipeline.fill_of_clip_none 3 _ (fun _ => rfl) d ((dats m 0 c).after 3 ⟨n, hn'⟩), Window.fill_cut, after3]
    · rw [idle_later ⟨n, hn'⟩ h0]
      exact ih hn' h0

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (dats m 0 c).leavesExact 3 t
    ∗ owns (c : Thread nD τ) (st0_4 t) fullShare (k0_pay3 (sAt m c t.val t.isLt) (iblk m c 2 t)))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, Φ_castSucc]
  rw [show (dats m 0 c).Φ t.succ = iprop(iprop(owns (c : Thread nD τ) keptM fullShare (sAt m c t.val t.isLt)) ∗ (∃ r, prngReg c r)) from rfl]
  by_cases h0 : t.val % 14 = 0
  · have e3 : (dats m 0 c).leavesExact 3 t = owns (c : Thread nD τ) (st0_3 t) fullShare (hAt m c t.val t.isLt) := by
      unfold Dat.leavesExact; rw [live_first t h0, after3]
    rw [e3]
    unfold hAt sAt
    rw [firstOf_first t h0]
    refine (sep_mono (kept_any m c t.val _) .rfl).trans ?_
    rw [ΦA_eq]
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ (iblk m c 0 t) (iblk m c 1 t) (iblk m c 2 t) ((first_iff t).mpr h0) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexact H4
  · have hb : ∀ d, (dats m 0 c).before 3 t d = hAt m c t.val t.isLt := fun d => before3 m c d t.val t.isLt h0
    have e3 : owns (c : Thread nD τ) (st0_3 t) fullShare (hAt m c t.val t.isLt) ⊢ ((dats m 0 c).leavesExact 3 t : sProp 𝕄) := by
      by_cases h13 : t.val % 14 = 13
      · unfold Dat.leavesExact
        rw [idle_later t h0, (flush0_3 t).mpr h13, after3]
      · rw [Dat.leavesExact_idle (dats m 0 c) 3 t (idle_later t h0) (noFlush t h13)]
        iintro H
        iexists (hAt m c t.val t.isLt)
        rw [hb]
        iexact H
    have es : sAt m c t.val t.isLt = sAt m c (t.val - 1) (by omega) := by
      unfold sAt; rw [firstOf_later t.val t.isLt h0]
    simp only [hb]
    rw [kept_pos m c t.val _ (fun h => h0 (by rw [h])), es]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (iblk m c 0 t) (iblk m c 1 t) (iblk m c 2 t) _ _ (fun h => h0 ((first_iff t).mp h)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · iapply e3; iexact H3
    iexact H4

theorem body_row (t : Fin cfg0.N) : defs₀ (F := F) .tc cfg0.body (cfg0.bodyArgs t (cfg0.slots t)) = bodyAt0 t := by
  unfold defs₀; rw [Defs.onTc_tc]

theorem body_sound (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run: every array of the region ends at what the library computes, every other buffer as the region found it, and no counter is left. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_sound m c).loose) (hshare := fun c => (dats m 0 c).share_full fun _ => rfl)
    (howed := fun _ _ => rfl) (V := V m) (hmain := hmain m Variants.none) (hA := A_eq m)
    (hin := fun c => kept_any m c 0 (Nat.zero_le _)) (hout := fun c => kept_any m c (Fin.last cfg0.N).val (Nat.le_of_lt_succ (Fin.last cfg0.N).isLt))

/-- The arguments' arrays end unchanged and no counter is left. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The two results' arrays, and the arguments' unchanged. -/
theorem run_values : θ_run defs (onTc (τ := τ) (main (F := F))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 3, (h.1.1 c).1 4, (h.2.1 c).1, (h.2.1 c).2.1, (h.2.1 c).2.2⟩)
    (θ_run_and (run_main m ρ) (run_frame m ρ))

end Region

end Cert.Proof.Kernel12Ideal

end
-- ==== Proof.NormProj.lean ====
/-
  The call of the norm with the input projection: its two results whole — of any arguments, the reference's.
  The norm is kept as a function over the extended reals, so nothing need be finite.
-/
module

public import proofs.«01_k».proof.Proof.NormRun
public import proofs.«01_k».proof.Proof.OutMid
public import proofs.«01_k».proof.Proof.Gen.Reference12Ideal.Read
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel12Ideal

open Cert.Kernel12Ideal Cert.Kernel12Ideal.Gen
open Cert.Proof.Prod Cert.Proof.Mid
open Idealize.ShloMosaic Idealize.ShloMosaic.TcCoe Idealize.ShloMosaic.Tactic

section Blocks

/-- A row of a point's row block, in the whole, -/
abbrev iAt (t : Fin cfg0.N) (r : Fin 2048) : Fin 8192 := ⟨2048 * (t.val / 14) + r.val, by have : t.val < 56 := t.isLt; omega⟩
/-- and a column of its column block. -/
abbrev jAt (t : Fin cfg0.N) (d : Fin 512) : Fin 7168 := ⟨512 * (t.val % 14) + d.val, by omega⟩

theorem idx0 : ∀ t : Fin cfg0.N, win0_0.index t = ![t.val / 14, 0] := by decide +kernel
theorem idx1 : ∀ t : Fin cfg0.N, win0_1.index t = ![0, 0] := by decide +kernel
theorem idx2 : ∀ t : Fin cfg0.N, win0_2.index t = ![0, t.val % 14] := by decide +kernel
theorem idx3 : ∀ t : Fin cfg0.N, win0_3.index t = ![t.val / 14, 0] := by decide +kernel
theorem idx4 : ∀ t : Fin cfg0.N, win0_4.index t = ![t.val / 14, t.val % 14] := by decide +kernel

section Reads

variable {F : FTy → Type} [FloatOps F] (m : (ℓ : Loc nD τ sig) → Buf (Elt F) ℓ) (c : Dev nD) (t : Fin cfg0.N)

theorem read0 (r : Fin 2048) (k : Fin 1024) : iblk m c 0 t (ix2 r k) = V m c main_arg0 (ix2 (iAt t r) k) := by
  blk_ext [Gen.iblk, idx0 t]
theorem read1 (k : Fin 1024) : iblk m c 1 t (ix2 0 k) = V m c main_arg1 (ix2 0 k) := by
  blk_ext [Gen.iblk, idx1 t]
theorem read2 (k : Fin 1024) (d : Fin 512) : iblk m c 2 t (ix2 k d) = V m c main_v0 (ix2 k (jAt t d)) := by
  blk_ext [Gen.iblk, idx2 t]

end Reads

theorem mem_blk3 (t : Fin cfg0.N) (i : S8192x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v1_0).slice (win0_3.rect t)).set ↔ _
  rw [View.set_slice_whole, Rect.mem_set_unit]
  exact Iff.rfl

/-- Every index of the normed rows is in some written block. -/
theorem covered3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hlt : (i 0).val / 2048 * 14 + 13 < cfg0.N := lt_of_lt_of_eq (by omega) Gen.N_0.symm
  refine ⟨⟨_, hlt⟩, (flush0_3 _).mpr (by show ((i 0).val / 2048 * 14 + 13) % 14 = 13; omega), ?_⟩
  rw [mem_blk3, idx3]
  intro a
  match a with
  | ⟨0, _⟩ =>
    show ((i 0).val / 2048 * 14 + 13) / 14 * 2048 ≤ (i 0).val ∧ (i 0).val < ((i 0).val / 2048 * 14 + 13) / 14 * 2048 + 2048
    omega
  | ⟨1, _⟩ =>
    show 0 * 1024 ≤ (i 1).val ∧ (i 1).val < 0 * 1024 + 1024
    omega

/-- Where a block's entry lies in the normed rows. -/
theorem emb3 (t : Fin cfg0.N) (r : Fin 2048) (d : Fin 1024) : ((cfg0.win 3).blk t).view.emb (ix2 r d) = ix2 (iAt t r) d := by
  have hb0 : (((cfg0.win 3).blk t).view.emb (ix2 r d) 0).val = win0_3.index t (0 : Fin 2) * 2048 + 1 * r.val := rfl
  have hb1 : (((cfg0.win 3).blk t).view.emb (ix2 r d) 1).val = win0_3.index t (1 : Fin 2) * 1024 + 1 * d.val := rfl
  have i0 : win0_3.index t (0 : Fin 2) = t.val / 14 := congrFun (idx3 t) 0
  have i1 : win0_3.index t (1 : Fin 2) = 0 := congrFun (idx3 t) 1
  funext a; apply Fin.ext
  match a with
  | ⟨0, _⟩ =>
    show (((cfg0.win 3).blk t).view.emb (ix2 r d) 0).val = 2048 * (t.val / 14) + r.val
    rw [hb0, i0]; omega
  | ⟨1, _⟩ =>
    show (((cfg0.win 3).blk t).view.emb (ix2 r d) 1).val = d.val
    rw [hb1, i1]; omega

theorem mem_blk4 (t : Fin cfg0.N) (i : S8192x7168.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v1_1).slice (win0_4.rect t)).set ↔ _
  rw [View.set_slice_whole, Rect.mem_set_unit]
  exact Iff.rfl

/-- Every index of the projection is in some point's block. -/
theorem covered4 (i : S8192x7168.Idx) : ∃ t : Fin cfg0.N, (cfg0.win 4).flush t = true ∧ i ∈ ((cfg0.win 4).blk t).view.set := by
  have h0 : (i 0).val < 8192 := (i 0).isLt
  have h1 : (i 1).val < 7168 := (i 1).isLt
  have hlt : (i 0).val / 2048 * 14 + (i 1).val / 512 < cfg0.N := lt_of_lt_of_eq (by omega) Gen.N_0.symm
  refine ⟨⟨_, hlt⟩, flush0_4 _, ?_⟩
  rw [mem_blk4, idx4]
  intro a
  match a with
  | ⟨0, _⟩ =>
    show ((i 0).val / 2048 * 14 + (i 1).val / 512) / 14 * 2048 ≤ (i 0).val ∧ (i 0).val < ((i 0).val / 2048 * 14 + (i 1).val / 512) / 14 * 2048 + 2048
    omega
  | ⟨1, _⟩ =>
    show ((i 0).val / 2048 * 14 + (i 1).val / 512) % 14 * 512 ≤ (i 1).val ∧ (i 1).val < ((i 0).val / 2048 * 14 + (i 1).val / 512) % 14 * 512 + 512
    omega

/-- Where a block's entry lies in the projection. -/
theorem emb4 (t : Fin cfg0.N) (r : Fin 2048) (d : Fin 512) : ((cfg0.win 4).blk t).view.emb (ix2 r d) = ix2 (iAt t r) (jAt t d) := by
  have hb0 : (((cfg0.win 4).blk t).view.emb (ix2 r d) 0).val = win0_4.index t (0 : Fin 2) * 2048 + 1 * r.val := rfl
  have hb1 : (((cfg0.win 4).blk t).view.emb (ix2 r d) 1).val = win0_4.index t (1 : Fin 2) * 512 + 1 * d.val := rfl
  have i0 : win0_4.index t (0 : Fin 2) = t.val / 14 := congrFun (idx4 t) 0
  have i1 : win0_4.index t (1 : Fin 2) = t.val % 14 := congrFun (idx4 t) 1
  funext a; apply Fin.ext
  match a with
  | ⟨0, _⟩ =>
    show (((cfg0.win 4).blk t).view.emb (ix2 r d) 0).val = 2048 * (t.val / 14) + r.val
    rw [hb0, i0]; omega
  | ⟨1, _⟩ =>
    show (((cfg0.win 4).blk t).view.emb (ix2 r d) 1).val = 512 * (t.val % 14) + d.val
    rw [hb1, i1]; omega

end Blocks

section Result

/-- An entry of the normed rows. -/
def nrow (X : (⟨2, ![8192, 1024]⟩ : Shape).Idx → EReal) (W : (⟨2, ![1, 1024]⟩ : Shape).Idx → EReal) (i : Fin 8192) (d : Fin 1024) : EReal :=
  X (ix2 i d) * er (fun k => X (ix2 i k)) * W (ix2 0 d)

section Payloads

variable {x0 : Vec Ideal S2048x1024 .f32} {x1 : Vec Ideal S1x1024 .f32} {q : Fin 2048 → Fin 1024 → EReal} {w : Fin 1024 → EReal}
variable (hx : ∀ r d, x0 (ix2 r d) = q r d) (hw : ∀ d, x1 (ix2 0 d) = w d)

include hx hw in
theorem pay1_apply (r : Fin 2048) (d : Fin 1024) : k0_pay1 (F := Ideal) x0 x1 (ix2 r d) = q r d * er (q r) * w d := by
  unfold k0_pay1
  pointwise
  simp only [hx, hw, inv_eq, eps_eq]
  rfl

include hx hw in
theorem pay2_apply (r : Fin 2048) (d : Fin 1024) : k0_pay2 (F := Ideal) x0 x1 (ix2 r d) = q r d * er (q r) * w d := by
  unfold k0_pay2
  pointwise
  exact pay1_apply hx hw r d

theorem pay3_apply (s : Vec Ideal S2048x1024 .bf16) (b : Vec Ideal S1024x512 .bf16) (r : Fin 2048) (d : Fin 512) :
    k0_pay3 (F := Ideal) s b (ix2 r d) = ∑ k : Fin 1024, s (ix2 r k) * b (ix2 k d) := by
  pointwise [k0_pay3]

end Payloads

section Reference

open Cert.Reference12Ideal.Read

variable (X : FVec Ideal Cert.Reference12Ideal.S8192x1024 .f32) (W : FVec Ideal Cert.Reference12Ideal.S1x1024 .f32)
  (B : FVec Ideal Cert.Reference12Ideal.S1024x7168 .f32) (i : Fin 8192) (d : Fin 1024) (j : Fin 7168)

theorem ref7 : val_main_v7 (F := Ideal) X (ix2 i 0) = er (fun k => X (ix2 i k)) := by
  pointwise [val_main_v7, val_main_v6, val_main_v5, val_main_v4, val_main_v3, val_main_v2, val_main_v1, val_main_v0, val_main_cst, val_main_cst_0, val_main_cst_1]
  simp only [eps_eq, count_eq]
  rw [Ideal.div_coe (by norm_num)]
  rfl

theorem ref11 : val_main_v11 (F := Ideal) X W (ix2 i d) = nrow X W i d := by
  unfold val_main_v11 val_main_v10 val_main_v9 val_main_v8
  pointwise
  rw [ref7]
  rfl

theorem ref12 : val_main_v12 (F := Ideal) X W (ix2 i d) = nrow X W i d := by
  unfold val_main_v12
  pointwise
  exact ref11 X W i d

theorem ref13 : val_main_v13 (F := Ideal) X W B (ix2 i j) = ∑ k : Fin 1024, nrow X W i k * B (ix2 k j) := by
  pointwise [val_main_v13]
  exact Finset.sum_congr rfl fun k _ => by rw [ref11]

end Reference

variable (m : (ℓ : Loc nD τ sig) → Buf (Elt Ideal) ℓ) (c : Dev nD)

/-- The arguments' arrays. -/
abbrev a0 : FVec Ideal S8192x1024 .f32 := m ((c : Thread nD τ).loc main_arg0)
abbrev a1 : FVec Ideal S1x1024 .f32 := m ((c : Thread nD τ).loc main_arg1)
abbrev a2 : FVec Ideal S1024x7168 .f32 := m ((c : Thread nD τ).loc main_arg2)

theorem V_v0 : V m c main_v0 = truncf (F := Ideal) .bf16 (a2 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The row block's first point reads the same rows. -/
theorem iAt_first (t : Fin cfg0.N) (r : Fin 2048) : iAt (firstOf t.val t.isLt) r = iAt t r :=
  Fin.ext (by show 2048 * (14 * (t.val / 14) / 14) + r.val = 2048 * (t.val / 14) + r.val; omega)

theorem blk0 (t : Fin cfg0.N) (r : Fin 2048) (d : Fin 1024) : iblk m c 0 (firstOf t.val t.isLt) (ix2 r d) = a0 m c (ix2 (iAt t r) d) := by
  rw [read0, V_main_arg0, iAt_first]

theorem blk1 (t : Fin cfg0.N) (d : Fin 1024) : iblk m c 1 (firstOf t.val t.isLt) (ix2 0 d) = a1 m c (ix2 0 d) := by
  rw [read1, V_main_arg1]

theorem blk_h (t : Fin cfg0.N) (r : Fin 2048) (d : Fin 1024) : hAt (F := Ideal) m c t.val t.isLt (ix2 r d) = nrow (a0 m c) (a1 m c) (iAt t r) d :=
  pay1_apply (blk0 m c t) (blk1 m c t) r d

theorem blk_s (t : Fin cfg0.N) (r : Fin 2048) (d : Fin 1024) : sAt (F := Ideal) m c t.val t.isLt (ix2 r d) = nrow (a0 m c) (a1 m c) (iAt t r) d :=
  pay2_apply (blk0 m c t) (blk1 m c t) r d

theorem out_h (t : Fin cfg0.N) (r : Fin 2048) (d : Fin 1024) : hAt (F := Ideal) m c t.val t.isLt (ix2 r d)
    = Cert.Reference12Ideal.Read.val_main_v12 (F := Ideal) (a0 m c) (a1 m c) (ix2 (iAt t r) d) :=
  (blk_h m c t r d).trans (ref12 _ _ _ _).symm

theorem out_p (t : Fin cfg0.N) (r : Fin 2048) (d : Fin 512) : k0_pay3 (F := Ideal) (sAt m c t.val t.isLt) (iblk m c 2 t) (ix2 r d)
    = Cert.Reference12Ideal.Read.val_main_v13 (F := Ideal) (a0 m c) (a1 m c) (a2 m c) (ix2 (iAt t r) (jAt t d)) := by
  rw [pay3_apply, ref13]
  refine Finset.sum_congr rfl fun k _ => ?_
  rw [blk_s, read2, V_v0]
  rfl

/-- The normed rows. -/
theorem arr3 : (dats m 0 c).arrAt 3 cfg0.N = Cert.Reference12Ideal.Read.val_main_v12 (F := Ideal) (a0 m c) (a1 m c) := by
  refine (dats m 0 c).arrAt_eq_of_cover 3 _ (fun t _ => ?_) covered3
  show (dats m 0 c).after 3 t = _
  rw [after3]
  funext y
  obtain ⟨r, d, rfl⟩ : ∃ (a : Fin 2048) (b : Fin 1024), y = ix2 a b := ⟨y 0, y 1, ix_eq y⟩
  exact (out_h m c t r d).trans (congrArg (Cert.Reference12Ideal.Read.val_main_v12 (F := Ideal) (a0 m c) (a1 m c)) (emb3 t r d).symm)

/-- The projection. -/
theorem arr4 : (dats m 0 c).arrAt 4 cfg0.N = Cert.Reference12Ideal.Read.val_main_v13 (F := Ideal) (a0 m c) (a1 m c) (a2 m c) := by
  refine (dats m 0 c).arrAt_eq_of_cover 4 _ (fun t _ => ?_) covered4
  show (dats m 0 c).after 4 t = _
  rw [after4]
  funext y
  obtain ⟨r, d, rfl⟩ : ∃ (a : Fin 2048) (b : Fin 512), y = ix2 a b := ⟨y 0, y 1, ix_eq y⟩
  exact (out_p m c t r d).trans (congrArg (Cert.Reference12Ideal.Read.val_main_v13 (F := Ideal) (a0 m c) (a1 m c) (a2 m c)) (emb4 t r d).symm)

end Result

end Cert.Proof.Kernel12Ideal

end
-- ==== Proof.NormBits.lean ====
/-
  The call of the norm with the input projection, as printed: its program is its idealization's, so the run over any float
  values is its run.
-/
module

public import proofs.«01_k».proof.Proof.NormRun
public import proofs.«01_k».proof.Proof.Gen.Kernel12

@[expose] public section

set_option maxRecDepth 65536

namespace Cert.Proof.Kernel12

open Idealize.ShloMosaic

variable {F : FTy → Type} [FloatOps F]

/-- The two body tables are one: their only label runs the same text. -/
theorem bodies_eq : @Cert.Kernel12.defs₀ F _ _ = @Cert.Kernel12Ideal.defs₀ F _ _ := by
  unfold Cert.Kernel12.defs₀ Cert.Kernel12Ideal.defs₀
  refine congrArg Defs.onTc ?_
  funext l x
  match l, x with
  | 0, (t, s) => rfl
  | ⟨_ + 1, h⟩, _ => exact absurd h (Nat.not_lt.2 (Nat.le_add_left _ _))

/-- So are the two programs' tables. -/
theorem defs_eq : @Cert.Kernel12.defs F _ _ = @Cert.Kernel12Ideal.defs F _ _ :=
  congrArg (Pipeline.defs Cert.Kernel12Ideal.pcfgs) bodies_eq

variable (m : (ℓ : Loc Cert.Kernel12Ideal.nD Cert.Kernel12Ideal.τ Cert.Kernel12Ideal.sig) → Buf (Elt F) ℓ)
  (ρ : Dev Cert.Kernel12Ideal.nD → PrngReg)

/-- The run, of any table that is the idealization's. -/
theorem run_frame_of (D) (h : D = Cert.Kernel12Ideal.defs (F := F)) :
    θ_run D (onTc (τ := Cert.Kernel12Ideal.τ) (Cert.Kernel12Ideal.main (F := F))) ⟨m, fun _ => 0, ρ⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0) := by
  subst h
  exact Cert.Proof.Kernel12Ideal.run_frame m ρ

end Cert.Proof.Kernel12

end
-- ==== Proof.GateReal.lean ====
/-
  Over the reals: the gradient sent back through the scan's group norm and gate — the norm runs over each group of 512
  columns — in the form the kernel computes and in the form differentiation gives.
-/
module

public import proofs.«01_k».proof.Proof.MidReal

@[expose] public section

noncomputable section

namespace Cert.Proof.Gate

open Idealize.ShloMosaic
open Cert.Proof.Mid Cert.Proof.Ssd

theorem ginv_eq : Ideal.ofBits FTy.f32 0x3B000000#32 = ((1 / 512 : ℝ) : EReal) := by
  simp [Ideal.ofBits, Ideal.ieee, -EReal.coe_mul]; norm_num

theorem gcount_eq : Ideal.ofBits FTy.f32 0x44000000#32 = ((512 : ℝ) : EReal) := by
  simp [Ideal.ofBits, Ideal.ieee, -EReal.coe_mul]; norm_num

theorem halfp_eq : Ideal.ofBits FTy.f32 0x3F000000#32 = ((1 / 2 : ℝ) : EReal) := by
  simp [Ideal.ofBits, Ideal.ieee, -EReal.coe_mul]; norm_num

/-- A group's mean square, with the small number. -/
def gmsq (x : Fin 512 → ℝ) : ℝ := (∑ j, x j * x j) * (1 / 512) + eps

theorem gmsq_pos (x : Fin 512 → ℝ) : 0 < gmsq x := by
  have h : 0 ≤ ∑ j, x j * x j := Finset.sum_nonneg fun j _ => mul_self_nonneg _
  have := eps_pos
  unfold gmsq
  positivity

/-- One over a group's root mean square. -/
def grr (x : Fin 512 → ℝ) : ℝ := (Real.sqrt (gmsq x))⁻¹

theorem rsqrt_gmsq (x : Fin 512 → ℝ) : Ideal.rsqrt ((gmsq x : ℝ) : EReal) = ((grr x : ℝ) : EReal) := by
  have h := gmsq_pos x
  rw [Ideal.rsqrt_coe, if_neg (not_lt.mpr h.le), if_neg h.ne']
  rfl

theorem grr_sq (x : Fin 512 → ℝ) : grr x * (1 / gmsq x) = grr x * grr x * grr x := by
  have h := gmsq_pos x
  have hs : Real.sqrt (gmsq x) * Real.sqrt (gmsq x) = gmsq x := Real.mul_self_sqrt h.le
  have hr : grr x * grr x = 1 / gmsq x := by
    unfold grr
    rw [← mul_inv, hs, one_div]
  rw [← hr, mul_assoc]

/-- A group divided by its root mean square. -/
def gnrm (x : Fin 512 → ℝ) (d : Fin 512) : ℝ := x d * grr x

/-- The gradient to a group of `gnrm`, of the gradient `g` of its result. -/
def gback (x g : Fin 512 → ℝ) (d : Fin 512) : ℝ := grr x * (g d - gnrm x d * ((∑ j, g j * gnrm x j) * (1 / 512)))

/-- What differentiation leaves as the coefficient of a group's own entries, half of it. -/
def gcoef (x g : Fin 512 → ℝ) : ℝ := (∑ j, x j * g j) * (-(1 / 2) * (grr x * (1 / gmsq x))) * (1 / 512)

/-- The two forms agree. -/
theorem gback_eq (x g : Fin 512 → ℝ) (d : Fin 512) : g d * grr x + x d * gcoef x g + gcoef x g * x d = gback x g d := by
  have hs : ∑ j, g j * gnrm x j = (∑ j, x j * g j) * grr x := by
    rw [Finset.sum_mul]
    exact Finset.sum_congr rfl fun j _ => by unfold gnrm; ring
  unfold gback gcoef
  rw [hs, grr_sq]
  unfold gnrm
  ring

variable (X : (⟨2, ![8192, 1024]⟩ : Shape).Idx → EReal) (Y : (⟨2, ![2048, 1024]⟩ : Shape).Idx → EReal)
  (Yd Xs : (⟨2, ![8192, 1024]⟩ : Shape).Idx → EReal) (Pj : (⟨2, ![8192, 7168]⟩ : Shape).Idx → EReal)
  (W D : (⟨2, ![1, 1024]⟩ : Shape).Idx → EReal)

/-- The gradient of the scan's half of the mixers' output. -/
def dmixin (t d : ℕ) : ℝ := ∑ k : Fin 1024, at2 X t k * at2 Y (1024 + d) k

/-- The scan's output with its skip term. -/
def skip (t d : ℕ) : ℝ := at2 Yd t d + at2 D 0 d * at2 Xs t d

/-- That, gated. -/
def gated (t d : ℕ) : ℝ := skip Yd Xs D t d * silu (at2 Pj t (4096 + d))

/-- The gradient of the gated output, column `j` of group `g`. -/
def dgated (t g : ℕ) (j : Fin 512) : ℝ :=
  gback (fun j => gated Yd Xs Pj D t (g * 512 + j)) (fun j => dmixin X Y t (g * 512 + j) * at2 W 0 (g * 512 + j)) j

/-- The gradient of the scan's output. -/
def dscan (t g : ℕ) (j : Fin 512) : ℝ := dgated X Y Yd Xs Pj W D t g j * silu (at2 Pj t (4096 + (g * 512 + j)))

/-- The skip term's part of the gradient of the scan's input. -/
def dskip (t g : ℕ) (j : Fin 512) : ℝ := dscan X Y Yd Xs Pj W D t g j * at2 D 0 (g * 512 + j)

/-- The gradient of the gate. -/
def dgateIn (t g : ℕ) (j : Fin 512) : ℝ :=
  dgated X Y Yd Xs Pj W D t g j * skip Yd Xs D t (g * 512 + j) * dgate (at2 Pj t (4096 + (g * 512 + j)))

/-- The norm's weight's gradient over the first `n` rows. -/
def dwtIn (n g : ℕ) (j : Fin 512) : ℝ :=
  ∑ t ∈ Finset.range n, dmixin X Y t (g * 512 + j) * gnrm (fun j => gated Yd Xs Pj D t (g * 512 + j)) j

/-- The skip term's weight's gradient over the first `n` rows. -/
def ddIn (n g : ℕ) (j : Fin 512) : ℝ := ∑ t ∈ Finset.range n, dscan X Y Yd Xs Pj W D t g j * at2 Xs t (g * 512 + j)

/-- A sum over rows, a block of rows added. -/
theorem rows_add (f : ℕ → ℝ) (i : ℕ) : (∑ t ∈ Finset.range (256 * i), f t) + ∑ r : Fin 256, f (256 * i + r.val) = ∑ t ∈ Finset.range (256 * (i + 1)), f t := by
  rw [Nat.mul_add, Nat.mul_one, Finset.sum_range_add, ← Finset.sum_range (fun r => f (256 * i + r))]

end Cert.Proof.Gate

end
-- ==== Proof.GateBlock.lean ====
/-
  The gate norm's backward call's body over the reals: what each payload of the scan's half leaves of blocks holding real
  numbers, group by group.
-/
module

public import proofs.«01_k».proof.Proof.GateReal
public import proofs.«01_k».proof.Proof.Gen.Kernel13Ideal.Skeleton
public import Idealize.ShloMosaic.Lib.Pointwise

@[expose] public section

set_option maxRecDepth 16384

noncomputable section

namespace Cert.Proof.Kernel13Ideal

open Cert.Kernel13Ideal Cert.Kernel13Ideal.Gen
open Cert.Proof Cert.Proof.Mid Cert.Proof.Ssd Cert.Proof.Gate
open Idealize.ShloMosaic

/-- Column `j` of the first group, and of the second. -/
abbrev lo (j : Fin 512) : Fin 1024 := ⟨j.val, by omega⟩
abbrev hi (j : Fin 512) : Fin 1024 := ⟨512 + j.val, by omega⟩
abbrev mixCol (d : Fin 1024) : Fin 2048 := ⟨1024 + d.val, by omega⟩

/-- The product. -/
theorem prod_apply {A : FVec Ideal S256x1024 .bf16} {B : FVec Ideal S2048x1024 .bf16} {a : Fin 256 → Fin 1024 → ℝ} {b : Fin 2048 → Fin 1024 → ℝ}
    (hA : ∀ r k, A (ix2 r k) = ((a r k : ℝ) : EReal)) (hB : ∀ k d, B (ix2 k d) = ((b k d : ℝ) : EReal))
    (r : Fin 256) (d : Fin 2048) : k0_pay6 (F := Ideal) A B (ix2 r d) = ((∑ k, a r k * b d k : ℝ) : EReal) := by
  pointwise [k0_pay6]
  simp only [hA, hB, ← EReal.coe_mul, coe_sum]

section Gate

/-- The constant the logistic function is computed with. -/
abbrev hlf : Ideal .f32 := Ideal.ofBits FTy.f32 0x3F000000#32

variable {M : FVec Ideal S256x2048 .f32} {Z Xs Y : FVec Ideal S256x1024 .f32} {D : FVec Ideal S1x1024 .f32}
  {z x y g : Fin 256 → Fin 1024 → ℝ} {e : Fin 1024 → ℝ}
variable (hM : ∀ r d, M (ix2 r (mixCol d)) = ((g r d : ℝ) : EReal)) (hZ : ∀ r d, Z (ix2 r d) = ((z r d : ℝ) : EReal))
  (hX : ∀ r d, Xs (ix2 r d) = ((x r d : ℝ) : EReal)) (hY : ∀ r d, Y (ix2 r d) = ((y r d : ℝ) : EReal))
  (hD : ∀ d, D (ix2 0 d) = ((e d : ℝ) : EReal))

include hZ in
theorem sig_apply (r : Fin 256) (d : Fin 1024) : k0_pay82 (F := Ideal) (k0_pay81 Z) hlf (ix2 r d) = ((sigm (z r d) : ℝ) : EReal) := by
  pointwise [k0_pay82, k0_pay81]
  simp only [hZ, halfp_eq, ← EReal.coe_mul, Ideal.tanh_coe, ← EReal.coe_add, sigm_tanh]

include hZ in
theorem silu_apply (r : Fin 256) (d : Fin 1024) : k0_pay83 (F := Ideal) Z (k0_pay81 Z) hlf (ix2 r d) = ((silu (z r d) : ℝ) : EReal) := by
  unfold k0_pay83
  pointwise
  rw [sig_apply hZ, hZ, ← EReal.coe_mul]
  rfl

include hX hY hD in
theorem skip_apply (r : Fin 256) (d : Fin 1024) : k0_pay84 (F := Ideal) Xs Y D (ix2 r d) = ((y r d + e d * x r d : ℝ) : EReal) := by
  pointwise [k0_pay84]
  simp only [hX, hY, hD, ← EReal.coe_mul, ← EReal.coe_add]

include hZ hX hY hD in
theorem gated_apply (r : Fin 256) (d : Fin 1024) :
    k0_pay85 (F := Ideal) Z (k0_pay81 Z) hlf Xs Y D (ix2 r d) = (((y r d + e d * x r d) * silu (z r d) : ℝ) : EReal) := by
  unfold k0_pay85
  pointwise
  rw [silu_apply hZ, skip_apply hX hY hD, ← EReal.coe_mul]

include hM in
theorem half_apply (r : Fin 256) (d : Fin 1024) : k0_pay86 (F := Ideal) M (ix2 r d) = ((g r d : ℝ) : EReal) := by
  pointwise [k0_pay86]
  exact hM r d

variable {Wl : FVec Ideal S1x512 .f32} {w : Fin 512 → ℝ} (hW : ∀ j, Wl (ix2 0 j) = ((w j : ℝ) : EReal))

/-- A block's gated entries, row by row, in the first group and in the second. -/
abbrev gl (x y z : Fin 256 → Fin 1024 → ℝ) (e : Fin 1024 → ℝ) (r : Fin 256) (j : Fin 512) : ℝ :=
  (y r (lo j) + e (lo j) * x r (lo j)) * silu (z r (lo j))
abbrev gh (x y z : Fin 256 → Fin 1024 → ℝ) (e : Fin 1024 → ℝ) (r : Fin 256) (j : Fin 512) : ℝ :=
  (y r (hi j) + e (hi j) * x r (hi j)) * silu (z r (hi j))

include hZ hX hY hD in
theorem gl_apply (r : Fin 256) (j : Fin 512) :
    k0_pay87 (F := Ideal) Z (k0_pay81 Z) hlf Xs Y D (ix2 r j) = ((gl x y z e r j : ℝ) : EReal) := by
  unfold k0_pay87
  pointwise
  exact gated_apply hZ hX hY hD r (lo j)

include hZ hX hY hD in
theorem rl_apply (r : Fin 256) :
    k0_pay88 (F := Ideal) Z (k0_pay81 Z) hlf Xs Y D (ix2 r 0) = ((grr (gl x y z e r) : ℝ) : EReal) := by
  unfold k0_pay88
  pointwise
  simp only [gl_apply hZ hX hY hD, ← EReal.coe_mul, coe_sum, ginv_eq, eps_eq, ← EReal.coe_add]
  exact rsqrt_gmsq _

include hZ hX hY hD in
theorem nl_apply (r : Fin 256) (j : Fin 512) :
    k0_pay89 (F := Ideal) Z (k0_pay81 Z) hlf Xs Y D (ix2 r j) = ((gnrm (gl x y z e r) j : ℝ) : EReal) := by
  unfold k0_pay89
  pointwise
  rw [rl_apply hZ hX hY hD, gl_apply hZ hX hY hD, ← EReal.coe_mul]
  rfl

include hM hW in
theorem wl_apply (r : Fin 256) (j : Fin 512) : k0_pay91 (F := Ideal) M Wl (ix2 r j) = ((g r (lo j) * w j : ℝ) : EReal) := by
  unfold k0_pay91
  pointwise
  rw [hW, EReal.coe_mul]
  exact congrArg (· * _) (half_apply hM r (lo j))

include hM hW hZ hX hY hD in
theorem ml_apply (r : Fin 256) (j : Fin 512) : k0_pay92 (F := Ideal) M Z (k0_pay81 Z) hlf Xs Y D Wl (ix2 r j)
    = ((gnrm (gl x y z e r) j * ((∑ i, g r (lo i) * w i * gnrm (gl x y z e r) i) * (1 / 512)) : ℝ) : EReal) := by
  unfold k0_pay92
  pointwise
  simp only [nl_apply hZ hX hY hD, wl_apply hM hW, ginv_eq, ← EReal.coe_mul, coe_sum]

include hM hW hZ hX hY hD in
theorem bl_apply (r : Fin 256) (j : Fin 512) :
    k0_pay93 (F := Ideal) (k0_pay88 Z (k0_pay81 Z) hlf Xs Y D) (k0_pay91 M Wl) (k0_pay92 M Z (k0_pay81 Z) hlf Xs Y D Wl) (ix2 r j)
      = ((gback (gl x y z e r) (fun i => g r (lo i) * w i) j : ℝ) : EReal) := by
  unfold k0_pay93
  pointwise
  rw [rl_apply hZ hX hY hD, wl_apply hM hW, ml_apply hM hZ hX hY hD hW, ← EReal.coe_sub, ← EReal.coe_mul]
  rfl

include hM hW hZ hX hY hD in
/-- The first group of the gradient of the scan's output. -/
theorem dscanl_apply (r : Fin 256) (j : Fin 512) :
    k0_pay94 (F := Ideal) (k0_pay83 Z (k0_pay81 Z) hlf) (k0_pay88 Z (k0_pay81 Z) hlf Xs Y D) (k0_pay91 M Wl)
      (k0_pay92 M Z (k0_pay81 Z) hlf Xs Y D Wl) (ix2 r j)
      = ((gback (gl x y z e r) (fun i => g r (lo i) * w i) j * silu (z r (lo j)) : ℝ) : EReal) := by
  unfold k0_pay94
  pointwise
  rw [bl_apply hM hZ hX hY hD hW, EReal.coe_mul]
  exact congrArg (_ * ·) (silu_apply hZ r (lo j))

include hM hW hZ hX hY hD in
/-- The first group of the gradient of the gate. -/
theorem dgatel_apply (r : Fin 256) (j : Fin 512) :
    k0_pay95 (F := Ideal) Z (k0_pay82 (k0_pay81 Z) hlf) (k0_pay84 Xs Y D) (k0_pay88 Z (k0_pay81 Z) hlf Xs Y D) (k0_pay91 M Wl)
      (k0_pay92 M Z (k0_pay81 Z) hlf Xs Y D Wl) (ix2 r j)
      = ((gback (gl x y z e r) (fun i => g r (lo i) * w i) j * (y r (lo j) + e (lo j) * x r (lo j)) * dgate (z r (lo j)) : ℝ) : EReal) := by
  unfold k0_pay95
  pointwise
  rw [bl_apply hM hZ hX hY hD hW, skip_apply hX hY hD, hZ, sig_apply hZ, ← EReal.coe_one]
  simp only [← EReal.coe_sub, ← EReal.coe_mul, ← EReal.coe_add]
  rfl

variable {Dg : FVec Ideal S1x512 .f32} {f : Fin 512 → ℝ} (hDg : ∀ j, Dg (ix2 0 j) = ((f j : ℝ) : EReal))

include hM hW hZ hX hY hD hDg in
/-- The first group of the skip term's part. -/
theorem dskipl_apply (r : Fin 256) (j : Fin 512) :
    k0_pay96 (F := Ideal) (k0_pay83 Z (k0_pay81 Z) hlf) (k0_pay88 Z (k0_pay81 Z) hlf Xs Y D) (k0_pay91 M Wl)
      (k0_pay92 M Z (k0_pay81 Z) hlf Xs Y D Wl) Dg (ix2 r j)
      = ((gback (gl x y z e r) (fun i => g r (lo i) * w i) j * silu (z r (lo j)) * f j : ℝ) : EReal) := by
  unfold k0_pay96
  pointwise
  rw [dscanl_apply hM hZ hX hY hD hW, hDg, ← EReal.coe_mul]

include hZ hX hY hD in
theorem gh_apply (r : Fin 256) (j : Fin 512) :
    k0_pay98 (F := Ideal) (k0_pay85 Z (k0_pay81 Z) hlf Xs Y D) (ix2 r j) = ((gh x y z e r j : ℝ) : EReal) := by
  unfold k0_pay98
  pointwise
  exact gated_apply hZ hX hY hD r (hi j)

include hZ hX hY hD in
theorem rh_apply (r : Fin 256) :
    k0_pay101 (F := Ideal) (k0_pay99 (k0_pay85 Z (k0_pay81 Z) hlf Xs Y D)) k0_pay100 (ix2 r 0) = ((grr (gh x y z e r) : ℝ) : EReal) := by
  unfold k0_pay101 k0_pay99 k0_pay100
  pointwise
  simp only [gh_apply hZ hX hY hD, ← EReal.coe_mul, coe_sum, ginv_eq, eps_eq, ← EReal.coe_add]
  exact rsqrt_gmsq _

include hZ hX hY hD in
theorem nh_apply (r : Fin 256) (j : Fin 512) :
    k0_pay102 (F := Ideal) (k0_pay98 (k0_pay85 Z (k0_pay81 Z) hlf Xs Y D)) (k0_pay99 (k0_pay85 Z (k0_pay81 Z) hlf Xs Y D)) k0_pay100 (ix2 r j)
      = ((gnrm (gh x y z e r) j : ℝ) : EReal) := by
  unfold k0_pay102
  pointwise
  rw [rh_apply hZ hX hY hD, gh_apply hZ hX hY hD, ← EReal.coe_mul]
  rfl

include hM hW hZ hX hY hD in
theorem bh_apply (r : Fin 256) (j : Fin 512) :
    k0_pay104 (F := Ideal) (k0_pay86 M) (k0_pay98 (k0_pay85 Z (k0_pay81 Z) hlf Xs Y D)) (k0_pay99 (k0_pay85 Z (k0_pay81 Z) hlf Xs Y D)) k0_pay100 Wl (ix2 r j)
      = ((gback (gh x y z e r) (fun i => g r (hi i) * w i) j : ℝ) : EReal) := by
  have hm : ∀ j : Fin 512, k0_pay86 (F := Ideal) M (ix2 r (hi j)) = ((g r (hi j) : ℝ) : EReal) := fun j => half_apply hM r (hi j)
  unfold k0_pay104
  pointwise
  simp only [rh_apply hZ hX hY hD, nh_apply hZ hX hY hD, hm, hW, ginv_eq, ← EReal.coe_mul, coe_sum, ← EReal.coe_sub]
  rfl

include hM hW hZ hX hY hD in
/-- The second group of the gradient of the scan's output. -/
theorem dscanh_apply (r : Fin 256) (j : Fin 512) :
    k0_pay105 (F := Ideal) (k0_pay83 Z (k0_pay81 Z) hlf) (k0_pay86 M) (k0_pay98 (k0_pay85 Z (k0_pay81 Z) hlf Xs Y D))
      (k0_pay99 (k0_pay85 Z (k0_pay81 Z) hlf Xs Y D)) k0_pay100 Wl (ix2 r j)
      = ((gback (gh x y z e r) (fun i => g r (hi i) * w i) j * silu (z r (hi j)) : ℝ) : EReal) := by
  unfold k0_pay105
  pointwise
  rw [bh_apply hM hZ hX hY hD hW, EReal.coe_mul]
  exact congrArg (_ * ·) (silu_apply hZ r (hi j))

include hM hW hZ hX hY hD in
/-- The second group of the gradient of the gate. -/
theorem dgateh_apply (r : Fin 256) (j : Fin 512) :
    k0_pay106 (F := Ideal) Z (k0_pay82 (k0_pay81 Z) hlf) (k0_pay84 Xs Y D) (k0_pay86 M) (k0_pay98 (k0_pay85 Z (k0_pay81 Z) hlf Xs Y D))
      (k0_pay99 (k0_pay85 Z (k0_pay81 Z) hlf Xs Y D)) k0_pay100 Wl (ix2 r j)
      = ((gback (gh x y z e r) (fun i => g r (hi i) * w i) j * (y r (hi j) + e (hi j) * x r (hi j)) * dgate (z r (hi j)) : ℝ) : EReal) := by
  unfold k0_pay106
  pointwise
  rw [bh_apply hM hZ hX hY hD hW, skip_apply hX hY hD, hZ, sig_apply hZ, ← EReal.coe_one]
  simp only [← EReal.coe_sub, ← EReal.coe_mul, ← EReal.coe_add]
  rfl

include hM hW hZ hX hY hD hDg in
/-- The second group of the skip term's part. -/
theorem dskiph_apply (r : Fin 256) (j : Fin 512) :
    k0_pay1 (F := Ideal) (k0_pay105 (k0_pay83 Z (k0_pay81 Z) hlf) (k0_pay86 M) (k0_pay98 (k0_pay85 Z (k0_pay81 Z) hlf Xs Y D))
      (k0_pay99 (k0_pay85 Z (k0_pay81 Z) hlf Xs Y D)) k0_pay100 Wl) Dg (ix2 r j)
      = ((gback (gh x y z e r) (fun i => g r (hi i) * w i) j * silu (z r (hi j)) * f j : ℝ) : EReal) := by
  unfold k0_pay1
  pointwise
  rw [dscanh_apply hM hZ hX hY hD hW, hDg, ← EReal.coe_mul]

theorem zero4_apply (d : Fin 1024) : k0_pay4 (F := Ideal) (ix2 0 d) = ((0 : ℝ) : EReal) := by
  pointwise [k0_pay4]
  exact EReal.coe_zero.symm

theorem zero5_apply (d : Fin 1024) : k0_pay5 (F := Ideal) (ix2 0 d) = ((0 : ℝ) : EReal) := by
  pointwise [k0_pay5]
  exact EReal.coe_zero.symm

variable {Ac : FVec Ideal S1x512 .f32} {s : Fin 512 → ℝ} (hA : ∀ j, Ac (ix2 0 j) = ((s j : ℝ) : EReal))

include hM hZ hX hY hD hA in
/-- The first group of the norm's weight's gradient, the block's rows added. -/
theorem dwtl_apply (j : Fin 512) : k0_pay90 (F := Ideal) M Z (k0_pay81 Z) hlf Xs Y D Ac (ix2 0 j)
    = ((s j + ∑ r, g r (lo j) * gnrm (gl x y z e r) j : ℝ) : EReal) := by
  have hm : ∀ r : Fin 256, k0_pay86 (F := Ideal) M (ix2 r (lo j)) = ((g r (lo j) : ℝ) : EReal) := fun r => half_apply hM r (lo j)
  unfold k0_pay90
  pointwise
  simp only [nl_apply hZ hX hY hD, hm, hA, ← EReal.coe_mul, coe_sum, ← EReal.coe_add]

include hM hZ hX hY hD hA in
/-- The second group of it. -/
theorem dwth_apply (j : Fin 512) : k0_pay103 (F := Ideal) (k0_pay86 M) (k0_pay98 (k0_pay85 Z (k0_pay81 Z) hlf Xs Y D))
      (k0_pay99 (k0_pay85 Z (k0_pay81 Z) hlf Xs Y D)) k0_pay100 Ac (ix2 0 j)
    = ((s j + ∑ r, g r (hi j) * gnrm (gh x y z e r) j : ℝ) : EReal) := by
  have hm : ∀ r : Fin 256, k0_pay86 (F := Ideal) M (ix2 r (hi j)) = ((g r (hi j) : ℝ) : EReal) := fun r => half_apply hM r (hi j)
  unfold k0_pay103
  pointwise
  simp only [nh_apply hZ hX hY hD, hm, hA, ← EReal.coe_mul, coe_sum, ← EReal.coe_add]

include hM hW hZ hX hY hD hA in
/-- The first group of the skip term's weight's gradient, the block's rows added. -/
theorem ddl_apply (j : Fin 512) :
    k0_pay97 (F := Ideal) (k0_pay83 Z (k0_pay81 Z) hlf) Xs (k0_pay88 Z (k0_pay81 Z) hlf Xs Y D) (k0_pay91 M Wl)
      (k0_pay92 M Z (k0_pay81 Z) hlf Xs Y D Wl) Ac (ix2 0 j)
      = ((s j + ∑ r, gback (gl x y z e r) (fun i => g r (lo i) * w i) j * silu (z r (lo j)) * x r (lo j) : ℝ) : EReal) := by
  have hx : ∀ r : Fin 256, Xs (ix2 r (lo j)) = ((x r (lo j) : ℝ) : EReal) := fun r => hX r (lo j)
  unfold k0_pay97
  pointwise
  simp only [dscanl_apply hM hZ hX hY hD hW, hx, hA, ← EReal.coe_mul, coe_sum, ← EReal.coe_add]

include hM hW hZ hX hY hD hA in
/-- The second group of it. -/
theorem ddh_apply (j : Fin 512) :
    k0_pay2 (F := Ideal) Xs (k0_pay105 (k0_pay83 Z (k0_pay81 Z) hlf) (k0_pay86 M) (k0_pay98 (k0_pay85 Z (k0_pay81 Z) hlf Xs Y D))
      (k0_pay99 (k0_pay85 Z (k0_pay81 Z) hlf Xs Y D)) k0_pay100 Wl) Ac (ix2 0 j)
      = ((s j + ∑ r, gback (gh x y z e r) (fun i => g r (hi i) * w i) j * silu (z r (hi j)) * x r (hi j) : ℝ) : EReal) := by
  have hx : ∀ r : Fin 256, Xs (ix2 r (hi j)) = ((x r (hi j) : ℝ) : EReal) := fun r => hX r (hi j)
  unfold k0_pay2
  pointwise
  simp only [dscanh_apply hM hZ hX hY hD hW, hx, hA, ← EReal.coe_mul, coe_sum, ← EReal.coe_add]

end Gate

end Cert.Proof.Kernel13Ideal

end
-- ==== Proof.GateCases.lean ====
/-
  The gate norm's backward call, case by case: what its body leaves in the blocks of the scan's five gradients — two
  groups of columns each — as the generated payloads of the blocks the point works on.
-/
module

public import proofs.«01_k».proof.Proof.GateBlock
public import proofs.«01_k».proof.Proof.Gen.Kernel13Ideal.Frame
public import Idealize.ShloMosaic.Lib.Pipeline.ReadBack
public import Idealize.ShloMosaic.Lib.Pipeline.Value
public import Idealize.ShloMosaic.Lib.Tactic

@[expose] public section

set_option maxRecDepth 65536

noncomputable section

namespace Cert.Proof.Kernel13Ideal

open Cert.Kernel13Ideal Cert.Kernel13Ideal.Gen
open Idealize.ShloMosaic Idealize.ShloMosaic.TcCoe

variable {F : FTy → Type} [FloatOps F]

theorem hz : (![0, 0] : Fin 2 → Nat) = fun _ => 0 := funext fun a => by fin_cases a <;> rfl

/-- The two groups of a row, as loads read them, and a block stored group by group. -/
abbrev half0 (X : Vec F S1x1024 .f32) : Vec F S1x512 .f32 := View.ld X (Rect.unit (s := S1x1024) ![0, 0] S1x512.size (by decide))
abbrev half1 (X : Vec F S1x1024 .f32) : Vec F S1x512 .f32 := View.ld X (Rect.unit (s := S1x1024) ![0, 512] S1x512.size (by decide))
abbrev pair {e : EltTy} (L H : Vec F S256x512 e) : Vec F S256x1024 e :=
  View.canon [⟨Rect.unit (s := S256x1024) ![0, 512] S256x512.size (by decide), H⟩, ⟨Rect.unit (s := S256x1024) ![0, 0] S256x512.size (by decide), L⟩]

abbrev rpair (L H : Vec F S1x512 .f32) : Vec F S1x1024 .f32 :=
  View.canon [⟨Rect.unit (s := S1x1024) ![0, 512] S1x512.size (by decide), H⟩, ⟨Rect.unit (s := S1x1024) ![0, 0] S1x512.size (by decide), L⟩]

/-- A column as a group's. -/
theorem gcases {p : Fin 1024 → Prop} (hl : ∀ j : Fin 512, p (lo j)) (hh : ∀ j : Fin 512, p (hi j)) (d : Fin 1024) : p d := by
  by_cases h : d.val < 512
  · exact hl ⟨d.val, h⟩
  · have e : hi ⟨d.val - 512, by omega⟩ = d := Fin.ext (by show 512 + (d.val - 512) = d.val; omega)
    rw [← e]
    exact hh _

section Row

/-- The two groups' places in a row. -/
abbrev rl : Rect S1x1024 := Rect.unit (s := S1x1024) ![0, 0] S1x512.size (by decide)
abbrev rh : Rect S1x1024 := Rect.unit (s := S1x1024) ![0, 512] S1x512.size (by decide)

variable (L H : Vec F S1x512 .f32) (Ps : List (View.Piece (Elt F) S1x1024 .f32))

/-- A row stored group by group, read in the second group and in the first. -/
theorem row_hi (j : Fin 512) : View.canon ((⟨rh, H⟩ : View.Piece (Elt F) S1x1024 .f32) :: Ps) (ix2 0 (hi j)) = H (ix2 0 j) := by
  have h : (ix2 0 (hi j) : S1x1024.Idx) = rh.emb (ix2 0 j) := by
    funext a; apply Fin.ext
    match a with
    | ⟨0, _⟩ => rfl
    | ⟨1, _⟩ => show 512 + j.val = 512 + 1 * j.val; omega
  rw [h, View.canon_cons_emb]

theorem row_lo (j : Fin 512) :
    View.canon ((⟨rh, H⟩ : View.Piece (Elt F) S1x1024 .f32) :: (⟨rl, L⟩ : View.Piece (Elt F) S1x1024 .f32) :: Ps) (ix2 0 (lo j)) = L (ix2 0 j) := by
  have hn : (ix2 0 (lo j) : S1x1024.Idx) ∉ rh.set := by
    rw [Rect.mem_set_unit]
    intro hm
    have h' : 512 ≤ j.val := (hm 1).1
    have hj := j.isLt
    exact absurd h' (Nat.not_le.mpr hj)
  have h : (ix2 0 (lo j) : S1x1024.Idx) = rl.emb (ix2 0 j) := by
    funext a; apply Fin.ext
    match a with
    | ⟨0, _⟩ => rfl
    | ⟨1, _⟩ => show j.val = 0 + 1 * j.val; omega
  refine (View.canon_cons_of_not_mem (Val := Elt F) ⟨rh, H⟩ (⟨rl, L⟩ :: Ps) hn).trans ?_
  rw [h, View.canon_cons_emb]

/-- What was stored in it before is gone. -/
theorem row_over : View.canon ((⟨rh, H⟩ : View.Piece (Elt F) S1x1024 .f32) :: (⟨rl, L⟩ : View.Piece (Elt F) S1x1024 .f32) :: Ps) = rpair L H := by
  funext y
  obtain ⟨a, d, rfl⟩ : ∃ (a : Fin 1) (d : Fin 1024), y = ix2 a d := ⟨y 0, y 1, by funext i; fin_cases i <;> rfl⟩
  obtain rfl : a = 0 := Subsingleton.elim _ _
  revert d
  refine gcases (fun j => ?_) (fun j => ?_)
  · exact (row_lo L H Ps j).trans (row_lo L H [] j).symm
  · exact (row_hi H _ j).trans (row_hi H _ j).symm

variable {sig : RefSig} {κ : Kind} {sp : Space} (v : View sig κ sp S1x1024 .f32) (Z : Vec F S1x1024 .f32)

/-- The groups of a row just stored whole, the second after the first was stored again. -/
theorem row_first {inb} : v.readCov (Val := Elt F) [⟨Rect.unit (s := S1x1024) ![0, 0] S1x1024.size inb, Z⟩] rl.toLoadRect = half0 Z := by
  rw [View.readCov_eq_canon']
  rw [View.canon_cons_unit_zero hz]
  rfl

theorem row_second {inb} : v.readCov (Val := Elt F) [⟨rl, L⟩, ⟨Rect.unit (s := S1x1024) ![0, 0] S1x1024.size inb, Z⟩] rh.toLoadRect = half1 Z := by
  rw [View.readCov_skip _ _ _ _ _ (by decide)]
  rw [View.readCov_eq_canon']
  rw [View.canon_cons_unit_zero hz]
  rfl

end Row

/-- The half the logistic function is computed with. -/
abbrev hfc : F .f32 := Scalar.ofBits .f32 0x3F000000#32

variable (x0 : Vec F S256x1024 .bf16) (x1 : Vec F S2048x1024 .bf16) (x4 x5 x6 : Vec F S256x1024 .f32) (x8 x9 : Vec F S1x1024 .f32)

/-- The block of the gradient of the scan's output. -/
def scanBlk : Vec F S256x1024 .f32 := pair
  (k0_pay94 (k0_pay83 x6 (k0_pay81 x6) hfc) (k0_pay88 x6 (k0_pay81 x6) hfc x5 x4 x9) (k0_pay91 (k0_pay6 x0 x1) (half0 x8))
    (k0_pay92 (k0_pay6 x0 x1) x6 (k0_pay81 x6) hfc x5 x4 x9 (half0 x8)))
  (k0_pay105 (k0_pay83 x6 (k0_pay81 x6) hfc) (k0_pay86 (k0_pay6 x0 x1)) (k0_pay98 (k0_pay85 x6 (k0_pay81 x6) hfc x5 x4 x9))
    (k0_pay99 (k0_pay85 x6 (k0_pay81 x6) hfc x5 x4 x9)) k0_pay100 (half1 x8))

/-- The block of the skip term's part of the gradient of the scan's input. -/
def skipBlk : Vec F S256x1024 .f32 := pair
  (k0_pay96 (k0_pay83 x6 (k0_pay81 x6) hfc) (k0_pay88 x6 (k0_pay81 x6) hfc x5 x4 x9) (k0_pay91 (k0_pay6 x0 x1) (half0 x8))
    (k0_pay92 (k0_pay6 x0 x1) x6 (k0_pay81 x6) hfc x5 x4 x9 (half0 x8)) (half0 x9))
  (k0_pay1 (k0_pay105 (k0_pay83 x6 (k0_pay81 x6) hfc) (k0_pay86 (k0_pay6 x0 x1)) (k0_pay98 (k0_pay85 x6 (k0_pay81 x6) hfc x5 x4 x9))
    (k0_pay99 (k0_pay85 x6 (k0_pay81 x6) hfc x5 x4 x9)) k0_pay100 (half1 x8)) (half1 x9))

/-- The block of the gradient of the gate. -/
def gateBlk : Vec F S256x1024 .bf16 := pair
  (k0_pay95 x6 (k0_pay82 (k0_pay81 x6) hfc) (k0_pay84 x5 x4 x9) (k0_pay88 x6 (k0_pay81 x6) hfc x5 x4 x9) (k0_pay91 (k0_pay6 x0 x1) (half0 x8))
    (k0_pay92 (k0_pay6 x0 x1) x6 (k0_pay81 x6) hfc x5 x4 x9 (half0 x8)))
  (k0_pay106 x6 (k0_pay82 (k0_pay81 x6) hfc) (k0_pay84 x5 x4 x9) (k0_pay86 (k0_pay6 x0 x1)) (k0_pay98 (k0_pay85 x6 (k0_pay81 x6) hfc x5 x4 x9))
    (k0_pay99 (k0_pay85 x6 (k0_pay81 x6) hfc x5 x4 x9)) k0_pay100 (half1 x8))

/-- The gradient of the norm's weight over the rows so far, of what it was before. -/
def wtAcc (A : Vec F S1x1024 .f32) : Vec F S1x1024 .f32 := rpair
  (k0_pay90 (k0_pay6 x0 x1) x6 (k0_pay81 x6) hfc x5 x4 x9 (half0 A))
  (k0_pay103 (k0_pay86 (k0_pay6 x0 x1)) (k0_pay98 (k0_pay85 x6 (k0_pay81 x6) hfc x5 x4 x9)) (k0_pay99 (k0_pay85 x6 (k0_pay81 x6) hfc x5 x4 x9))
    k0_pay100 (half1 A))

/-- The gradient of the skip term's weight over the rows so far, of what it was before. -/
def dAcc (A : Vec F S1x1024 .f32) : Vec F S1x1024 .f32 := rpair
  (k0_pay97 (k0_pay83 x6 (k0_pay81 x6) hfc) x5 (k0_pay88 x6 (k0_pay81 x6) hfc x5 x4 x9) (k0_pay91 (k0_pay6 x0 x1) (half0 x8))
    (k0_pay92 (k0_pay6 x0 x1) x6 (k0_pay81 x6) hfc x5 x4 x9 (half0 x8)) (half0 A))
  (k0_pay2 x5 (k0_pay105 (k0_pay83 x6 (k0_pay81 x6) hfc) (k0_pay86 (k0_pay6 x0 x1)) (k0_pay98 (k0_pay85 x6 (k0_pay81 x6) hfc x5 x4 x9))
    (k0_pay99 (k0_pay85 x6 (k0_pay81 x6) hfc x5 x4 x9)) k0_pay100 (half1 x8)) (half1 A))

variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x128 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S256x2048 .f32) (harg20 : arg20.IsWhole)
  (x2 x3 : Vec F S256x1024 .f32) (x7 : Vec F S1x128 .f32)

/-- The block of the gradient of the scan's output at the first point. -/
theorem out0_A_12_eq (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = scanBlk x0 x1 x4 x5 x6 x8 x9 := by
  unfold out0_A_12 scanBlk
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9)]
  unfold kernelRun0_A
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

/-- The block of the skip term's part at the first point. -/
theorem out0_A_13_eq (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = skipBlk x0 x1 x4 x5 x6 x8 x9 := by
  unfold out0_A_13 skipBlk
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9)]
  unfold kernelRun0_A
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

/-- The block of the gradient of the gate at the first point. -/
theorem out0_A_14_eq (hc0 : cond0_0 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = gateBlk x0 x1 x4 x5 x6 x8 x9 := by
  unfold out0_A_14 gateBlk
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9)]
  unfold kernelRun0_A
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

/-- The block of the norm's weight's gradient so far at the first point. -/
theorem out0_A_16_eq (hc0 : cond0_0 i) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = wtAcc x0 x1 x4 x5 x6 x9 k0_pay4 := by
  unfold out0_A_16 wtAcc
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9)]
  unfold kernelRun0_A
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]
  exact (row_over _ _ _).trans (congrArg₂ rpair (congrArg (k0_pay90 _ _ _ _ _ _ _) (row_first _ _)) (congrArg (k0_pay103 _ _ _ _) (row_second _ _ _)))

/-- The block of the skip term's weight's gradient so far at the first point. -/
theorem out0_A_17_eq (hc0 : cond0_0 i) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = dAcc x0 x1 x4 x5 x6 x8 x9 k0_pay5 := by
  unfold out0_A_17 dAcc
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9)]
  unfold kernelRun0_A
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]
  exact (row_over _ _ _).trans (congrArg₂ rpair (congrArg (k0_pay97 _ _ _ _ _) (row_first _ _)) (congrArg (k0_pay2 _ _) (row_second _ _ _)))

/-- The block of the gradient of the scan's output. -/
theorem out0_B_12_eq (hc0 : ¬cond0_0 i) (xo15 : Vec F S1x128 .f32) (xo16 xo17 : Vec F S1x1024 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17 = scanBlk x0 x1 x4 x5 x6 x8 x9 := by
  unfold out0_B_12 scanBlk
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17)]
  unfold kernelRun0_B
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

/-- The block of the skip term's part. -/
theorem out0_B_13_eq (hc0 : ¬cond0_0 i) (xo15 : Vec F S1x128 .f32) (xo16 xo17 : Vec F S1x1024 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17 = skipBlk x0 x1 x4 x5 x6 x8 x9 := by
  unfold out0_B_13 skipBlk
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17)]
  unfold kernelRun0_B
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

/-- The block of the gradient of the gate. -/
theorem out0_B_14_eq (hc0 : ¬cond0_0 i) (xo15 : Vec F S1x128 .f32) (xo16 xo17 : Vec F S1x1024 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17 = gateBlk x0 x1 x4 x5 x6 x8 x9 := by
  unfold out0_B_14 gateBlk
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17)]
  unfold kernelRun0_B
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

/-- The block of the norm's weight's gradient so far. -/
theorem out0_B_16_eq (hc0 : ¬cond0_0 i) (xo15 : Vec F S1x128 .f32) (xo16 xo17 : Vec F S1x1024 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17 = wtAcc x0 x1 x4 x5 x6 x9 xo16 := by
  unfold out0_B_16 wtAcc
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17)]
  unfold kernelRun0_B
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

/-- The block of the skip term's weight's gradient so far. -/
theorem out0_B_17_eq (hc0 : ¬cond0_0 i) (xo15 : Vec F S1x128 .f32) (xo16 xo17 : Vec F S1x1024 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17 = dAcc x0 x1 x4 x5 x6 x8 x9 xo17 := by
  unfold out0_B_17 dAcc
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo15 xo16 xo17)]
  unfold kernelRun0_B
  dsimp only
  sl_unfold_words
  simp only [View.readCov_unit_zero (S := S256x2048) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz, View.ld_unit_zero (S := S2048x1024) hz, View.ld_unit_zero (S := S1x1024) hz]

end Cert.Proof.Kernel13Ideal

end
-- ==== Proof.GateRef.lean ====
/-
  The gate norm's backward call's reference read entry by entry over the reals: with every argument it reads finite, its
  results are the gradients of `GateReal`.
-/
module

public import proofs.«01_k».proof.Proof.GateReal
public import proofs.«01_k».proof.Proof.Gen.Reference13Ideal.Read
public import Idealize.ShloMosaic.Lib.Pointwise

@[expose] public section

set_option maxRecDepth 16384

noncomputable section

namespace Cert.Proof.Reference13Ideal

open Cert.Reference13Ideal Cert.Reference13Ideal.Read
open Cert.Proof.Ssd Cert.Proof.Mid Cert.Proof.Gate
open Idealize.ShloMosaic

variable {X : FVec Ideal S8192x1024 .f32} {Y : FVec Ideal S2048x1024 .f32} {Yd Xs : FVec Ideal S8192x1024 .f32} {Pj : FVec Ideal S8192x7168 .f32}
  {W D : FVec Ideal S1x1024 .f32}
variable (h0 : Finite X) (h1 : Finite Y) (h3 : Finite Yd) (h4 : Finite Xs) (h5 : Finite Pj) (h7 : Finite W) (h8 : Finite D)

/-- Column `j` of group `g`. -/
abbrev gcol (g : Fin 2) (j : Fin 512) : Fin 1024 := ⟨g.val * 512 + j.val, by omega⟩

include h0 h1 in
theorem dmixin_apply (t : Fin 8192) (d : Fin 1024) : val_main_v2 (F := Ideal) X Y (ix2 t d) = ((dmixin X Y t d : ℝ) : EReal) := by
  pointwise [val_main_v2, val_main_v1, val_main_v0]
  simp only [at2_eq h0, at2_eq h1, ← EReal.coe_mul, coe_sum]
  rfl

include h0 h1 in
theorem dgroup_apply (t : Fin 8192) (g : Fin 2) (j : Fin 512) :
    val_main_v3 (F := Ideal) X Y (ix3 t g j) = ((dmixin X Y t (g * 512 + j) : ℝ) : EReal) := by
  rw [← dmixin_apply h0 h1 t (gcol g j)]
  unfold val_main_v3
  pointwise

include h5 in
theorem gate_apply (t : Fin 8192) (d : Fin 1024) : val_main_v4 (F := Ideal) Pj (ix2 t d) = ((at2 Pj t (4096 + d) : ℝ) : EReal) := by
  pointwise [val_main_v4]
  exact at2_eq h5 t ⟨4096 + d.val, by omega⟩

include h5 in
theorem sigm_apply (t : Fin 8192) (d : Fin 1024) : val_main_v8_2 (F := Ideal) Pj (ix2 t d) = ((sigm (at2 Pj t (4096 + d)) : ℝ) : EReal) := by
  unfold val_main_v8_2 val_main_call0_v4 val_main_call0_v3 val_main_call0_v2 val_main_call0_v1 val_main_call0_v0 val_main_call0_cst
    val_main_call0_cst_0
  pointwise
  rw [gate_apply h5, host_sigm]

include h5 in
theorem silu_apply (t : Fin 8192) (d : Fin 1024) : val_main_v8_0 (F := Ideal) Pj (ix2 t d) = ((silu (at2 Pj t (4096 + d)) : ℝ) : EReal) := by
  unfold val_main_v8_0
  pointwise
  rw [gate_apply h5, sigm_apply h5, ← EReal.coe_mul]
  rfl

include h5 in
theorem slope_apply (t : Fin 8192) (d : Fin 1024) : val_main_v8_1 (F := Ideal) Pj (ix2 t d)
    = ((sigm (at2 Pj t (4096 + d)) * (1 - sigm (at2 Pj t (4096 + d))) : ℝ) : EReal) := by
  unfold val_main_v8_1 val_main_call0_v7 val_main_call0_v6 val_main_call0_cst_1
  pointwise
  rw [sigm_apply h5, ← EReal.coe_one, ← EReal.coe_sub, ← EReal.coe_mul]

include h3 h4 h8 in
theorem skip_apply (t : Fin 8192) (d : Fin 1024) : val_main_v7 (F := Ideal) Yd Xs D (ix2 t d) = ((skip Yd Xs D t d : ℝ) : EReal) := by
  pointwise [val_main_v7, val_main_v6, val_main_v5]
  rw [at2_eq h3, at2_eq h4, at2_eq h8, ← EReal.coe_mul, ← EReal.coe_add]
  rfl

include h3 h4 h5 h8 in
theorem gated_apply (t : Fin 8192) (g : Fin 2) (j : Fin 512) :
    val_main_v10 (F := Ideal) Yd Xs Pj D (ix3 t g j) = ((gated Yd Xs Pj D t (g * 512 + j) : ℝ) : EReal) := by
  have h : val_main_v9 (F := Ideal) Yd Xs Pj D (ix2 t (gcol g j)) = ((gated Yd Xs Pj D t (g * 512 + j) : ℝ) : EReal) := by
    unfold val_main_v9
    pointwise
    exact (congrArg₂ (· * ·) (skip_apply h3 h4 h8 t (gcol g j)) (silu_apply h5 t (gcol g j))).trans (EReal.coe_mul _ _).symm
  rw [← h]
  unfold val_main_v10
  pointwise

include h7 in
theorem weight_apply (t : Fin 8192) (g : Fin 2) (j : Fin 512) :
    val_main_v31 (F := Ideal) W (ix3 t g j) = ((at2 W 0 (g * 512 + j) : ℝ) : EReal) := by
  refine Eq.trans ?_ (at2_eq h7 0 (gcol g j))
  pointwise [val_main_v31, val_main_v25, val_main_v11]

include h0 h1 h7 in
theorem dnorm_apply (t : Fin 8192) (g : Fin 2) (j : Fin 512) : val_main_v32 (F := Ideal) X Y W (ix3 t g j)
    = ((dmixin X Y t (g * 512 + j) * at2 W 0 (g * 512 + j) : ℝ) : EReal) := by
  unfold val_main_v32
  pointwise
  rw [dgroup_apply h0 h1, weight_apply h7, ← EReal.coe_mul]

include h3 h4 h5 h8 in
theorem msq_apply (t : Fin 8192) (g : Fin 2) : val_main_v18 (F := Ideal) Yd Xs Pj D (ix3 t g 0)
    = ((gmsq (fun j => gated Yd Xs Pj D t (g * 512 + j)) : ℝ) : EReal) := by
  pointwise [val_main_v18, val_main_v17, val_main_v16, val_main_v15, val_main_v14, val_main_v13, val_main_v12, val_main_cst, val_main_cst_0,
    val_main_cst_1]
  simp only [gated_apply h3 h4 h5 h8, eps_eq, gcount_eq, ← EReal.coe_mul, coe_sum]
  rw [Ideal.div_coe (by norm_num), ← EReal.coe_mul, ← EReal.coe_add]
  rfl

include h3 h4 h5 h8 in
theorem rr_apply (t : Fin 8192) (g : Fin 2) : val_main_v19 (F := Ideal) Yd Xs Pj D (ix3 t g 0)
    = ((grr (fun j => gated Yd Xs Pj D t (g * 512 + j)) : ℝ) : EReal) := by
  unfold val_main_v19
  pointwise
  rw [msq_apply h3 h4 h5 h8, rsqrt_gmsq]

include h3 h4 h5 h8 in
theorem back_apply (t : Fin 8192) (g : Fin 2) : val_main_v22 (F := Ideal) Yd Xs Pj D (ix3 t g 0)
    = ((-(1 / 2) * (grr (fun j => gated Yd Xs Pj D t (g * 512 + j)) * (1 / gmsq (fun j => gated Yd Xs Pj D t (g * 512 + j)))) : ℝ) : EReal) := by
  unfold val_main_v22 val_main_v21 val_main_v20 val_main_cst_2
  pointwise
  rw [msq_apply h3 h4 h5 h8, rr_apply h3 h4 h5 h8, half_eq, Ideal.div_coe (gmsq_pos _).ne', ← EReal.coe_mul, ← EReal.coe_mul]

include h0 h1 h3 h4 h5 h7 h8

theorem coef_apply (t : Fin 8192) (g : Fin 2) (j : Fin 512) : val_main_v43 (F := Ideal) X Y Yd Xs Pj W D (ix3 t g j)
    = ((gcoef (fun j => gated Yd Xs Pj D t (g * 512 + j)) (fun j => dmixin X Y t (g * 512 + j) * at2 W 0 (g * 512 + j)) : ℝ) : EReal) := by
  pointwise [val_main_v43, val_main_v42, val_main_v41, val_main_v40, val_main_v39, val_main_v36, val_main_v35, val_main_v34, val_main_cst_5,
    val_main_cst_6, val_main_cst_7]
  simp only [Fin.sum_univ_one, gated_apply h3 h4 h5 h8, dnorm_apply h0 h1 h7, back_apply h3 h4 h5 h8, gcount_eq, ← EReal.coe_mul, coe_sum]
  rw [Ideal.div_coe (by norm_num), ← EReal.coe_mul]
  rfl

theorem dgated_apply (t : Fin 8192) (g : Fin 2) (j : Fin 512) : val_main_v47 (F := Ideal) X Y Yd Xs Pj W D (ix3 t g j)
    = ((dgated X Y Yd Xs Pj W D t g j : ℝ) : EReal) := by
  unfold val_main_v47 val_main_v46 val_main_v45 val_main_v44 val_main_v38 val_main_v37
  pointwise
  rw [coef_apply h0 h1 h3 h4 h5 h7 h8, dnorm_apply h0 h1 h7, rr_apply h3 h4 h5 h8, gated_apply h3 h4 h5 h8]
  simp only [← EReal.coe_mul, ← EReal.coe_add]
  unfold dgated
  rw [← gback_eq]

theorem dflat_apply (t : Fin 8192) (g : Fin 2) (j : Fin 512) : val_main_v49 (F := Ideal) X Y Yd Xs Pj W D (ix2 t (gcol g j))
    = ((dgated X Y Yd Xs Pj W D t g j : ℝ) : EReal) := by
  rw [← dgated_apply h0 h1 h3 h4 h5 h7 h8]
  unfold val_main_v49
  pointwise
  congr 2 <;> apply Fin.ext <;> simp only <;> omega

/-- The first result. -/
theorem dscan_apply (t : Fin 8192) (g : Fin 2) (j : Fin 512) : val_main_v51 (F := Ideal) X Y Yd Xs Pj W D (ix2 t (gcol g j))
    = ((dscan X Y Yd Xs Pj W D t g j : ℝ) : EReal) := by
  unfold val_main_v51
  pointwise
  rw [dflat_apply h0 h1 h3 h4 h5 h7 h8, silu_apply h5, ← EReal.coe_mul]
  rfl

/-- The second result. -/
theorem dskip_apply (t : Fin 8192) (g : Fin 2) (j : Fin 512) : val_main_v54 (F := Ideal) X Y Yd Xs Pj W D (ix2 t (gcol g j))
    = ((dskip X Y Yd Xs Pj W D t g j : ℝ) : EReal) := by
  unfold val_main_v54 val_main_v53
  pointwise
  rw [dscan_apply h0 h1 h3 h4 h5 h7 h8, at2_eq h8, ← EReal.coe_mul, mul_comm]
  rfl

/-- The third result. -/
theorem dgateIn_apply (t : Fin 8192) (g : Fin 2) (j : Fin 512) : val_main_v58 (F := Ideal) X Y Yd Xs Pj W D (ix2 t (gcol g j))
    = ((dgateIn X Y Yd Xs Pj W D t g j : ℝ) : EReal) := by
  unfold val_main_v58 val_main_v52 val_main_call1_v2 val_main_call1_v1 val_main_call1_v0 val_main_v50
  pointwise
  rw [dflat_apply h0 h1 h3 h4 h5 h7 h8, skip_apply h3 h4 h8, gate_apply h5, sigm_apply h5, slope_apply h5]
  simp only [← EReal.coe_mul, ← EReal.coe_add]
  unfold dgateIn dgate
  congr 1
  ring

/-- The fifth result. -/
theorem ddIn_apply (g : Fin 2) (j : Fin 512) : val_main_v57 (F := Ideal) X Y Yd Xs Pj W D (ix2 0 (gcol g j))
    = ((ddIn X Y Yd Xs Pj W D 8192 g j : ℝ) : EReal) := by
  have h (t : Fin 8192) : val_main_v55 (F := Ideal) X Y Yd Xs Pj W D (ix2 t (gcol g j))
      = ((dscan X Y Yd Xs Pj W D t g j * at2 Xs t (g * 512 + j) : ℝ) : EReal) := by
    unfold val_main_v55
    pointwise
    rw [dscan_apply h0 h1 h3 h4 h5 h7 h8, at2_eq h4, ← EReal.coe_mul]
  unfold val_main_v57 val_main_v56 val_main_cst_8
  pointwise
  simp only [h, coe_sum]
  unfold ddIn
  rw [Finset.sum_range]

omit h7

/-- The fourth result. -/
theorem dwtIn_apply (g : Fin 2) (j : Fin 512) : val_main_v48 (F := Ideal) X Y Yd Xs Pj D (ix2 0 (gcol g j))
    = ((dwtIn X Y Yd Xs Pj D 8192 g j : ℝ) : EReal) := by
  have h (t : Fin 8192) : val_main_v28 (F := Ideal) X Y Yd Xs Pj D (ix3 t g j)
      = ((dmixin X Y t (g * 512 + j) * gnrm (fun j => gated Yd Xs Pj D t (g * 512 + j)) j : ℝ) : EReal) := by
    unfold val_main_v28 val_main_v24 val_main_v23
    pointwise
    rw [dgroup_apply h0 h1, rr_apply h3 h4 h5 h8, gated_apply h3 h4 h5 h8, ← EReal.coe_mul, ← EReal.coe_mul, mul_comm]
    rfl
  have h29 : val_main_v29 (F := Ideal) X Y Yd Xs Pj D (ix2 g j) = ((dwtIn X Y Yd Xs Pj D 8192 g j : ℝ) : EReal) := by
    unfold val_main_v29 val_main_cst_3
    pointwise
    simp only [h, coe_sum]
    unfold dwtIn
    rw [Finset.sum_range]
  have h33 : val_main_v33 (F := Ideal) X Y Yd Xs Pj D (ix2 g j) = ((dwtIn X Y Yd Xs Pj D 8192 g j : ℝ) : EReal) := by
    rw [← h29]
    unfold val_main_v33 val_main_v30 val_main_cst_4
    pointwise
    simp only [Fin.sum_univ_one]
  rw [← h33]
  unfold val_main_v48
  pointwise
  congr 2 <;> apply Fin.ext <;> simp only <;> omega

end Cert.Proof.Reference13Ideal

end
-- ==== Proof.GateArray.lean ====
/-
  The gate norm's backward call: the gradient of the scan's output, the skip term's part of the gradient of the scan's
  input, the gradient of the gate and the gradients of the norm's and the skip term's weights whole — of finite arguments,
  the reference's.
-/
module

public import proofs.«01_k».proof.Proof.GateCases
public import proofs.«01_k».proof.Proof.GateRef
public import proofs.«01_k».proof.Proof.Prod
public import proofs.«01_k».proof.Proof.Gen.Kernel13Ideal.Value
public import Idealize.ShloMosaic.Lib.StableHlo.Run
public import Idealize.ShloMosaic.Lib.Pipeline.Value
public import Idealize.ShloMosaic.Lib.Tactic

@[expose] public section

set_option maxRecDepth 65536

noncomputable section

namespace Cert.Proof.Kernel13Ideal

open Cert.Kernel13Ideal Cert.Kernel13Ideal.Gen Cert.Kernel13Ideal.Value
open Cert.Proof.Prod Cert.Proof.Mid Cert.Proof.Gate Cert.Proof.Ssd
open Idealize.ShloMosaic Idealize.ShloMosaic.TcCoe Idealize.ShloMosaic.Tactic

section Pair

variable {F : FTy → Type} [FloatOps F]

/-- A group's row as loaded. -/
theorem half0_apply (X : Vec F S1x1024 .f32) (j : Fin 512) : half0 X (ix2 0 j) = X (ix2 0 (lo j)) := by
  show X _ = X _
  congr 1
  funext a; apply Fin.ext
  match a with
  | ⟨0, _⟩ => rfl
  | ⟨1, _⟩ => show 0 + 1 * j.val = j.val; omega

theorem half1_apply (X : Vec F S1x1024 .f32) (j : Fin 512) : half1 X (ix2 0 j) = X (ix2 0 (hi j)) := by
  show X _ = X _
  congr 1
  funext a; apply Fin.ext
  match a with
  | ⟨0, _⟩ => rfl
  | ⟨1, _⟩ => show 512 + 1 * j.val = 512 + j.val; omega

/-- A block stored group by group, read in the second group and in the first. -/
theorem pair_hi {e : EltTy} (L H : Vec F S256x512 e) (r : Fin 256) (j : Fin 512) : pair L H (ix2 r (hi j)) = H (ix2 r j) := by
  have h : (ix2 r (hi j) : S256x1024.Idx) = (Rect.unit (s := S256x1024) ![0, 512] S256x512.size (by decide)).emb (ix2 r j) := by
    funext a; apply Fin.ext
    match a with
    | ⟨0, _⟩ => show r.val = 0 + 1 * r.val; omega
    | ⟨1, _⟩ => show 512 + j.val = 512 + 1 * j.val; omega
  unfold pair
  rw [h, View.canon_cons_emb]

theorem not_lo (r : Fin 256) (j : Fin 512) : (ix2 r (lo j) : S256x1024.Idx) ∉ (Rect.unit (s := S256x1024) ![0, 512] S256x512.size (by decide)).set := by
  rw [Rect.mem_set_unit]
  intro hm
  have h' : 512 ≤ j.val := (hm 1).1
  have hj := j.isLt
  exact absurd h' (Nat.not_le.mpr hj)

theorem emb_lo (r : Fin 256) (j : Fin 512) : (ix2 r (lo j) : S256x1024.Idx) = (Rect.unit (s := S256x1024) ![0, 0] S256x512.size (by decide)).emb (ix2 r j) := by
  funext a; apply Fin.ext
  match a with
  | ⟨0, _⟩ => show r.val = 0 + 1 * r.val; omega
  | ⟨1, _⟩ => show j.val = 0 + 1 * j.val; omega

theorem pair_lo {e : EltTy} (L H : Vec F S256x512 e) (r : Fin 256) (j : Fin 512) : pair L H (ix2 r (lo j)) = L (ix2 r j) := by
  have hc := View.canon_cons_of_not_mem (Val := Elt F)
    ⟨Rect.unit (s := S256x1024) ![0, 512] S256x512.size (by decide), H⟩ [⟨Rect.unit (s := S256x1024) ![0, 0] S256x512.size (by decide), L⟩] (not_lo r j)
  refine hc.trans ?_
  rw [emb_lo r j, View.canon_cons_emb]

end Pair

section Blocks

abbrev iAt (t : Fin cfg0.N) (r : Fin 256) : Fin 8192 := ⟨256 * t.val + r.val, by have : t.val < 32 := t.isLt; omega⟩
abbrev zAt (d : Fin 1024) : Fin 7168 := ⟨4096 + d.val, by omega⟩

theorem idx0 : ∀ t : Fin cfg0.N, win0_0.index t = ![t.val, 0] := by decide +kernel
theorem idx1 : ∀ t : Fin cfg0.N, win0_1.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 4] := by decide +kernel
theorem idx8 : ∀ t : Fin cfg0.N, win0_8.index t = ![0, 0] := by decide +kernel
theorem idx9 : ∀ t : Fin cfg0.N, win0_9.index t = ![0, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel
theorem idx16 : ∀ t : Fin cfg0.N, win0_16.index t = ![0, 0] := by decide +kernel
theorem idx17 : ∀ t : Fin cfg0.N, win0_17.index t = ![0, 0] := by decide +kernel

section Reads

variable {F : FTy → Type} [FloatOps F] (m : (ℓ : Loc nD τ sig) → Buf (Elt F) ℓ) (c : Dev nD) (t : Fin cfg0.N)

theorem read0 (r : Fin 256) (k : Fin 1024) : iblk m c 0 t (ix2 r k) = V m c main_v0 (ix2 (iAt t r) k) := by
  blk_ext [Gen.iblk, idx0 t]
theorem read1 (k : Fin 2048) (d : Fin 1024) : iblk m c 1 t (ix2 k d) = V m c main_v1 (ix2 k d) := by
  blk_ext [Gen.iblk, idx1 t]
theorem read4 (r : Fin 256) (d : Fin 1024) : iblk m c 4 t (ix2 r d) = V m c main_arg3 (ix2 (iAt t r) d) := by
  blk_ext [Gen.iblk, idx4 t]
theorem read5 (r : Fin 256) (d : Fin 1024) : iblk m c 5 t (ix2 r d) = V m c main_arg4 (ix2 (iAt t r) d) := by
  blk_ext [Gen.iblk, idx5 t]
theorem read6 (r : Fin 256) (d : Fin 1024) : iblk m c 6 t (ix2 r d) = V m c main_arg5 (ix2 (iAt t r) (zAt d)) := by
  blk_ext [Gen.iblk, idx6 t]
theorem read8 (d : Fin 1024) : iblk m c 8 t (ix2 0 d) = V m c main_arg7 (ix2 0 d) := by
  blk_ext [Gen.iblk, idx8 t]
theorem read9 (d : Fin 1024) : iblk m c 9 t (ix2 0 d) = V m c main_arg8 (ix2 0 d) := by
  blk_ext [Gen.iblk, idx9 t]

theorem out12 : (outsAt0 m c t.val t.isLt).2.2.1
    = scanBlk (iblk m c 0 t) (iblk m c 1 t) (iblk m c 4 t) (iblk m c 5 t) (iblk m c 6 t) (iblk m c 8 t) (iblk m c 9 t) := by
  by_cases h0 : t.val % 32 = 0
  · rw [outsAt0_A m c t h0]
    dsimp only
    rw [out0_A_12_eq]
  · rw [outsAt0_B m c t h0]
    dsimp only
    rw [out0_B_12_eq]

theorem out13 : (outsAt0 m c t.val t.isLt).2.2.2.1
    = skipBlk (iblk m c 0 t) (iblk m c 1 t) (iblk m c 4 t) (iblk m c 5 t) (iblk m c 6 t) (iblk m c 8 t) (iblk m c 9 t) := by
  by_cases h0 : t.val % 32 = 0
  · rw [outsAt0_A m c t h0]
    dsimp only
    rw [out0_A_13_eq]
  · rw [outsAt0_B m c t h0]
    dsimp only
    rw [out0_B_13_eq]

theorem out14 : (outsAt0 m c t.val t.isLt).2.2.2.2.1
    = gateBlk (iblk m c 0 t) (iblk m c 1 t) (iblk m c 4 t) (iblk m c 5 t) (iblk m c 6 t) (iblk m c 8 t) (iblk m c 9 t) := by
  by_cases h0 : t.val % 32 = 0
  · rw [outsAt0_A m c t h0]
    dsimp only
    rw [out0_A_14_eq]
  · rw [outsAt0_B m c t h0]
    dsimp only
    rw [out0_B_14_eq]

theorem first16 (h0 : t.val % 32 = 0) : (outsAt0 m c t.val t.isLt).2.2.2.2.2.2.1
    = wtAcc (iblk m c 0 t) (iblk m c 1 t) (iblk m c 4 t) (iblk m c 5 t) (iblk m c 6 t) (iblk m c 9 t) k0_pay4 := by
  rw [outsAt0_A m c t h0]
  dsimp only
  rw [out0_A_16_eq]

theorem next16 (h0 : ¬t.val % 32 = 0) : (outsAt0 m c t.val t.isLt).2.2.2.2.2.2.1
    = wtAcc (iblk m c 0 t) (iblk m c 1 t) (iblk m c 4 t) (iblk m c 5 t) (iblk m c 6 t) (iblk m c 9 t)
      (outsAt0 m c (t.val - 1) (Nat.lt_of_le_of_lt (Nat.sub_le _ _) t.isLt)).2.2.2.2.2.2.1 := by
  rw [outsAt0_B m c t h0]
  dsimp only
  rw [out0_B_16_eq]

theorem first17 (h0 : t.val % 32 = 0) : (outsAt0 m c t.val t.isLt).2.2.2.2.2.2.2
    = dAcc (iblk m c 0 t) (iblk m c 1 t) (iblk m c 4 t) (iblk m c 5 t) (iblk m c 6 t) (iblk m c 8 t) (iblk m c 9 t) k0_pay5 := by
  rw [outsAt0_A m c t h0]
  dsimp only
  rw [out0_A_17_eq]

theorem next17 (h0 : ¬t.val % 32 = 0) : (outsAt0 m c t.val t.isLt).2.2.2.2.2.2.2
    = dAcc (iblk m c 0 t) (iblk m c 1 t) (iblk m c 4 t) (iblk m c 5 t) (iblk m c 6 t) (iblk m c 8 t) (iblk m c 9 t)
      (outsAt0 m c (t.val - 1) (Nat.lt_of_le_of_lt (Nat.sub_le _ _) t.isLt)).2.2.2.2.2.2.2 := by
  rw [outsAt0_B m c t h0]
  dsimp only
  rw [out0_B_17_eq]

end Reads

theorem mem_blk12 (t : Fin cfg0.N) (i : S8192x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v2_2).slice (win0_12.rect t)).set ↔ _
  rw [View.set_slice_whole, Rect.mem_set_unit]
  exact Iff.rfl

/-- Every index of the result is in some point's block. -/
theorem covered12 (i : S8192x1024.Idx) : ∃ t : Fin cfg0.N, (cfg0.win 12).flush t = true ∧ i ∈ ((cfg0.win 12).blk t).view.set := by
  have h0 : (i 0).val < 8192 := (i 0).isLt
  have h1 : (i 1).val < 1024 := (i 1).isLt
  have hlt : (i 0).val / 256 < cfg0.N := lt_of_lt_of_eq (by omega) Gen.N_0.symm
  refine ⟨⟨_, hlt⟩, flush0_12 _, ?_⟩
  rw [mem_blk12, idx12]
  intro a
  match a with
  | ⟨0, _⟩ =>
    show (i 0).val / 256 * 256 ≤ (i 0).val ∧ (i 0).val < (i 0).val / 256 * 256 + 256
    omega
  | ⟨1, _⟩ =>
    show 0 * 1024 ≤ (i 1).val ∧ (i 1).val < 0 * 1024 + 1024
    omega

/-- Where a block's entry lies in the result. -/
theorem emb12 (t : Fin cfg0.N) (r : Fin 256) (d : Fin 1024) : ((cfg0.win 12).blk t).view.emb (ix2 r d) = ix2 (iAt t r) d := by
  have hb0 : (((cfg0.win 12).blk t).view.emb (ix2 r d) 0).val = win0_12.index t (0 : Fin 2) * 256 + 1 * r.val := rfl
  have hb1 : (((cfg0.win 12).blk t).view.emb (ix2 r d) 1).val = win0_12.index t (1 : Fin 2) * 1024 + 1 * d.val := rfl
  have i0 : win0_12.index t (0 : Fin 2) = t.val := congrFun (idx12 t) 0
  have i1 : win0_12.index t (1 : Fin 2) = 0 := congrFun (idx12 t) 1
  funext a; apply Fin.ext
  match a with
  | ⟨0, _⟩ =>
    show (((cfg0.win 12).blk t).view.emb (ix2 r d) 0).val = 256 * t.val + r.val
    rw [hb0, i0]; omega
  | ⟨1, _⟩ =>
    show (((cfg0.win 12).blk t).view.emb (ix2 r d) 1).val = d.val
    rw [hb1, i1]; omega

theorem mem_blk13 (t : Fin cfg0.N) (i : S8192x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v2_3).slice (win0_13.rect t)).set ↔ _
  rw [View.set_slice_whole, Rect.mem_set_unit]
  exact Iff.rfl

/-- Every index of the result is in some point's block. -/
theorem covered13 (i : S8192x1024.Idx) : ∃ t : Fin cfg0.N, (cfg0.win 13).flush t = true ∧ i ∈ ((cfg0.win 13).blk t).view.set := by
  have h0 : (i 0).val < 8192 := (i 0).isLt
  have h1 : (i 1).val < 1024 := (i 1).isLt
  have hlt : (i 0).val / 256 < cfg0.N := lt_of_lt_of_eq (by omega) Gen.N_0.symm
  refine ⟨⟨_, hlt⟩, flush0_13 _, ?_⟩
  rw [mem_blk13, idx13]
  intro a
  match a with
  | ⟨0, _⟩ =>
    show (i 0).val / 256 * 256 ≤ (i 0).val ∧ (i 0).val < (i 0).val / 256 * 256 + 256
    omega
  | ⟨1, _⟩ =>
    show 0 * 1024 ≤ (i 1).val ∧ (i 1).val < 0 * 1024 + 1024
    omega

/-- Where a block's entry lies in the result. -/
theorem emb13 (t : Fin cfg0.N) (r : Fin 256) (d : Fin 1024) : ((cfg0.win 13).blk t).view.emb (ix2 r d) = ix2 (iAt t r) d := by
  have hb0 : (((cfg0.win 13).blk t).view.emb (ix2 r d) 0).val = win0_13.index t (0 : Fin 2) * 256 + 1 * r.val := rfl
  have hb1 : (((cfg0.win 13).blk t).view.emb (ix2 r d) 1).val = win0_13.index t (1 : Fin 2) * 1024 + 1 * d.val := rfl
  have i0 : win0_13.index t (0 : Fin 2) = t.val := congrFun (idx13 t) 0
  have i1 : win0_13.index t (1 : Fin 2) = 0 := congrFun (idx13 t) 1
  funext a; apply Fin.ext
  match a with
  | ⟨0, _⟩ =>
    show (((cfg0.win 13).blk t).view.emb (ix2 r d) 0).val = 256 * t.val + r.val
    rw [hb0, i0]; omega
  | ⟨1, _⟩ =>
    show (((cfg0.win 13).blk t).view.emb (ix2 r d) 1).val = d.val
    rw [hb1, i1]; omega

theorem mem_blk14 (t : Fin cfg0.N) (i : S8192x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v2_4).slice (win0_14.rect t)).set ↔ _
  rw [View.set_slice_whole, Rect.mem_set_unit]
  exact Iff.rfl

/-- Every index of the result is in some point's block. -/
theorem covered14 (i : S8192x1024.Idx) : ∃ t : Fin cfg0.N, (cfg0.win 14).flush t = true ∧ i ∈ ((cfg0.win 14).blk t).view.set := by
  have h0 : (i 0).val < 8192 := (i 0).isLt
  have h1 : (i 1).val < 1024 := (i 1).isLt
  have hlt : (i 0).val / 256 < cfg0.N := lt_of_lt_of_eq (by omega) Gen.N_0.symm
  refine ⟨⟨_, hlt⟩, flush0_14 _, ?_⟩
  rw [mem_blk14, idx14]
  intro a
  match a with
  | ⟨0, _⟩ =>
    show (i 0).val / 256 * 256 ≤ (i 0).val ∧ (i 0).val < (i 0).val / 256 * 256 + 256
    omega
  | ⟨1, _⟩ =>
    show 0 * 1024 ≤ (i 1).val ∧ (i 1).val < 0 * 1024 + 1024
    omega

/-- Where a block's entry lies in the result. -/
theorem emb14 (t : Fin cfg0.N) (r : Fin 256) (d : Fin 1024) : ((cfg0.win 14).blk t).view.emb (ix2 r d) = ix2 (iAt t r) d := by
  have hb0 : (((cfg0.win 14).blk t).view.emb (ix2 r d) 0).val = win0_14.index t (0 : Fin 2) * 256 + 1 * r.val := rfl
  have hb1 : (((cfg0.win 14).blk t).view.emb (ix2 r d) 1).val = win0_14.index t (1 : Fin 2) * 1024 + 1 * d.val := rfl
  have i0 : win0_14.index t (0 : Fin 2) = t.val := congrFun (idx14 t) 0
  have i1 : win0_14.index t (1 : Fin 2) = 0 := congrFun (idx14 t) 1
  funext a; apply Fin.ext
  match a with
  | ⟨0, _⟩ =>
    show (((cfg0.win 14).blk t).view.emb (ix2 r d) 0).val = 256 * t.val + r.val
    rw [hb0, i0]; omega
  | ⟨1, _⟩ =>
    show (((cfg0.win 14).blk t).view.emb (ix2 r d) 1).val = d.val
    rw [hb1, i1]; omega

theorem mem_blk16 (t : Fin cfg0.N) (i : S1x1024.Idx) :
    i ∈ ((cfg0.win 16).blk t).view.set ↔ ∀ a : Fin 2, win0_16.index t a * S1x1024.size a ≤ (i a).val ∧ (i a).val < win0_16.index t a * S1x1024.size a + S1x1024.size a := by
  show i ∈ ((View.whole main_v2_6).slice (win0_16.rect t)).set ↔ _
  rw [View.set_slice_whole, Rect.mem_set_unit]
  exact Iff.rfl

/-- The last point writes the whole row back. -/
theorem covered16 (i : S1x1024.Idx) : ∃ t : Fin cfg0.N, (cfg0.win 16).flush t = true ∧ i ∈ ((cfg0.win 16).blk t).view.set := by
  have h0 : (i 0).val < 1 := (i 0).isLt
  have h1 : (i 1).val < 1024 := (i 1).isLt
  have hlt : 31 < cfg0.N := lt_of_lt_of_eq (by omega) Gen.N_0.symm
  refine ⟨⟨31, hlt⟩, (flush0_16 _).mpr rfl, ?_⟩
  rw [mem_blk16, idx16]
  intro a
  match a with
  | ⟨0, _⟩ =>
    show 0 * 1 ≤ (i 0).val ∧ (i 0).val < 0 * 1 + 1
    omega
  | ⟨1, _⟩ =>
    show 0 * 1024 ≤ (i 1).val ∧ (i 1).val < 0 * 1024 + 1024
    omega

theorem emb16 (t : Fin cfg0.N) (d : Fin 1024) : ((cfg0.win 16).blk t).view.emb (ix2 0 d) = ix2 (0 : Fin 1) d := by
  have hb0 : (((cfg0.win 16).blk t).view.emb (ix2 0 d) 0).val = win0_16.index t (0 : Fin 2) * 1 + 1 * 0 := rfl
  have hb1 : (((cfg0.win 16).blk t).view.emb (ix2 0 d) 1).val = win0_16.index t (1 : Fin 2) * 1024 + 1 * d.val := rfl
  have i0 : win0_16.index t (0 : Fin 2) = 0 := congrFun (idx16 t) 0
  have i1 : win0_16.index t (1 : Fin 2) = 0 := congrFun (idx16 t) 1
  funext a; apply Fin.ext
  match a with
  | ⟨0, _⟩ =>
    show (((cfg0.win 16).blk t).view.emb (ix2 0 d) 0).val = 0
    rw [hb0, i0]
  | ⟨1, _⟩ =>
    show (((cfg0.win 16).blk t).view.emb (ix2 0 d) 1).val = d.val
    rw [hb1, i1]; omega

theorem mem_blk17 (t : Fin cfg0.N) (i : S1x1024.Idx) :
    i ∈ ((cfg0.win 17).blk t).view.set ↔ ∀ a : Fin 2, win0_17.index t a * S1x1024.size a ≤ (i a).val ∧ (i a).val < win0_17.index t a * S1x1024.size a + S1x1024.size a := by
  show i ∈ ((View.whole main_v2_7).slice (win0_17.rect t)).set ↔ _
  rw [View.set_slice_whole, Rect.mem_set_unit]
  exact Iff.rfl

/-- The last point writes the whole row back. -/
theorem covered17 (i : S1x1024.Idx) : ∃ t : Fin cfg0.N, (cfg0.win 17).flush t = true ∧ i ∈ ((cfg0.win 17).blk t).view.set := by
  have h0 : (i 0).val < 1 := (i 0).isLt
  have h1 : (i 1).val < 1024 := (i 1).isLt
  have hlt : 31 < cfg0.N := lt_of_lt_of_eq (by omega) Gen.N_0.symm
  refine ⟨⟨31, hlt⟩, (flush0_17 _).mpr rfl, ?_⟩
  rw [mem_blk17, idx17]
  intro a
  match a with
  | ⟨0, _⟩ =>
    show 0 * 1 ≤ (i 0).val ∧ (i 0).val < 0 * 1 + 1
    omega
  | ⟨1, _⟩ =>
    show 0 * 1024 ≤ (i 1).val ∧ (i 1).val < 0 * 1024 + 1024
    omega

theorem emb17 (t : Fin cfg0.N) (d : Fin 1024) : ((cfg0.win 17).blk t).view.emb (ix2 0 d) = ix2 (0 : Fin 1) d := by
  have hb0 : (((cfg0.win 17).blk t).view.emb (ix2 0 d) 0).val = win0_17.index t (0 : Fin 2) * 1 + 1 * 0 := rfl
  have hb1 : (((cfg0.win 17).blk t).view.emb (ix2 0 d) 1).val = win0_17.index t (1 : Fin 2) * 1024 + 1 * d.val := rfl
  have i0 : win0_17.index t (0 : Fin 2) = 0 := congrFun (idx17 t) 0
  have i1 : win0_17.index t (1 : Fin 2) = 0 := congrFun (idx17 t) 1
  funext a; apply Fin.ext
  match a with
  | ⟨0, _⟩ =>
    show (((cfg0.win 17).blk t).view.emb (ix2 0 d) 0).val = 0
    rw [hb0, i0]
  | ⟨1, _⟩ =>
    show (((cfg0.win 17).blk t).view.emb (ix2 0 d) 1).val = d.val
    rw [hb1, i1]; omega

end Blocks

section Result

variable (m : (ℓ : Loc nD τ sig) → Buf (Elt Ideal) ℓ) (c : Dev nD)

/-- The arguments' arrays the results read. -/
abbrev a0 : FVec Ideal S8192x1024 .f32 := m ((c : Thread nD τ).loc main_arg0)
abbrev a1 : FVec Ideal S2048x1024 .f32 := m ((c : Thread nD τ).loc main_arg1)
abbrev a3 : FVec Ideal S8192x1024 .f32 := m ((c : Thread nD τ).loc main_arg3)
abbrev a4 : FVec Ideal S8192x1024 .f32 := m ((c : Thread nD τ).loc main_arg4)
abbrev a5 : FVec Ideal S8192x7168 .f32 := m ((c : Thread nD τ).loc main_arg5)
abbrev a7 : FVec Ideal S1x1024 .f32 := m ((c : Thread nD τ).loc main_arg7)
abbrev a8 : FVec Ideal S1x1024 .f32 := m ((c : Thread nD τ).loc main_arg8)

theorem V_v0 : V m c main_v0 = truncf (F := Ideal) .bf16 (a0 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v1 : V m c main_v1 = truncf (F := Ideal) .bf16 (a1 m c) Facts₀.bitsLt_bf16_f32 := by
  simp only [Gen.V, Gen.hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

variable (h0 : Finite (a0 m c)) (h1 : Finite (a1 m c)) (h3 : Finite (a3 m c)) (h4 : Finite (a4 m c)) (h5 : Finite (a5 m c))
  (h7 : Finite (a7 m c)) (h8 : Finite (a8 m c))

include h0 h1 in
theorem blk_mix (t : Fin cfg0.N) (r : Fin 256) (d : Fin 1024) : k0_pay6 (F := Ideal) (iblk m c 0 t) (iblk m c 1 t) (ix2 r (mixCol d))
    = ((dmixin (a0 m c) (a1 m c) (256 * t.val + r.val) d : ℝ) : EReal) := by
  refine (prod_apply (a := fun r k => at2 (a0 m c) (256 * t.val + r.val) k) (b := fun k d => at2 (a1 m c) k d) (fun r k => ?_) (fun k d => ?_)
    r (mixCol d)).trans ?_
  · rw [read0, V_v0]
    exact at2_eq h0 (iAt t r) k
  · rw [read1, V_v1]
    exact at2_eq h1 k d
  · rfl

include h3 in
theorem blk4 (t : Fin cfg0.N) (r : Fin 256) (d : Fin 1024) : iblk m c 4 t (ix2 r d) = ((at2 (a3 m c) (256 * t.val + r.val) d : ℝ) : EReal) := by
  rw [read4, V_main_arg3]
  exact at2_eq h3 (iAt t r) d

include h4 in
theorem blk5 (t : Fin cfg0.N) (r : Fin 256) (d : Fin 1024) : iblk m c 5 t (ix2 r d) = ((at2 (a4 m c) (256 * t.val + r.val) d : ℝ) : EReal) := by
  rw [read5, V_main_arg4]
  exact at2_eq h4 (iAt t r) d

include h5 in
theorem blk6 (t : Fin cfg0.N) (r : Fin 256) (d : Fin 1024) :
    iblk m c 6 t (ix2 r d) = ((at2 (a5 m c) (256 * t.val + r.val) (4096 + d) : ℝ) : EReal) := by
  rw [read6, V_main_arg5]
  exact at2_eq h5 (iAt t r) (zAt d)

include h7 in
theorem blk8 (t : Fin cfg0.N) (d : Fin 1024) : iblk m c 8 t (ix2 0 d) = ((at2 (a7 m c) 0 d : ℝ) : EReal) := by
  rw [read8, V_main_arg7]
  exact at2_eq h7 0 d

include h8 in
theorem blk9 (t : Fin cfg0.N) (d : Fin 1024) : iblk m c 9 t (ix2 0 d) = ((at2 (a8 m c) 0 d : ℝ) : EReal) := by
  rw [read9, V_main_arg8]
  exact at2_eq h8 0 d

include h7 in
theorem wt0 (t : Fin cfg0.N) (j : Fin 512) : half0 (F := Ideal) (iblk m c 8 t) (ix2 0 j) = ((at2 (a7 m c) 0 j : ℝ) : EReal) :=
  (half0_apply _ j).trans (blk8 m c h7 t (lo j))
include h7 in
theorem wt1 (t : Fin cfg0.N) (j : Fin 512) : half1 (F := Ideal) (iblk m c 8 t) (ix2 0 j) = ((at2 (a7 m c) 0 (512 + j) : ℝ) : EReal) :=
  (half1_apply _ j).trans (blk8 m c h7 t (hi j))
include h8 in
theorem sk0 (t : Fin cfg0.N) (j : Fin 512) : half0 (F := Ideal) (iblk m c 9 t) (ix2 0 j) = ((at2 (a8 m c) 0 j : ℝ) : EReal) :=
  (half0_apply _ j).trans (blk9 m c h8 t (lo j))
include h8 in
theorem sk1 (t : Fin cfg0.N) (j : Fin 512) : half1 (F := Ideal) (iblk m c 9 t) (ix2 0 j) = ((at2 (a8 m c) 0 (512 + j) : ℝ) : EReal) :=
  (half1_apply _ j).trans (blk9 m c h8 t (hi j))

theorem lo_eq (j : Fin 512) : lo j = Cert.Proof.Reference13Ideal.gcol 0 j := Fin.ext (by show j.val = 0 * 512 + j.val; omega)
theorem hi_eq (j : Fin 512) : hi j = Cert.Proof.Reference13Ideal.gcol 1 j := Fin.ext (by show 512 + j.val = 1 * 512 + j.val; omega)

include h0 h1 h3 h4 h5 h7 h8

theorem scan_lo (t : Fin cfg0.N) (r : Fin 256) (j : Fin 512) :
    scanBlk (F := Ideal) (iblk m c 0 t) (iblk m c 1 t) (iblk m c 4 t) (iblk m c 5 t) (iblk m c 6 t) (iblk m c 8 t) (iblk m c 9 t) (ix2 r (lo j))
      = ((dscan (a0 m c) (a1 m c) (a3 m c) (a4 m c) (a5 m c) (a7 m c) (a8 m c) (256 * t.val + r.val) 0 j : ℝ) : EReal) := by
  refine (pair_lo _ _ r j).trans ((dscanl_apply (blk_mix m c h0 h1 t) (blk6 m c h5 t) (blk5 m c h4 t) (blk4 m c h3 t) (blk9 m c h8 t)
    (wt0 m c h7 t) r j).trans ?_)
  unfold dscan dgated gated skip
  simp only [Nat.zero_mul, Nat.one_mul, Nat.zero_add]

theorem scan_hi (t : Fin cfg0.N) (r : Fin 256) (j : Fin 512) :
    scanBlk (F := Ideal) (iblk m c 0 t) (iblk m c 1 t) (iblk m c 4 t) (iblk m c 5 t) (iblk m c 6 t) (iblk m c 8 t) (iblk m c 9 t) (ix2 r (hi j))
      = ((dscan (a0 m c) (a1 m c) (a3 m c) (a4 m c) (a5 m c) (a7 m c) (a8 m c) (256 * t.val + r.val) 1 j : ℝ) : EReal) := by
  refine (pair_hi _ _ r j).trans ((dscanh_apply (blk_mix m c h0 h1 t) (blk6 m c h5 t) (blk5 m c h4 t) (blk4 m c h3 t) (blk9 m c h8 t)
    (wt1 m c h7 t) r j).trans ?_)
  unfold dscan dgated gated skip
  simp only [Nat.zero_mul, Nat.one_mul, Nat.zero_add]

/-- The gradient of the scan's output. -/
theorem arr12 : (dats m 0 c).arrAt 12 cfg0.N = Cert.Reference13Ideal.Read.val_main_v51 (F := Ideal) (a0 m c) (a1 m c) (a3 m c) (a4 m c) (a5 m c) (a7 m c) (a8 m c) := by
  refine (dats m 0 c).arrAt_eq_of_cover 12 _ (fun t _ => ?_) covered12
  rw [flushed12, out12]
  funext y
  obtain ⟨r, d, rfl⟩ : ∃ (a : Fin 256) (b : Fin 1024), y = ix2 a b := ⟨y 0, y 1, ix_eq y⟩
  refine Eq.trans (?_ : _ = Cert.Reference13Ideal.Read.val_main_v51 (F := Ideal) (a0 m c) (a1 m c) (a3 m c) (a4 m c) (a5 m c) (a7 m c) (a8 m c) (ix2 (iAt t r) d))
    (congrArg (Cert.Reference13Ideal.Read.val_main_v51 (F := Ideal) (a0 m c) (a1 m c) (a3 m c) (a4 m c) (a5 m c) (a7 m c) (a8 m c)) (emb12 t r d).symm)
  revert d
  refine gcases (fun j => ?_) (fun j => ?_)
  · refine (scan_lo m c h0 h1 h3 h4 h5 h7 h8 t r j).trans ?_
    rw [lo_eq]
    exact (Cert.Proof.Reference13Ideal.dscan_apply h0 h1 h3 h4 h5 h7 h8 (iAt t r) 0 j).symm
  · refine (scan_hi m c h0 h1 h3 h4 h5 h7 h8 t r j).trans ?_
    rw [hi_eq]
    exact (Cert.Proof.Reference13Ideal.dscan_apply h0 h1 h3 h4 h5 h7 h8 (iAt t r) 1 j).symm

theorem skip_lo (t : Fin cfg0.N) (r : Fin 256) (j : Fin 512) :
    skipBlk (F := Ideal) (iblk m c 0 t) (iblk m c 1 t) (iblk m c 4 t) (iblk m c 5 t) (iblk m c 6 t) (iblk m c 8 t) (iblk m c 9 t) (ix2 r (lo j))
      = ((dskip (a0 m c) (a1 m c) (a3 m c) (a4 m c) (a5 m c) (a7 m c) (a8 m c) (256 * t.val + r.val) 0 j : ℝ) : EReal) := by
  refine (pair_lo _ _ r j).trans ((dskipl_apply (blk_mix m c h0 h1 t) (blk6 m c h5 t) (blk5 m c h4 t) (blk4 m c h3 t) (blk9 m c h8 t)
    (wt0 m c h7 t) (sk0 m c h8 t) r j).trans ?_)
  unfold dskip dscan dgated gated skip
  simp only [Nat.zero_mul, Nat.one_mul, Nat.zero_add]

theorem skip_hi (t : Fin cfg0.N) (r : Fin 256) (j : Fin 512) :
    skipBlk (F := Ideal) (iblk m c 0 t) (iblk m c 1 t) (iblk m c 4 t) (iblk m c 5 t) (iblk m c 6 t) (iblk m c 8 t) (iblk m c 9 t) (ix2 r (hi j))
      = ((dskip (a0 m c) (a1 m c) (a3 m c) (a4 m c) (a5 m c) (a7 m c) (a8 m c) (256 * t.val + r.val) 1 j : ℝ) : EReal) := by
  refine (pair_hi _ _ r j).trans ((dskiph_apply (blk_mix m c h0 h1 t) (blk6 m c h5 t) (blk5 m c h4 t) (blk4 m c h3 t) (blk9 m c h8 t)
    (wt1 m c h7 t) (sk1 m c h8 t) r j).trans ?_)
  unfold dskip dscan dgated gated skip
  simp only [Nat.zero_mul, Nat.one_mul, Nat.zero_add]

/-- The skip term's part of the gradient of the scan's input. -/
theorem arr13 : (dats m 0 c).arrAt 13 cfg0.N = Cert.Reference13Ideal.Read.val_main_v54 (F := Ideal) (a0 m c) (a1 m c) (a3 m c) (a4 m c) (a5 m c) (a7 m c) (a8 m c) := by
  refine (dats m 0 c).arrAt_eq_of_cover 13 _ (fun t _ => ?_) covered13
  rw [flushed13, out13]
  funext y
  obtain ⟨r, d, rfl⟩ : ∃ (a : Fin 256) (b : Fin 1024), y = ix2 a b := ⟨y 0, y 1, ix_eq y⟩
  refine Eq.trans (?_ : _ = Cert.Reference13Ideal.Read.val_main_v54 (F := Ideal) (a0 m c) (a1 m c) (a3 m c) (a4 m c) (a5 m c) (a7 m c) (a8 m c) (ix2 (iAt t r) d))
    (congrArg (Cert.Reference13Ideal.Read.val_main_v54 (F := Ideal) (a0 m c) (a1 m c) (a3 m c) (a4 m c) (a5 m c) (a7 m c) (a8 m c)) (emb13 t r d).symm)
  revert d
  refine gcases (fun j => ?_) (fun j => ?_)
  · refine (skip_lo m c h0 h1 h3 h4 h5 h7 h8 t r j).trans ?_
    rw [lo_eq]
    exact (Cert.Proof.Reference13Ideal.dskip_apply h0 h1 h3 h4 h5 h7 h8 (iAt t r) 0 j).symm
  · refine (skip_hi m c h0 h1 h3 h4 h5 h7 h8 t r j).trans ?_
    rw [hi_eq]
    exact (Cert.Proof.Reference13Ideal.dskip_apply h0 h1 h3 h4 h5 h7 h8 (iAt t r) 1 j).symm

theorem gate_lo (t : Fin cfg0.N) (r : Fin 256) (j : Fin 512) :
    gateBlk (F := Ideal) (iblk m c 0 t) (iblk m c 1 t) (iblk m c 4 t) (iblk m c 5 t) (iblk m c 6 t) (iblk m c 8 t) (iblk m c 9 t) (ix2 r (lo j))
      = ((dgateIn (a0 m c) (a1 m c) (a3 m c) (a4 m c) (a5 m c) (a7 m c) (a8 m c) (256 * t.val + r.val) 0 j : ℝ) : EReal) := by
  refine (pair_lo _ _ r j).trans ((dgatel_apply (blk_mix m c h0 h1 t) (blk6 m c h5 t) (blk5 m c h4 t) (blk4 m c h3 t) (blk9 m c h8 t)
    (wt0 m c h7 t) r j).trans ?_)
  unfold dgateIn dgated gated skip
  simp only [Nat.zero_mul, Nat.one_mul, Nat.zero_add]

theorem gate_hi (t : Fin cfg0.N) (r : Fin 256) (j : Fin 512) :
    gateBlk (F := Ideal) (iblk m c 0 t) (iblk m c 1 t) (iblk m c 4 t) (iblk m c 5 t) (iblk m c 6 t) (iblk m c 8 t) (iblk m c 9 t) (ix2 r (hi j))
      = ((dgateIn (a0 m c) (a1 m c) (a3 m c) (a4 m c) (a5 m c) (a7 m c) (a8 m c) (256 * t.val + r.val) 1 j : ℝ) : EReal) := by
  refine (pair_hi _ _ r j).trans ((dgateh_apply (blk_mix m c h0 h1 t) (blk6 m c h5 t) (blk5 m c h4 t) (blk4 m c h3 t) (blk9 m c h8 t)
    (wt1 m c h7 t) r j).trans ?_)
  unfold dgateIn dgated gated skip
  simp only [Nat.zero_mul, Nat.one_mul, Nat.zero_add]

/-- The gradient of the gate. -/
theorem arr14 : (dats m 0 c).arrAt 14 cfg0.N = Cert.Reference13Ideal.Read.val_main_v58 (F := Ideal) (a0 m c) (a1 m c) (a3 m c) (a4 m c) (a5 m c) (a7 m c) (a8 m c) := by
  refine (dats m 0 c).arrAt_eq_of_cover 14 _ (fun t _ => ?_) covered14
  rw [flushed14, out14]
  funext y
  obtain ⟨r, d, rfl⟩ : ∃ (a : Fin 256) (b : Fin 1024), y = ix2 a b := ⟨y 0, y 1, ix_eq y⟩
  refine Eq.trans (?_ : _ = Cert.Reference13Ideal.Read.val_main_v58 (F := Ideal) (a0 m c) (a1 m c) (a3 m c) (a4 m c) (a5 m c) (a7 m c) (a8 m c) (ix2 (iAt t r) d))
    (congrArg (Cert.Reference13Ideal.Read.val_main_v58 (F := Ideal) (a0 m c) (a1 m c) (a3 m c) (a4 m c) (a5 m c) (a7 m c) (a8 m c)) (emb14 t r d).symm)
  revert d
  refine gcases (fun j => ?_) (fun j => ?_)
  · refine (gate_lo m c h0 h1 h3 h4 h5 h7 h8 t r j).trans ?_
    rw [lo_eq]
    exact (Cert.Proof.Reference13Ideal.dgateIn_apply h0 h1 h3 h4 h5 h7 h8 (iAt t r) 0 j).symm
  · refine (gate_hi m c h0 h1 h3 h4 h5 h7 h8 t r j).trans ?_
    rw [hi_eq]
    exact (Cert.Proof.Reference13Ideal.dgateIn_apply h0 h1 h3 h4 h5 h7 h8 (iAt t r) 1 j).symm

section Weight

omit h7

theorem step16_lo (t : Fin cfg0.N) {acc : Vec Ideal S1x1024 .f32}
    (hacc : ∀ j, acc (ix2 0 (lo j)) = ((dwtIn (a0 m c) (a1 m c) (a3 m c) (a4 m c) (a5 m c) (a8 m c) (256 * t.val) 0 j : ℝ) : EReal)) (j : Fin 512) :
    wtAcc (F := Ideal) (iblk m c 0 t) (iblk m c 1 t) (iblk m c 4 t) (iblk m c 5 t) (iblk m c 6 t) (iblk m c 9 t) acc (ix2 0 (lo j)) = ((dwtIn (a0 m c) (a1 m c) (a3 m c) (a4 m c) (a5 m c) (a8 m c) (256 * (t.val + 1)) 0 j : ℝ) : EReal) := by
  refine (row_lo _ _ _ j).trans ((dwtl_apply (blk_mix m c h0 h1 t) (blk6 m c h5 t) (blk5 m c h4 t) (blk4 m c h3 t) (blk9 m c h8 t) (fun j => (half0_apply acc j).trans (hacc j)) j).trans ?_)
  unfold dwtIn
  rw [← rows_add]
  unfold gated skip
  simp only [Nat.zero_mul, Nat.one_mul, Nat.zero_add]

theorem step16_hi (t : Fin cfg0.N) {acc : Vec Ideal S1x1024 .f32}
    (hacc : ∀ j, acc (ix2 0 (hi j)) = ((dwtIn (a0 m c) (a1 m c) (a3 m c) (a4 m c) (a5 m c) (a8 m c) (256 * t.val) 1 j : ℝ) : EReal)) (j : Fin 512) :
    wtAcc (F := Ideal) (iblk m c 0 t) (iblk m c 1 t) (iblk m c 4 t) (iblk m c 5 t) (iblk m c 6 t) (iblk m c 9 t) acc (ix2 0 (hi j)) = ((dwtIn (a0 m c) (a1 m c) (a3 m c) (a4 m c) (a5 m c) (a8 m c) (256 * (t.val + 1)) 1 j : ℝ) : EReal) := by
  refine (row_hi _ _ j).trans ((dwth_apply (blk_mix m c h0 h1 t) (blk6 m c h5 t) (blk5 m c h4 t) (blk4 m c h3 t) (blk9 m c h8 t) (fun j => (half1_apply acc j).trans (hacc j)) j).trans ?_)
  unfold dwtIn
  rw [← rows_add]
  unfold gated skip
  simp only [Nat.zero_mul, Nat.one_mul, Nat.zero_add]

/-- After each point it covers the rows so far. -/
theorem fold16 (n : ℕ) : ∀ (h : n < cfg0.N) (j : Fin 512),
    (outsAt0 m c n h).2.2.2.2.2.2.1 (ix2 0 (lo j)) = ((dwtIn (a0 m c) (a1 m c) (a3 m c) (a4 m c) (a5 m c) (a8 m c) (256 * (n + 1)) 0 j : ℝ) : EReal)
      ∧ (outsAt0 m c n h).2.2.2.2.2.2.1 (ix2 0 (hi j)) = ((dwtIn (a0 m c) (a1 m c) (a3 m c) (a4 m c) (a5 m c) (a8 m c) (256 * (n + 1)) 1 j : ℝ) : EReal) := by
  induction n with
  | zero =>
    intro h j
    have hz (g : ℕ) (j : Fin 512) : ((0 : ℝ) : EReal) = ((dwtIn (a0 m c) (a1 m c) (a3 m c) (a4 m c) (a5 m c) (a8 m c) (256 * 0) g j : ℝ) : EReal) := by
      unfold dwtIn
      rw [Nat.mul_zero, Finset.sum_range_zero]
    rw [first16 m c ⟨0, h⟩ rfl]
    exact ⟨step16_lo m c h0 h1 h3 h4 h5 h8 ⟨0, h⟩ (fun j => (zero4_apply _).trans (hz 0 j)) j,
      step16_hi m c h0 h1 h3 h4 h5 h8 ⟨0, h⟩ (fun j => (zero4_apply _).trans (hz 1 j)) j⟩
  | succ n ih =>
    intro h j
    have hN : n + 1 < 32 := lt_of_lt_of_eq h Gen.N_0
    rw [next16 m c ⟨n + 1, h⟩ (by show ¬(n + 1) % 32 = 0; omega)]
    exact ⟨step16_lo m c h0 h1 h3 h4 h5 h8 ⟨n + 1, h⟩ (fun j => (ih _ j).1) j, step16_hi m c h0 h1 h3 h4 h5 h8 ⟨n + 1, h⟩ (fun j => (ih _ j).2) j⟩

/-- The norm's weight's gradient. -/
theorem arr16 : (dats m 0 c).arrAt 16 cfg0.N = Cert.Reference13Ideal.Read.val_main_v48 (F := Ideal) (a0 m c) (a1 m c) (a3 m c) (a4 m c) (a5 m c) (a8 m c) := by
  refine (dats m 0 c).arrAt_eq_of_cover 16 _ (fun t ht => ?_) covered16
  have hN : t.val < 32 := t.isLt
  have hl : t.val + 1 = 32 := by have := (flush0_16 t).mp ht; omega
  rw [flushed16]
  funext y
  obtain ⟨a, d, rfl⟩ : ∃ (a : Fin 1) (b : Fin 1024), y = ix2 a b := ⟨y 0, y 1, ix_eq y⟩
  obtain rfl : a = 0 := Subsingleton.elim _ _
  refine Eq.trans (?_ : _ = Cert.Reference13Ideal.Read.val_main_v48 (F := Ideal) (a0 m c) (a1 m c) (a3 m c) (a4 m c) (a5 m c) (a8 m c) (ix2 0 d))
    (congrArg (Cert.Reference13Ideal.Read.val_main_v48 (F := Ideal) (a0 m c) (a1 m c) (a3 m c) (a4 m c) (a5 m c) (a8 m c)) (emb16 t d).symm)
  revert d
  refine gcases (fun j => ?_) (fun j => ?_)
  · refine (fold16 m c h0 h1 h3 h4 h5 h8 t.val t.isLt j).1.trans ?_
    rw [hl, lo_eq]
    exact (Cert.Proof.Reference13Ideal.dwtIn_apply h0 h1 h3 h4 h5 h8 0 j).symm
  · refine (fold16 m c h0 h1 h3 h4 h5 h8 t.val t.isLt j).2.trans ?_
    rw [hl, hi_eq]
    exact (Cert.Proof.Reference13Ideal.dwtIn_apply h0 h1 h3 h4 h5 h8 1 j).symm

end Weight

theorem step17_lo (t : Fin cfg0.N) {acc : Vec Ideal S1x1024 .f32}
    (hacc : ∀ j, acc (ix2 0 (lo j)) = ((ddIn (a0 m c) (a1 m c) (a3 m c) (a4 m c) (a5 m c) (a7 m c) (a8 m c) (256 * t.val) 0 j : ℝ) : EReal)) (j : Fin 512) :
    dAcc (F := Ideal) (iblk m c 0 t) (iblk m c 1 t) (iblk m c 4 t) (iblk m c 5 t) (iblk m c 6 t) (iblk m c 8 t) (iblk m c 9 t) acc (ix2 0 (lo j)) = ((ddIn (a0 m c) (a1 m c) (a3 m c) (a4 m c) (a5 m c) (a7 m c) (a8 m c) (256 * (t.val + 1)) 0 j : ℝ) : EReal) := by
  refine (row_lo _ _ _ j).trans ((ddl_apply (blk_mix m c h0 h1 t) (blk6 m c h5 t) (blk5 m c h4 t) (blk4 m c h3 t) (blk9 m c h8 t) (wt0 m c h7 t) (fun j => (half0_apply acc j).trans (hacc j)) j).trans ?_)
  unfold ddIn
  rw [← rows_add]
  unfold dscan dgated gated skip
  simp only [Nat.zero_mul, Nat.one_mul, Nat.zero_add]

theorem step17_hi (t : Fin cfg0.N) {acc : Vec Ideal S1x1024 .f32}
    (hacc : ∀ j, acc (ix2 0 (hi j)) = ((ddIn (a0 m c) (a1 m c) (a3 m c) (a4 m c) (a5 m c) (a7 m c) (a8 m c) (256 * t.val) 1 j : ℝ) : EReal)) (j : Fin 512) :
    dAcc (F := Ideal) (iblk m c 0 t) (iblk m c 1 t) (iblk m c 4 t) (iblk m c 5 t) (iblk m c 6 t) (iblk m c 8 t) (iblk m c 9 t) acc (ix2 0 (hi j)) = ((ddIn (a0 m c) (a1 m c) (a3 m c) (a4 m c) (a5 m c) (a7 m c) (a8 m c) (256 * (t.val + 1)) 1 j : ℝ) : EReal) := by
  refine (row_hi _ _ j).trans ((ddh_apply (blk_mix m c h0 h1 t) (blk6 m c h5 t) (blk5 m c h4 t) (blk4 m c h3 t) (blk9 m c h8 t) (wt1 m c h7 t) (fun j => (half1_apply acc j).trans (hacc j)) j).trans ?_)
  unfold ddIn
  rw [← rows_add]
  unfold dscan dgated gated skip
  simp only [Nat.zero_mul, Nat.one_mul, Nat.zero_add]

/-- After each point it covers the rows so far. -/
theorem fold17 (n : ℕ) : ∀ (h : n < cfg0.N) (j : Fin 512),
    (outsAt0 m c n h).2.2.2.2.2.2.2 (ix2 0 (lo j)) = ((ddIn (a0 m c) (a1 m c) (a3 m c) (a4 m c) (a5 m c) (a7 m c) (a8 m c) (256 * (n + 1)) 0 j : ℝ) : EReal)
      ∧ (outsAt0 m c n h).2.2.2.2.2.2.2 (ix2 0 (hi j)) = ((ddIn (a0 m c) (a1 m c) (a3 m c) (a4 m c) (a5 m c) (a7 m c) (a8 m c) (256 * (n + 1)) 1 j : ℝ) : EReal) := by
  induction n with
  | zero =>
    intro h j
    have hz (g : ℕ) (j : Fin 512) : ((0 : ℝ) : EReal) = ((ddIn (a0 m c) (a1 m c) (a3 m c) (a4 m c) (a5 m c) (a7 m c) (a8 m c) (256 * 0) g j : ℝ) : EReal) := by
      unfold ddIn
      rw [Nat.mul_zero, Finset.sum_range_zero]
    rw [first17 m c ⟨0, h⟩ rfl]
    exact ⟨step17_lo m c h0 h1 h3 h4 h5 h7 h8 ⟨0, h⟩ (fun j => (zero5_apply _).trans (hz 0 j)) j,
      step17_hi m c h0 h1 h3 h4 h5 h7 h8 ⟨0, h⟩ (fun j => (zero5_apply _).trans (hz 1 j)) j⟩
  | succ n ih =>
    intro h j
    have hN : n + 1 < 32 := lt_of_lt_of_eq h Gen.N_0
    rw [next17 m c ⟨n + 1, h⟩ (by show ¬(n + 1) % 32 = 0; omega)]
    exact ⟨step17_lo m c h0 h1 h3 h4 h5 h7 h8 ⟨n + 1, h⟩ (fun j => (ih _ j).1) j, step17_hi m c h0 h1 h3 h4 h5 h7 h8 ⟨n + 1, h⟩ (fun j => (ih _ j).2) j⟩

/-- The skip term's weight's gradient. -/
theorem arr17 : (dats m 0 c).arrAt 17 cfg0.N = Cert.Reference13Ideal.Read.val_main_v57 (F := Ideal) (a0 m c) (a1 m c) (a3 m c) (a4 m c) (a5 m c) (a7 m c) (a8 m c) := by
  refine (dats m 0 c).arrAt_eq_of_cover 17 _ (fun t ht => ?_) covered17
  have hN : t.val < 32 := t.isLt
  have hl : t.val + 1 = 32 := by have := (flush0_17 t).mp ht; omega
  rw [flushed17]
  funext y
  obtain ⟨a, d, rfl⟩ : ∃ (a : Fin 1) (b : Fin 1024), y = ix2 a b := ⟨y 0, y 1, ix_eq y⟩
  obtain rfl : a = 0 := Subsingleton.elim _ _
  refine Eq.trans (?_ : _ = Cert.Reference13Ideal.Read.val_main_v57 (F := Ideal) (a0 m c) (a1 m c) (a3 m c) (a4 m c) (a5 m c) (a7 m c) (a8 m c) (ix2 0 d))
    (congrArg (Cert.Reference13Ideal.Read.val_main_v57 (F := Ideal) (a0 m c) (a1 m c) (a3 m c) (a4 m c) (a5 m c) (a7 m c) (a8 m c)) (emb17 t d).symm)
  revert d
  refine gcases (fun j => ?_) (fun j => ?_)
  · refine (fold17 m c h0 h1 h3 h4 h5 h7 h8 t.val t.isLt j).1.trans ?_
    rw [hl, lo_eq]
    exact (Cert.Proof.Reference13Ideal.ddIn_apply h0 h1 h3 h4 h5 h7 h8 0 j).symm
  · refine (fold17 m c h0 h1 h3 h4 h5 h7 h8 t.val t.isLt j).2.trans ?_
    rw [hl, hi_eq]
    exact (Cert.Proof.Reference13Ideal.ddIn_apply h0 h1 h3 h4 h5 h7 h8 1 j).symm

end Result

end Cert.Proof.Kernel13Ideal

end
-- ==== Proof.FinitePre13.lean ====
/-
  The precondition of the gate norm's backward call read at the extended reals: every entry of the arguments its results
  read is a real number.
-/
module

public import proofs.«01_k».proof.Pre_finite13
public import proofs.«01_k».proof.Proof.Spec
public import Idealize.ShloMosaic.Lib.ReduceAll
public import Idealize.ShloMosaic.Lib.Affine
public import Idealize.ShloMosaic.Lib.Decide

@[expose] public section

noncomputable section

namespace Cert.Pre_finite13

open Cert.Proof.Ssd
open Idealize.ShloMosaic

instance facts : Facts where
  bcast_S_S8192x1024 := by decide
  reducesTo_S8192x1024_S_d0_1 := by decide
  h_S_ := by decide
  bcast_S_S2048x1024 := by decide
  reducesTo_S2048x1024_S_d0_1 := by decide
  bcast_S_S8192x7168 := by decide
  reducesTo_S8192x7168_S_d0_1 := by decide
  bcast_S_S1x1024 := by decide
  reducesTo_S1x1024_S_d0_1 := by decide

instance : Subsingleton S_.Idx := ⟨fun a b => funext fun i => i.elim0⟩

/-- An array whose entries' absolute values are all below infinity holds real numbers. -/
theorem finite_of_all {s : Shape} {axes : List (Fin s.rank)} (X : FVec Ideal s .f32) (hb : S_.BroadcastsInDim s (![] : Fin 0 → Fin s.rank))
    (h : s.ReducesTo axes S_) (j : S_.Idx)
    (e : Host.reduce IntOp.andi (cmpf .olt (Host.absf X) (broadcastInDim s ![] hb (constant (F := Ideal) S_ .f32 0x7F800000#32)))
      (constantI S_ 1 1#1) h Facts.h_S_ j = 1#1) : Finite X := by
  intro i
  have hi := Host.reduce_andi_all _ _ h Facts.h_S_ j e i
  have hinf : Ideal.ofBits FTy.f32 0x7F800000#32 = ⊤ := by simp [Ideal.ofBits, Ideal.ieee]
  have hc : Ideal.cmp .olt (max (X i) (-(X i))) ⊤ = 1#1 := by
    rw [← hinf]; exact hi
  have hlt : max (X i) (-(X i)) < ⊤ := by
    by_contra hn
    have : Ideal.cmp .olt (max (X i) (-(X i))) ⊤ = 0#1 := by
      show BitVec.ofBool (decide _) = 0#1
      rw [decide_eq_false hn]; rfl
    rw [this] at hc
    exact absurd hc (by decide)
  constructor
  · intro ht
    rw [ht] at hlt
    exact absurd (le_max_left _ _) (not_le.mpr hlt)
  · intro hbot
    rw [hbot, EReal.neg_bot] at hlt
    exact absurd (le_max_right _ _) (not_le.mpr hlt)

/-- The precondition, argument by argument. -/
theorem finite_args (X0 : FVec Ideal S8192x1024 .f32) (X1 : FVec Ideal S2048x1024 .f32) (X2 X3 X4 : FVec Ideal S8192x1024 .f32)
    (X5 : FVec Ideal S8192x7168 .f32) (X6 : FVec Ideal S1x128 .f32) (X7 X8 : FVec Ideal S1x1024 .f32)
    (h : fn (F := Ideal) X0 X1 X2 X3 X4 X5 X6 X7 X8 = fun _ => 1#1) :
    Finite X0 ∧ Finite X1 ∧ Finite X3 ∧ Finite X4 ∧ Finite X5 ∧ Finite X7 ∧ Finite X8 := by
  obtain ⟨h', h8⟩ := IntOp.andi_eq_one.mp (congrFun h ix0)
  obtain ⟨h', h7⟩ := IntOp.andi_eq_one.mp h'
  obtain ⟨h', h5⟩ := IntOp.andi_eq_one.mp h'
  obtain ⟨h', h4⟩ := IntOp.andi_eq_one.mp h'
  obtain ⟨h', h3⟩ := IntOp.andi_eq_one.mp h'
  obtain ⟨h0, h1⟩ := IntOp.andi_eq_one.mp h'
  exact ⟨finite_of_all _ _ _ _ h0, finite_of_all _ _ _ _ h1, finite_of_all _ _ _ _ h3, finite_of_all _ _ _ _ h4, finite_of_all _ _ _ _ h5,
    finite_of_all _ _ _ _ h7, finite_of_all _ _ _ _ h8⟩

end Cert.Pre_finite13

end
-- ==== Proof.lean ====
/-
  The claims, for each of the calls: the printed kernel and its idealization run, leave their arguments and every
  counter as they were, and the idealized kernel's results are the idealized reference's: of finite arguments where
  the call needs it, else of any.
-/
module

public import proofs.«01_k».proof.Defs
public import proofs.«01_k».proof.Proof.FrameBits
public import proofs.«01_k».proof.Proof.ArrayIdeal
public import proofs.«01_k».proof.Proof.FinitePre
public import proofs.«01_k».proof.Proof.MidArray
public import proofs.«01_k».proof.Proof.FinitePre2
public import proofs.«01_k».proof.Proof.Gen.Kernel2.Frame
public import proofs.«01_k».proof.Proof.Gen.Kernel2Ideal.Value
public import proofs.«01_k».proof.Proof.Gen.Reference2Ideal.Read
public import proofs.«01_k».proof.Proof.UpGrad
public import proofs.«01_k».proof.Proof.Gen.Kernel3.Frame
public import proofs.«01_k».proof.Proof.InGrad
public import proofs.«01_k».proof.Proof.Gen.Kernel4.Frame
public import proofs.«01_k».proof.Proof.ActGrad
public import proofs.«01_k».proof.Proof.Gen.Kernel5.Frame
public import proofs.«01_k».proof.Proof.DownGrad
public import proofs.«01_k».proof.Proof.Gen.Kernel6.Frame
public import proofs.«01_k».proof.Proof.OutGrad
public import proofs.«01_k».proof.Proof.Gen.Kernel7.Frame
public import proofs.«01_k».proof.Proof.UpProduct
public import proofs.«01_k».proof.Proof.Gen.Kernel8.Frame
public import proofs.«01_k».proof.Proof.FirstArray
public import proofs.«01_k».proof.Proof.FinitePre9
public import proofs.«01_k».proof.Proof.Gen.Kernel9.Frame
public import proofs.«01_k».proof.Proof.OutMid
public import proofs.«01_k».proof.Proof.Gen.Kernel10.Frame
public import proofs.«01_k».proof.Proof.FinalArray
public import proofs.«01_k».proof.Proof.FinitePre11
public import proofs.«01_k».proof.Proof.Gen.Kernel11.Frame
public import proofs.«01_k».proof.Proof.NormProj
public import proofs.«01_k».proof.Proof.NormBits
public import proofs.«01_k».proof.Proof.GateArray
public import proofs.«01_k».proof.Proof.FinitePre13
public import proofs.«01_k».proof.Proof.Gen.Kernel13.Frame

@[expose] public section

open Idealize.ShloMosaic

/-- The printed kernel's frame. -/
theorem Cert.Proof.quiescent_kernel : Cert.quiescent_Kernel := fun m g _ => Cert.Proof.Kernel.run_frame m g

/-- The idealized kernel's frame. -/
theorem Cert.Proof.quiescent_kernelIdeal : Cert.quiescent_KernelIdeal := fun m g _ =>
  (θ_run Cert.KernelIdeal.defs _ _).mono (fun _ h => ⟨fun c => (h.1 c).2, h.2⟩) (Cert.Proof.KernelIdeal.run_values m g)

/-- The idealized reference's frame: it declares no counter. -/
theorem Cert.Proof.quiescent_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Of finite arguments the two results are equal. -/
theorem Cert.Proof.algebraic : Cert.algebraic_KernelIdeal_ReferenceIdeal_pre_finite := by
  intro m g m' g' hm hargs
  refine ⟨fun c => (Cert.Proof.KernelIdeal.dats (F := Ideal) m 0 c).arrAt 11 Cert.KernelIdeal.cfg0.N, ?_, ?_⟩
  · exact (θ_run Cert.KernelIdeal.defs _ _).mono (fun _ h => h.1) (Cert.Proof.KernelIdeal.run_values m g)
  · refine (θ_run Cert.ReferenceIdeal.defs _ _).mono (fun r h c => ⟨(h c).1.trans ?_, (h c).2⟩) (Cert.ReferenceIdeal.Value.run m' g')
    obtain ⟨h0, h1, h2, h3, h4⟩ := Cert.Pre_finite.finite_args _ _ _ _ _ (hm c)
    obtain ⟨e0, e1, e2, e3, e4⟩ := hargs c
    rw [Cert.ReferenceIdeal.Read.val_main_v45_eq, e0, e1, e2, e3, e4]
    exact (Cert.Proof.KernelIdeal.arr_real m c h0 h1 h2 h3 h4).symm

/-- The masked entries' named constant. -/
theorem Cert.Proof.preserves : Cert.preserves_Kernel_KernelIdeal :=
  IdealRules.named_const.statement Cert.KernelIdeal.κ "mask" .f32 0xF149F2CA#32 ⊥ rfl

/-- The second printed kernel's frame. -/
theorem Cert.Proof.quiescent_kernel2 : Cert.quiescent_Kernel2 := fun m g _ => Cert.Kernel2.Gen.frame m g

/-- The second idealized kernel's frame. -/
theorem Cert.Proof.quiescent_kernel2Ideal : Cert.quiescent_Kernel2Ideal := fun m g _ => Cert.Kernel2Ideal.Gen.frame m g

/-- The second idealized reference's frame: it declares no counter. -/
theorem Cert.Proof.quiescent_reference2Ideal : Cert.quiescent_Reference2Ideal := fun m g _ =>
  (θ_run Cert.Reference2Ideal.defs _ _).mono (fun r h => ⟨fun c => (h c).2.2.2.2, sem_eq_zero_of_no_sems (by decide) r.2⟩)
    (Cert.Reference2Ideal.Value.run m g)

/-- Of finite arguments the second call's four results are equal. -/
theorem Cert.Proof.algebraic2 : Cert.algebraic_Kernel2Ideal_Reference2Ideal_pre_finite2 := by
  intro m g m' g' hm hargs
  refine ⟨Cert.Kernel2Ideal.Value.G7 m, Cert.Kernel2Ideal.Value.G8 m, Cert.Kernel2Ideal.Value.G9 m, Cert.Kernel2Ideal.Value.G10 m,
    Cert.Kernel2Ideal.Value.run m g, ?_⟩
  refine (θ_run Cert.Reference2Ideal.defs _ _).mono (fun r h c => ?_) (Cert.Reference2Ideal.Value.run m' g')
  obtain ⟨h0, h1, h2, h3, h4, h5, h6⟩ := Cert.Pre_finite2.finite_args _ _ _ _ _ _ _ (hm c)
  obtain ⟨e0, e1, e2, e3, e4, e5, e6⟩ := hargs c
  obtain ⟨r7, r8, r9, r10, hr⟩ := h c
  refine ⟨r7.trans ?_, r8.trans ?_, r9.trans ?_, r10.trans ?_, hr⟩
  · rw [Cert.Reference2Ideal.Read.val_main_v52_eq, e0, e1, e2, e3, e4, e5, e6]
    exact (Cert.Proof.Kernel2Ideal.arr7 m c h0 h1 h2 h3 h4 h5 h6).symm
  · rw [Cert.Reference2Ideal.Read.val_main_v73_eq, e0, e1, e2, e3, e4, e5, e6]
    exact (Cert.Proof.Kernel2Ideal.arr8 m c h0 h1 h2 h3 h4 h5 h6).symm
  · rw [Cert.Reference2Ideal.Read.val_main_v56_eq, e0, e1, e2, e3, e4, e5, e6]
    exact (Cert.Proof.Kernel2Ideal.arr9 m c h0 h1 h2 h3 h4 h5 h6).symm
  · rw [Cert.Reference2Ideal.Read.val_main_v35_eq, e0, e1, e2, e4, e6]
    exact (Cert.Proof.Kernel2Ideal.arr10 m c h0 h1 h2 h3 h4 h5 h6).symm

/-- The second call's idealization changes nothing. -/
theorem Cert.Proof.preserves2 : Cert.preserves_Kernel2_Kernel2Ideal := trivial

/-- The third printed kernel's frame. -/
theorem Cert.Proof.quiescent_kernel3 : Cert.quiescent_Kernel3 := fun m g _ => Cert.Kernel3.Gen.frame m g

/-- The third idealized kernel's frame. -/
theorem Cert.Proof.quiescent_kernel3Ideal : Cert.quiescent_Kernel3Ideal := fun m g _ => Cert.Kernel3Ideal.Gen.frame m g

/-- The third idealized reference's frame: it declares no counter. -/
theorem Cert.Proof.quiescent_reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The third call's result is the reference's. -/
theorem Cert.Proof.algebraic3 : Cert.algebraic_Kernel3Ideal_Reference3Ideal := by
  intro m g m' g' _ hargs
  refine ⟨Cert.Kernel3Ideal.Value.G2 m, Cert.Kernel3Ideal.Value.run m g, ?_⟩
  refine (θ_run Cert.Reference3Ideal.defs _ _).mono (fun r h c => ⟨(h c).1.trans ?_, (h c).2⟩) (Cert.Reference3Ideal.Value.run m' g')
  obtain ⟨e0, e1⟩ := hargs c
  rw [Cert.Reference3Ideal.Read.val_main_v4_eq, e0, e1]
  exact (Cert.Proof.Kernel3Ideal.arr2 m c).symm

/-- The third call's idealization changes nothing. -/
theorem Cert.Proof.preserves3 : Cert.preserves_Kernel3_Kernel3Ideal := trivial

/-- The fourth printed kernel's frame. -/
theorem Cert.Proof.quiescent_kernel4 : Cert.quiescent_Kernel4 := fun m g _ => Cert.Kernel4.Gen.frame m g

/-- The fourth idealized kernel's frame. -/
theorem Cert.Proof.quiescent_kernel4Ideal : Cert.quiescent_Kernel4Ideal := fun m g _ => Cert.Kernel4Ideal.Gen.frame m g

/-- The fourth idealized reference's frame: it declares no counter. -/
theorem Cert.Proof.quiescent_reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The fourth call's result is the reference's. -/
theorem Cert.Proof.algebraic4 : Cert.algebraic_Kernel4Ideal_Reference4Ideal := by
  intro m g m' g' _ hargs
  refine ⟨Cert.Kernel4Ideal.Value.G2 m, Cert.Kernel4Ideal.Value.run m g, ?_⟩
  refine (θ_run Cert.Reference4Ideal.defs _ _).mono (fun r h c => ⟨(h c).1.trans ?_, (h c).2⟩) (Cert.Reference4Ideal.Value.run m' g')
  obtain ⟨e0, e1⟩ := hargs c
  rw [Cert.Reference4Ideal.Read.val_main_v4_eq, e0, e1]
  exact (Cert.Proof.Kernel4Ideal.arr2 m c).symm

/-- The fourth call's idealization changes nothing. -/
theorem Cert.Proof.preserves4 : Cert.preserves_Kernel4_Kernel4Ideal := trivial

/-- The fifth printed kernel's frame. -/
theorem Cert.Proof.quiescent_kernel5 : Cert.quiescent_Kernel5 := fun m g _ => Cert.Kernel5.Gen.frame m g

/-- The fifth idealized kernel's frame. -/
theorem Cert.Proof.quiescent_kernel5Ideal : Cert.quiescent_Kernel5Ideal := fun m g _ => Cert.Kernel5Ideal.Gen.frame m g

/-- The fifth idealized reference's frame: it declares no counter. -/
theorem Cert.Proof.quiescent_reference5Ideal : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The fifth call's result is the reference's. -/
theorem Cert.Proof.algebraic5 : Cert.algebraic_Kernel5Ideal_Reference5Ideal := by
  intro m g m' g' _ hargs
  refine ⟨fun c => (Cert.Kernel5Ideal.Gen.dats (F := Ideal) m 0 c).arrAt 2 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run m' g')
  obtain ⟨e0, e1⟩ := hargs c
  rw [Cert.Reference5Ideal.Read.val_main_v2_eq, e0, e1]
  exact (Cert.Proof.Kernel5Ideal.arr2 m c).symm

/-- The fifth call's idealization changes nothing. -/
theorem Cert.Proof.preserves5 : Cert.preserves_Kernel5_Kernel5Ideal := trivial

/-- The sixth printed kernel's frame. -/
theorem Cert.Proof.quiescent_kernel6 : Cert.quiescent_Kernel6 := fun m g _ => Cert.Kernel6.Gen.frame m g

/-- The sixth idealized kernel's frame. -/
theorem Cert.Proof.quiescent_kernel6Ideal : Cert.quiescent_Kernel6Ideal := fun m g _ => Cert.Kernel6Ideal.Gen.frame m g

/-- The sixth idealized reference's frame: it declares no counter. -/
theorem Cert.Proof.quiescent_reference6Ideal : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The sixth call's result is the reference's. -/
theorem Cert.Proof.algebraic6 : Cert.algebraic_Kernel6Ideal_Reference6Ideal := by
  intro m g m' g' _ hargs
  refine ⟨Cert.Kernel6Ideal.Value.G2 m, Cert.Kernel6Ideal.Value.run m g, ?_⟩
  refine (θ_run Cert.Reference6Ideal.defs _ _).mono (fun r h c => ⟨(h c).1.trans ?_, (h c).2⟩) (Cert.Reference6Ideal.Value.run m' g')
  obtain ⟨e0, e1⟩ := hargs c
  rw [Cert.Reference6Ideal.Read.val_main_v4_eq, e0, e1]
  exact (Cert.Proof.Kernel6Ideal.arr2 m c).symm

/-- The sixth call's idealization changes nothing. -/
theorem Cert.Proof.preserves6 : Cert.preserves_Kernel6_Kernel6Ideal := trivial

/-- The seventh printed kernel's frame. -/
theorem Cert.Proof.quiescent_kernel7 : Cert.quiescent_Kernel7 := fun m g _ => Cert.Kernel7.Gen.frame m g

/-- The seventh idealized kernel's frame. -/
theorem Cert.Proof.quiescent_kernel7Ideal : Cert.quiescent_Kernel7Ideal := fun m g _ => Cert.Kernel7Ideal.Gen.frame m g

/-- The seventh idealized reference's frame: it declares no counter. -/
theorem Cert.Proof.quiescent_reference7Ideal : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The seventh call's result is the reference's. -/
theorem Cert.Proof.algebraic7 : Cert.algebraic_Kernel7Ideal_Reference7Ideal := by
  intro m g m' g' _ hargs
  refine ⟨Cert.Kernel7Ideal.Value.G2 m, Cert.Kernel7Ideal.Value.run m g, ?_⟩
  refine (θ_run Cert.Reference7Ideal.defs _ _).mono (fun r h c => ⟨(h c).1.trans ?_, (h c).2⟩) (Cert.Reference7Ideal.Value.run m' g')
  obtain ⟨e0, e1⟩ := hargs c
  rw [Cert.Reference7Ideal.Read.val_main_v4_eq, e0, e1]
  exact (Cert.Proof.Kernel7Ideal.arr2 m c).symm

/-- The seventh call's idealization changes nothing. -/
theorem Cert.Proof.preserves7 : Cert.preserves_Kernel7_Kernel7Ideal := trivial

/-- The eighth printed kernel's frame. -/
theorem Cert.Proof.quiescent_kernel8 : Cert.quiescent_Kernel8 := fun m g _ => Cert.Kernel8.Gen.frame m g

/-- The eighth idealized kernel's frame. -/
theorem Cert.Proof.quiescent_kernel8Ideal : Cert.quiescent_Kernel8Ideal := fun m g _ => Cert.Kernel8Ideal.Gen.frame m g

/-- The eighth idealized reference's frame: it declares no counter. -/
theorem Cert.Proof.quiescent_reference8Ideal : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The eighth call's result is the reference's. -/
theorem Cert.Proof.algebraic8 : Cert.algebraic_Kernel8Ideal_Reference8Ideal := by
  intro m g m' g' _ hargs
  refine ⟨fun c => (Cert.Kernel8Ideal.Gen.dats (F := Ideal) m 0 c).arrAt 2 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run m' g')
  obtain ⟨e0, e1⟩ := hargs c
  rw [Cert.Reference8Ideal.Read.val_main_v0_eq, e0, e1]
  exact (Cert.Proof.Kernel8Ideal.arr2 m c).symm

/-- The eighth call's idealization changes nothing. -/
theorem Cert.Proof.preserves8 : Cert.preserves_Kernel8_Kernel8Ideal := trivial

/-- The ninth printed kernel's frame. -/
theorem Cert.Proof.quiescent_kernel9 : Cert.quiescent_Kernel9 := fun m g _ => Cert.Kernel9.Gen.frame m g

/-- The ninth idealized kernel's frame. -/
theorem Cert.Proof.quiescent_kernel9Ideal : Cert.quiescent_Kernel9Ideal := fun m g _ => Cert.Kernel9Ideal.Gen.frame m g

/-- The ninth idealized reference's frame: it declares no counter. -/
theorem Cert.Proof.quiescent_reference9Ideal : Cert.quiescent_Reference9Ideal := fun m g _ =>
  (θ_run Cert.Reference9Ideal.defs _ _).mono (fun r h => ⟨fun c => (h c).2.2, sem_eq_zero_of_no_sems (by decide) r.2⟩)
    (Cert.Reference9Ideal.Value.run m g)

/-- Of finite arguments the ninth call's two results are equal. -/
theorem Cert.Proof.algebraic9 : Cert.algebraic_Kernel9Ideal_Reference9Ideal_pre_finite9 := by
  intro m g m' g' hm hargs
  refine ⟨Cert.Kernel9Ideal.Value.G5 m, Cert.Kernel9Ideal.Value.G6 m, Cert.Kernel9Ideal.Value.run m g, ?_⟩
  refine (θ_run Cert.Reference9Ideal.defs _ _).mono (fun r h c => ?_) (Cert.Reference9Ideal.Value.run m' g')
  obtain ⟨h0, h1, h2, h3, h4⟩ := Cert.Pre_finite9.finite_args _ _ _ _ _ (hm c)
  obtain ⟨e0, e1, e2, e3, e4⟩ := hargs c
  obtain ⟨r5, r6, hr⟩ := h c
  refine ⟨r5.trans ?_, r6.trans ?_, hr⟩
  · rw [Cert.Reference9Ideal.Read.val_main_v36_eq, e0, e1, e2, e3, e4]
    exact (Cert.Proof.Kernel9Ideal.arr5 m c h0 h1 h2 h3 h4).symm
  · rw [Cert.Reference9Ideal.Read.val_main_v19_eq, e0, e2, e4]
    exact (Cert.Proof.Kernel9Ideal.arr6 m c h0 h1 h2 h3 h4).symm

/-- The ninth call's idealization changes nothing. -/
theorem Cert.Proof.preserves9 : Cert.preserves_Kernel9_Kernel9Ideal := trivial

/-- The tenth printed kernel's frame. -/
theorem Cert.Proof.quiescent_kernel10 : Cert.quiescent_Kernel10 := fun m g _ => Cert.Kernel10.Gen.frame m g

/-- The tenth idealized kernel's frame. -/
theorem Cert.Proof.quiescent_kernel10Ideal : Cert.quiescent_Kernel10Ideal := fun m g _ => Cert.Kernel10Ideal.Gen.frame m g

/-- The tenth idealized reference's frame: it declares no counter. -/
theorem Cert.Proof.quiescent_reference10Ideal : Cert.quiescent_Reference10Ideal := fun m g _ =>
  (θ_run Cert.Reference10Ideal.defs _ _).mono (fun r h => ⟨fun c => (h c).2.2.2, sem_eq_zero_of_no_sems (by decide) r.2⟩)
    (Cert.Reference10Ideal.Value.run m g)

/-- The tenth call's three results are equal. -/
theorem Cert.Proof.algebraic10 : Cert.algebraic_Kernel10Ideal_Reference10Ideal := by
  intro m g m' g' _ hargs
  refine ⟨fun c => (Cert.Kernel10Ideal.Gen.dats (F := Ideal) m 0 c).arrAt 5 Cert.Kernel10Ideal.cfg0.N,
    fun c => (Cert.Kernel10Ideal.Gen.dats (F := Ideal) m 0 c).arrAt 6 Cert.Kernel10Ideal.cfg0.N,
    fun c => (Cert.Kernel10Ideal.Gen.dats (F := Ideal) m 0 c).arrAt 7 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨e0, e1, e2, e3, e4⟩ := hargs c
  obtain ⟨r5, r6, r7, hr⟩ := h c
  refine ⟨r5.trans ?_, r6.trans ?_, r7.trans ?_, hr⟩
  · rw [Cert.Reference10Ideal.Read.val_main_v0_eq, e0, e1]
    exact (Cert.Proof.Kernel10Ideal.arr5 m c).symm
  · rw [Cert.Reference10Ideal.Read.val_main_v13_eq, e0, e1, e2, e3]
    exact (Cert.Proof.Kernel10Ideal.arr6 m c).symm
  · rw [Cert.Reference10Ideal.Read.val_main_v26_eq, e0, e1, e2, e3, e4]
    exact (Cert.Proof.Kernel10Ideal.arr7 m c).symm

/-- The tenth call's idealization changes nothing. -/
theorem Cert.Proof.preserves10 : Cert.preserves_Kernel10_Kernel10Ideal := trivial

/-- The eleventh printed kernel's frame. -/
theorem Cert.Proof.quiescent_kernel11 : Cert.quiescent_Kernel11 := fun m g _ => Cert.Kernel11.Gen.frame m g

/-- The eleventh idealized kernel's frame. -/
theorem Cert.Proof.quiescent_kernel11Ideal : Cert.quiescent_Kernel11Ideal := fun m g _ => Cert.Kernel11Ideal.Gen.frame m g

/-- The eleventh idealized reference's frame: it declares no counter. -/
theorem Cert.Proof.quiescent_reference11Ideal : Cert.quiescent_Reference11Ideal := fun m g _ =>
  (θ_run Cert.Reference11Ideal.defs _ _).mono (fun r h => ⟨fun c => (h c).2.2.2.2, sem_eq_zero_of_no_sems (by decide) r.2⟩)
    (Cert.Reference11Ideal.Value.run m g)

/-- Of finite arguments the eleventh call's four results are equal. -/
theorem Cert.Proof.algebraic11 : Cert.algebraic_Kernel11Ideal_Reference11Ideal_pre_finite11 := by
  intro m g m' g' hm hargs
  refine ⟨fun c => (Cert.Kernel11Ideal.Gen.dats (F := Ideal) m 0 c).arrAt 5 Cert.Kernel11Ideal.cfg0.N,
    fun c => (Cert.Kernel11Ideal.Gen.dats (F := Ideal) m 0 c).arrAt 6 Cert.Kernel11Ideal.cfg0.N,
    fun c => (Cert.Kernel11Ideal.Gen.dats (F := Ideal) m 0 c).arrAt 7 Cert.Kernel11Ideal.cfg0.N,
    fun c => (Cert.Kernel11Ideal.Gen.dats (F := Ideal) m 0 c).arrAt 8 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨h0, h1, h2, h3, h4⟩ := Cert.Pre_finite11.finite_args _ _ _ _ _ (hm c)
  obtain ⟨e0, e1, e2, e3, e4⟩ := hargs c
  obtain ⟨r5, r6, r7, r8, hr⟩ := h c
  refine ⟨r5.trans ?_, r6.trans ?_, r7.trans ?_, r8.trans ?_, hr⟩
  · rw [Cert.Reference11Ideal.Read.val_main_v31_eq, e0, e1, e2, e3, e4]
    exact (Cert.Proof.Kernel11Ideal.arr5 m c h0 h1 h2 h3 h4).symm
  · rw [Cert.Reference11Ideal.Read.val_main_v72_eq, e0, e1, e2, e3, e4]
    exact (Cert.Proof.Kernel11Ideal.arr6 m c h0 h1 h2 h3 h4).symm
  · rw [Cert.Reference11Ideal.Read.val_main_v71_eq, e0, e1, e2, e3, e4]
    exact (Cert.Proof.Kernel11Ideal.arr7 m c h0 h1 h2 h3 h4).symm
  · rw [Cert.Reference11Ideal.Read.val_main_v34_eq, e0, e1, e2, e3, e4]
    exact (Cert.Proof.Kernel11Ideal.arr8 m c h0 h1 h2 h3 h4).symm

/-- The eleventh call's idealization changes nothing. -/
theorem Cert.Proof.preserves11 : Cert.preserves_Kernel11_Kernel11Ideal := trivial

/-- The twelfth printed kernel's frame: its program is its idealization's, and the run is over any float values. -/
theorem Cert.Proof.quiescent_kernel12 : Cert.quiescent_Kernel12 := fun m g _ =>
  Cert.Proof.Kernel12.run_frame_of (F := Bits) m g Cert.Kernel12.defs Cert.Proof.Kernel12.defs_eq

/-- The twelfth idealized kernel's frame. -/
theorem Cert.Proof.quiescent_kernel12Ideal : Cert.quiescent_Kernel12Ideal := fun m g _ => Cert.Proof.Kernel12Ideal.run_frame m g

/-- The twelfth idealized reference's frame: it declares no counter. -/
theorem Cert.Proof.quiescent_reference12Ideal : Cert.quiescent_Reference12Ideal := fun m g _ =>
  (θ_run Cert.Reference12Ideal.defs _ _).mono (fun r h => ⟨fun c => (h c).2.2, sem_eq_zero_of_no_sems (by decide) r.2⟩)
    (Cert.Reference12Ideal.Value.run m g)

/-- The twelfth call's two results are equal. -/
theorem Cert.Proof.algebraic12 : Cert.algebraic_Kernel12Ideal_Reference12Ideal := by
  intro m g m' g' _ hargs
  refine ⟨fun c => (Cert.Proof.Kernel12Ideal.dats (F := Ideal) m 0 c).arrAt 3 Cert.Kernel12Ideal.cfg0.N,
    fun c => (Cert.Proof.Kernel12Ideal.dats (F := Ideal) m 0 c).arrAt 4 Cert.Kernel12Ideal.cfg0.N, Cert.Proof.Kernel12Ideal.run_values m g, ?_⟩
  refine (θ_run Cert.Reference12Ideal.defs _ _).mono (fun r h c => ?_) (Cert.Reference12Ideal.Value.run m' g')
  obtain ⟨e0, e1, e2⟩ := hargs c
  obtain ⟨r3, r4, hr⟩ := h c
  refine ⟨r3.trans ?_, r4.trans ?_, hr⟩
  · rw [Cert.Reference12Ideal.Read.val_main_v12_eq, e0, e1]
    exact (Cert.Proof.Kernel12Ideal.arr3 m c).symm
  · rw [Cert.Reference12Ideal.Read.val_main_v13_eq, e0, e1, e2]
    exact (Cert.Proof.Kernel12Ideal.arr4 m c).symm

/-- The twelfth call's idealization changes nothing. -/
theorem Cert.Proof.preserves12 : Cert.preserves_Kernel12_Kernel12Ideal := trivial

/-- The thirteenth printed kernel's frame. -/
theorem Cert.Proof.quiescent_kernel13 : Cert.quiescent_Kernel13 := fun m g _ => Cert.Kernel13.Gen.frame m g

/-- The thirteenth idealized kernel's frame. -/
theorem Cert.Proof.quiescent_kernel13Ideal : Cert.quiescent_Kernel13Ideal := fun m g _ => Cert.Kernel13Ideal.Gen.frame m g

/-- The thirteenth idealized reference's frame: it declares no counter. -/
theorem Cert.Proof.quiescent_reference13Ideal : Cert.quiescent_Reference13Ideal := fun m g _ =>
  (θ_run Cert.Reference13Ideal.defs _ _).mono (fun r h => ⟨fun c => (h c).2.2.2.2.2, sem_eq_zero_of_no_sems (by decide) r.2⟩)
    (Cert.Reference13Ideal.Value.run m g)

set_option maxHeartbeats 800000 in
/-- Of finite arguments the thirteenth call's five results are equal. -/
theorem Cert.Proof.algebraic13 : Cert.algebraic_Kernel13Ideal_Reference13Ideal_pre_finite13 := by
  intro m g m' g' hm hargs
  refine ⟨fun c => (Cert.Kernel13Ideal.Gen.dats (F := Ideal) m 0 c).arrAt 12 Cert.Kernel13Ideal.cfg0.N,
    fun c => (Cert.Kernel13Ideal.Gen.dats (F := Ideal) m 0 c).arrAt 13 Cert.Kernel13Ideal.cfg0.N,
    fun c => (Cert.Kernel13Ideal.Gen.dats (F := Ideal) m 0 c).arrAt 14 Cert.Kernel13Ideal.cfg0.N,
    fun c => (Cert.Kernel13Ideal.Gen.dats (F := Ideal) m 0 c).arrAt 16 Cert.Kernel13Ideal.cfg0.N,
    fun c => (Cert.Kernel13Ideal.Gen.dats (F := Ideal) m 0 c).arrAt 17 Cert.Kernel13Ideal.cfg0.N, ?_, ?_⟩
  · refine (θ_run Cert.Kernel13Ideal.defs _ _).mono (fun r h c => ?_) (Cert.Kernel13Ideal.Value.run_blocks m g)
    exact ⟨(h c).2.2.1, (h c).2.2.2.1, (h c).2.2.2.2.1, (h c).2.2.2.2.2.2.1, (h c).2.2.2.2.2.2.2.1, (h c).2.2.2.2.2.2.2.2⟩
  refine (θ_run Cert.Reference13Ideal.defs _ _).mono (fun r h c => ?_) (Cert.Reference13Ideal.Value.run m' g')
  obtain ⟨h0, h1, h3, h4, h5, h7, h8⟩ := Cert.Pre_finite13.finite_args _ _ _ _ _ _ _ _ _ (hm c)
  obtain ⟨e0, e1, e2, e3, e4, e5, e6, e7, e8⟩ := hargs c
  obtain ⟨r12, r13, r14, r16, r17, hr⟩ := h c
  refine ⟨r12.trans ?_, r13.trans ?_, r14.trans ?_, r16.trans ?_, r17.trans ?_, hr⟩
  · rw [Cert.Reference13Ideal.Read.val_main_v51_eq, e0, e1, e3, e4, e5, e7, e8]
    exact (Cert.Proof.Kernel13Ideal.arr12 m c h0 h1 h3 h4 h5 h7 h8).symm
  · rw [Cert.Reference13Ideal.Read.val_main_v54_eq, e0, e1, e3, e4, e5, e7, e8]
    exact (Cert.Proof.Kernel13Ideal.arr13 m c h0 h1 h3 h4 h5 h7 h8).symm
  · rw [Cert.Reference13Ideal.Read.val_main_v58_eq, e0, e1, e3, e4, e5, e7, e8]
    exact (Cert.Proof.Kernel13Ideal.arr14 m c h0 h1 h3 h4 h5 h7 h8).symm
  · rw [Cert.Reference13Ideal.Read.val_main_v48_eq, e0, e1, e3, e4, e5, e8]
    exact (Cert.Proof.Kernel13Ideal.arr16 m c h0 h1 h3 h4 h5 h8).symm
  · rw [Cert.Reference13Ideal.Read.val_main_v57_eq, e0, e1, e3, e4, e5, e7, e8]
    exact (Cert.Proof.Kernel13Ideal.arr17 m c h0 h1 h3 h4 h5 h7 h8).symm

/-- The thirteenth call's idealization changes nothing. -/
theorem Cert.Proof.preserves13 : Cert.preserves_Kernel13_Kernel13Ideal := trivial

/-- Every claim. -/
theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.facts, Cert.Pre_finite2.facts, Cert.Pre_finite9.facts, Cert.Pre_finite11.facts, Cert.Pre_finite13.facts,
    Cert.Proof.quiescent_kernel, Cert.Proof.quiescent_kernelIdeal, fun m g _ => Cert.Proof.quiescent_kernelIdeal m g trivial,
    Cert.Proof.quiescent_referenceIdeal, fun m g _ => Cert.Proof.quiescent_referenceIdeal m g trivial,
    Cert.Proof.quiescent_kernel2, Cert.Proof.quiescent_kernel2Ideal, fun m g _ => Cert.Proof.quiescent_kernel2Ideal m g trivial,
    Cert.Proof.quiescent_reference2Ideal, fun m g _ => Cert.Proof.quiescent_reference2Ideal m g trivial,
    Cert.Proof.quiescent_kernel3, Cert.Proof.quiescent_kernel3Ideal, Cert.Proof.quiescent_reference3Ideal,
    Cert.Proof.quiescent_kernel4, Cert.Proof.quiescent_kernel4Ideal, Cert.Proof.quiescent_reference4Ideal,
    Cert.Proof.quiescent_kernel5, Cert.Proof.quiescent_kernel5Ideal, Cert.Proof.quiescent_reference5Ideal,
    Cert.Proof.quiescent_kernel6, Cert.Proof.quiescent_kernel6Ideal, Cert.Proof.quiescent_reference6Ideal,
    Cert.Proof.quiescent_kernel7, Cert.Proof.quiescent_kernel7Ideal, Cert.Proof.quiescent_reference7Ideal,
    Cert.Proof.quiescent_kernel8, Cert.Proof.quiescent_kernel8Ideal, Cert.Proof.quiescent_reference8Ideal,
    Cert.Proof.quiescent_kernel9, Cert.Proof.quiescent_kernel9Ideal, fun m g _ => Cert.Proof.quiescent_kernel9Ideal m g trivial,
    Cert.Proof.quiescent_reference9Ideal, fun m g _ => Cert.Proof.quiescent_reference9Ideal m g trivial,
    Cert.Proof.quiescent_kernel10, Cert.Proof.quiescent_kernel10Ideal, Cert.Proof.quiescent_reference10Ideal,
    Cert.Proof.quiescent_kernel11, Cert.Proof.quiescent_kernel11Ideal, fun m g _ => Cert.Proof.quiescent_kernel11Ideal m g trivial,
    Cert.Proof.quiescent_reference11Ideal, fun m g _ => Cert.Proof.quiescent_reference11Ideal m g trivial,
    Cert.Proof.quiescent_kernel12, Cert.Proof.quiescent_kernel12Ideal, Cert.Proof.quiescent_reference12Ideal,
    Cert.Proof.quiescent_kernel13, Cert.Proof.quiescent_kernel13Ideal, fun m g _ => Cert.Proof.quiescent_kernel13Ideal m g trivial,
    Cert.Proof.quiescent_reference13Ideal, fun m g _ => Cert.Proof.quiescent_reference13Ideal m g trivial,
    Cert.Proof.preserves, Cert.Proof.algebraic, Cert.Proof.preserves2, Cert.Proof.algebraic2,
    Cert.Proof.preserves3, Cert.Proof.algebraic3, Cert.Proof.preserves4, Cert.Proof.algebraic4, Cert.Proof.preserves5, Cert.Proof.algebraic5, Cert.Proof.preserves6, Cert.Proof.algebraic6, Cert.Proof.preserves7, Cert.Proof.algebraic7, Cert.Proof.preserves8, Cert.Proof.algebraic8, Cert.Proof.preserves9, Cert.Proof.algebraic9,
    Cert.Proof.preserves10, Cert.Proof.algebraic10, Cert.Proof.preserves11, Cert.Proof.algebraic11,
    Cert.Proof.preserves12, Cert.Proof.algebraic12, Cert.Proof.preserves13, Cert.Proof.algebraic13⟩
